-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x256x64x64 : Shape := ⟨4, ![2, 256, 64, 64]⟩
abbrev S2000x400 : Shape := ⟨2, ![2000, 400]⟩
abbrev S2000x784 : Shape := ⟨2, ![2000, 784]⟩
abbrev S_ : Shape := ⟨0, ![]⟩
abbrev S2000 : Shape := ⟨1, ![2000]⟩

class Facts : Prop where
  bcast_S_S2000x400 : S_.BroadcastsInDim S2000x400 (![] : Fin 0 → Fin S2000x400.rank)
  reducesTo_S2000x400_S2000_d1 : S2000x400.ReducesTo [1] S2000
  h_S_ : 0 < S_.numel
  bcast_S_S2000x784 : S_.BroadcastsInDim S2000x784 (![] : Fin 0 → Fin S2000x784.rank)
  reducesTo_S2000x784_S2000_d1 : S2000x784.ReducesTo [1] S2000

variable [Facts]

def fn {F : FTy → Type} [FloatOps F] (main_arg0 : FVec F S2x256x64x64 .f32) (main_arg1 : IVec S2000x400 32) (main_arg2 : IVec S2000x784 32) (main_arg3 : FVec F S2000x784 .f32) : IVec S2000 1 :=
  let main_c : IVec S_ 32 := constantI S_ 32 0#32
  let main_v0 : IVec S2000x400 32 := broadcastInDim S2000x400 ![] bcast_S_S2000x400 main_c
  let main_v1 : IVec S2000x400 1 := cmpi .sge main_arg1 main_v0
  let main_c_0 : IVec S_ 32 := constantI S_ 32 8192#32
  let main_v2 : IVec S2000x400 32 := broadcastInDim S2000x400 ![] bcast_S_S2000x400 main_c_0
  let main_v3 : IVec S2000x400 1 := cmpi .slt main_arg1 main_v2
  let main_v4 : IVec S2000x400 1 := andi main_v1 main_v3
  let main_c_1 : IVec S_ 1 := constantI S_ 1 1#1
  let main_v5 : IVec S2000 1 := (fun x v => Host.reduce IntOp.andi x v reducesTo_S2000x400_S2000_d1 h_S_) main_v4 main_c_1
  let main_c_2 : IVec S_ 32 := constantI S_ 32 0#32
  let main_v6 : IVec S2000x784 32 := broadcastInDim S2000x784 ![] bcast_S_S2000x784 main_c_2
  let main_v7 : IVec S2000x784 1 := cmpi .sge main_arg2 main_v6
  let main_c_3 : IVec S_ 32 := constantI S_ 32 400#32
  let main_v8 : IVec S2000x784 32 := broadcastInDim S2000x784 ![] bcast_S_S2000x784 main_c_3
  let main_v9 : IVec S2000x784 1 := cmpi .slt main_arg2 main_v8
  let main_v10 : IVec S2000x784 1 := andi main_v7 main_v9
  let main_c_4 : IVec S_ 1 := constantI S_ 1 1#1
  let main_v11 : IVec S2000 1 := (fun x v => Host.reduce IntOp.andi x v reducesTo_S2000x784_S2000_d1 h_S_) main_v10 main_c_4
  let main_v12 : IVec S2000 1 := andi main_v5 main_v11
  main_v12
-- ==== Kernel.lean ====
abbrev S2x256x64x64 : Shape := ⟨4, ![2, 256, 64, 64]⟩
abbrev S2000x400 : Shape := ⟨2, ![2000, 400]⟩
abbrev S2000x784 : Shape := ⟨2, ![2000, 784]⟩
abbrev S2000x5x80 : Shape := ⟨3, ![2000, 5, 80]⟩
abbrev S2x2x128x64x64 : Shape := ⟨5, ![2, 2, 128, 64, 64]⟩
abbrev S2x2x64x64x128 : Shape := ⟨5, ![2, 2, 64, 64, 128]⟩
abbrev S16384x128 : Shape := ⟨2, ![16384, 128]⟩
abbrev S2000x256x49 : Shape := ⟨3, ![2000, 256, 49]⟩
abbrev S5x80 : Shape := ⟨2, ![5, 80]⟩
abbrev S784 : Shape := ⟨1, ![784]⟩
abbrev S400x128 : Shape := ⟨2, ![400, 128]⟩
abbrev S128x49 : Shape := ⟨2, ![128, 49]⟩
abbrev S_ : Shape := ⟨0, ![]⟩
abbrev S16 : Shape := ⟨1, ![16]⟩
abbrev S1x5x80 : Shape := ⟨3, ![1, 5, 80]⟩
abbrev S1x784 : Shape := ⟨2, ![1, 784]⟩
abbrev S1x16 : Shape := ⟨2, ![1, 16]⟩
abbrev S80x128 : Shape := ⟨2, ![80, 128]⟩
abbrev S1x80 : Shape := ⟨2, ![1, 80]⟩
abbrev S80 : Shape := ⟨1, ![80]⟩
abbrev S1x128x49 : Shape := ⟨3, ![1, 128, 49]⟩
abbrev S2000x256x7x7 : Shape := ⟨4, ![2000, 256, 7, 7]⟩

abbrev nBuf : Table → Nat
  | .hbm => 10
  | .local .scVector .vmem => 9
  | _ => 0

abbrev bufTy : (tb : Table) → Fin (nBuf tb) → BufTy
  | .hbm, ⟨0, _⟩ => ⟨S2x256x64x64, .f32⟩
  | .hbm, ⟨1, _⟩ => ⟨S2000x400, .i32⟩
  | .hbm, ⟨2, _⟩ => ⟨S2000x784, .i32⟩
  | .hbm, ⟨3, _⟩ => ⟨S2000x784, .f32⟩
  | .hbm, ⟨4, _⟩ => ⟨S2000x5x80, .i32⟩
  | .hbm, ⟨5, _⟩ => ⟨S2x2x128x64x64, .f32⟩
  | .hbm, ⟨6, _⟩ => ⟨S2x2x64x64x128, .f32⟩
  | .hbm, ⟨7, _⟩ => ⟨S16384x128, .f32⟩
  | .hbm, ⟨8, _⟩ => ⟨S2000x256x49, .f32⟩
  | .hbm, ⟨9, _⟩ => ⟨S2000x256x7x7, .f32⟩
  | .local .scVector .vmem, ⟨0, _⟩ => ⟨S5x80, .i32⟩
  | .local .scVector .vmem, ⟨1, _⟩ => ⟨S5x80, .i32⟩
  | .local .scVector .vmem, ⟨2, _⟩ => ⟨S784, .i32⟩
  | .local .scVector .vmem, ⟨3, _⟩ => ⟨S784, .i32⟩
  | .local .scVector .vmem, ⟨4, _⟩ => ⟨S784, .f32⟩
  | .local .scVector .vmem, ⟨5, _⟩ => ⟨S784, .f32⟩
  | .local .scVector .vmem, ⟨6, _⟩ => ⟨S400x128, .f32⟩
  | .local .scVector .vmem, ⟨7, _⟩ => ⟨S400x128, .f32⟩
  | .local .scVector .vmem, ⟨8, _⟩ => ⟨S128x49, .f32⟩
  | _, _ => ⟨S2x256x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v3_scv : Ref sig .scVector := ⟨.hbm, 7, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c0_i32_571_r0 : BitVec 32 := 0#32
  let c0_i32_572_r0 : BitVec 32 := 0#32
  ![v29.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c0_i32_571_r1 : BitVec 32 := 0#32
  ![v29.toNat, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c1_i32_132 : BitVec 32 := 1#32
  let v218 : BitVec 32 := Scalar.addi v29 c1_i32_132
  let c0_i32_133 : BitVec 32 := 0#32
  let c0_i32_134 : BitVec 32 := 0#32
  ![v218.toNat, 0, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c1_i32_137 : BitVec 32 := 1#32
  let v223 : BitVec 32 := Scalar.addi v29 c1_i32_137
  let c0_i32_138 : BitVec 32 := 0#32
  ![v223.toNat, 0]
def k0_off5 (i : grid0.Coords) : Fin 3 → Nat :=
  let c2_i32_307 : BitVec 32 := 2#32
  let c124_i32 : BitVec 32 := 124#32
  let v426 : BitVec 32 := Scalar.minsi c2_i32_307 c124_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v427 : BitVec 32 := Scalar.addi v426 v29
  let c0_i32_308 : BitVec 32 := 0#32
  let c0_i32_309 : BitVec 32 := 0#32
  ![v427.toNat, 0, 0]
@[reducible] def k0_t1_loop : Scf.Loop 32 :=
  let c0_i32_313 : BitVec 32 := 0#32
  let c49_i32 : BitVec 32 := 49#32
  let v432 : BitVec 32 := Scalar.addi c0_i32_313 c49_i32
  let c1_i32_314 : BitVec 32 := 1#32
  ⟨c0_i32_313, v432, c1_i32_314⟩
def k0_off6 (k0_t1 : Fin k0_t1_loop.trips) : Fin 1 → Nat :=
  let c0_i32_313 : BitVec 32 := 0#32
  let c1_i32_314 : BitVec 32 := 1#32
  let arg22 : BitVec 32 := Scf.iv c0_i32_313 c1_i32_314 k0_t1
  let c16_i32_571 : BitVec 32 := 16#32
  let v710 : BitVec 32 := Scalar.muli arg22 c16_i32_571
  let v711 : Index := Scalar.indexCast v710
  ![v711.toNat]

def k0_chk1 (v718 : IVec S16 32) : Prop :=
  (∀ a x, ((![v718] : Fin 1 → IVec S16 32) a x).toNat < S784.size a) ∧
  (∀ a x, ((![v718] : Fin 1 → IVec S16 32) a x).toNat < S784.size a)
theorem k0_idx1_inb : ∀ (v718 : IVec S16 32) (k0_hw1 : k0_chk1 v718), ∀ a x, ((![v718] : Fin 1 → IVec S16 32) a x).toNat < S784.size a := fun v718 k0_hw1 => k0_hw1.1
theorem k0_idx2_inb : ∀ (v718 : IVec S16 32) (k0_hw1 : k0_chk1 v718), ∀ a x, ((![v718] : Fin 1 → IVec S16 32) a x).toNat < S784.size a := fun v718 k0_hw1 => k0_hw1.2

def k0_chk2 (v32 : IVec S16 32) (v34 : IVec S16 32) (v36 : IVec S16 32) (v38 : IVec S16 32) (v40 : IVec S16 32) (v42 : IVec S16 32) (v44 : IVec S16 32) (v46 : IVec S16 32) (v719 : IVec S16 32) : Prop :=
  (∀ a x, ((![v719, v32] : Fin 2 → IVec S16 32) a x).toNat < S400x128.size a) ∧
  (∀ a x, ((![v719, v34] : Fin 2 → IVec S16 32) a x).toNat < S400x128.size a) ∧
  (∀ a x, ((![v719, v36] : Fin 2 → IVec S16 32) a x).toNat < S400x128.size a) ∧
  (∀ a x, ((![v719, v38] : Fin 2 → IVec S16 32) a x).toNat < S400x128.size a) ∧
  (∀ a x, ((![v719, v40] : Fin 2 → IVec S16 32) a x).toNat < S400x128.size a) ∧
  (∀ a x, ((![v719, v42] : Fin 2 → IVec S16 32) a x).toNat < S400x128.size a) ∧
  (∀ a x, ((![v719, v44] : Fin 2 → IVec S16 32) a x).toNat < S400x128.size a) ∧
  (∀ a x, ((![v719, v46] : Fin 2 → IVec S16 32) a x).toNat < S400x128.size a)
theorem k0_idx3_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v32] : Fin 2 → IVec S16 32) a x).toNat < S400x128.size a := fun v32 v34 v36 v38 v40 v42 v44 v46 v719 k0_hw2 => k0_hw2.1
theorem k0_idx4_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v34] : Fin 2 → IVec S16 32) a x).toNat < S400x128.size a := fun v32 v34 v36 v38 v40 v42 v44 v46 v719 k0_hw2 => k0_hw2.2.1
theorem k0_idx5_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v36] : Fin 2 → IVec S16 32) a x).toNat < S400x128.size a := fun v32 v34 v36 v38 v40 v42 v44 v46 v719 k0_hw2 => k0_hw2.2.2.1
theorem k0_idx6_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v38] : Fin 2 → IVec S16 32) a x).toNat < S400x128.size a := fun v32 v34 v36 v38 v40 v42 v44 v46 v719 k0_hw2 => k0_hw2.2.2.2.1
theorem k0_idx7_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v40] : Fin 2 → IVec S16 32) a x).toNat < S400x128.size a := fun v32 v34 v36 v38 v40 v42 v44 v46 v719 k0_hw2 => k0_hw2.2.2.2.2.1
theorem k0_idx8_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v42] : Fin 2 → IVec S16 32) a x).toNat < S400x128.size a := fun v32 v34 v36 v38 v40 v42 v44 v46 v719 k0_hw2 => k0_hw2.2.2.2.2.2.1
theorem k0_idx9_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v44] : Fin 2 → IVec S16 32) a x).toNat < S400x128.size a := fun v32 v34 v36 v38 v40 v42 v44 v46 v719 k0_hw2 => k0_hw2.2.2.2.2.2.2.1
theorem k0_idx10_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw2 : k0_chk2 v32 v34 v36 v38 v40 v42 v44 v46 v719), ∀ a x, ((![v719, v46] : Fin 2 → IVec S16 32) a x).toNat < S400x128.size a := fun v32 v34 v36 v38 v40 v42 v44 v46 v719 k0_hw2 => k0_hw2.2.2.2.2.2.2.2

def k0_chk3 (v739 : IVec S16 32) : Prop :=
  (∀ a x, ((![v739] : Fin 1 → IVec S16 32) a x).toNat < S784.size a) ∧
  (∀ a x, ((![v739] : Fin 1 → IVec S16 32) a x).toNat < S784.size a)
theorem k0_idx11_inb : ∀ (v739 : IVec S16 32) (k0_hw3 : k0_chk3 v739), ∀ a x, ((![v739] : Fin 1 → IVec S16 32) a x).toNat < S784.size a := fun v739 k0_hw3 => k0_hw3.1
theorem k0_idx12_inb : ∀ (v739 : IVec S16 32) (k0_hw3 : k0_chk3 v739), ∀ a x, ((![v739] : Fin 1 → IVec S16 32) a x).toNat < S784.size a := fun v739 k0_hw3 => k0_hw3.2

def k0_chk4 (v32 : IVec S16 32) (v34 : IVec S16 32) (v36 : IVec S16 32) (v38 : IVec S16 32) (v40 : IVec S16 32) (v42 : IVec S16 32) (v44 : IVec S16 32) (v46 : IVec S16 32) (v740 : IVec S16 32) : Prop :=
  (∀ a x, ((![v740, v32] : Fin 2 → IVec S16 32) a x).toNat < S400x128.size a) ∧
  (∀ a x, ((![v740, v34] : Fin 2 → IVec S16 32) a x).toNat < S400x128.size a) ∧
  (∀ a x, ((![v740, v36] : Fin 2 → IVec S16 32) a x).toNat < S400x128.size a) ∧
  (∀ a x, ((![v740, v38] : Fin 2 → IVec S16 32) a x).toNat < S400x128.size a) ∧
  (∀ a x, ((![v740, v40] : Fin 2 → IVec S16 32) a x).toNat < S400x128.size a) ∧
  (∀ a x, ((![v740, v42] : Fin 2 → IVec S16 32) a x).toNat < S400x128.size a) ∧
  (∀ a x, ((![v740, v44] : Fin 2 → IVec S16 32) a x).toNat < S400x128.size a) ∧
  (∀ a x, ((![v740, v46] : Fin 2 → IVec S16 32) a x).toNat < S400x128.size a)
theorem k0_idx13_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v32] : Fin 2 → IVec S16 32) a x).toNat < S400x128.size a := fun v32 v34 v36 v38 v40 v42 v44 v46 v740 k0_hw4 => k0_hw4.1
theorem k0_idx14_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v34] : Fin 2 → IVec S16 32) a x).toNat < S400x128.size a := fun v32 v34 v36 v38 v40 v42 v44 v46 v740 k0_hw4 => k0_hw4.2.1
theorem k0_idx15_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v36] : Fin 2 → IVec S16 32) a x).toNat < S400x128.size a := fun v32 v34 v36 v38 v40 v42 v44 v46 v740 k0_hw4 => k0_hw4.2.2.1
theorem k0_idx16_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v38] : Fin 2 → IVec S16 32) a x).toNat < S400x128.size a := fun v32 v34 v36 v38 v40 v42 v44 v46 v740 k0_hw4 => k0_hw4.2.2.2.1
theorem k0_idx17_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v40] : Fin 2 → IVec S16 32) a x).toNat < S400x128.size a := fun v32 v34 v36 v38 v40 v42 v44 v46 v740 k0_hw4 => k0_hw4.2.2.2.2.1
theorem k0_idx18_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v42] : Fin 2 → IVec S16 32) a x).toNat < S400x128.size a := fun v32 v34 v36 v38 v40 v42 v44 v46 v740 k0_hw4 => k0_hw4.2.2.2.2.2.1
theorem k0_idx19_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v44] : Fin 2 → IVec S16 32) a x).toNat < S400x128.size a := fun v32 v34 v36 v38 v40 v42 v44 v46 v740 k0_hw4 => k0_hw4.2.2.2.2.2.2.1
theorem k0_idx20_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw4 : k0_chk4 v32 v34 v36 v38 v40 v42 v44 v46 v740), ∀ a x, ((![v740, v46] : Fin 2 → IVec S16 32) a x).toNat < S400x128.size a := fun v32 v34 v36 v38 v40 v42 v44 v46 v740 k0_hw4 => k0_hw4.2.2.2.2.2.2.2

def k0_chk5 (v768 : IVec S16 32) : Prop :=
  (∀ a x, ((![v768] : Fin 1 → IVec S16 32) a x).toNat < S784.size a) ∧
  (∀ a x, ((![v768] : Fin 1 → IVec S16 32) a x).toNat < S784.size a)
theorem k0_idx21_inb : ∀ (v768 : IVec S16 32) (k0_hw5 : k0_chk5 v768), ∀ a x, ((![v768] : Fin 1 → IVec S16 32) a x).toNat < S784.size a := fun v768 k0_hw5 => k0_hw5.1
theorem k0_idx22_inb : ∀ (v768 : IVec S16 32) (k0_hw5 : k0_chk5 v768), ∀ a x, ((![v768] : Fin 1 → IVec S16 32) a x).toNat < S784.size a := fun v768 k0_hw5 => k0_hw5.2

def k0_chk6 (v32 : IVec S16 32) (v34 : IVec S16 32) (v36 : IVec S16 32) (v38 : IVec S16 32) (v40 : IVec S16 32) (v42 : IVec S16 32) (v44 : IVec S16 32) (v46 : IVec S16 32) (v769 : IVec S16 32) : Prop :=
  (∀ a x, ((![v769, v32] : Fin 2 → IVec S16 32) a x).toNat < S400x128.size a) ∧
  (∀ a x, ((![v769, v34] : Fin 2 → IVec S16 32) a x).toNat < S400x128.size a) ∧
  (∀ a x, ((![v769, v36] : Fin 2 → IVec S16 32) a x).toNat < S400x128.size a) ∧
  (∀ a x, ((![v769, v38] : Fin 2 → IVec S16 32) a x).toNat < S400x128.size a) ∧
  (∀ a x, ((![v769, v40] : Fin 2 → IVec S16 32) a x).toNat < S400x128.size a) ∧
  (∀ a x, ((![v769, v42] : Fin 2 → IVec S16 32) a x).toNat < S400x128.size a) ∧
  (∀ a x, ((![v769, v44] : Fin 2 → IVec S16 32) a x).toNat < S400x128.size a) ∧
  (∀ a x, ((![v769, v46] : Fin 2 → IVec S16 32) a x).toNat < S400x128.size a)
theorem k0_idx23_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v32] : Fin 2 → IVec S16 32) a x).toNat < S400x128.size a := fun v32 v34 v36 v38 v40 v42 v44 v46 v769 k0_hw6 => k0_hw6.1
theorem k0_idx24_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v34] : Fin 2 → IVec S16 32) a x).toNat < S400x128.size a := fun v32 v34 v36 v38 v40 v42 v44 v46 v769 k0_hw6 => k0_hw6.2.1
theorem k0_idx25_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v36] : Fin 2 → IVec S16 32) a x).toNat < S400x128.size a := fun v32 v34 v36 v38 v40 v42 v44 v46 v769 k0_hw6 => k0_hw6.2.2.1
theorem k0_idx26_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v38] : Fin 2 → IVec S16 32) a x).toNat < S400x128.size a := fun v32 v34 v36 v38 v40 v42 v44 v46 v769 k0_hw6 => k0_hw6.2.2.2.1
theorem k0_idx27_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v40] : Fin 2 → IVec S16 32) a x).toNat < S400x128.size a := fun v32 v34 v36 v38 v40 v42 v44 v46 v769 k0_hw6 => k0_hw6.2.2.2.2.1
theorem k0_idx28_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v42] : Fin 2 → IVec S16 32) a x).toNat < S400x128.size a := fun v32 v34 v36 v38 v40 v42 v44 v46 v769 k0_hw6 => k0_hw6.2.2.2.2.2.1
theorem k0_idx29_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v44] : Fin 2 → IVec S16 32) a x).toNat < S400x128.size a := fun v32 v34 v36 v38 v40 v42 v44 v46 v769 k0_hw6 => k0_hw6.2.2.2.2.2.2.1
theorem k0_idx30_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw6 : k0_chk6 v32 v34 v36 v38 v40 v42 v44 v46 v769), ∀ a x, ((![v769, v46] : Fin 2 → IVec S16 32) a x).toNat < S400x128.size a := fun v32 v34 v36 v38 v40 v42 v44 v46 v769 k0_hw6 => k0_hw6.2.2.2.2.2.2.2

def k0_chk7 (v797 : IVec S16 32) : Prop :=
  (∀ a x, ((![v797] : Fin 1 → IVec S16 32) a x).toNat < S784.size a) ∧
  (∀ a x, ((![v797] : Fin 1 → IVec S16 32) a x).toNat < S784.size a)
theorem k0_idx31_inb : ∀ (v797 : IVec S16 32) (k0_hw7 : k0_chk7 v797), ∀ a x, ((![v797] : Fin 1 → IVec S16 32) a x).toNat < S784.size a := fun v797 k0_hw7 => k0_hw7.1
theorem k0_idx32_inb : ∀ (v797 : IVec S16 32) (k0_hw7 : k0_chk7 v797), ∀ a x, ((![v797] : Fin 1 → IVec S16 32) a x).toNat < S784.size a := fun v797 k0_hw7 => k0_hw7.2

def k0_chk8 (v32 : IVec S16 32) (v34 : IVec S16 32) (v36 : IVec S16 32) (v38 : IVec S16 32) (v40 : IVec S16 32) (v42 : IVec S16 32) (v44 : IVec S16 32) (v46 : IVec S16 32) (v798 : IVec S16 32) : Prop :=
  (∀ a x, ((![v798, v32] : Fin 2 → IVec S16 32) a x).toNat < S400x128.size a) ∧
  (∀ a x, ((![v798, v34] : Fin 2 → IVec S16 32) a x).toNat < S400x128.size a) ∧
  (∀ a x, ((![v798, v36] : Fin 2 → IVec S16 32) a x).toNat < S400x128.size a) ∧
  (∀ a x, ((![v798, v38] : Fin 2 → IVec S16 32) a x).toNat < S400x128.size a) ∧
  (∀ a x, ((![v798, v40] : Fin 2 → IVec S16 32) a x).toNat < S400x128.size a) ∧
  (∀ a x, ((![v798, v42] : Fin 2 → IVec S16 32) a x).toNat < S400x128.size a) ∧
  (∀ a x, ((![v798, v44] : Fin 2 → IVec S16 32) a x).toNat < S400x128.size a) ∧
  (∀ a x, ((![v798, v46] : Fin 2 → IVec S16 32) a x).toNat < S400x128.size a)
theorem k0_idx33_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v32] : Fin 2 → IVec S16 32) a x).toNat < S400x128.size a := fun v32 v34 v36 v38 v40 v42 v44 v46 v798 k0_hw8 => k0_hw8.1
theorem k0_idx34_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v34] : Fin 2 → IVec S16 32) a x).toNat < S400x128.size a := fun v32 v34 v36 v38 v40 v42 v44 v46 v798 k0_hw8 => k0_hw8.2.1
theorem k0_idx35_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v36] : Fin 2 → IVec S16 32) a x).toNat < S400x128.size a := fun v32 v34 v36 v38 v40 v42 v44 v46 v798 k0_hw8 => k0_hw8.2.2.1
theorem k0_idx36_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v38] : Fin 2 → IVec S16 32) a x).toNat < S400x128.size a := fun v32 v34 v36 v38 v40 v42 v44 v46 v798 k0_hw8 => k0_hw8.2.2.2.1
theorem k0_idx37_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v40] : Fin 2 → IVec S16 32) a x).toNat < S400x128.size a := fun v32 v34 v36 v38 v40 v42 v44 v46 v798 k0_hw8 => k0_hw8.2.2.2.2.1
theorem k0_idx38_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v42] : Fin 2 → IVec S16 32) a x).toNat < S400x128.size a := fun v32 v34 v36 v38 v40 v42 v44 v46 v798 k0_hw8 => k0_hw8.2.2.2.2.2.1
theorem k0_idx39_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v44] : Fin 2 → IVec S16 32) a x).toNat < S400x128.size a := fun v32 v34 v36 v38 v40 v42 v44 v46 v798 k0_hw8 => k0_hw8.2.2.2.2.2.2.1
theorem k0_idx40_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw8 : k0_chk8 v32 v34 v36 v38 v40 v42 v44 v46 v798), ∀ a x, ((![v798, v46] : Fin 2 → IVec S16 32) a x).toNat < S400x128.size a := fun v32 v34 v36 v38 v40 v42 v44 v46 v798 k0_hw8 => k0_hw8.2.2.2.2.2.2.2

def k0_chk9 (v826 : IVec S16 32) : Prop :=
  (∀ a x, ((![v826] : Fin 1 → IVec S16 32) a x).toNat < S784.size a) ∧
  (∀ a x, ((![v826] : Fin 1 → IVec S16 32) a x).toNat < S784.size a)
theorem k0_idx41_inb : ∀ (v826 : IVec S16 32) (k0_hw9 : k0_chk9 v826), ∀ a x, ((![v826] : Fin 1 → IVec S16 32) a x).toNat < S784.size a := fun v826 k0_hw9 => k0_hw9.1
theorem k0_idx42_inb : ∀ (v826 : IVec S16 32) (k0_hw9 : k0_chk9 v826), ∀ a x, ((![v826] : Fin 1 → IVec S16 32) a x).toNat < S784.size a := fun v826 k0_hw9 => k0_hw9.2

def k0_chk10 (v32 : IVec S16 32) (v34 : IVec S16 32) (v36 : IVec S16 32) (v38 : IVec S16 32) (v40 : IVec S16 32) (v42 : IVec S16 32) (v44 : IVec S16 32) (v46 : IVec S16 32) (v827 : IVec S16 32) : Prop :=
  (∀ a x, ((![v827, v32] : Fin 2 → IVec S16 32) a x).toNat < S400x128.size a) ∧
  (∀ a x, ((![v827, v34] : Fin 2 → IVec S16 32) a x).toNat < S400x128.size a) ∧
  (∀ a x, ((![v827, v36] : Fin 2 → IVec S16 32) a x).toNat < S400x128.size a) ∧
  (∀ a x, ((![v827, v38] : Fin 2 → IVec S16 32) a x).toNat < S400x128.size a) ∧
  (∀ a x, ((![v827, v40] : Fin 2 → IVec S16 32) a x).toNat < S400x128.size a) ∧
  (∀ a x, ((![v827, v42] : Fin 2 → IVec S16 32) a x).toNat < S400x128.size a) ∧
  (∀ a x, ((![v827, v44] : Fin 2 → IVec S16 32) a x).toNat < S400x128.size a) ∧
  (∀ a x, ((![v827, v46] : Fin 2 → IVec S16 32) a x).toNat < S400x128.size a)
theorem k0_idx43_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v32] : Fin 2 → IVec S16 32) a x).toNat < S400x128.size a := fun v32 v34 v36 v38 v40 v42 v44 v46 v827 k0_hw10 => k0_hw10.1
theorem k0_idx44_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v34] : Fin 2 → IVec S16 32) a x).toNat < S400x128.size a := fun v32 v34 v36 v38 v40 v42 v44 v46 v827 k0_hw10 => k0_hw10.2.1
theorem k0_idx45_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v36] : Fin 2 → IVec S16 32) a x).toNat < S400x128.size a := fun v32 v34 v36 v38 v40 v42 v44 v46 v827 k0_hw10 => k0_hw10.2.2.1
theorem k0_idx46_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v38] : Fin 2 → IVec S16 32) a x).toNat < S400x128.size a := fun v32 v34 v36 v38 v40 v42 v44 v46 v827 k0_hw10 => k0_hw10.2.2.2.1
theorem k0_idx47_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v40] : Fin 2 → IVec S16 32) a x).toNat < S400x128.size a := fun v32 v34 v36 v38 v40 v42 v44 v46 v827 k0_hw10 => k0_hw10.2.2.2.2.1
theorem k0_idx48_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v42] : Fin 2 → IVec S16 32) a x).toNat < S400x128.size a := fun v32 v34 v36 v38 v40 v42 v44 v46 v827 k0_hw10 => k0_hw10.2.2.2.2.2.1
theorem k0_idx49_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v44] : Fin 2 → IVec S16 32) a x).toNat < S400x128.size a := fun v32 v34 v36 v38 v40 v42 v44 v46 v827 k0_hw10 => k0_hw10.2.2.2.2.2.2.1
theorem k0_idx50_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw10 : k0_chk10 v32 v34 v36 v38 v40 v42 v44 v46 v827), ∀ a x, ((![v827, v46] : Fin 2 → IVec S16 32) a x).toNat < S400x128.size a := fun v32 v34 v36 v38 v40 v42 v44 v46 v827 k0_hw10 => k0_hw10.2.2.2.2.2.2.2

def k0_chk11 (v855 : IVec S16 32) : Prop :=
  (∀ a x, ((![v855] : Fin 1 → IVec S16 32) a x).toNat < S784.size a) ∧
  (∀ a x, ((![v855] : Fin 1 → IVec S16 32) a x).toNat < S784.size a)
theorem k0_idx51_inb : ∀ (v855 : IVec S16 32) (k0_hw11 : k0_chk11 v855), ∀ a x, ((![v855] : Fin 1 → IVec S16 32) a x).toNat < S784.size a := fun v855 k0_hw11 => k0_hw11.1
theorem k0_idx52_inb : ∀ (v855 : IVec S16 32) (k0_hw11 : k0_chk11 v855), ∀ a x, ((![v855] : Fin 1 → IVec S16 32) a x).toNat < S784.size a := fun v855 k0_hw11 => k0_hw11.2

def k0_chk12 (v32 : IVec S16 32) (v34 : IVec S16 32) (v36 : IVec S16 32) (v38 : IVec S16 32) (v40 : IVec S16 32) (v42 : IVec S16 32) (v44 : IVec S16 32) (v46 : IVec S16 32) (v856 : IVec S16 32) : Prop :=
  (∀ a x, ((![v856, v32] : Fin 2 → IVec S16 32) a x).toNat < S400x128.size a) ∧
  (∀ a x, ((![v856, v34] : Fin 2 → IVec S16 32) a x).toNat < S400x128.size a) ∧
  (∀ a x, ((![v856, v36] : Fin 2 → IVec S16 32) a x).toNat < S400x128.size a) ∧
  (∀ a x, ((![v856, v38] : Fin 2 → IVec S16 32) a x).toNat < S400x128.size a) ∧
  (∀ a x, ((![v856, v40] : Fin 2 → IVec S16 32) a x).toNat < S400x128.size a) ∧
  (∀ a x, ((![v856, v42] : Fin 2 → IVec S16 32) a x).toNat < S400x128.size a) ∧
  (∀ a x, ((![v856, v44] : Fin 2 → IVec S16 32) a x).toNat < S400x128.size a) ∧
  (∀ a x, ((![v856, v46] : Fin 2 → IVec S16 32) a x).toNat < S400x128.size a)
theorem k0_idx53_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v32] : Fin 2 → IVec S16 32) a x).toNat < S400x128.size a := fun v32 v34 v36 v38 v40 v42 v44 v46 v856 k0_hw12 => k0_hw12.1
theorem k0_idx54_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v34] : Fin 2 → IVec S16 32) a x).toNat < S400x128.size a := fun v32 v34 v36 v38 v40 v42 v44 v46 v856 k0_hw12 => k0_hw12.2.1
theorem k0_idx55_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v36] : Fin 2 → IVec S16 32) a x).toNat < S400x128.size a := fun v32 v34 v36 v38 v40 v42 v44 v46 v856 k0_hw12 => k0_hw12.2.2.1
theorem k0_idx56_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v38] : Fin 2 → IVec S16 32) a x).toNat < S400x128.size a := fun v32 v34 v36 v38 v40 v42 v44 v46 v856 k0_hw12 => k0_hw12.2.2.2.1
theorem k0_idx57_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v40] : Fin 2 → IVec S16 32) a x).toNat < S400x128.size a := fun v32 v34 v36 v38 v40 v42 v44 v46 v856 k0_hw12 => k0_hw12.2.2.2.2.1
theorem k0_idx58_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v42] : Fin 2 → IVec S16 32) a x).toNat < S400x128.size a := fun v32 v34 v36 v38 v40 v42 v44 v46 v856 k0_hw12 => k0_hw12.2.2.2.2.2.1
theorem k0_idx59_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v44] : Fin 2 → IVec S16 32) a x).toNat < S400x128.size a := fun v32 v34 v36 v38 v40 v42 v44 v46 v856 k0_hw12 => k0_hw12.2.2.2.2.2.2.1
theorem k0_idx60_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw12 : k0_chk12 v32 v34 v36 v38 v40 v42 v44 v46 v856), ∀ a x, ((![v856, v46] : Fin 2 → IVec S16 32) a x).toNat < S400x128.size a := fun v32 v34 v36 v38 v40 v42 v44 v46 v856 k0_hw12 => k0_hw12.2.2.2.2.2.2.2

def k0_chk13 (v884 : IVec S16 32) : Prop :=
  (∀ a x, ((![v884] : Fin 1 → IVec S16 32) a x).toNat < S784.size a) ∧
  (∀ a x, ((![v884] : Fin 1 → IVec S16 32) a x).toNat < S784.size a)
theorem k0_idx61_inb : ∀ (v884 : IVec S16 32) (k0_hw13 : k0_chk13 v884), ∀ a x, ((![v884] : Fin 1 → IVec S16 32) a x).toNat < S784.size a := fun v884 k0_hw13 => k0_hw13.1
theorem k0_idx62_inb : ∀ (v884 : IVec S16 32) (k0_hw13 : k0_chk13 v884), ∀ a x, ((![v884] : Fin 1 → IVec S16 32) a x).toNat < S784.size a := fun v884 k0_hw13 => k0_hw13.2

def k0_chk14 (v32 : IVec S16 32) (v34 : IVec S16 32) (v36 : IVec S16 32) (v38 : IVec S16 32) (v40 : IVec S16 32) (v42 : IVec S16 32) (v44 : IVec S16 32) (v46 : IVec S16 32) (v885 : IVec S16 32) : Prop :=
  (∀ a x, ((![v885, v32] : Fin 2 → IVec S16 32) a x).toNat < S400x128.size a) ∧
  (∀ a x, ((![v885, v34] : Fin 2 → IVec S16 32) a x).toNat < S400x128.size a) ∧
  (∀ a x, ((![v885, v36] : Fin 2 → IVec S16 32) a x).toNat < S400x128.size a) ∧
  (∀ a x, ((![v885, v38] : Fin 2 → IVec S16 32) a x).toNat < S400x128.size a) ∧
  (∀ a x, ((![v885, v40] : Fin 2 → IVec S16 32) a x).toNat < S400x128.size a) ∧
  (∀ a x, ((![v885, v42] : Fin 2 → IVec S16 32) a x).toNat < S400x128.size a) ∧
  (∀ a x, ((![v885, v44] : Fin 2 → IVec S16 32) a x).toNat < S400x128.size a) ∧
  (∀ a x, ((![v885, v46] : Fin 2 → IVec S16 32) a x).toNat < S400x128.size a)
theorem k0_idx63_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v32] : Fin 2 → IVec S16 32) a x).toNat < S400x128.size a := fun v32 v34 v36 v38 v40 v42 v44 v46 v885 k0_hw14 => k0_hw14.1
theorem k0_idx64_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v34] : Fin 2 → IVec S16 32) a x).toNat < S400x128.size a := fun v32 v34 v36 v38 v40 v42 v44 v46 v885 k0_hw14 => k0_hw14.2.1
theorem k0_idx65_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v36] : Fin 2 → IVec S16 32) a x).toNat < S400x128.size a := fun v32 v34 v36 v38 v40 v42 v44 v46 v885 k0_hw14 => k0_hw14.2.2.1
theorem k0_idx66_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v38] : Fin 2 → IVec S16 32) a x).toNat < S400x128.size a := fun v32 v34 v36 v38 v40 v42 v44 v46 v885 k0_hw14 => k0_hw14.2.2.2.1
theorem k0_idx67_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v40] : Fin 2 → IVec S16 32) a x).toNat < S400x128.size a := fun v32 v34 v36 v38 v40 v42 v44 v46 v885 k0_hw14 => k0_hw14.2.2.2.2.1
theorem k0_idx68_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v42] : Fin 2 → IVec S16 32) a x).toNat < S400x128.size a := fun v32 v34 v36 v38 v40 v42 v44 v46 v885 k0_hw14 => k0_hw14.2.2.2.2.2.1
theorem k0_idx69_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v44] : Fin 2 → IVec S16 32) a x).toNat < S400x128.size a := fun v32 v34 v36 v38 v40 v42 v44 v46 v885 k0_hw14 => k0_hw14.2.2.2.2.2.2.1
theorem k0_idx70_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw14 : k0_chk14 v32 v34 v36 v38 v40 v42 v44 v46 v885), ∀ a x, ((![v885, v46] : Fin 2 → IVec S16 32) a x).toNat < S400x128.size a := fun v32 v34 v36 v38 v40 v42 v44 v46 v885 k0_hw14 => k0_hw14.2.2.2.2.2.2.2

def k0_chk15 (v913 : IVec S16 32) : Prop :=
  (∀ a x, ((![v913] : Fin 1 → IVec S16 32) a x).toNat < S784.size a) ∧
  (∀ a x, ((![v913] : Fin 1 → IVec S16 32) a x).toNat < S784.size a)
theorem k0_idx71_inb : ∀ (v913 : IVec S16 32) (k0_hw15 : k0_chk15 v913), ∀ a x, ((![v913] : Fin 1 → IVec S16 32) a x).toNat < S784.size a := fun v913 k0_hw15 => k0_hw15.1
theorem k0_idx72_inb : ∀ (v913 : IVec S16 32) (k0_hw15 : k0_chk15 v913), ∀ a x, ((![v913] : Fin 1 → IVec S16 32) a x).toNat < S784.size a := fun v913 k0_hw15 => k0_hw15.2

def k0_chk16 (v32 : IVec S16 32) (v34 : IVec S16 32) (v36 : IVec S16 32) (v38 : IVec S16 32) (v40 : IVec S16 32) (v42 : IVec S16 32) (v44 : IVec S16 32) (v46 : IVec S16 32) (v914 : IVec S16 32) : Prop :=
  (∀ a x, ((![v914, v32] : Fin 2 → IVec S16 32) a x).toNat < S400x128.size a) ∧
  (∀ a x, ((![v914, v34] : Fin 2 → IVec S16 32) a x).toNat < S400x128.size a) ∧
  (∀ a x, ((![v914, v36] : Fin 2 → IVec S16 32) a x).toNat < S400x128.size a) ∧
  (∀ a x, ((![v914, v38] : Fin 2 → IVec S16 32) a x).toNat < S400x128.size a) ∧
  (∀ a x, ((![v914, v40] : Fin 2 → IVec S16 32) a x).toNat < S400x128.size a) ∧
  (∀ a x, ((![v914, v42] : Fin 2 → IVec S16 32) a x).toNat < S400x128.size a) ∧
  (∀ a x, ((![v914, v44] : Fin 2 → IVec S16 32) a x).toNat < S400x128.size a) ∧
  (∀ a x, ((![v914, v46] : Fin 2 → IVec S16 32) a x).toNat < S400x128.size a)
theorem k0_idx73_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v32] : Fin 2 → IVec S16 32) a x).toNat < S400x128.size a := fun v32 v34 v36 v38 v40 v42 v44 v46 v914 k0_hw16 => k0_hw16.1
theorem k0_idx74_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v34] : Fin 2 → IVec S16 32) a x).toNat < S400x128.size a := fun v32 v34 v36 v38 v40 v42 v44 v46 v914 k0_hw16 => k0_hw16.2.1
theorem k0_idx75_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v36] : Fin 2 → IVec S16 32) a x).toNat < S400x128.size a := fun v32 v34 v36 v38 v40 v42 v44 v46 v914 k0_hw16 => k0_hw16.2.2.1
theorem k0_idx76_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v38] : Fin 2 → IVec S16 32) a x).toNat < S400x128.size a := fun v32 v34 v36 v38 v40 v42 v44 v46 v914 k0_hw16 => k0_hw16.2.2.2.1
theorem k0_idx77_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v40] : Fin 2 → IVec S16 32) a x).toNat < S400x128.size a := fun v32 v34 v36 v38 v40 v42 v44 v46 v914 k0_hw16 => k0_hw16.2.2.2.2.1
theorem k0_idx78_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v42] : Fin 2 → IVec S16 32) a x).toNat < S400x128.size a := fun v32 v34 v36 v38 v40 v42 v44 v46 v914 k0_hw16 => k0_hw16.2.2.2.2.2.1
theorem k0_idx79_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v44] : Fin 2 → IVec S16 32) a x).toNat < S400x128.size a := fun v32 v34 v36 v38 v40 v42 v44 v46 v914 k0_hw16 => k0_hw16.2.2.2.2.2.2.1
theorem k0_idx80_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw16 : k0_chk16 v32 v34 v36 v38 v40 v42 v44 v46 v914), ∀ a x, ((![v914, v46] : Fin 2 → IVec S16 32) a x).toNat < S400x128.size a := fun v32 v34 v36 v38 v40 v42 v44 v46 v914 k0_hw16 => k0_hw16.2.2.2.2.2.2.2

def k0_chk17 (v942 : IVec S16 32) : Prop :=
  (∀ a x, ((![v942] : Fin 1 → IVec S16 32) a x).toNat < S784.size a) ∧
  (∀ a x, ((![v942] : Fin 1 → IVec S16 32) a x).toNat < S784.size a)
theorem k0_idx81_inb : ∀ (v942 : IVec S16 32) (k0_hw17 : k0_chk17 v942), ∀ a x, ((![v942] : Fin 1 → IVec S16 32) a x).toNat < S784.size a := fun v942 k0_hw17 => k0_hw17.1
theorem k0_idx82_inb : ∀ (v942 : IVec S16 32) (k0_hw17 : k0_chk17 v942), ∀ a x, ((![v942] : Fin 1 → IVec S16 32) a x).toNat < S784.size a := fun v942 k0_hw17 => k0_hw17.2

def k0_chk18 (v32 : IVec S16 32) (v34 : IVec S16 32) (v36 : IVec S16 32) (v38 : IVec S16 32) (v40 : IVec S16 32) (v42 : IVec S16 32) (v44 : IVec S16 32) (v46 : IVec S16 32) (v943 : IVec S16 32) : Prop :=
  (∀ a x, ((![v943, v32] : Fin 2 → IVec S16 32) a x).toNat < S400x128.size a) ∧
  (∀ a x, ((![v943, v34] : Fin 2 → IVec S16 32) a x).toNat < S400x128.size a) ∧
  (∀ a x, ((![v943, v36] : Fin 2 → IVec S16 32) a x).toNat < S400x128.size a) ∧
  (∀ a x, ((![v943, v38] : Fin 2 → IVec S16 32) a x).toNat < S400x128.size a) ∧
  (∀ a x, ((![v943, v40] : Fin 2 → IVec S16 32) a x).toNat < S400x128.size a) ∧
  (∀ a x, ((![v943, v42] : Fin 2 → IVec S16 32) a x).toNat < S400x128.size a) ∧
  (∀ a x, ((![v943, v44] : Fin 2 → IVec S16 32) a x).toNat < S400x128.size a) ∧
  (∀ a x, ((![v943, v46] : Fin 2 → IVec S16 32) a x).toNat < S400x128.size a)
theorem k0_idx83_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v32] : Fin 2 → IVec S16 32) a x).toNat < S400x128.size a := fun v32 v34 v36 v38 v40 v42 v44 v46 v943 k0_hw18 => k0_hw18.1
theorem k0_idx84_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v34] : Fin 2 → IVec S16 32) a x).toNat < S400x128.size a := fun v32 v34 v36 v38 v40 v42 v44 v46 v943 k0_hw18 => k0_hw18.2.1
theorem k0_idx85_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v36] : Fin 2 → IVec S16 32) a x).toNat < S400x128.size a := fun v32 v34 v36 v38 v40 v42 v44 v46 v943 k0_hw18 => k0_hw18.2.2.1
theorem k0_idx86_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v38] : Fin 2 → IVec S16 32) a x).toNat < S400x128.size a := fun v32 v34 v36 v38 v40 v42 v44 v46 v943 k0_hw18 => k0_hw18.2.2.2.1
theorem k0_idx87_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v40] : Fin 2 → IVec S16 32) a x).toNat < S400x128.size a := fun v32 v34 v36 v38 v40 v42 v44 v46 v943 k0_hw18 => k0_hw18.2.2.2.2.1
theorem k0_idx88_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v42] : Fin 2 → IVec S16 32) a x).toNat < S400x128.size a := fun v32 v34 v36 v38 v40 v42 v44 v46 v943 k0_hw18 => k0_hw18.2.2.2.2.2.1
theorem k0_idx89_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v44] : Fin 2 → IVec S16 32) a x).toNat < S400x128.size a := fun v32 v34 v36 v38 v40 v42 v44 v46 v943 k0_hw18 => k0_hw18.2.2.2.2.2.2.1
theorem k0_idx90_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw18 : k0_chk18 v32 v34 v36 v38 v40 v42 v44 v46 v943), ∀ a x, ((![v943, v46] : Fin 2 → IVec S16 32) a x).toNat < S400x128.size a := fun v32 v34 v36 v38 v40 v42 v44 v46 v943 k0_hw18 => k0_hw18.2.2.2.2.2.2.2

def k0_chk19 (v971 : IVec S16 32) : Prop :=
  (∀ a x, ((![v971] : Fin 1 → IVec S16 32) a x).toNat < S784.size a) ∧
  (∀ a x, ((![v971] : Fin 1 → IVec S16 32) a x).toNat < S784.size a)
theorem k0_idx91_inb : ∀ (v971 : IVec S16 32) (k0_hw19 : k0_chk19 v971), ∀ a x, ((![v971] : Fin 1 → IVec S16 32) a x).toNat < S784.size a := fun v971 k0_hw19 => k0_hw19.1
theorem k0_idx92_inb : ∀ (v971 : IVec S16 32) (k0_hw19 : k0_chk19 v971), ∀ a x, ((![v971] : Fin 1 → IVec S16 32) a x).toNat < S784.size a := fun v971 k0_hw19 => k0_hw19.2

def k0_chk20 (v32 : IVec S16 32) (v34 : IVec S16 32) (v36 : IVec S16 32) (v38 : IVec S16 32) (v40 : IVec S16 32) (v42 : IVec S16 32) (v44 : IVec S16 32) (v46 : IVec S16 32) (v972 : IVec S16 32) : Prop :=
  (∀ a x, ((![v972, v32] : Fin 2 → IVec S16 32) a x).toNat < S400x128.size a) ∧
  (∀ a x, ((![v972, v34] : Fin 2 → IVec S16 32) a x).toNat < S400x128.size a) ∧
  (∀ a x, ((![v972, v36] : Fin 2 → IVec S16 32) a x).toNat < S400x128.size a) ∧
  (∀ a x, ((![v972, v38] : Fin 2 → IVec S16 32) a x).toNat < S400x128.size a) ∧
  (∀ a x, ((![v972, v40] : Fin 2 → IVec S16 32) a x).toNat < S400x128.size a) ∧
  (∀ a x, ((![v972, v42] : Fin 2 → IVec S16 32) a x).toNat < S400x128.size a) ∧
  (∀ a x, ((![v972, v44] : Fin 2 → IVec S16 32) a x).toNat < S400x128.size a) ∧
  (∀ a x, ((![v972, v46] : Fin 2 → IVec S16 32) a x).toNat < S400x128.size a)
theorem k0_idx93_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v32] : Fin 2 → IVec S16 32) a x).toNat < S400x128.size a := fun v32 v34 v36 v38 v40 v42 v44 v46 v972 k0_hw20 => k0_hw20.1
theorem k0_idx94_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v34] : Fin 2 → IVec S16 32) a x).toNat < S400x128.size a := fun v32 v34 v36 v38 v40 v42 v44 v46 v972 k0_hw20 => k0_hw20.2.1
theorem k0_idx95_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v36] : Fin 2 → IVec S16 32) a x).toNat < S400x128.size a := fun v32 v34 v36 v38 v40 v42 v44 v46 v972 k0_hw20 => k0_hw20.2.2.1
theorem k0_idx96_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v38] : Fin 2 → IVec S16 32) a x).toNat < S400x128.size a := fun v32 v34 v36 v38 v40 v42 v44 v46 v972 k0_hw20 => k0_hw20.2.2.2.1
theorem k0_idx97_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v40] : Fin 2 → IVec S16 32) a x).toNat < S400x128.size a := fun v32 v34 v36 v38 v40 v42 v44 v46 v972 k0_hw20 => k0_hw20.2.2.2.2.1
theorem k0_idx98_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v42] : Fin 2 → IVec S16 32) a x).toNat < S400x128.size a := fun v32 v34 v36 v38 v40 v42 v44 v46 v972 k0_hw20 => k0_hw20.2.2.2.2.2.1
theorem k0_idx99_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v44] : Fin 2 → IVec S16 32) a x).toNat < S400x128.size a := fun v32 v34 v36 v38 v40 v42 v44 v46 v972 k0_hw20 => k0_hw20.2.2.2.2.2.2.1
theorem k0_idx100_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw20 : k0_chk20 v32 v34 v36 v38 v40 v42 v44 v46 v972), ∀ a x, ((![v972, v46] : Fin 2 → IVec S16 32) a x).toNat < S400x128.size a := fun v32 v34 v36 v38 v40 v42 v44 v46 v972 k0_hw20 => k0_hw20.2.2.2.2.2.2.2

def k0_chk21 (v1000 : IVec S16 32) : Prop :=
  (∀ a x, ((![v1000] : Fin 1 → IVec S16 32) a x).toNat < S784.size a) ∧
  (∀ a x, ((![v1000] : Fin 1 → IVec S16 32) a x).toNat < S784.size a)
theorem k0_idx101_inb : ∀ (v1000 : IVec S16 32) (k0_hw21 : k0_chk21 v1000), ∀ a x, ((![v1000] : Fin 1 → IVec S16 32) a x).toNat < S784.size a := fun v1000 k0_hw21 => k0_hw21.1
theorem k0_idx102_inb : ∀ (v1000 : IVec S16 32) (k0_hw21 : k0_chk21 v1000), ∀ a x, ((![v1000] : Fin 1 → IVec S16 32) a x).toNat < S784.size a := fun v1000 k0_hw21 => k0_hw21.2

def k0_chk22 (v32 : IVec S16 32) (v34 : IVec S16 32) (v36 : IVec S16 32) (v38 : IVec S16 32) (v40 : IVec S16 32) (v42 : IVec S16 32) (v44 : IVec S16 32) (v46 : IVec S16 32) (v1001 : IVec S16 32) : Prop :=
  (∀ a x, ((![v1001, v32] : Fin 2 → IVec S16 32) a x).toNat < S400x128.size a) ∧
  (∀ a x, ((![v1001, v34] : Fin 2 → IVec S16 32) a x).toNat < S400x128.size a) ∧
  (∀ a x, ((![v1001, v36] : Fin 2 → IVec S16 32) a x).toNat < S400x128.size a) ∧
  (∀ a x, ((![v1001, v38] : Fin 2 → IVec S16 32) a x).toNat < S400x128.size a) ∧
  (∀ a x, ((![v1001, v40] : Fin 2 → IVec S16 32) a x).toNat < S400x128.size a) ∧
  (∀ a x, ((![v1001, v42] : Fin 2 → IVec S16 32) a x).toNat < S400x128.size a) ∧
  (∀ a x, ((![v1001, v44] : Fin 2 → IVec S16 32) a x).toNat < S400x128.size a) ∧
  (∀ a x, ((![v1001, v46] : Fin 2 → IVec S16 32) a x).toNat < S400x128.size a)
theorem k0_idx103_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v32] : Fin 2 → IVec S16 32) a x).toNat < S400x128.size a := fun v32 v34 v36 v38 v40 v42 v44 v46 v1001 k0_hw22 => k0_hw22.1
theorem k0_idx104_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v34] : Fin 2 → IVec S16 32) a x).toNat < S400x128.size a := fun v32 v34 v36 v38 v40 v42 v44 v46 v1001 k0_hw22 => k0_hw22.2.1
theorem k0_idx105_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v36] : Fin 2 → IVec S16 32) a x).toNat < S400x128.size a := fun v32 v34 v36 v38 v40 v42 v44 v46 v1001 k0_hw22 => k0_hw22.2.2.1
theorem k0_idx106_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v38] : Fin 2 → IVec S16 32) a x).toNat < S400x128.size a := fun v32 v34 v36 v38 v40 v42 v44 v46 v1001 k0_hw22 => k0_hw22.2.2.2.1
theorem k0_idx107_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v40] : Fin 2 → IVec S16 32) a x).toNat < S400x128.size a := fun v32 v34 v36 v38 v40 v42 v44 v46 v1001 k0_hw22 => k0_hw22.2.2.2.2.1
theorem k0_idx108_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v42] : Fin 2 → IVec S16 32) a x).toNat < S400x128.size a := fun v32 v34 v36 v38 v40 v42 v44 v46 v1001 k0_hw22 => k0_hw22.2.2.2.2.2.1
theorem k0_idx109_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v44] : Fin 2 → IVec S16 32) a x).toNat < S400x128.size a := fun v32 v34 v36 v38 v40 v42 v44 v46 v1001 k0_hw22 => k0_hw22.2.2.2.2.2.2.1
theorem k0_idx110_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw22 : k0_chk22 v32 v34 v36 v38 v40 v42 v44 v46 v1001), ∀ a x, ((![v1001, v46] : Fin 2 → IVec S16 32) a x).toNat < S400x128.size a := fun v32 v34 v36 v38 v40 v42 v44 v46 v1001 k0_hw22 => k0_hw22.2.2.2.2.2.2.2

def k0_chk23 (v1029 : IVec S16 32) : Prop :=
  (∀ a x, ((![v1029] : Fin 1 → IVec S16 32) a x).toNat < S784.size a) ∧
  (∀ a x, ((![v1029] : Fin 1 → IVec S16 32) a x).toNat < S784.size a)
theorem k0_idx111_inb : ∀ (v1029 : IVec S16 32) (k0_hw23 : k0_chk23 v1029), ∀ a x, ((![v1029] : Fin 1 → IVec S16 32) a x).toNat < S784.size a := fun v1029 k0_hw23 => k0_hw23.1
theorem k0_idx112_inb : ∀ (v1029 : IVec S16 32) (k0_hw23 : k0_chk23 v1029), ∀ a x, ((![v1029] : Fin 1 → IVec S16 32) a x).toNat < S784.size a := fun v1029 k0_hw23 => k0_hw23.2

def k0_chk24 (v32 : IVec S16 32) (v34 : IVec S16 32) (v36 : IVec S16 32) (v38 : IVec S16 32) (v40 : IVec S16 32) (v42 : IVec S16 32) (v44 : IVec S16 32) (v46 : IVec S16 32) (v1030 : IVec S16 32) : Prop :=
  (∀ a x, ((![v1030, v32] : Fin 2 → IVec S16 32) a x).toNat < S400x128.size a) ∧
  (∀ a x, ((![v1030, v34] : Fin 2 → IVec S16 32) a x).toNat < S400x128.size a) ∧
  (∀ a x, ((![v1030, v36] : Fin 2 → IVec S16 32) a x).toNat < S400x128.size a) ∧
  (∀ a x, ((![v1030, v38] : Fin 2 → IVec S16 32) a x).toNat < S400x128.size a) ∧
  (∀ a x, ((![v1030, v40] : Fin 2 → IVec S16 32) a x).toNat < S400x128.size a) ∧
  (∀ a x, ((![v1030, v42] : Fin 2 → IVec S16 32) a x).toNat < S400x128.size a) ∧
  (∀ a x, ((![v1030, v44] : Fin 2 → IVec S16 32) a x).toNat < S400x128.size a) ∧
  (∀ a x, ((![v1030, v46] : Fin 2 → IVec S16 32) a x).toNat < S400x128.size a)
theorem k0_idx113_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v32] : Fin 2 → IVec S16 32) a x).toNat < S400x128.size a := fun v32 v34 v36 v38 v40 v42 v44 v46 v1030 k0_hw24 => k0_hw24.1
theorem k0_idx114_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v34] : Fin 2 → IVec S16 32) a x).toNat < S400x128.size a := fun v32 v34 v36 v38 v40 v42 v44 v46 v1030 k0_hw24 => k0_hw24.2.1
theorem k0_idx115_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v36] : Fin 2 → IVec S16 32) a x).toNat < S400x128.size a := fun v32 v34 v36 v38 v40 v42 v44 v46 v1030 k0_hw24 => k0_hw24.2.2.1
theorem k0_idx116_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v38] : Fin 2 → IVec S16 32) a x).toNat < S400x128.size a := fun v32 v34 v36 v38 v40 v42 v44 v46 v1030 k0_hw24 => k0_hw24.2.2.2.1
theorem k0_idx117_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v40] : Fin 2 → IVec S16 32) a x).toNat < S400x128.size a := fun v32 v34 v36 v38 v40 v42 v44 v46 v1030 k0_hw24 => k0_hw24.2.2.2.2.1
theorem k0_idx118_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v42] : Fin 2 → IVec S16 32) a x).toNat < S400x128.size a := fun v32 v34 v36 v38 v40 v42 v44 v46 v1030 k0_hw24 => k0_hw24.2.2.2.2.2.1
theorem k0_idx119_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v44] : Fin 2 → IVec S16 32) a x).toNat < S400x128.size a := fun v32 v34 v36 v38 v40 v42 v44 v46 v1030 k0_hw24 => k0_hw24.2.2.2.2.2.2.1
theorem k0_idx120_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw24 : k0_chk24 v32 v34 v36 v38 v40 v42 v44 v46 v1030), ∀ a x, ((![v1030, v46] : Fin 2 → IVec S16 32) a x).toNat < S400x128.size a := fun v32 v34 v36 v38 v40 v42 v44 v46 v1030 k0_hw24 => k0_hw24.2.2.2.2.2.2.2

def k0_chk25 (v1058 : IVec S16 32) : Prop :=
  (∀ a x, ((![v1058] : Fin 1 → IVec S16 32) a x).toNat < S784.size a) ∧
  (∀ a x, ((![v1058] : Fin 1 → IVec S16 32) a x).toNat < S784.size a)
theorem k0_idx121_inb : ∀ (v1058 : IVec S16 32) (k0_hw25 : k0_chk25 v1058), ∀ a x, ((![v1058] : Fin 1 → IVec S16 32) a x).toNat < S784.size a := fun v1058 k0_hw25 => k0_hw25.1
theorem k0_idx122_inb : ∀ (v1058 : IVec S16 32) (k0_hw25 : k0_chk25 v1058), ∀ a x, ((![v1058] : Fin 1 → IVec S16 32) a x).toNat < S784.size a := fun v1058 k0_hw25 => k0_hw25.2

def k0_chk26 (v32 : IVec S16 32) (v34 : IVec S16 32) (v36 : IVec S16 32) (v38 : IVec S16 32) (v40 : IVec S16 32) (v42 : IVec S16 32) (v44 : IVec S16 32) (v46 : IVec S16 32) (v1059 : IVec S16 32) : Prop :=
  (∀ a x, ((![v1059, v32] : Fin 2 → IVec S16 32) a x).toNat < S400x128.size a) ∧
  (∀ a x, ((![v1059, v34] : Fin 2 → IVec S16 32) a x).toNat < S400x128.size a) ∧
  (∀ a x, ((![v1059, v36] : Fin 2 → IVec S16 32) a x).toNat < S400x128.size a) ∧
  (∀ a x, ((![v1059, v38] : Fin 2 → IVec S16 32) a x).toNat < S400x128.size a) ∧
  (∀ a x, ((![v1059, v40] : Fin 2 → IVec S16 32) a x).toNat < S400x128.size a) ∧
  (∀ a x, ((![v1059, v42] : Fin 2 → IVec S16 32) a x).toNat < S400x128.size a) ∧
  (∀ a x, ((![v1059, v44] : Fin 2 → IVec S16 32) a x).toNat < S400x128.size a) ∧
  (∀ a x, ((![v1059, v46] : Fin 2 → IVec S16 32) a x).toNat < S400x128.size a)
theorem k0_idx123_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v32] : Fin 2 → IVec S16 32) a x).toNat < S400x128.size a := fun v32 v34 v36 v38 v40 v42 v44 v46 v1059 k0_hw26 => k0_hw26.1
theorem k0_idx124_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v34] : Fin 2 → IVec S16 32) a x).toNat < S400x128.size a := fun v32 v34 v36 v38 v40 v42 v44 v46 v1059 k0_hw26 => k0_hw26.2.1
theorem k0_idx125_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v36] : Fin 2 → IVec S16 32) a x).toNat < S400x128.size a := fun v32 v34 v36 v38 v40 v42 v44 v46 v1059 k0_hw26 => k0_hw26.2.2.1
theorem k0_idx126_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v38] : Fin 2 → IVec S16 32) a x).toNat < S400x128.size a := fun v32 v34 v36 v38 v40 v42 v44 v46 v1059 k0_hw26 => k0_hw26.2.2.2.1
theorem k0_idx127_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v40] : Fin 2 → IVec S16 32) a x).toNat < S400x128.size a := fun v32 v34 v36 v38 v40 v42 v44 v46 v1059 k0_hw26 => k0_hw26.2.2.2.2.1
theorem k0_idx128_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v42] : Fin 2 → IVec S16 32) a x).toNat < S400x128.size a := fun v32 v34 v36 v38 v40 v42 v44 v46 v1059 k0_hw26 => k0_hw26.2.2.2.2.2.1
theorem k0_idx129_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v44] : Fin 2 → IVec S16 32) a x).toNat < S400x128.size a := fun v32 v34 v36 v38 v40 v42 v44 v46 v1059 k0_hw26 => k0_hw26.2.2.2.2.2.2.1
theorem k0_idx130_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw26 : k0_chk26 v32 v34 v36 v38 v40 v42 v44 v46 v1059), ∀ a x, ((![v1059, v46] : Fin 2 → IVec S16 32) a x).toNat < S400x128.size a := fun v32 v34 v36 v38 v40 v42 v44 v46 v1059 k0_hw26 => k0_hw26.2.2.2.2.2.2.2

def k0_chk27 (v1087 : IVec S16 32) : Prop :=
  (∀ a x, ((![v1087] : Fin 1 → IVec S16 32) a x).toNat < S784.size a) ∧
  (∀ a x, ((![v1087] : Fin 1 → IVec S16 32) a x).toNat < S784.size a)
theorem k0_idx131_inb : ∀ (v1087 : IVec S16 32) (k0_hw27 : k0_chk27 v1087), ∀ a x, ((![v1087] : Fin 1 → IVec S16 32) a x).toNat < S784.size a := fun v1087 k0_hw27 => k0_hw27.1
theorem k0_idx132_inb : ∀ (v1087 : IVec S16 32) (k0_hw27 : k0_chk27 v1087), ∀ a x, ((![v1087] : Fin 1 → IVec S16 32) a x).toNat < S784.size a := fun v1087 k0_hw27 => k0_hw27.2

def k0_chk28 (v32 : IVec S16 32) (v34 : IVec S16 32) (v36 : IVec S16 32) (v38 : IVec S16 32) (v40 : IVec S16 32) (v42 : IVec S16 32) (v44 : IVec S16 32) (v46 : IVec S16 32) (v1088 : IVec S16 32) : Prop :=
  (∀ a x, ((![v1088, v32] : Fin 2 → IVec S16 32) a x).toNat < S400x128.size a) ∧
  (∀ a x, ((![v1088, v34] : Fin 2 → IVec S16 32) a x).toNat < S400x128.size a) ∧
  (∀ a x, ((![v1088, v36] : Fin 2 → IVec S16 32) a x).toNat < S400x128.size a) ∧
  (∀ a x, ((![v1088, v38] : Fin 2 → IVec S16 32) a x).toNat < S400x128.size a) ∧
  (∀ a x, ((![v1088, v40] : Fin 2 → IVec S16 32) a x).toNat < S400x128.size a) ∧
  (∀ a x, ((![v1088, v42] : Fin 2 → IVec S16 32) a x).toNat < S400x128.size a) ∧
  (∀ a x, ((![v1088, v44] : Fin 2 → IVec S16 32) a x).toNat < S400x128.size a) ∧
  (∀ a x, ((![v1088, v46] : Fin 2 → IVec S16 32) a x).toNat < S400x128.size a)
theorem k0_idx133_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v32] : Fin 2 → IVec S16 32) a x).toNat < S400x128.size a := fun v32 v34 v36 v38 v40 v42 v44 v46 v1088 k0_hw28 => k0_hw28.1
theorem k0_idx134_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v34] : Fin 2 → IVec S16 32) a x).toNat < S400x128.size a := fun v32 v34 v36 v38 v40 v42 v44 v46 v1088 k0_hw28 => k0_hw28.2.1
theorem k0_idx135_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v36] : Fin 2 → IVec S16 32) a x).toNat < S400x128.size a := fun v32 v34 v36 v38 v40 v42 v44 v46 v1088 k0_hw28 => k0_hw28.2.2.1
theorem k0_idx136_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v38] : Fin 2 → IVec S16 32) a x).toNat < S400x128.size a := fun v32 v34 v36 v38 v40 v42 v44 v46 v1088 k0_hw28 => k0_hw28.2.2.2.1
theorem k0_idx137_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v40] : Fin 2 → IVec S16 32) a x).toNat < S400x128.size a := fun v32 v34 v36 v38 v40 v42 v44 v46 v1088 k0_hw28 => k0_hw28.2.2.2.2.1
theorem k0_idx138_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v42] : Fin 2 → IVec S16 32) a x).toNat < S400x128.size a := fun v32 v34 v36 v38 v40 v42 v44 v46 v1088 k0_hw28 => k0_hw28.2.2.2.2.2.1
theorem k0_idx139_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v44] : Fin 2 → IVec S16 32) a x).toNat < S400x128.size a := fun v32 v34 v36 v38 v40 v42 v44 v46 v1088 k0_hw28 => k0_hw28.2.2.2.2.2.2.1
theorem k0_idx140_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw28 : k0_chk28 v32 v34 v36 v38 v40 v42 v44 v46 v1088), ∀ a x, ((![v1088, v46] : Fin 2 → IVec S16 32) a x).toNat < S400x128.size a := fun v32 v34 v36 v38 v40 v42 v44 v46 v1088 k0_hw28 => k0_hw28.2.2.2.2.2.2.2

def k0_chk29 (v1116 : IVec S16 32) : Prop :=
  (∀ a x, ((![v1116] : Fin 1 → IVec S16 32) a x).toNat < S784.size a) ∧
  (∀ a x, ((![v1116] : Fin 1 → IVec S16 32) a x).toNat < S784.size a)
theorem k0_idx141_inb : ∀ (v1116 : IVec S16 32) (k0_hw29 : k0_chk29 v1116), ∀ a x, ((![v1116] : Fin 1 → IVec S16 32) a x).toNat < S784.size a := fun v1116 k0_hw29 => k0_hw29.1
theorem k0_idx142_inb : ∀ (v1116 : IVec S16 32) (k0_hw29 : k0_chk29 v1116), ∀ a x, ((![v1116] : Fin 1 → IVec S16 32) a x).toNat < S784.size a := fun v1116 k0_hw29 => k0_hw29.2

def k0_chk30 (v32 : IVec S16 32) (v34 : IVec S16 32) (v36 : IVec S16 32) (v38 : IVec S16 32) (v40 : IVec S16 32) (v42 : IVec S16 32) (v44 : IVec S16 32) (v46 : IVec S16 32) (v1117 : IVec S16 32) : Prop :=
  (∀ a x, ((![v1117, v32] : Fin 2 → IVec S16 32) a x).toNat < S400x128.size a) ∧
  (∀ a x, ((![v1117, v34] : Fin 2 → IVec S16 32) a x).toNat < S400x128.size a) ∧
  (∀ a x, ((![v1117, v36] : Fin 2 → IVec S16 32) a x).toNat < S400x128.size a) ∧
  (∀ a x, ((![v1117, v38] : Fin 2 → IVec S16 32) a x).toNat < S400x128.size a) ∧
  (∀ a x, ((![v1117, v40] : Fin 2 → IVec S16 32) a x).toNat < S400x128.size a) ∧
  (∀ a x, ((![v1117, v42] : Fin 2 → IVec S16 32) a x).toNat < S400x128.size a) ∧
  (∀ a x, ((![v1117, v44] : Fin 2 → IVec S16 32) a x).toNat < S400x128.size a) ∧
  (∀ a x, ((![v1117, v46] : Fin 2 → IVec S16 32) a x).toNat < S400x128.size a)
theorem k0_idx143_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v32] : Fin 2 → IVec S16 32) a x).toNat < S400x128.size a := fun v32 v34 v36 v38 v40 v42 v44 v46 v1117 k0_hw30 => k0_hw30.1
theorem k0_idx144_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v34] : Fin 2 → IVec S16 32) a x).toNat < S400x128.size a := fun v32 v34 v36 v38 v40 v42 v44 v46 v1117 k0_hw30 => k0_hw30.2.1
theorem k0_idx145_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v36] : Fin 2 → IVec S16 32) a x).toNat < S400x128.size a := fun v32 v34 v36 v38 v40 v42 v44 v46 v1117 k0_hw30 => k0_hw30.2.2.1
theorem k0_idx146_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v38] : Fin 2 → IVec S16 32) a x).toNat < S400x128.size a := fun v32 v34 v36 v38 v40 v42 v44 v46 v1117 k0_hw30 => k0_hw30.2.2.2.1
theorem k0_idx147_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v40] : Fin 2 → IVec S16 32) a x).toNat < S400x128.size a := fun v32 v34 v36 v38 v40 v42 v44 v46 v1117 k0_hw30 => k0_hw30.2.2.2.2.1
theorem k0_idx148_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v42] : Fin 2 → IVec S16 32) a x).toNat < S400x128.size a := fun v32 v34 v36 v38 v40 v42 v44 v46 v1117 k0_hw30 => k0_hw30.2.2.2.2.2.1
theorem k0_idx149_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v44] : Fin 2 → IVec S16 32) a x).toNat < S400x128.size a := fun v32 v34 v36 v38 v40 v42 v44 v46 v1117 k0_hw30 => k0_hw30.2.2.2.2.2.2.1
theorem k0_idx150_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw30 : k0_chk30 v32 v34 v36 v38 v40 v42 v44 v46 v1117), ∀ a x, ((![v1117, v46] : Fin 2 → IVec S16 32) a x).toNat < S400x128.size a := fun v32 v34 v36 v38 v40 v42 v44 v46 v1117 k0_hw30 => k0_hw30.2.2.2.2.2.2.2

def k0_chk31 (v1145 : IVec S16 32) : Prop :=
  (∀ a x, ((![v1145] : Fin 1 → IVec S16 32) a x).toNat < S784.size a) ∧
  (∀ a x, ((![v1145] : Fin 1 → IVec S16 32) a x).toNat < S784.size a)
theorem k0_idx151_inb : ∀ (v1145 : IVec S16 32) (k0_hw31 : k0_chk31 v1145), ∀ a x, ((![v1145] : Fin 1 → IVec S16 32) a x).toNat < S784.size a := fun v1145 k0_hw31 => k0_hw31.1
theorem k0_idx152_inb : ∀ (v1145 : IVec S16 32) (k0_hw31 : k0_chk31 v1145), ∀ a x, ((![v1145] : Fin 1 → IVec S16 32) a x).toNat < S784.size a := fun v1145 k0_hw31 => k0_hw31.2

def k0_chk32 (v32 : IVec S16 32) (v34 : IVec S16 32) (v36 : IVec S16 32) (v38 : IVec S16 32) (v40 : IVec S16 32) (v42 : IVec S16 32) (v44 : IVec S16 32) (v46 : IVec S16 32) (v1146 : IVec S16 32) : Prop :=
  (∀ a x, ((![v1146, v32] : Fin 2 → IVec S16 32) a x).toNat < S400x128.size a) ∧
  (∀ a x, ((![v1146, v34] : Fin 2 → IVec S16 32) a x).toNat < S400x128.size a) ∧
  (∀ a x, ((![v1146, v36] : Fin 2 → IVec S16 32) a x).toNat < S400x128.size a) ∧
  (∀ a x, ((![v1146, v38] : Fin 2 → IVec S16 32) a x).toNat < S400x128.size a) ∧
  (∀ a x, ((![v1146, v40] : Fin 2 → IVec S16 32) a x).toNat < S400x128.size a) ∧
  (∀ a x, ((![v1146, v42] : Fin 2 → IVec S16 32) a x).toNat < S400x128.size a) ∧
  (∀ a x, ((![v1146, v44] : Fin 2 → IVec S16 32) a x).toNat < S400x128.size a) ∧
  (∀ a x, ((![v1146, v46] : Fin 2 → IVec S16 32) a x).toNat < S400x128.size a)
theorem k0_idx153_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v32] : Fin 2 → IVec S16 32) a x).toNat < S400x128.size a := fun v32 v34 v36 v38 v40 v42 v44 v46 v1146 k0_hw32 => k0_hw32.1
theorem k0_idx154_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v34] : Fin 2 → IVec S16 32) a x).toNat < S400x128.size a := fun v32 v34 v36 v38 v40 v42 v44 v46 v1146 k0_hw32 => k0_hw32.2.1
theorem k0_idx155_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v36] : Fin 2 → IVec S16 32) a x).toNat < S400x128.size a := fun v32 v34 v36 v38 v40 v42 v44 v46 v1146 k0_hw32 => k0_hw32.2.2.1
theorem k0_idx156_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v38] : Fin 2 → IVec S16 32) a x).toNat < S400x128.size a := fun v32 v34 v36 v38 v40 v42 v44 v46 v1146 k0_hw32 => k0_hw32.2.2.2.1
theorem k0_idx157_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v40] : Fin 2 → IVec S16 32) a x).toNat < S400x128.size a := fun v32 v34 v36 v38 v40 v42 v44 v46 v1146 k0_hw32 => k0_hw32.2.2.2.2.1
theorem k0_idx158_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v42] : Fin 2 → IVec S16 32) a x).toNat < S400x128.size a := fun v32 v34 v36 v38 v40 v42 v44 v46 v1146 k0_hw32 => k0_hw32.2.2.2.2.2.1
theorem k0_idx159_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v44] : Fin 2 → IVec S16 32) a x).toNat < S400x128.size a := fun v32 v34 v36 v38 v40 v42 v44 v46 v1146 k0_hw32 => k0_hw32.2.2.2.2.2.2.1
theorem k0_idx160_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw32 : k0_chk32 v32 v34 v36 v38 v40 v42 v44 v46 v1146), ∀ a x, ((![v1146, v46] : Fin 2 → IVec S16 32) a x).toNat < S400x128.size a := fun v32 v34 v36 v38 v40 v42 v44 v46 v1146 k0_hw32 => k0_hw32.2.2.2.2.2.2.2

def k0_chk33 (v32 : IVec S16 32) (v34 : IVec S16 32) (v36 : IVec S16 32) (v38 : IVec S16 32) (v40 : IVec S16 32) (v42 : IVec S16 32) (v44 : IVec S16 32) (v46 : IVec S16 32) (v1172 : IVec S16 32) : Prop :=
  (∀ a x, ((![v32, v1172] : Fin 2 → IVec S16 32) a x).toNat < S128x49.size a) ∧
  (∀ a x, ((![v34, v1172] : Fin 2 → IVec S16 32) a x).toNat < S128x49.size a) ∧
  (∀ a x, ((![v36, v1172] : Fin 2 → IVec S16 32) a x).toNat < S128x49.size a) ∧
  (∀ a x, ((![v38, v1172] : Fin 2 → IVec S16 32) a x).toNat < S128x49.size a) ∧
  (∀ a x, ((![v40, v1172] : Fin 2 → IVec S16 32) a x).toNat < S128x49.size a) ∧
  (∀ a x, ((![v42, v1172] : Fin 2 → IVec S16 32) a x).toNat < S128x49.size a) ∧
  (∀ a x, ((![v44, v1172] : Fin 2 → IVec S16 32) a x).toNat < S128x49.size a) ∧
  (∀ a x, ((![v46, v1172] : Fin 2 → IVec S16 32) a x).toNat < S128x49.size a)
theorem k0_idx161_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v32, v1172] : Fin 2 → IVec S16 32) a x).toNat < S128x49.size a := fun v32 v34 v36 v38 v40 v42 v44 v46 v1172 k0_hw33 => k0_hw33.1
theorem k0_idx162_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v34, v1172] : Fin 2 → IVec S16 32) a x).toNat < S128x49.size a := fun v32 v34 v36 v38 v40 v42 v44 v46 v1172 k0_hw33 => k0_hw33.2.1
theorem k0_idx163_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v36, v1172] : Fin 2 → IVec S16 32) a x).toNat < S128x49.size a := fun v32 v34 v36 v38 v40 v42 v44 v46 v1172 k0_hw33 => k0_hw33.2.2.1
theorem k0_idx164_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v38, v1172] : Fin 2 → IVec S16 32) a x).toNat < S128x49.size a := fun v32 v34 v36 v38 v40 v42 v44 v46 v1172 k0_hw33 => k0_hw33.2.2.2.1
theorem k0_idx165_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v40, v1172] : Fin 2 → IVec S16 32) a x).toNat < S128x49.size a := fun v32 v34 v36 v38 v40 v42 v44 v46 v1172 k0_hw33 => k0_hw33.2.2.2.2.1
theorem k0_idx166_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v42, v1172] : Fin 2 → IVec S16 32) a x).toNat < S128x49.size a := fun v32 v34 v36 v38 v40 v42 v44 v46 v1172 k0_hw33 => k0_hw33.2.2.2.2.2.1
theorem k0_idx167_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v44, v1172] : Fin 2 → IVec S16 32) a x).toNat < S128x49.size a := fun v32 v34 v36 v38 v40 v42 v44 v46 v1172 k0_hw33 => k0_hw33.2.2.2.2.2.2.1
theorem k0_idx168_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw33 : k0_chk33 v32 v34 v36 v38 v40 v42 v44 v46 v1172), ∀ a x, ((![v46, v1172] : Fin 2 → IVec S16 32) a x).toNat < S128x49.size a := fun v32 v34 v36 v38 v40 v42 v44 v46 v1172 k0_hw33 => k0_hw33.2.2.2.2.2.2.2
def k0_off7 (i : grid0.Coords) (c2_i32_316 : BitVec 32) : Fin 2 → Nat :=
  let c124_i32_317 : BitVec 32 := 124#32
  let v433 : BitVec 32 := Scalar.minsi c2_i32_316 c124_i32_317
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v434 : BitVec 32 := Scalar.addi v433 v29
  let c0_i32_318 : BitVec 32 := 0#32
  ![v434.toNat, 0]
def k0_off8 (i : grid0.Coords) (c0_i32_322 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v443 : BitVec 32 := Scalar.addi v29 c0_i32_322
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32 : BitVec 32 := 128#32
  let v444 : BitVec 32 := Scalar.muli v11 c128_i32
  let c0_i32_571_r3 : BitVec 32 := 0#32
  ![v443.toNat, v444.toNat, 0]
def k0_off8_at (r : Fin 3) : BitVec 32 :=
  if r.val < 1 then
    0#32
  else
    if r.val < 2 then
      1#32
    else
      124#32
def k0_off9 (i : grid0.Coords) : Fin 3 → Nat :=
  let c3_i32_488 : BitVec 32 := 3#32
  let c124_i32_489 : BitVec 32 := 124#32
  let v639 : BitVec 32 := Scalar.minsi c3_i32_488 c124_i32_489
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v640 : BitVec 32 := Scalar.addi v639 v29
  let c0_i32_490 : BitVec 32 := 0#32
  let c0_i32_491 : BitVec 32 := 0#32
  ![v640.toNat, 0, 0]
@[reducible] def k0_t2_loop : Scf.Loop 32 :=
  let c0_i32_501 : BitVec 32 := 0#32
  let c49_i32_502 : BitVec 32 := 49#32
  let v653 : BitVec 32 := Scalar.addi c0_i32_501 c49_i32_502
  let c1_i32_503 : BitVec 32 := 1#32
  ⟨c0_i32_501, v653, c1_i32_503⟩
def k0_off10 (k0_t2 : Fin k0_t2_loop.trips) : Fin 1 → Nat :=
  let c0_i32_501 : BitVec 32 := 0#32
  let c1_i32_503 : BitVec 32 := 1#32
  let arg22 : BitVec 32 := Scf.iv c0_i32_501 c1_i32_503 k0_t2
  let c16_i32_571 : BitVec 32 := 16#32
  let v710 : BitVec 32 := Scalar.muli arg22 c16_i32_571
  let v711 : Index := Scalar.indexCast v710
  ![v711.toNat]

def k0_chk34 (v718 : IVec S16 32) : Prop :=
  (∀ a x, ((![v718] : Fin 1 → IVec S16 32) a x).toNat < S784.size a) ∧
  (∀ a x, ((![v718] : Fin 1 → IVec S16 32) a x).toNat < S784.size a)
theorem k0_idx169_inb : ∀ (v718 : IVec S16 32) (k0_hw34 : k0_chk34 v718), ∀ a x, ((![v718] : Fin 1 → IVec S16 32) a x).toNat < S784.size a := fun v718 k0_hw34 => k0_hw34.1
theorem k0_idx170_inb : ∀ (v718 : IVec S16 32) (k0_hw34 : k0_chk34 v718), ∀ a x, ((![v718] : Fin 1 → IVec S16 32) a x).toNat < S784.size a := fun v718 k0_hw34 => k0_hw34.2

def k0_chk35 (v32 : IVec S16 32) (v34 : IVec S16 32) (v36 : IVec S16 32) (v38 : IVec S16 32) (v40 : IVec S16 32) (v42 : IVec S16 32) (v44 : IVec S16 32) (v46 : IVec S16 32) (v719 : IVec S16 32) : Prop :=
  (∀ a x, ((![v719, v32] : Fin 2 → IVec S16 32) a x).toNat < S400x128.size a) ∧
  (∀ a x, ((![v719, v34] : Fin 2 → IVec S16 32) a x).toNat < S400x128.size a) ∧
  (∀ a x, ((![v719, v36] : Fin 2 → IVec S16 32) a x).toNat < S400x128.size a) ∧
  (∀ a x, ((![v719, v38] : Fin 2 → IVec S16 32) a x).toNat < S400x128.size a) ∧
  (∀ a x, ((![v719, v40] : Fin 2 → IVec S16 32) a x).toNat < S400x128.size a) ∧
  (∀ a x, ((![v719, v42] : Fin 2 → IVec S16 32) a x).toNat < S400x128.size a) ∧
  (∀ a x, ((![v719, v44] : Fin 2 → IVec S16 32) a x).toNat < S400x128.size a) ∧
  (∀ a x, ((![v719, v46] : Fin 2 → IVec S16 32) a x).toNat < S400x128.size a)
theorem k0_idx171_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v32] : Fin 2 → IVec S16 32) a x).toNat < S400x128.size a := fun v32 v34 v36 v38 v40 v42 v44 v46 v719 k0_hw35 => k0_hw35.1
theorem k0_idx172_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v34] : Fin 2 → IVec S16 32) a x).toNat < S400x128.size a := fun v32 v34 v36 v38 v40 v42 v44 v46 v719 k0_hw35 => k0_hw35.2.1
theorem k0_idx173_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v36] : Fin 2 → IVec S16 32) a x).toNat < S400x128.size a := fun v32 v34 v36 v38 v40 v42 v44 v46 v719 k0_hw35 => k0_hw35.2.2.1
theorem k0_idx174_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v38] : Fin 2 → IVec S16 32) a x).toNat < S400x128.size a := fun v32 v34 v36 v38 v40 v42 v44 v46 v719 k0_hw35 => k0_hw35.2.2.2.1
theorem k0_idx175_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v40] : Fin 2 → IVec S16 32) a x).toNat < S400x128.size a := fun v32 v34 v36 v38 v40 v42 v44 v46 v719 k0_hw35 => k0_hw35.2.2.2.2.1
theorem k0_idx176_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v42] : Fin 2 → IVec S16 32) a x).toNat < S400x128.size a := fun v32 v34 v36 v38 v40 v42 v44 v46 v719 k0_hw35 => k0_hw35.2.2.2.2.2.1
theorem k0_idx177_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v44] : Fin 2 → IVec S16 32) a x).toNat < S400x128.size a := fun v32 v34 v36 v38 v40 v42 v44 v46 v719 k0_hw35 => k0_hw35.2.2.2.2.2.2.1
theorem k0_idx178_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw35 : k0_chk35 v32 v34 v36 v38 v40 v42 v44 v46 v719), ∀ a x, ((![v719, v46] : Fin 2 → IVec S16 32) a x).toNat < S400x128.size a := fun v32 v34 v36 v38 v40 v42 v44 v46 v719 k0_hw35 => k0_hw35.2.2.2.2.2.2.2

def k0_chk36 (v739 : IVec S16 32) : Prop :=
  (∀ a x, ((![v739] : Fin 1 → IVec S16 32) a x).toNat < S784.size a) ∧
  (∀ a x, ((![v739] : Fin 1 → IVec S16 32) a x).toNat < S784.size a)
theorem k0_idx179_inb : ∀ (v739 : IVec S16 32) (k0_hw36 : k0_chk36 v739), ∀ a x, ((![v739] : Fin 1 → IVec S16 32) a x).toNat < S784.size a := fun v739 k0_hw36 => k0_hw36.1
theorem k0_idx180_inb : ∀ (v739 : IVec S16 32) (k0_hw36 : k0_chk36 v739), ∀ a x, ((![v739] : Fin 1 → IVec S16 32) a x).toNat < S784.size a := fun v739 k0_hw36 => k0_hw36.2

def k0_chk37 (v32 : IVec S16 32) (v34 : IVec S16 32) (v36 : IVec S16 32) (v38 : IVec S16 32) (v40 : IVec S16 32) (v42 : IVec S16 32) (v44 : IVec S16 32) (v46 : IVec S16 32) (v740 : IVec S16 32) : Prop :=
  (∀ a x, ((![v740, v32] : Fin 2 → IVec S16 32) a x).toNat < S400x128.size a) ∧
  (∀ a x, ((![v740, v34] : Fin 2 → IVec S16 32) a x).toNat < S400x128.size a) ∧
  (∀ a x, ((![v740, v36] : Fin 2 → IVec S16 32) a x).toNat < S400x128.size a) ∧
  (∀ a x, ((![v740, v38] : Fin 2 → IVec S16 32) a x).toNat < S400x128.size a) ∧
  (∀ a x, ((![v740, v40] : Fin 2 → IVec S16 32) a x).toNat < S400x128.size a) ∧
  (∀ a x, ((![v740, v42] : Fin 2 → IVec S16 32) a x).toNat < S400x128.size a) ∧
  (∀ a x, ((![v740, v44] : Fin 2 → IVec S16 32) a x).toNat < S400x128.size a) ∧
  (∀ a x, ((![v740, v46] : Fin 2 → IVec S16 32) a x).toNat < S400x128.size a)
theorem k0_idx181_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v32] : Fin 2 → IVec S16 32) a x).toNat < S400x128.size a := fun v32 v34 v36 v38 v40 v42 v44 v46 v740 k0_hw37 => k0_hw37.1
theorem k0_idx182_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v34] : Fin 2 → IVec S16 32) a x).toNat < S400x128.size a := fun v32 v34 v36 v38 v40 v42 v44 v46 v740 k0_hw37 => k0_hw37.2.1
theorem k0_idx183_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v36] : Fin 2 → IVec S16 32) a x).toNat < S400x128.size a := fun v32 v34 v36 v38 v40 v42 v44 v46 v740 k0_hw37 => k0_hw37.2.2.1
theorem k0_idx184_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v38] : Fin 2 → IVec S16 32) a x).toNat < S400x128.size a := fun v32 v34 v36 v38 v40 v42 v44 v46 v740 k0_hw37 => k0_hw37.2.2.2.1
theorem k0_idx185_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v40] : Fin 2 → IVec S16 32) a x).toNat < S400x128.size a := fun v32 v34 v36 v38 v40 v42 v44 v46 v740 k0_hw37 => k0_hw37.2.2.2.2.1
theorem k0_idx186_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v42] : Fin 2 → IVec S16 32) a x).toNat < S400x128.size a := fun v32 v34 v36 v38 v40 v42 v44 v46 v740 k0_hw37 => k0_hw37.2.2.2.2.2.1
theorem k0_idx187_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v44] : Fin 2 → IVec S16 32) a x).toNat < S400x128.size a := fun v32 v34 v36 v38 v40 v42 v44 v46 v740 k0_hw37 => k0_hw37.2.2.2.2.2.2.1
theorem k0_idx188_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw37 : k0_chk37 v32 v34 v36 v38 v40 v42 v44 v46 v740), ∀ a x, ((![v740, v46] : Fin 2 → IVec S16 32) a x).toNat < S400x128.size a := fun v32 v34 v36 v38 v40 v42 v44 v46 v740 k0_hw37 => k0_hw37.2.2.2.2.2.2.2

def k0_chk38 (v768 : IVec S16 32) : Prop :=
  (∀ a x, ((![v768] : Fin 1 → IVec S16 32) a x).toNat < S784.size a) ∧
  (∀ a x, ((![v768] : Fin 1 → IVec S16 32) a x).toNat < S784.size a)
theorem k0_idx189_inb : ∀ (v768 : IVec S16 32) (k0_hw38 : k0_chk38 v768), ∀ a x, ((![v768] : Fin 1 → IVec S16 32) a x).toNat < S784.size a := fun v768 k0_hw38 => k0_hw38.1
theorem k0_idx190_inb : ∀ (v768 : IVec S16 32) (k0_hw38 : k0_chk38 v768), ∀ a x, ((![v768] : Fin 1 → IVec S16 32) a x).toNat < S784.size a := fun v768 k0_hw38 => k0_hw38.2

def k0_chk39 (v32 : IVec S16 32) (v34 : IVec S16 32) (v36 : IVec S16 32) (v38 : IVec S16 32) (v40 : IVec S16 32) (v42 : IVec S16 32) (v44 : IVec S16 32) (v46 : IVec S16 32) (v769 : IVec S16 32) : Prop :=
  (∀ a x, ((![v769, v32] : Fin 2 → IVec S16 32) a x).toNat < S400x128.size a) ∧
  (∀ a x, ((![v769, v34] : Fin 2 → IVec S16 32) a x).toNat < S400x128.size a) ∧
  (∀ a x, ((![v769, v36] : Fin 2 → IVec S16 32) a x).toNat < S400x128.size a) ∧
  (∀ a x, ((![v769, v38] : Fin 2 → IVec S16 32) a x).toNat < S400x128.size a) ∧
  (∀ a x, ((![v769, v40] : Fin 2 → IVec S16 32) a x).toNat < S400x128.size a) ∧
  (∀ a x, ((![v769, v42] : Fin 2 → IVec S16 32) a x).toNat < S400x128.size a) ∧
  (∀ a x, ((![v769, v44] : Fin 2 → IVec S16 32) a x).toNat < S400x128.size a) ∧
  (∀ a x, ((![v769, v46] : Fin 2 → IVec S16 32) a x).toNat < S400x128.size a)
theorem k0_idx191_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v32] : Fin 2 → IVec S16 32) a x).toNat < S400x128.size a := fun v32 v34 v36 v38 v40 v42 v44 v46 v769 k0_hw39 => k0_hw39.1
theorem k0_idx192_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v34] : Fin 2 → IVec S16 32) a x).toNat < S400x128.size a := fun v32 v34 v36 v38 v40 v42 v44 v46 v769 k0_hw39 => k0_hw39.2.1
theorem k0_idx193_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v36] : Fin 2 → IVec S16 32) a x).toNat < S400x128.size a := fun v32 v34 v36 v38 v40 v42 v44 v46 v769 k0_hw39 => k0_hw39.2.2.1
theorem k0_idx194_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v38] : Fin 2 → IVec S16 32) a x).toNat < S400x128.size a := fun v32 v34 v36 v38 v40 v42 v44 v46 v769 k0_hw39 => k0_hw39.2.2.2.1
theorem k0_idx195_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v40] : Fin 2 → IVec S16 32) a x).toNat < S400x128.size a := fun v32 v34 v36 v38 v40 v42 v44 v46 v769 k0_hw39 => k0_hw39.2.2.2.2.1
theorem k0_idx196_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v42] : Fin 2 → IVec S16 32) a x).toNat < S400x128.size a := fun v32 v34 v36 v38 v40 v42 v44 v46 v769 k0_hw39 => k0_hw39.2.2.2.2.2.1
theorem k0_idx197_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v44] : Fin 2 → IVec S16 32) a x).toNat < S400x128.size a := fun v32 v34 v36 v38 v40 v42 v44 v46 v769 k0_hw39 => k0_hw39.2.2.2.2.2.2.1
theorem k0_idx198_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw39 : k0_chk39 v32 v34 v36 v38 v40 v42 v44 v46 v769), ∀ a x, ((![v769, v46] : Fin 2 → IVec S16 32) a x).toNat < S400x128.size a := fun v32 v34 v36 v38 v40 v42 v44 v46 v769 k0_hw39 => k0_hw39.2.2.2.2.2.2.2

def k0_chk40 (v797 : IVec S16 32) : Prop :=
  (∀ a x, ((![v797] : Fin 1 → IVec S16 32) a x).toNat < S784.size a) ∧
  (∀ a x, ((![v797] : Fin 1 → IVec S16 32) a x).toNat < S784.size a)
theorem k0_idx199_inb : ∀ (v797 : IVec S16 32) (k0_hw40 : k0_chk40 v797), ∀ a x, ((![v797] : Fin 1 → IVec S16 32) a x).toNat < S784.size a := fun v797 k0_hw40 => k0_hw40.1
theorem k0_idx200_inb : ∀ (v797 : IVec S16 32) (k0_hw40 : k0_chk40 v797), ∀ a x, ((![v797] : Fin 1 → IVec S16 32) a x).toNat < S784.size a := fun v797 k0_hw40 => k0_hw40.2

def k0_chk41 (v32 : IVec S16 32) (v34 : IVec S16 32) (v36 : IVec S16 32) (v38 : IVec S16 32) (v40 : IVec S16 32) (v42 : IVec S16 32) (v44 : IVec S16 32) (v46 : IVec S16 32) (v798 : IVec S16 32) : Prop :=
  (∀ a x, ((![v798, v32] : Fin 2 → IVec S16 32) a x).toNat < S400x128.size a) ∧
  (∀ a x, ((![v798, v34] : Fin 2 → IVec S16 32) a x).toNat < S400x128.size a) ∧
  (∀ a x, ((![v798, v36] : Fin 2 → IVec S16 32) a x).toNat < S400x128.size a) ∧
  (∀ a x, ((![v798, v38] : Fin 2 → IVec S16 32) a x).toNat < S400x128.size a) ∧
  (∀ a x, ((![v798, v40] : Fin 2 → IVec S16 32) a x).toNat < S400x128.size a) ∧
  (∀ a x, ((![v798, v42] : Fin 2 → IVec S16 32) a x).toNat < S400x128.size a) ∧
  (∀ a x, ((![v798, v44] : Fin 2 → IVec S16 32) a x).toNat < S400x128.size a) ∧
  (∀ a x, ((![v798, v46] : Fin 2 → IVec S16 32) a x).toNat < S400x128.size a)
theorem k0_idx201_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v32] : Fin 2 → IVec S16 32) a x).toNat < S400x128.size a := fun v32 v34 v36 v38 v40 v42 v44 v46 v798 k0_hw41 => k0_hw41.1
theorem k0_idx202_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v34] : Fin 2 → IVec S16 32) a x).toNat < S400x128.size a := fun v32 v34 v36 v38 v40 v42 v44 v46 v798 k0_hw41 => k0_hw41.2.1
theorem k0_idx203_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v36] : Fin 2 → IVec S16 32) a x).toNat < S400x128.size a := fun v32 v34 v36 v38 v40 v42 v44 v46 v798 k0_hw41 => k0_hw41.2.2.1
theorem k0_idx204_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v38] : Fin 2 → IVec S16 32) a x).toNat < S400x128.size a := fun v32 v34 v36 v38 v40 v42 v44 v46 v798 k0_hw41 => k0_hw41.2.2.2.1
theorem k0_idx205_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v40] : Fin 2 → IVec S16 32) a x).toNat < S400x128.size a := fun v32 v34 v36 v38 v40 v42 v44 v46 v798 k0_hw41 => k0_hw41.2.2.2.2.1
theorem k0_idx206_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v42] : Fin 2 → IVec S16 32) a x).toNat < S400x128.size a := fun v32 v34 v36 v38 v40 v42 v44 v46 v798 k0_hw41 => k0_hw41.2.2.2.2.2.1
theorem k0_idx207_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v44] : Fin 2 → IVec S16 32) a x).toNat < S400x128.size a := fun v32 v34 v36 v38 v40 v42 v44 v46 v798 k0_hw41 => k0_hw41.2.2.2.2.2.2.1
theorem k0_idx208_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw41 : k0_chk41 v32 v34 v36 v38 v40 v42 v44 v46 v798), ∀ a x, ((![v798, v46] : Fin 2 → IVec S16 32) a x).toNat < S400x128.size a := fun v32 v34 v36 v38 v40 v42 v44 v46 v798 k0_hw41 => k0_hw41.2.2.2.2.2.2.2

def k0_chk42 (v826 : IVec S16 32) : Prop :=
  (∀ a x, ((![v826] : Fin 1 → IVec S16 32) a x).toNat < S784.size a) ∧
  (∀ a x, ((![v826] : Fin 1 → IVec S16 32) a x).toNat < S784.size a)
theorem k0_idx209_inb : ∀ (v826 : IVec S16 32) (k0_hw42 : k0_chk42 v826), ∀ a x, ((![v826] : Fin 1 → IVec S16 32) a x).toNat < S784.size a := fun v826 k0_hw42 => k0_hw42.1
theorem k0_idx210_inb : ∀ (v826 : IVec S16 32) (k0_hw42 : k0_chk42 v826), ∀ a x, ((![v826] : Fin 1 → IVec S16 32) a x).toNat < S784.size a := fun v826 k0_hw42 => k0_hw42.2

def k0_chk43 (v32 : IVec S16 32) (v34 : IVec S16 32) (v36 : IVec S16 32) (v38 : IVec S16 32) (v40 : IVec S16 32) (v42 : IVec S16 32) (v44 : IVec S16 32) (v46 : IVec S16 32) (v827 : IVec S16 32) : Prop :=
  (∀ a x, ((![v827, v32] : Fin 2 → IVec S16 32) a x).toNat < S400x128.size a) ∧
  (∀ a x, ((![v827, v34] : Fin 2 → IVec S16 32) a x).toNat < S400x128.size a) ∧
  (∀ a x, ((![v827, v36] : Fin 2 → IVec S16 32) a x).toNat < S400x128.size a) ∧
  (∀ a x, ((![v827, v38] : Fin 2 → IVec S16 32) a x).toNat < S400x128.size a) ∧
  (∀ a x, ((![v827, v40] : Fin 2 → IVec S16 32) a x).toNat < S400x128.size a) ∧
  (∀ a x, ((![v827, v42] : Fin 2 → IVec S16 32) a x).toNat < S400x128.size a) ∧
  (∀ a x, ((![v827, v44] : Fin 2 → IVec S16 32) a x).toNat < S400x128.size a) ∧
  (∀ a x, ((![v827, v46] : Fin 2 → IVec S16 32) a x).toNat < S400x128.size a)
theorem k0_idx211_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v32] : Fin 2 → IVec S16 32) a x).toNat < S400x128.size a := fun v32 v34 v36 v38 v40 v42 v44 v46 v827 k0_hw43 => k0_hw43.1
theorem k0_idx212_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v34] : Fin 2 → IVec S16 32) a x).toNat < S400x128.size a := fun v32 v34 v36 v38 v40 v42 v44 v46 v827 k0_hw43 => k0_hw43.2.1
theorem k0_idx213_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v36] : Fin 2 → IVec S16 32) a x).toNat < S400x128.size a := fun v32 v34 v36 v38 v40 v42 v44 v46 v827 k0_hw43 => k0_hw43.2.2.1
theorem k0_idx214_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v38] : Fin 2 → IVec S16 32) a x).toNat < S400x128.size a := fun v32 v34 v36 v38 v40 v42 v44 v46 v827 k0_hw43 => k0_hw43.2.2.2.1
theorem k0_idx215_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v40] : Fin 2 → IVec S16 32) a x).toNat < S400x128.size a := fun v32 v34 v36 v38 v40 v42 v44 v46 v827 k0_hw43 => k0_hw43.2.2.2.2.1
theorem k0_idx216_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v42] : Fin 2 → IVec S16 32) a x).toNat < S400x128.size a := fun v32 v34 v36 v38 v40 v42 v44 v46 v827 k0_hw43 => k0_hw43.2.2.2.2.2.1
theorem k0_idx217_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v44] : Fin 2 → IVec S16 32) a x).toNat < S400x128.size a := fun v32 v34 v36 v38 v40 v42 v44 v46 v827 k0_hw43 => k0_hw43.2.2.2.2.2.2.1
theorem k0_idx218_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw43 : k0_chk43 v32 v34 v36 v38 v40 v42 v44 v46 v827), ∀ a x, ((![v827, v46] : Fin 2 → IVec S16 32) a x).toNat < S400x128.size a := fun v32 v34 v36 v38 v40 v42 v44 v46 v827 k0_hw43 => k0_hw43.2.2.2.2.2.2.2

def k0_chk44 (v855 : IVec S16 32) : Prop :=
  (∀ a x, ((![v855] : Fin 1 → IVec S16 32) a x).toNat < S784.size a) ∧
  (∀ a x, ((![v855] : Fin 1 → IVec S16 32) a x).toNat < S784.size a)
theorem k0_idx219_inb : ∀ (v855 : IVec S16 32) (k0_hw44 : k0_chk44 v855), ∀ a x, ((![v855] : Fin 1 → IVec S16 32) a x).toNat < S784.size a := fun v855 k0_hw44 => k0_hw44.1
theorem k0_idx220_inb : ∀ (v855 : IVec S16 32) (k0_hw44 : k0_chk44 v855), ∀ a x, ((![v855] : Fin 1 → IVec S16 32) a x).toNat < S784.size a := fun v855 k0_hw44 => k0_hw44.2

def k0_chk45 (v32 : IVec S16 32) (v34 : IVec S16 32) (v36 : IVec S16 32) (v38 : IVec S16 32) (v40 : IVec S16 32) (v42 : IVec S16 32) (v44 : IVec S16 32) (v46 : IVec S16 32) (v856 : IVec S16 32) : Prop :=
  (∀ a x, ((![v856, v32] : Fin 2 → IVec S16 32) a x).toNat < S400x128.size a) ∧
  (∀ a x, ((![v856, v34] : Fin 2 → IVec S16 32) a x).toNat < S400x128.size a) ∧
  (∀ a x, ((![v856, v36] : Fin 2 → IVec S16 32) a x).toNat < S400x128.size a) ∧
  (∀ a x, ((![v856, v38] : Fin 2 → IVec S16 32) a x).toNat < S400x128.size a) ∧
  (∀ a x, ((![v856, v40] : Fin 2 → IVec S16 32) a x).toNat < S400x128.size a) ∧
  (∀ a x, ((![v856, v42] : Fin 2 → IVec S16 32) a x).toNat < S400x128.size a) ∧
  (∀ a x, ((![v856, v44] : Fin 2 → IVec S16 32) a x).toNat < S400x128.size a) ∧
  (∀ a x, ((![v856, v46] : Fin 2 → IVec S16 32) a x).toNat < S400x128.size a)
theorem k0_idx221_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v32] : Fin 2 → IVec S16 32) a x).toNat < S400x128.size a := fun v32 v34 v36 v38 v40 v42 v44 v46 v856 k0_hw45 => k0_hw45.1
theorem k0_idx222_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v34] : Fin 2 → IVec S16 32) a x).toNat < S400x128.size a := fun v32 v34 v36 v38 v40 v42 v44 v46 v856 k0_hw45 => k0_hw45.2.1
theorem k0_idx223_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v36] : Fin 2 → IVec S16 32) a x).toNat < S400x128.size a := fun v32 v34 v36 v38 v40 v42 v44 v46 v856 k0_hw45 => k0_hw45.2.2.1
theorem k0_idx224_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v38] : Fin 2 → IVec S16 32) a x).toNat < S400x128.size a := fun v32 v34 v36 v38 v40 v42 v44 v46 v856 k0_hw45 => k0_hw45.2.2.2.1
theorem k0_idx225_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v40] : Fin 2 → IVec S16 32) a x).toNat < S400x128.size a := fun v32 v34 v36 v38 v40 v42 v44 v46 v856 k0_hw45 => k0_hw45.2.2.2.2.1
theorem k0_idx226_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v42] : Fin 2 → IVec S16 32) a x).toNat < S400x128.size a := fun v32 v34 v36 v38 v40 v42 v44 v46 v856 k0_hw45 => k0_hw45.2.2.2.2.2.1
theorem k0_idx227_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v44] : Fin 2 → IVec S16 32) a x).toNat < S400x128.size a := fun v32 v34 v36 v38 v40 v42 v44 v46 v856 k0_hw45 => k0_hw45.2.2.2.2.2.2.1
theorem k0_idx228_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw45 : k0_chk45 v32 v34 v36 v38 v40 v42 v44 v46 v856), ∀ a x, ((![v856, v46] : Fin 2 → IVec S16 32) a x).toNat < S400x128.size a := fun v32 v34 v36 v38 v40 v42 v44 v46 v856 k0_hw45 => k0_hw45.2.2.2.2.2.2.2

def k0_chk46 (v884 : IVec S16 32) : Prop :=
  (∀ a x, ((![v884] : Fin 1 → IVec S16 32) a x).toNat < S784.size a) ∧
  (∀ a x, ((![v884] : Fin 1 → IVec S16 32) a x).toNat < S784.size a)
theorem k0_idx229_inb : ∀ (v884 : IVec S16 32) (k0_hw46 : k0_chk46 v884), ∀ a x, ((![v884] : Fin 1 → IVec S16 32) a x).toNat < S784.size a := fun v884 k0_hw46 => k0_hw46.1
theorem k0_idx230_inb : ∀ (v884 : IVec S16 32) (k0_hw46 : k0_chk46 v884), ∀ a x, ((![v884] : Fin 1 → IVec S16 32) a x).toNat < S784.size a := fun v884 k0_hw46 => k0_hw46.2

def k0_chk47 (v32 : IVec S16 32) (v34 : IVec S16 32) (v36 : IVec S16 32) (v38 : IVec S16 32) (v40 : IVec S16 32) (v42 : IVec S16 32) (v44 : IVec S16 32) (v46 : IVec S16 32) (v885 : IVec S16 32) : Prop :=
  (∀ a x, ((![v885, v32] : Fin 2 → IVec S16 32) a x).toNat < S400x128.size a) ∧
  (∀ a x, ((![v885, v34] : Fin 2 → IVec S16 32) a x).toNat < S400x128.size a) ∧
  (∀ a x, ((![v885, v36] : Fin 2 → IVec S16 32) a x).toNat < S400x128.size a) ∧
  (∀ a x, ((![v885, v38] : Fin 2 → IVec S16 32) a x).toNat < S400x128.size a) ∧
  (∀ a x, ((![v885, v40] : Fin 2 → IVec S16 32) a x).toNat < S400x128.size a) ∧
  (∀ a x, ((![v885, v42] : Fin 2 → IVec S16 32) a x).toNat < S400x128.size a) ∧
  (∀ a x, ((![v885, v44] : Fin 2 → IVec S16 32) a x).toNat < S400x128.size a) ∧
  (∀ a x, ((![v885, v46] : Fin 2 → IVec S16 32) a x).toNat < S400x128.size a)
theorem k0_idx231_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v32] : Fin 2 → IVec S16 32) a x).toNat < S400x128.size a := fun v32 v34 v36 v38 v40 v42 v44 v46 v885 k0_hw47 => k0_hw47.1
theorem k0_idx232_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v34] : Fin 2 → IVec S16 32) a x).toNat < S400x128.size a := fun v32 v34 v36 v38 v40 v42 v44 v46 v885 k0_hw47 => k0_hw47.2.1
theorem k0_idx233_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v36] : Fin 2 → IVec S16 32) a x).toNat < S400x128.size a := fun v32 v34 v36 v38 v40 v42 v44 v46 v885 k0_hw47 => k0_hw47.2.2.1
theorem k0_idx234_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v38] : Fin 2 → IVec S16 32) a x).toNat < S400x128.size a := fun v32 v34 v36 v38 v40 v42 v44 v46 v885 k0_hw47 => k0_hw47.2.2.2.1
theorem k0_idx235_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v40] : Fin 2 → IVec S16 32) a x).toNat < S400x128.size a := fun v32 v34 v36 v38 v40 v42 v44 v46 v885 k0_hw47 => k0_hw47.2.2.2.2.1
theorem k0_idx236_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v42] : Fin 2 → IVec S16 32) a x).toNat < S400x128.size a := fun v32 v34 v36 v38 v40 v42 v44 v46 v885 k0_hw47 => k0_hw47.2.2.2.2.2.1
theorem k0_idx237_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v44] : Fin 2 → IVec S16 32) a x).toNat < S400x128.size a := fun v32 v34 v36 v38 v40 v42 v44 v46 v885 k0_hw47 => k0_hw47.2.2.2.2.2.2.1
theorem k0_idx238_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw47 : k0_chk47 v32 v34 v36 v38 v40 v42 v44 v46 v885), ∀ a x, ((![v885, v46] : Fin 2 → IVec S16 32) a x).toNat < S400x128.size a := fun v32 v34 v36 v38 v40 v42 v44 v46 v885 k0_hw47 => k0_hw47.2.2.2.2.2.2.2

def k0_chk48 (v913 : IVec S16 32) : Prop :=
  (∀ a x, ((![v913] : Fin 1 → IVec S16 32) a x).toNat < S784.size a) ∧
  (∀ a x, ((![v913] : Fin 1 → IVec S16 32) a x).toNat < S784.size a)
theorem k0_idx239_inb : ∀ (v913 : IVec S16 32) (k0_hw48 : k0_chk48 v913), ∀ a x, ((![v913] : Fin 1 → IVec S16 32) a x).toNat < S784.size a := fun v913 k0_hw48 => k0_hw48.1
theorem k0_idx240_inb : ∀ (v913 : IVec S16 32) (k0_hw48 : k0_chk48 v913), ∀ a x, ((![v913] : Fin 1 → IVec S16 32) a x).toNat < S784.size a := fun v913 k0_hw48 => k0_hw48.2

def k0_chk49 (v32 : IVec S16 32) (v34 : IVec S16 32) (v36 : IVec S16 32) (v38 : IVec S16 32) (v40 : IVec S16 32) (v42 : IVec S16 32) (v44 : IVec S16 32) (v46 : IVec S16 32) (v914 : IVec S16 32) : Prop :=
  (∀ a x, ((![v914, v32] : Fin 2 → IVec S16 32) a x).toNat < S400x128.size a) ∧
  (∀ a x, ((![v914, v34] : Fin 2 → IVec S16 32) a x).toNat < S400x128.size a) ∧
  (∀ a x, ((![v914, v36] : Fin 2 → IVec S16 32) a x).toNat < S400x128.size a) ∧
  (∀ a x, ((![v914, v38] : Fin 2 → IVec S16 32) a x).toNat < S400x128.size a) ∧
  (∀ a x, ((![v914, v40] : Fin 2 → IVec S16 32) a x).toNat < S400x128.size a) ∧
  (∀ a x, ((![v914, v42] : Fin 2 → IVec S16 32) a x).toNat < S400x128.size a) ∧
  (∀ a x, ((![v914, v44] : Fin 2 → IVec S16 32) a x).toNat < S400x128.size a) ∧
  (∀ a x, ((![v914, v46] : Fin 2 → IVec S16 32) a x).toNat < S400x128.size a)
theorem k0_idx241_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v32] : Fin 2 → IVec S16 32) a x).toNat < S400x128.size a := fun v32 v34 v36 v38 v40 v42 v44 v46 v914 k0_hw49 => k0_hw49.1
theorem k0_idx242_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v34] : Fin 2 → IVec S16 32) a x).toNat < S400x128.size a := fun v32 v34 v36 v38 v40 v42 v44 v46 v914 k0_hw49 => k0_hw49.2.1
theorem k0_idx243_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v36] : Fin 2 → IVec S16 32) a x).toNat < S400x128.size a := fun v32 v34 v36 v38 v40 v42 v44 v46 v914 k0_hw49 => k0_hw49.2.2.1
theorem k0_idx244_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v38] : Fin 2 → IVec S16 32) a x).toNat < S400x128.size a := fun v32 v34 v36 v38 v40 v42 v44 v46 v914 k0_hw49 => k0_hw49.2.2.2.1
theorem k0_idx245_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v40] : Fin 2 → IVec S16 32) a x).toNat < S400x128.size a := fun v32 v34 v36 v38 v40 v42 v44 v46 v914 k0_hw49 => k0_hw49.2.2.2.2.1
theorem k0_idx246_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v42] : Fin 2 → IVec S16 32) a x).toNat < S400x128.size a := fun v32 v34 v36 v38 v40 v42 v44 v46 v914 k0_hw49 => k0_hw49.2.2.2.2.2.1
theorem k0_idx247_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v44] : Fin 2 → IVec S16 32) a x).toNat < S400x128.size a := fun v32 v34 v36 v38 v40 v42 v44 v46 v914 k0_hw49 => k0_hw49.2.2.2.2.2.2.1
theorem k0_idx248_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw49 : k0_chk49 v32 v34 v36 v38 v40 v42 v44 v46 v914), ∀ a x, ((![v914, v46] : Fin 2 → IVec S16 32) a x).toNat < S400x128.size a := fun v32 v34 v36 v38 v40 v42 v44 v46 v914 k0_hw49 => k0_hw49.2.2.2.2.2.2.2

def k0_chk50 (v942 : IVec S16 32) : Prop :=
  (∀ a x, ((![v942] : Fin 1 → IVec S16 32) a x).toNat < S784.size a) ∧
  (∀ a x, ((![v942] : Fin 1 → IVec S16 32) a x).toNat < S784.size a)
theorem k0_idx249_inb : ∀ (v942 : IVec S16 32) (k0_hw50 : k0_chk50 v942), ∀ a x, ((![v942] : Fin 1 → IVec S16 32) a x).toNat < S784.size a := fun v942 k0_hw50 => k0_hw50.1
theorem k0_idx250_inb : ∀ (v942 : IVec S16 32) (k0_hw50 : k0_chk50 v942), ∀ a x, ((![v942] : Fin 1 → IVec S16 32) a x).toNat < S784.size a := fun v942 k0_hw50 => k0_hw50.2

def k0_chk51 (v32 : IVec S16 32) (v34 : IVec S16 32) (v36 : IVec S16 32) (v38 : IVec S16 32) (v40 : IVec S16 32) (v42 : IVec S16 32) (v44 : IVec S16 32) (v46 : IVec S16 32) (v943 : IVec S16 32) : Prop :=
  (∀ a x, ((![v943, v32] : Fin 2 → IVec S16 32) a x).toNat < S400x128.size a) ∧
  (∀ a x, ((![v943, v34] : Fin 2 → IVec S16 32) a x).toNat < S400x128.size a) ∧
  (∀ a x, ((![v943, v36] : Fin 2 → IVec S16 32) a x).toNat < S400x128.size a) ∧
  (∀ a x, ((![v943, v38] : Fin 2 → IVec S16 32) a x).toNat < S400x128.size a) ∧
  (∀ a x, ((![v943, v40] : Fin 2 → IVec S16 32) a x).toNat < S400x128.size a) ∧
  (∀ a x, ((![v943, v42] : Fin 2 → IVec S16 32) a x).toNat < S400x128.size a) ∧
  (∀ a x, ((![v943, v44] : Fin 2 → IVec S16 32) a x).toNat < S400x128.size a) ∧
  (∀ a x, ((![v943, v46] : Fin 2 → IVec S16 32) a x).toNat < S400x128.size a)
theorem k0_idx251_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v32] : Fin 2 → IVec S16 32) a x).toNat < S400x128.size a := fun v32 v34 v36 v38 v40 v42 v44 v46 v943 k0_hw51 => k0_hw51.1
theorem k0_idx252_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v34] : Fin 2 → IVec S16 32) a x).toNat < S400x128.size a := fun v32 v34 v36 v38 v40 v42 v44 v46 v943 k0_hw51 => k0_hw51.2.1
theorem k0_idx253_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v36] : Fin 2 → IVec S16 32) a x).toNat < S400x128.size a := fun v32 v34 v36 v38 v40 v42 v44 v46 v943 k0_hw51 => k0_hw51.2.2.1
theorem k0_idx254_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v38] : Fin 2 → IVec S16 32) a x).toNat < S400x128.size a := fun v32 v34 v36 v38 v40 v42 v44 v46 v943 k0_hw51 => k0_hw51.2.2.2.1
theorem k0_idx255_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v40] : Fin 2 → IVec S16 32) a x).toNat < S400x128.size a := fun v32 v34 v36 v38 v40 v42 v44 v46 v943 k0_hw51 => k0_hw51.2.2.2.2.1
theorem k0_idx256_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v42] : Fin 2 → IVec S16 32) a x).toNat < S400x128.size a := fun v32 v34 v36 v38 v40 v42 v44 v46 v943 k0_hw51 => k0_hw51.2.2.2.2.2.1
theorem k0_idx257_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v44] : Fin 2 → IVec S16 32) a x).toNat < S400x128.size a := fun v32 v34 v36 v38 v40 v42 v44 v46 v943 k0_hw51 => k0_hw51.2.2.2.2.2.2.1
theorem k0_idx258_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw51 : k0_chk51 v32 v34 v36 v38 v40 v42 v44 v46 v943), ∀ a x, ((![v943, v46] : Fin 2 → IVec S16 32) a x).toNat < S400x128.size a := fun v32 v34 v36 v38 v40 v42 v44 v46 v943 k0_hw51 => k0_hw51.2.2.2.2.2.2.2

def k0_chk52 (v971 : IVec S16 32) : Prop :=
  (∀ a x, ((![v971] : Fin 1 → IVec S16 32) a x).toNat < S784.size a) ∧
  (∀ a x, ((![v971] : Fin 1 → IVec S16 32) a x).toNat < S784.size a)
theorem k0_idx259_inb : ∀ (v971 : IVec S16 32) (k0_hw52 : k0_chk52 v971), ∀ a x, ((![v971] : Fin 1 → IVec S16 32) a x).toNat < S784.size a := fun v971 k0_hw52 => k0_hw52.1
theorem k0_idx260_inb : ∀ (v971 : IVec S16 32) (k0_hw52 : k0_chk52 v971), ∀ a x, ((![v971] : Fin 1 → IVec S16 32) a x).toNat < S784.size a := fun v971 k0_hw52 => k0_hw52.2

def k0_chk53 (v32 : IVec S16 32) (v34 : IVec S16 32) (v36 : IVec S16 32) (v38 : IVec S16 32) (v40 : IVec S16 32) (v42 : IVec S16 32) (v44 : IVec S16 32) (v46 : IVec S16 32) (v972 : IVec S16 32) : Prop :=
  (∀ a x, ((![v972, v32] : Fin 2 → IVec S16 32) a x).toNat < S400x128.size a) ∧
  (∀ a x, ((![v972, v34] : Fin 2 → IVec S16 32) a x).toNat < S400x128.size a) ∧
  (∀ a x, ((![v972, v36] : Fin 2 → IVec S16 32) a x).toNat < S400x128.size a) ∧
  (∀ a x, ((![v972, v38] : Fin 2 → IVec S16 32) a x).toNat < S400x128.size a) ∧
  (∀ a x, ((![v972, v40] : Fin 2 → IVec S16 32) a x).toNat < S400x128.size a) ∧
  (∀ a x, ((![v972, v42] : Fin 2 → IVec S16 32) a x).toNat < S400x128.size a) ∧
  (∀ a x, ((![v972, v44] : Fin 2 → IVec S16 32) a x).toNat < S400x128.size a) ∧
  (∀ a x, ((![v972, v46] : Fin 2 → IVec S16 32) a x).toNat < S400x128.size a)
theorem k0_idx261_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v32] : Fin 2 → IVec S16 32) a x).toNat < S400x128.size a := fun v32 v34 v36 v38 v40 v42 v44 v46 v972 k0_hw53 => k0_hw53.1
theorem k0_idx262_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v34] : Fin 2 → IVec S16 32) a x).toNat < S400x128.size a := fun v32 v34 v36 v38 v40 v42 v44 v46 v972 k0_hw53 => k0_hw53.2.1
theorem k0_idx263_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v36] : Fin 2 → IVec S16 32) a x).toNat < S400x128.size a := fun v32 v34 v36 v38 v40 v42 v44 v46 v972 k0_hw53 => k0_hw53.2.2.1
theorem k0_idx264_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v38] : Fin 2 → IVec S16 32) a x).toNat < S400x128.size a := fun v32 v34 v36 v38 v40 v42 v44 v46 v972 k0_hw53 => k0_hw53.2.2.2.1
theorem k0_idx265_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v40] : Fin 2 → IVec S16 32) a x).toNat < S400x128.size a := fun v32 v34 v36 v38 v40 v42 v44 v46 v972 k0_hw53 => k0_hw53.2.2.2.2.1
theorem k0_idx266_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v42] : Fin 2 → IVec S16 32) a x).toNat < S400x128.size a := fun v32 v34 v36 v38 v40 v42 v44 v46 v972 k0_hw53 => k0_hw53.2.2.2.2.2.1
theorem k0_idx267_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v44] : Fin 2 → IVec S16 32) a x).toNat < S400x128.size a := fun v32 v34 v36 v38 v40 v42 v44 v46 v972 k0_hw53 => k0_hw53.2.2.2.2.2.2.1
theorem k0_idx268_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw53 : k0_chk53 v32 v34 v36 v38 v40 v42 v44 v46 v972), ∀ a x, ((![v972, v46] : Fin 2 → IVec S16 32) a x).toNat < S400x128.size a := fun v32 v34 v36 v38 v40 v42 v44 v46 v972 k0_hw53 => k0_hw53.2.2.2.2.2.2.2

def k0_chk54 (v1000 : IVec S16 32) : Prop :=
  (∀ a x, ((![v1000] : Fin 1 → IVec S16 32) a x).toNat < S784.size a) ∧
  (∀ a x, ((![v1000] : Fin 1 → IVec S16 32) a x).toNat < S784.size a)
theorem k0_idx269_inb : ∀ (v1000 : IVec S16 32) (k0_hw54 : k0_chk54 v1000), ∀ a x, ((![v1000] : Fin 1 → IVec S16 32) a x).toNat < S784.size a := fun v1000 k0_hw54 => k0_hw54.1
theorem k0_idx270_inb : ∀ (v1000 : IVec S16 32) (k0_hw54 : k0_chk54 v1000), ∀ a x, ((![v1000] : Fin 1 → IVec S16 32) a x).toNat < S784.size a := fun v1000 k0_hw54 => k0_hw54.2

def k0_chk55 (v32 : IVec S16 32) (v34 : IVec S16 32) (v36 : IVec S16 32) (v38 : IVec S16 32) (v40 : IVec S16 32) (v42 : IVec S16 32) (v44 : IVec S16 32) (v46 : IVec S16 32) (v1001 : IVec S16 32) : Prop :=
  (∀ a x, ((![v1001, v32] : Fin 2 → IVec S16 32) a x).toNat < S400x128.size a) ∧
  (∀ a x, ((![v1001, v34] : Fin 2 → IVec S16 32) a x).toNat < S400x128.size a) ∧
  (∀ a x, ((![v1001, v36] : Fin 2 → IVec S16 32) a x).toNat < S400x128.size a) ∧
  (∀ a x, ((![v1001, v38] : Fin 2 → IVec S16 32) a x).toNat < S400x128.size a) ∧
  (∀ a x, ((![v1001, v40] : Fin 2 → IVec S16 32) a x).toNat < S400x128.size a) ∧
  (∀ a x, ((![v1001, v42] : Fin 2 → IVec S16 32) a x).toNat < S400x128.size a) ∧
  (∀ a x, ((![v1001, v44] : Fin 2 → IVec S16 32) a x).toNat < S400x128.size a) ∧
  (∀ a x, ((![v1001, v46] : Fin 2 → IVec S16 32) a x).toNat < S400x128.size a)
theorem k0_idx271_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v32] : Fin 2 → IVec S16 32) a x).toNat < S400x128.size a := fun v32 v34 v36 v38 v40 v42 v44 v46 v1001 k0_hw55 => k0_hw55.1
theorem k0_idx272_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v34] : Fin 2 → IVec S16 32) a x).toNat < S400x128.size a := fun v32 v34 v36 v38 v40 v42 v44 v46 v1001 k0_hw55 => k0_hw55.2.1
theorem k0_idx273_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v36] : Fin 2 → IVec S16 32) a x).toNat < S400x128.size a := fun v32 v34 v36 v38 v40 v42 v44 v46 v1001 k0_hw55 => k0_hw55.2.2.1
theorem k0_idx274_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v38] : Fin 2 → IVec S16 32) a x).toNat < S400x128.size a := fun v32 v34 v36 v38 v40 v42 v44 v46 v1001 k0_hw55 => k0_hw55.2.2.2.1
theorem k0_idx275_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v40] : Fin 2 → IVec S16 32) a x).toNat < S400x128.size a := fun v32 v34 v36 v38 v40 v42 v44 v46 v1001 k0_hw55 => k0_hw55.2.2.2.2.1
theorem k0_idx276_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v42] : Fin 2 → IVec S16 32) a x).toNat < S400x128.size a := fun v32 v34 v36 v38 v40 v42 v44 v46 v1001 k0_hw55 => k0_hw55.2.2.2.2.2.1
theorem k0_idx277_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v44] : Fin 2 → IVec S16 32) a x).toNat < S400x128.size a := fun v32 v34 v36 v38 v40 v42 v44 v46 v1001 k0_hw55 => k0_hw55.2.2.2.2.2.2.1
theorem k0_idx278_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw55 : k0_chk55 v32 v34 v36 v38 v40 v42 v44 v46 v1001), ∀ a x, ((![v1001, v46] : Fin 2 → IVec S16 32) a x).toNat < S400x128.size a := fun v32 v34 v36 v38 v40 v42 v44 v46 v1001 k0_hw55 => k0_hw55.2.2.2.2.2.2.2

def k0_chk56 (v1029 : IVec S16 32) : Prop :=
  (∀ a x, ((![v1029] : Fin 1 → IVec S16 32) a x).toNat < S784.size a) ∧
  (∀ a x, ((![v1029] : Fin 1 → IVec S16 32) a x).toNat < S784.size a)
theorem k0_idx279_inb : ∀ (v1029 : IVec S16 32) (k0_hw56 : k0_chk56 v1029), ∀ a x, ((![v1029] : Fin 1 → IVec S16 32) a x).toNat < S784.size a := fun v1029 k0_hw56 => k0_hw56.1
theorem k0_idx280_inb : ∀ (v1029 : IVec S16 32) (k0_hw56 : k0_chk56 v1029), ∀ a x, ((![v1029] : Fin 1 → IVec S16 32) a x).toNat < S784.size a := fun v1029 k0_hw56 => k0_hw56.2

def k0_chk57 (v32 : IVec S16 32) (v34 : IVec S16 32) (v36 : IVec S16 32) (v38 : IVec S16 32) (v40 : IVec S16 32) (v42 : IVec S16 32) (v44 : IVec S16 32) (v46 : IVec S16 32) (v1030 : IVec S16 32) : Prop :=
  (∀ a x, ((![v1030, v32] : Fin 2 → IVec S16 32) a x).toNat < S400x128.size a) ∧
  (∀ a x, ((![v1030, v34] : Fin 2 → IVec S16 32) a x).toNat < S400x128.size a) ∧
  (∀ a x, ((![v1030, v36] : Fin 2 → IVec S16 32) a x).toNat < S400x128.size a) ∧
  (∀ a x, ((![v1030, v38] : Fin 2 → IVec S16 32) a x).toNat < S400x128.size a) ∧
  (∀ a x, ((![v1030, v40] : Fin 2 → IVec S16 32) a x).toNat < S400x128.size a) ∧
  (∀ a x, ((![v1030, v42] : Fin 2 → IVec S16 32) a x).toNat < S400x128.size a) ∧
  (∀ a x, ((![v1030, v44] : Fin 2 → IVec S16 32) a x).toNat < S400x128.size a) ∧
  (∀ a x, ((![v1030, v46] : Fin 2 → IVec S16 32) a x).toNat < S400x128.size a)
theorem k0_idx281_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v32] : Fin 2 → IVec S16 32) a x).toNat < S400x128.size a := fun v32 v34 v36 v38 v40 v42 v44 v46 v1030 k0_hw57 => k0_hw57.1
theorem k0_idx282_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v34] : Fin 2 → IVec S16 32) a x).toNat < S400x128.size a := fun v32 v34 v36 v38 v40 v42 v44 v46 v1030 k0_hw57 => k0_hw57.2.1
theorem k0_idx283_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v36] : Fin 2 → IVec S16 32) a x).toNat < S400x128.size a := fun v32 v34 v36 v38 v40 v42 v44 v46 v1030 k0_hw57 => k0_hw57.2.2.1
theorem k0_idx284_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v38] : Fin 2 → IVec S16 32) a x).toNat < S400x128.size a := fun v32 v34 v36 v38 v40 v42 v44 v46 v1030 k0_hw57 => k0_hw57.2.2.2.1
theorem k0_idx285_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v40] : Fin 2 → IVec S16 32) a x).toNat < S400x128.size a := fun v32 v34 v36 v38 v40 v42 v44 v46 v1030 k0_hw57 => k0_hw57.2.2.2.2.1
theorem k0_idx286_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v42] : Fin 2 → IVec S16 32) a x).toNat < S400x128.size a := fun v32 v34 v36 v38 v40 v42 v44 v46 v1030 k0_hw57 => k0_hw57.2.2.2.2.2.1
theorem k0_idx287_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v44] : Fin 2 → IVec S16 32) a x).toNat < S400x128.size a := fun v32 v34 v36 v38 v40 v42 v44 v46 v1030 k0_hw57 => k0_hw57.2.2.2.2.2.2.1
theorem k0_idx288_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw57 : k0_chk57 v32 v34 v36 v38 v40 v42 v44 v46 v1030), ∀ a x, ((![v1030, v46] : Fin 2 → IVec S16 32) a x).toNat < S400x128.size a := fun v32 v34 v36 v38 v40 v42 v44 v46 v1030 k0_hw57 => k0_hw57.2.2.2.2.2.2.2

def k0_chk58 (v1058 : IVec S16 32) : Prop :=
  (∀ a x, ((![v1058] : Fin 1 → IVec S16 32) a x).toNat < S784.size a) ∧
  (∀ a x, ((![v1058] : Fin 1 → IVec S16 32) a x).toNat < S784.size a)
theorem k0_idx289_inb : ∀ (v1058 : IVec S16 32) (k0_hw58 : k0_chk58 v1058), ∀ a x, ((![v1058] : Fin 1 → IVec S16 32) a x).toNat < S784.size a := fun v1058 k0_hw58 => k0_hw58.1
theorem k0_idx290_inb : ∀ (v1058 : IVec S16 32) (k0_hw58 : k0_chk58 v1058), ∀ a x, ((![v1058] : Fin 1 → IVec S16 32) a x).toNat < S784.size a := fun v1058 k0_hw58 => k0_hw58.2

def k0_chk59 (v32 : IVec S16 32) (v34 : IVec S16 32) (v36 : IVec S16 32) (v38 : IVec S16 32) (v40 : IVec S16 32) (v42 : IVec S16 32) (v44 : IVec S16 32) (v46 : IVec S16 32) (v1059 : IVec S16 32) : Prop :=
  (∀ a x, ((![v1059, v32] : Fin 2 → IVec S16 32) a x).toNat < S400x128.size a) ∧
  (∀ a x, ((![v1059, v34] : Fin 2 → IVec S16 32) a x).toNat < S400x128.size a) ∧
  (∀ a x, ((![v1059, v36] : Fin 2 → IVec S16 32) a x).toNat < S400x128.size a) ∧
  (∀ a x, ((![v1059, v38] : Fin 2 → IVec S16 32) a x).toNat < S400x128.size a) ∧
  (∀ a x, ((![v1059, v40] : Fin 2 → IVec S16 32) a x).toNat < S400x128.size a) ∧
  (∀ a x, ((![v1059, v42] : Fin 2 → IVec S16 32) a x).toNat < S400x128.size a) ∧
  (∀ a x, ((![v1059, v44] : Fin 2 → IVec S16 32) a x).toNat < S400x128.size a) ∧
  (∀ a x, ((![v1059, v46] : Fin 2 → IVec S16 32) a x).toNat < S400x128.size a)
theorem k0_idx291_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v32] : Fin 2 → IVec S16 32) a x).toNat < S400x128.size a := fun v32 v34 v36 v38 v40 v42 v44 v46 v1059 k0_hw59 => k0_hw59.1
theorem k0_idx292_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v34] : Fin 2 → IVec S16 32) a x).toNat < S400x128.size a := fun v32 v34 v36 v38 v40 v42 v44 v46 v1059 k0_hw59 => k0_hw59.2.1
theorem k0_idx293_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v36] : Fin 2 → IVec S16 32) a x).toNat < S400x128.size a := fun v32 v34 v36 v38 v40 v42 v44 v46 v1059 k0_hw59 => k0_hw59.2.2.1
theorem k0_idx294_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v38] : Fin 2 → IVec S16 32) a x).toNat < S400x128.size a := fun v32 v34 v36 v38 v40 v42 v44 v46 v1059 k0_hw59 => k0_hw59.2.2.2.1
theorem k0_idx295_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v40] : Fin 2 → IVec S16 32) a x).toNat < S400x128.size a := fun v32 v34 v36 v38 v40 v42 v44 v46 v1059 k0_hw59 => k0_hw59.2.2.2.2.1
theorem k0_idx296_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v42] : Fin 2 → IVec S16 32) a x).toNat < S400x128.size a := fun v32 v34 v36 v38 v40 v42 v44 v46 v1059 k0_hw59 => k0_hw59.2.2.2.2.2.1
theorem k0_idx297_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v44] : Fin 2 → IVec S16 32) a x).toNat < S400x128.size a := fun v32 v34 v36 v38 v40 v42 v44 v46 v1059 k0_hw59 => k0_hw59.2.2.2.2.2.2.1
theorem k0_idx298_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw59 : k0_chk59 v32 v34 v36 v38 v40 v42 v44 v46 v1059), ∀ a x, ((![v1059, v46] : Fin 2 → IVec S16 32) a x).toNat < S400x128.size a := fun v32 v34 v36 v38 v40 v42 v44 v46 v1059 k0_hw59 => k0_hw59.2.2.2.2.2.2.2

def k0_chk60 (v1087 : IVec S16 32) : Prop :=
  (∀ a x, ((![v1087] : Fin 1 → IVec S16 32) a x).toNat < S784.size a) ∧
  (∀ a x, ((![v1087] : Fin 1 → IVec S16 32) a x).toNat < S784.size a)
theorem k0_idx299_inb : ∀ (v1087 : IVec S16 32) (k0_hw60 : k0_chk60 v1087), ∀ a x, ((![v1087] : Fin 1 → IVec S16 32) a x).toNat < S784.size a := fun v1087 k0_hw60 => k0_hw60.1
theorem k0_idx300_inb : ∀ (v1087 : IVec S16 32) (k0_hw60 : k0_chk60 v1087), ∀ a x, ((![v1087] : Fin 1 → IVec S16 32) a x).toNat < S784.size a := fun v1087 k0_hw60 => k0_hw60.2

def k0_chk61 (v32 : IVec S16 32) (v34 : IVec S16 32) (v36 : IVec S16 32) (v38 : IVec S16 32) (v40 : IVec S16 32) (v42 : IVec S16 32) (v44 : IVec S16 32) (v46 : IVec S16 32) (v1088 : IVec S16 32) : Prop :=
  (∀ a x, ((![v1088, v32] : Fin 2 → IVec S16 32) a x).toNat < S400x128.size a) ∧
  (∀ a x, ((![v1088, v34] : Fin 2 → IVec S16 32) a x).toNat < S400x128.size a) ∧
  (∀ a x, ((![v1088, v36] : Fin 2 → IVec S16 32) a x).toNat < S400x128.size a) ∧
  (∀ a x, ((![v1088, v38] : Fin 2 → IVec S16 32) a x).toNat < S400x128.size a) ∧
  (∀ a x, ((![v1088, v40] : Fin 2 → IVec S16 32) a x).toNat < S400x128.size a) ∧
  (∀ a x, ((![v1088, v42] : Fin 2 → IVec S16 32) a x).toNat < S400x128.size a) ∧
  (∀ a x, ((![v1088, v44] : Fin 2 → IVec S16 32) a x).toNat < S400x128.size a) ∧
  (∀ a x, ((![v1088, v46] : Fin 2 → IVec S16 32) a x).toNat < S400x128.size a)
theorem k0_idx301_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v32] : Fin 2 → IVec S16 32) a x).toNat < S400x128.size a := fun v32 v34 v36 v38 v40 v42 v44 v46 v1088 k0_hw61 => k0_hw61.1
theorem k0_idx302_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v34] : Fin 2 → IVec S16 32) a x).toNat < S400x128.size a := fun v32 v34 v36 v38 v40 v42 v44 v46 v1088 k0_hw61 => k0_hw61.2.1
theorem k0_idx303_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v36] : Fin 2 → IVec S16 32) a x).toNat < S400x128.size a := fun v32 v34 v36 v38 v40 v42 v44 v46 v1088 k0_hw61 => k0_hw61.2.2.1
theorem k0_idx304_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v38] : Fin 2 → IVec S16 32) a x).toNat < S400x128.size a := fun v32 v34 v36 v38 v40 v42 v44 v46 v1088 k0_hw61 => k0_hw61.2.2.2.1
theorem k0_idx305_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v40] : Fin 2 → IVec S16 32) a x).toNat < S400x128.size a := fun v32 v34 v36 v38 v40 v42 v44 v46 v1088 k0_hw61 => k0_hw61.2.2.2.2.1
theorem k0_idx306_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v42] : Fin 2 → IVec S16 32) a x).toNat < S400x128.size a := fun v32 v34 v36 v38 v40 v42 v44 v46 v1088 k0_hw61 => k0_hw61.2.2.2.2.2.1
theorem k0_idx307_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v44] : Fin 2 → IVec S16 32) a x).toNat < S400x128.size a := fun v32 v34 v36 v38 v40 v42 v44 v46 v1088 k0_hw61 => k0_hw61.2.2.2.2.2.2.1
theorem k0_idx308_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw61 : k0_chk61 v32 v34 v36 v38 v40 v42 v44 v46 v1088), ∀ a x, ((![v1088, v46] : Fin 2 → IVec S16 32) a x).toNat < S400x128.size a := fun v32 v34 v36 v38 v40 v42 v44 v46 v1088 k0_hw61 => k0_hw61.2.2.2.2.2.2.2

def k0_chk62 (v1116 : IVec S16 32) : Prop :=
  (∀ a x, ((![v1116] : Fin 1 → IVec S16 32) a x).toNat < S784.size a) ∧
  (∀ a x, ((![v1116] : Fin 1 → IVec S16 32) a x).toNat < S784.size a)
theorem k0_idx309_inb : ∀ (v1116 : IVec S16 32) (k0_hw62 : k0_chk62 v1116), ∀ a x, ((![v1116] : Fin 1 → IVec S16 32) a x).toNat < S784.size a := fun v1116 k0_hw62 => k0_hw62.1
theorem k0_idx310_inb : ∀ (v1116 : IVec S16 32) (k0_hw62 : k0_chk62 v1116), ∀ a x, ((![v1116] : Fin 1 → IVec S16 32) a x).toNat < S784.size a := fun v1116 k0_hw62 => k0_hw62.2

def k0_chk63 (v32 : IVec S16 32) (v34 : IVec S16 32) (v36 : IVec S16 32) (v38 : IVec S16 32) (v40 : IVec S16 32) (v42 : IVec S16 32) (v44 : IVec S16 32) (v46 : IVec S16 32) (v1117 : IVec S16 32) : Prop :=
  (∀ a x, ((![v1117, v32] : Fin 2 → IVec S16 32) a x).toNat < S400x128.size a) ∧
  (∀ a x, ((![v1117, v34] : Fin 2 → IVec S16 32) a x).toNat < S400x128.size a) ∧
  (∀ a x, ((![v1117, v36] : Fin 2 → IVec S16 32) a x).toNat < S400x128.size a) ∧
  (∀ a x, ((![v1117, v38] : Fin 2 → IVec S16 32) a x).toNat < S400x128.size a) ∧
  (∀ a x, ((![v1117, v40] : Fin 2 → IVec S16 32) a x).toNat < S400x128.size a) ∧
  (∀ a x, ((![v1117, v42] : Fin 2 → IVec S16 32) a x).toNat < S400x128.size a) ∧
  (∀ a x, ((![v1117, v44] : Fin 2 → IVec S16 32) a x).toNat < S400x128.size a) ∧
  (∀ a x, ((![v1117, v46] : Fin 2 → IVec S16 32) a x).toNat < S400x128.size a)
theorem k0_idx311_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v32] : Fin 2 → IVec S16 32) a x).toNat < S400x128.size a := fun v32 v34 v36 v38 v40 v42 v44 v46 v1117 k0_hw63 => k0_hw63.1
theorem k0_idx312_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v34] : Fin 2 → IVec S16 32) a x).toNat < S400x128.size a := fun v32 v34 v36 v38 v40 v42 v44 v46 v1117 k0_hw63 => k0_hw63.2.1
theorem k0_idx313_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v36] : Fin 2 → IVec S16 32) a x).toNat < S400x128.size a := fun v32 v34 v36 v38 v40 v42 v44 v46 v1117 k0_hw63 => k0_hw63.2.2.1
theorem k0_idx314_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v38] : Fin 2 → IVec S16 32) a x).toNat < S400x128.size a := fun v32 v34 v36 v38 v40 v42 v44 v46 v1117 k0_hw63 => k0_hw63.2.2.2.1
theorem k0_idx315_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v40] : Fin 2 → IVec S16 32) a x).toNat < S400x128.size a := fun v32 v34 v36 v38 v40 v42 v44 v46 v1117 k0_hw63 => k0_hw63.2.2.2.2.1
theorem k0_idx316_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v42] : Fin 2 → IVec S16 32) a x).toNat < S400x128.size a := fun v32 v34 v36 v38 v40 v42 v44 v46 v1117 k0_hw63 => k0_hw63.2.2.2.2.2.1
theorem k0_idx317_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v44] : Fin 2 → IVec S16 32) a x).toNat < S400x128.size a := fun v32 v34 v36 v38 v40 v42 v44 v46 v1117 k0_hw63 => k0_hw63.2.2.2.2.2.2.1
theorem k0_idx318_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw63 : k0_chk63 v32 v34 v36 v38 v40 v42 v44 v46 v1117), ∀ a x, ((![v1117, v46] : Fin 2 → IVec S16 32) a x).toNat < S400x128.size a := fun v32 v34 v36 v38 v40 v42 v44 v46 v1117 k0_hw63 => k0_hw63.2.2.2.2.2.2.2

def k0_chk64 (v1145 : IVec S16 32) : Prop :=
  (∀ a x, ((![v1145] : Fin 1 → IVec S16 32) a x).toNat < S784.size a) ∧
  (∀ a x, ((![v1145] : Fin 1 → IVec S16 32) a x).toNat < S784.size a)
theorem k0_idx319_inb : ∀ (v1145 : IVec S16 32) (k0_hw64 : k0_chk64 v1145), ∀ a x, ((![v1145] : Fin 1 → IVec S16 32) a x).toNat < S784.size a := fun v1145 k0_hw64 => k0_hw64.1
theorem k0_idx320_inb : ∀ (v1145 : IVec S16 32) (k0_hw64 : k0_chk64 v1145), ∀ a x, ((![v1145] : Fin 1 → IVec S16 32) a x).toNat < S784.size a := fun v1145 k0_hw64 => k0_hw64.2

def k0_chk65 (v32 : IVec S16 32) (v34 : IVec S16 32) (v36 : IVec S16 32) (v38 : IVec S16 32) (v40 : IVec S16 32) (v42 : IVec S16 32) (v44 : IVec S16 32) (v46 : IVec S16 32) (v1146 : IVec S16 32) : Prop :=
  (∀ a x, ((![v1146, v32] : Fin 2 → IVec S16 32) a x).toNat < S400x128.size a) ∧
  (∀ a x, ((![v1146, v34] : Fin 2 → IVec S16 32) a x).toNat < S400x128.size a) ∧
  (∀ a x, ((![v1146, v36] : Fin 2 → IVec S16 32) a x).toNat < S400x128.size a) ∧
  (∀ a x, ((![v1146, v38] : Fin 2 → IVec S16 32) a x).toNat < S400x128.size a) ∧
  (∀ a x, ((![v1146, v40] : Fin 2 → IVec S16 32) a x).toNat < S400x128.size a) ∧
  (∀ a x, ((![v1146, v42] : Fin 2 → IVec S16 32) a x).toNat < S400x128.size a) ∧
  (∀ a x, ((![v1146, v44] : Fin 2 → IVec S16 32) a x).toNat < S400x128.size a) ∧
  (∀ a x, ((![v1146, v46] : Fin 2 → IVec S16 32) a x).toNat < S400x128.size a)
theorem k0_idx321_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v32] : Fin 2 → IVec S16 32) a x).toNat < S400x128.size a := fun v32 v34 v36 v38 v40 v42 v44 v46 v1146 k0_hw65 => k0_hw65.1
theorem k0_idx322_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v34] : Fin 2 → IVec S16 32) a x).toNat < S400x128.size a := fun v32 v34 v36 v38 v40 v42 v44 v46 v1146 k0_hw65 => k0_hw65.2.1
theorem k0_idx323_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v36] : Fin 2 → IVec S16 32) a x).toNat < S400x128.size a := fun v32 v34 v36 v38 v40 v42 v44 v46 v1146 k0_hw65 => k0_hw65.2.2.1
theorem k0_idx324_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v38] : Fin 2 → IVec S16 32) a x).toNat < S400x128.size a := fun v32 v34 v36 v38 v40 v42 v44 v46 v1146 k0_hw65 => k0_hw65.2.2.2.1
theorem k0_idx325_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v40] : Fin 2 → IVec S16 32) a x).toNat < S400x128.size a := fun v32 v34 v36 v38 v40 v42 v44 v46 v1146 k0_hw65 => k0_hw65.2.2.2.2.1
theorem k0_idx326_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v42] : Fin 2 → IVec S16 32) a x).toNat < S400x128.size a := fun v32 v34 v36 v38 v40 v42 v44 v46 v1146 k0_hw65 => k0_hw65.2.2.2.2.2.1
theorem k0_idx327_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v44] : Fin 2 → IVec S16 32) a x).toNat < S400x128.size a := fun v32 v34 v36 v38 v40 v42 v44 v46 v1146 k0_hw65 => k0_hw65.2.2.2.2.2.2.1
theorem k0_idx328_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw65 : k0_chk65 v32 v34 v36 v38 v40 v42 v44 v46 v1146), ∀ a x, ((![v1146, v46] : Fin 2 → IVec S16 32) a x).toNat < S400x128.size a := fun v32 v34 v36 v38 v40 v42 v44 v46 v1146 k0_hw65 => k0_hw65.2.2.2.2.2.2.2

def k0_chk66 (v32 : IVec S16 32) (v34 : IVec S16 32) (v36 : IVec S16 32) (v38 : IVec S16 32) (v40 : IVec S16 32) (v42 : IVec S16 32) (v44 : IVec S16 32) (v46 : IVec S16 32) (v1172 : IVec S16 32) : Prop :=
  (∀ a x, ((![v32, v1172] : Fin 2 → IVec S16 32) a x).toNat < S128x49.size a) ∧
  (∀ a x, ((![v34, v1172] : Fin 2 → IVec S16 32) a x).toNat < S128x49.size a) ∧
  (∀ a x, ((![v36, v1172] : Fin 2 → IVec S16 32) a x).toNat < S128x49.size a) ∧
  (∀ a x, ((![v38, v1172] : Fin 2 → IVec S16 32) a x).toNat < S128x49.size a) ∧
  (∀ a x, ((![v40, v1172] : Fin 2 → IVec S16 32) a x).toNat < S128x49.size a) ∧
  (∀ a x, ((![v42, v1172] : Fin 2 → IVec S16 32) a x).toNat < S128x49.size a) ∧
  (∀ a x, ((![v44, v1172] : Fin 2 → IVec S16 32) a x).toNat < S128x49.size a) ∧
  (∀ a x, ((![v46, v1172] : Fin 2 → IVec S16 32) a x).toNat < S128x49.size a)
theorem k0_idx329_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v32, v1172] : Fin 2 → IVec S16 32) a x).toNat < S128x49.size a := fun v32 v34 v36 v38 v40 v42 v44 v46 v1172 k0_hw66 => k0_hw66.1
theorem k0_idx330_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v34, v1172] : Fin 2 → IVec S16 32) a x).toNat < S128x49.size a := fun v32 v34 v36 v38 v40 v42 v44 v46 v1172 k0_hw66 => k0_hw66.2.1
theorem k0_idx331_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v36, v1172] : Fin 2 → IVec S16 32) a x).toNat < S128x49.size a := fun v32 v34 v36 v38 v40 v42 v44 v46 v1172 k0_hw66 => k0_hw66.2.2.1
theorem k0_idx332_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v38, v1172] : Fin 2 → IVec S16 32) a x).toNat < S128x49.size a := fun v32 v34 v36 v38 v40 v42 v44 v46 v1172 k0_hw66 => k0_hw66.2.2.2.1
theorem k0_idx333_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v40, v1172] : Fin 2 → IVec S16 32) a x).toNat < S128x49.size a := fun v32 v34 v36 v38 v40 v42 v44 v46 v1172 k0_hw66 => k0_hw66.2.2.2.2.1
theorem k0_idx334_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v42, v1172] : Fin 2 → IVec S16 32) a x).toNat < S128x49.size a := fun v32 v34 v36 v38 v40 v42 v44 v46 v1172 k0_hw66 => k0_hw66.2.2.2.2.2.1
theorem k0_idx335_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v44, v1172] : Fin 2 → IVec S16 32) a x).toNat < S128x49.size a := fun v32 v34 v36 v38 v40 v42 v44 v46 v1172 k0_hw66 => k0_hw66.2.2.2.2.2.2.1
theorem k0_idx336_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw66 : k0_chk66 v32 v34 v36 v38 v40 v42 v44 v46 v1172), ∀ a x, ((![v46, v1172] : Fin 2 → IVec S16 32) a x).toNat < S128x49.size a := fun v32 v34 v36 v38 v40 v42 v44 v46 v1172 k0_hw66 => k0_hw66.2.2.2.2.2.2.2
@[reducible] def k0_t3_loop : Scf.Loop 32 :=
  let c1_i32_514 : BitVec 32 := 1#32
  let c61_i32 : BitVec 32 := 61#32
  let v666 : BitVec 32 := Scalar.addi c1_i32_514 c61_i32
  let c1_i32_515 : BitVec 32 := 1#32
  ⟨c1_i32_514, v666, c1_i32_515⟩
def k0_off11 (k0_t3 : Fin k0_t3_loop.trips) : Fin 3 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_572 : BitVec 32 := 1#32
  let v711 : BitVec 32 := Scalar.addi v710 c1_i32_572
  let c0_i32_573 : BitVec 32 := 0#32
  let c0_i32_574 : BitVec 32 := 0#32
  ![v711.toNat, 0, 0]
def k0_off12 (i : grid0.Coords) (k0_t3 : Fin k0_t3_loop.trips) : Fin 3 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c2_i32_737 : BitVec 32 := 2#32
  let v906 : BitVec 32 := Scalar.addi v710 c2_i32_737
  let c124_i32_738 : BitVec 32 := 124#32
  let v907 : BitVec 32 := Scalar.minsi v906 c124_i32_738
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v908 : BitVec 32 := Scalar.addi v907 v29
  let c0_i32_739 : BitVec 32 := 0#32
  let c0_i32_740 : BitVec 32 := 0#32
  ![v908.toNat, 0, 0]
def k0_off13 (k0_t3 : Fin k0_t3_loop.trips) : Fin 2 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c0_i32_743 : BitVec 32 := 0#32
  ![v710.toNat, 0]
@[reducible] def k0_t4_loop : Scf.Loop 32 :=
  let c0_i32_748 : BitVec 32 := 0#32
  let c49_i32_749 : BitVec 32 := 49#32
  let v921 : BitVec 32 := Scalar.addi c0_i32_748 c49_i32_749
  let c1_i32_750 : BitVec 32 := 1#32
  ⟨c0_i32_748, v921, c1_i32_750⟩
def k0_off14 (k0_t4 : Fin k0_t4_loop.trips) : Fin 1 → Nat :=
  let c0_i32_748 : BitVec 32 := 0#32
  let c1_i32_750 : BitVec 32 := 1#32
  let arg23 : BitVec 32 := Scf.iv c0_i32_748 c1_i32_750 k0_t4
  let c16_i32_947 : BitVec 32 := 16#32
  let v1160 : BitVec 32 := Scalar.muli arg23 c16_i32_947
  let v1161 : Index := Scalar.indexCast v1160
  ![v1161.toNat]

def k0_chk67 (v1168 : IVec S16 32) : Prop :=
  (∀ a x, ((![v1168] : Fin 1 → IVec S16 32) a x).toNat < S784.size a) ∧
  (∀ a x, ((![v1168] : Fin 1 → IVec S16 32) a x).toNat < S784.size a)
theorem k0_idx337_inb : ∀ (v1168 : IVec S16 32) (k0_hw67 : k0_chk67 v1168), ∀ a x, ((![v1168] : Fin 1 → IVec S16 32) a x).toNat < S784.size a := fun v1168 k0_hw67 => k0_hw67.1
theorem k0_idx338_inb : ∀ (v1168 : IVec S16 32) (k0_hw67 : k0_chk67 v1168), ∀ a x, ((![v1168] : Fin 1 → IVec S16 32) a x).toNat < S784.size a := fun v1168 k0_hw67 => k0_hw67.2

def k0_chk68 (v32 : IVec S16 32) (v34 : IVec S16 32) (v36 : IVec S16 32) (v38 : IVec S16 32) (v40 : IVec S16 32) (v42 : IVec S16 32) (v44 : IVec S16 32) (v46 : IVec S16 32) (v1169 : IVec S16 32) : Prop :=
  (∀ a x, ((![v1169, v32] : Fin 2 → IVec S16 32) a x).toNat < S400x128.size a) ∧
  (∀ a x, ((![v1169, v34] : Fin 2 → IVec S16 32) a x).toNat < S400x128.size a) ∧
  (∀ a x, ((![v1169, v36] : Fin 2 → IVec S16 32) a x).toNat < S400x128.size a) ∧
  (∀ a x, ((![v1169, v38] : Fin 2 → IVec S16 32) a x).toNat < S400x128.size a) ∧
  (∀ a x, ((![v1169, v40] : Fin 2 → IVec S16 32) a x).toNat < S400x128.size a) ∧
  (∀ a x, ((![v1169, v42] : Fin 2 → IVec S16 32) a x).toNat < S400x128.size a) ∧
  (∀ a x, ((![v1169, v44] : Fin 2 → IVec S16 32) a x).toNat < S400x128.size a) ∧
  (∀ a x, ((![v1169, v46] : Fin 2 → IVec S16 32) a x).toNat < S400x128.size a)
theorem k0_idx339_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v32] : Fin 2 → IVec S16 32) a x).toNat < S400x128.size a := fun v32 v34 v36 v38 v40 v42 v44 v46 v1169 k0_hw68 => k0_hw68.1
theorem k0_idx340_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v34] : Fin 2 → IVec S16 32) a x).toNat < S400x128.size a := fun v32 v34 v36 v38 v40 v42 v44 v46 v1169 k0_hw68 => k0_hw68.2.1
theorem k0_idx341_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v36] : Fin 2 → IVec S16 32) a x).toNat < S400x128.size a := fun v32 v34 v36 v38 v40 v42 v44 v46 v1169 k0_hw68 => k0_hw68.2.2.1
theorem k0_idx342_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v38] : Fin 2 → IVec S16 32) a x).toNat < S400x128.size a := fun v32 v34 v36 v38 v40 v42 v44 v46 v1169 k0_hw68 => k0_hw68.2.2.2.1
theorem k0_idx343_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v40] : Fin 2 → IVec S16 32) a x).toNat < S400x128.size a := fun v32 v34 v36 v38 v40 v42 v44 v46 v1169 k0_hw68 => k0_hw68.2.2.2.2.1
theorem k0_idx344_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v42] : Fin 2 → IVec S16 32) a x).toNat < S400x128.size a := fun v32 v34 v36 v38 v40 v42 v44 v46 v1169 k0_hw68 => k0_hw68.2.2.2.2.2.1
theorem k0_idx345_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v44] : Fin 2 → IVec S16 32) a x).toNat < S400x128.size a := fun v32 v34 v36 v38 v40 v42 v44 v46 v1169 k0_hw68 => k0_hw68.2.2.2.2.2.2.1
theorem k0_idx346_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw68 : k0_chk68 v32 v34 v36 v38 v40 v42 v44 v46 v1169), ∀ a x, ((![v1169, v46] : Fin 2 → IVec S16 32) a x).toNat < S400x128.size a := fun v32 v34 v36 v38 v40 v42 v44 v46 v1169 k0_hw68 => k0_hw68.2.2.2.2.2.2.2

def k0_chk69 (v1189 : IVec S16 32) : Prop :=
  (∀ a x, ((![v1189] : Fin 1 → IVec S16 32) a x).toNat < S784.size a) ∧
  (∀ a x, ((![v1189] : Fin 1 → IVec S16 32) a x).toNat < S784.size a)
theorem k0_idx347_inb : ∀ (v1189 : IVec S16 32) (k0_hw69 : k0_chk69 v1189), ∀ a x, ((![v1189] : Fin 1 → IVec S16 32) a x).toNat < S784.size a := fun v1189 k0_hw69 => k0_hw69.1
theorem k0_idx348_inb : ∀ (v1189 : IVec S16 32) (k0_hw69 : k0_chk69 v1189), ∀ a x, ((![v1189] : Fin 1 → IVec S16 32) a x).toNat < S784.size a := fun v1189 k0_hw69 => k0_hw69.2

def k0_chk70 (v32 : IVec S16 32) (v34 : IVec S16 32) (v36 : IVec S16 32) (v38 : IVec S16 32) (v40 : IVec S16 32) (v42 : IVec S16 32) (v44 : IVec S16 32) (v46 : IVec S16 32) (v1190 : IVec S16 32) : Prop :=
  (∀ a x, ((![v1190, v32] : Fin 2 → IVec S16 32) a x).toNat < S400x128.size a) ∧
  (∀ a x, ((![v1190, v34] : Fin 2 → IVec S16 32) a x).toNat < S400x128.size a) ∧
  (∀ a x, ((![v1190, v36] : Fin 2 → IVec S16 32) a x).toNat < S400x128.size a) ∧
  (∀ a x, ((![v1190, v38] : Fin 2 → IVec S16 32) a x).toNat < S400x128.size a) ∧
  (∀ a x, ((![v1190, v40] : Fin 2 → IVec S16 32) a x).toNat < S400x128.size a) ∧
  (∀ a x, ((![v1190, v42] : Fin 2 → IVec S16 32) a x).toNat < S400x128.size a) ∧
  (∀ a x, ((![v1190, v44] : Fin 2 → IVec S16 32) a x).toNat < S400x128.size a) ∧
  (∀ a x, ((![v1190, v46] : Fin 2 → IVec S16 32) a x).toNat < S400x128.size a)
theorem k0_idx349_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v32] : Fin 2 → IVec S16 32) a x).toNat < S400x128.size a := fun v32 v34 v36 v38 v40 v42 v44 v46 v1190 k0_hw70 => k0_hw70.1
theorem k0_idx350_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v34] : Fin 2 → IVec S16 32) a x).toNat < S400x128.size a := fun v32 v34 v36 v38 v40 v42 v44 v46 v1190 k0_hw70 => k0_hw70.2.1
theorem k0_idx351_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v36] : Fin 2 → IVec S16 32) a x).toNat < S400x128.size a := fun v32 v34 v36 v38 v40 v42 v44 v46 v1190 k0_hw70 => k0_hw70.2.2.1
theorem k0_idx352_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v38] : Fin 2 → IVec S16 32) a x).toNat < S400x128.size a := fun v32 v34 v36 v38 v40 v42 v44 v46 v1190 k0_hw70 => k0_hw70.2.2.2.1
theorem k0_idx353_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v40] : Fin 2 → IVec S16 32) a x).toNat < S400x128.size a := fun v32 v34 v36 v38 v40 v42 v44 v46 v1190 k0_hw70 => k0_hw70.2.2.2.2.1
theorem k0_idx354_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v42] : Fin 2 → IVec S16 32) a x).toNat < S400x128.size a := fun v32 v34 v36 v38 v40 v42 v44 v46 v1190 k0_hw70 => k0_hw70.2.2.2.2.2.1
theorem k0_idx355_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v44] : Fin 2 → IVec S16 32) a x).toNat < S400x128.size a := fun v32 v34 v36 v38 v40 v42 v44 v46 v1190 k0_hw70 => k0_hw70.2.2.2.2.2.2.1
theorem k0_idx356_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw70 : k0_chk70 v32 v34 v36 v38 v40 v42 v44 v46 v1190), ∀ a x, ((![v1190, v46] : Fin 2 → IVec S16 32) a x).toNat < S400x128.size a := fun v32 v34 v36 v38 v40 v42 v44 v46 v1190 k0_hw70 => k0_hw70.2.2.2.2.2.2.2

def k0_chk71 (v1218 : IVec S16 32) : Prop :=
  (∀ a x, ((![v1218] : Fin 1 → IVec S16 32) a x).toNat < S784.size a) ∧
  (∀ a x, ((![v1218] : Fin 1 → IVec S16 32) a x).toNat < S784.size a)
theorem k0_idx357_inb : ∀ (v1218 : IVec S16 32) (k0_hw71 : k0_chk71 v1218), ∀ a x, ((![v1218] : Fin 1 → IVec S16 32) a x).toNat < S784.size a := fun v1218 k0_hw71 => k0_hw71.1
theorem k0_idx358_inb : ∀ (v1218 : IVec S16 32) (k0_hw71 : k0_chk71 v1218), ∀ a x, ((![v1218] : Fin 1 → IVec S16 32) a x).toNat < S784.size a := fun v1218 k0_hw71 => k0_hw71.2

def k0_chk72 (v32 : IVec S16 32) (v34 : IVec S16 32) (v36 : IVec S16 32) (v38 : IVec S16 32) (v40 : IVec S16 32) (v42 : IVec S16 32) (v44 : IVec S16 32) (v46 : IVec S16 32) (v1219 : IVec S16 32) : Prop :=
  (∀ a x, ((![v1219, v32] : Fin 2 → IVec S16 32) a x).toNat < S400x128.size a) ∧
  (∀ a x, ((![v1219, v34] : Fin 2 → IVec S16 32) a x).toNat < S400x128.size a) ∧
  (∀ a x, ((![v1219, v36] : Fin 2 → IVec S16 32) a x).toNat < S400x128.size a) ∧
  (∀ a x, ((![v1219, v38] : Fin 2 → IVec S16 32) a x).toNat < S400x128.size a) ∧
  (∀ a x, ((![v1219, v40] : Fin 2 → IVec S16 32) a x).toNat < S400x128.size a) ∧
  (∀ a x, ((![v1219, v42] : Fin 2 → IVec S16 32) a x).toNat < S400x128.size a) ∧
  (∀ a x, ((![v1219, v44] : Fin 2 → IVec S16 32) a x).toNat < S400x128.size a) ∧
  (∀ a x, ((![v1219, v46] : Fin 2 → IVec S16 32) a x).toNat < S400x128.size a)
theorem k0_idx359_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v32] : Fin 2 → IVec S16 32) a x).toNat < S400x128.size a := fun v32 v34 v36 v38 v40 v42 v44 v46 v1219 k0_hw72 => k0_hw72.1
theorem k0_idx360_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v34] : Fin 2 → IVec S16 32) a x).toNat < S400x128.size a := fun v32 v34 v36 v38 v40 v42 v44 v46 v1219 k0_hw72 => k0_hw72.2.1
theorem k0_idx361_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v36] : Fin 2 → IVec S16 32) a x).toNat < S400x128.size a := fun v32 v34 v36 v38 v40 v42 v44 v46 v1219 k0_hw72 => k0_hw72.2.2.1
theorem k0_idx362_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v38] : Fin 2 → IVec S16 32) a x).toNat < S400x128.size a := fun v32 v34 v36 v38 v40 v42 v44 v46 v1219 k0_hw72 => k0_hw72.2.2.2.1
theorem k0_idx363_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v40] : Fin 2 → IVec S16 32) a x).toNat < S400x128.size a := fun v32 v34 v36 v38 v40 v42 v44 v46 v1219 k0_hw72 => k0_hw72.2.2.2.2.1
theorem k0_idx364_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v42] : Fin 2 → IVec S16 32) a x).toNat < S400x128.size a := fun v32 v34 v36 v38 v40 v42 v44 v46 v1219 k0_hw72 => k0_hw72.2.2.2.2.2.1
theorem k0_idx365_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v44] : Fin 2 → IVec S16 32) a x).toNat < S400x128.size a := fun v32 v34 v36 v38 v40 v42 v44 v46 v1219 k0_hw72 => k0_hw72.2.2.2.2.2.2.1
theorem k0_idx366_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw72 : k0_chk72 v32 v34 v36 v38 v40 v42 v44 v46 v1219), ∀ a x, ((![v1219, v46] : Fin 2 → IVec S16 32) a x).toNat < S400x128.size a := fun v32 v34 v36 v38 v40 v42 v44 v46 v1219 k0_hw72 => k0_hw72.2.2.2.2.2.2.2

def k0_chk73 (v1247 : IVec S16 32) : Prop :=
  (∀ a x, ((![v1247] : Fin 1 → IVec S16 32) a x).toNat < S784.size a) ∧
  (∀ a x, ((![v1247] : Fin 1 → IVec S16 32) a x).toNat < S784.size a)
theorem k0_idx367_inb : ∀ (v1247 : IVec S16 32) (k0_hw73 : k0_chk73 v1247), ∀ a x, ((![v1247] : Fin 1 → IVec S16 32) a x).toNat < S784.size a := fun v1247 k0_hw73 => k0_hw73.1
theorem k0_idx368_inb : ∀ (v1247 : IVec S16 32) (k0_hw73 : k0_chk73 v1247), ∀ a x, ((![v1247] : Fin 1 → IVec S16 32) a x).toNat < S784.size a := fun v1247 k0_hw73 => k0_hw73.2

def k0_chk74 (v32 : IVec S16 32) (v34 : IVec S16 32) (v36 : IVec S16 32) (v38 : IVec S16 32) (v40 : IVec S16 32) (v42 : IVec S16 32) (v44 : IVec S16 32) (v46 : IVec S16 32) (v1248 : IVec S16 32) : Prop :=
  (∀ a x, ((![v1248, v32] : Fin 2 → IVec S16 32) a x).toNat < S400x128.size a) ∧
  (∀ a x, ((![v1248, v34] : Fin 2 → IVec S16 32) a x).toNat < S400x128.size a) ∧
  (∀ a x, ((![v1248, v36] : Fin 2 → IVec S16 32) a x).toNat < S400x128.size a) ∧
  (∀ a x, ((![v1248, v38] : Fin 2 → IVec S16 32) a x).toNat < S400x128.size a) ∧
  (∀ a x, ((![v1248, v40] : Fin 2 → IVec S16 32) a x).toNat < S400x128.size a) ∧
  (∀ a x, ((![v1248, v42] : Fin 2 → IVec S16 32) a x).toNat < S400x128.size a) ∧
  (∀ a x, ((![v1248, v44] : Fin 2 → IVec S16 32) a x).toNat < S400x128.size a) ∧
  (∀ a x, ((![v1248, v46] : Fin 2 → IVec S16 32) a x).toNat < S400x128.size a)
theorem k0_idx369_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v32] : Fin 2 → IVec S16 32) a x).toNat < S400x128.size a := fun v32 v34 v36 v38 v40 v42 v44 v46 v1248 k0_hw74 => k0_hw74.1
theorem k0_idx370_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v34] : Fin 2 → IVec S16 32) a x).toNat < S400x128.size a := fun v32 v34 v36 v38 v40 v42 v44 v46 v1248 k0_hw74 => k0_hw74.2.1
theorem k0_idx371_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v36] : Fin 2 → IVec S16 32) a x).toNat < S400x128.size a := fun v32 v34 v36 v38 v40 v42 v44 v46 v1248 k0_hw74 => k0_hw74.2.2.1
theorem k0_idx372_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v38] : Fin 2 → IVec S16 32) a x).toNat < S400x128.size a := fun v32 v34 v36 v38 v40 v42 v44 v46 v1248 k0_hw74 => k0_hw74.2.2.2.1
theorem k0_idx373_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v40] : Fin 2 → IVec S16 32) a x).toNat < S400x128.size a := fun v32 v34 v36 v38 v40 v42 v44 v46 v1248 k0_hw74 => k0_hw74.2.2.2.2.1
theorem k0_idx374_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v42] : Fin 2 → IVec S16 32) a x).toNat < S400x128.size a := fun v32 v34 v36 v38 v40 v42 v44 v46 v1248 k0_hw74 => k0_hw74.2.2.2.2.2.1
theorem k0_idx375_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v44] : Fin 2 → IVec S16 32) a x).toNat < S400x128.size a := fun v32 v34 v36 v38 v40 v42 v44 v46 v1248 k0_hw74 => k0_hw74.2.2.2.2.2.2.1
theorem k0_idx376_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw74 : k0_chk74 v32 v34 v36 v38 v40 v42 v44 v46 v1248), ∀ a x, ((![v1248, v46] : Fin 2 → IVec S16 32) a x).toNat < S400x128.size a := fun v32 v34 v36 v38 v40 v42 v44 v46 v1248 k0_hw74 => k0_hw74.2.2.2.2.2.2.2

def k0_chk75 (v1276 : IVec S16 32) : Prop :=
  (∀ a x, ((![v1276] : Fin 1 → IVec S16 32) a x).toNat < S784.size a) ∧
  (∀ a x, ((![v1276] : Fin 1 → IVec S16 32) a x).toNat < S784.size a)
theorem k0_idx377_inb : ∀ (v1276 : IVec S16 32) (k0_hw75 : k0_chk75 v1276), ∀ a x, ((![v1276] : Fin 1 → IVec S16 32) a x).toNat < S784.size a := fun v1276 k0_hw75 => k0_hw75.1
theorem k0_idx378_inb : ∀ (v1276 : IVec S16 32) (k0_hw75 : k0_chk75 v1276), ∀ a x, ((![v1276] : Fin 1 → IVec S16 32) a x).toNat < S784.size a := fun v1276 k0_hw75 => k0_hw75.2

def k0_chk76 (v32 : IVec S16 32) (v34 : IVec S16 32) (v36 : IVec S16 32) (v38 : IVec S16 32) (v40 : IVec S16 32) (v42 : IVec S16 32) (v44 : IVec S16 32) (v46 : IVec S16 32) (v1277 : IVec S16 32) : Prop :=
  (∀ a x, ((![v1277, v32] : Fin 2 → IVec S16 32) a x).toNat < S400x128.size a) ∧
  (∀ a x, ((![v1277, v34] : Fin 2 → IVec S16 32) a x).toNat < S400x128.size a) ∧
  (∀ a x, ((![v1277, v36] : Fin 2 → IVec S16 32) a x).toNat < S400x128.size a) ∧
  (∀ a x, ((![v1277, v38] : Fin 2 → IVec S16 32) a x).toNat < S400x128.size a) ∧
  (∀ a x, ((![v1277, v40] : Fin 2 → IVec S16 32) a x).toNat < S400x128.size a) ∧
  (∀ a x, ((![v1277, v42] : Fin 2 → IVec S16 32) a x).toNat < S400x128.size a) ∧
  (∀ a x, ((![v1277, v44] : Fin 2 → IVec S16 32) a x).toNat < S400x128.size a) ∧
  (∀ a x, ((![v1277, v46] : Fin 2 → IVec S16 32) a x).toNat < S400x128.size a)
theorem k0_idx379_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v32] : Fin 2 → IVec S16 32) a x).toNat < S400x128.size a := fun v32 v34 v36 v38 v40 v42 v44 v46 v1277 k0_hw76 => k0_hw76.1
theorem k0_idx380_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v34] : Fin 2 → IVec S16 32) a x).toNat < S400x128.size a := fun v32 v34 v36 v38 v40 v42 v44 v46 v1277 k0_hw76 => k0_hw76.2.1
theorem k0_idx381_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v36] : Fin 2 → IVec S16 32) a x).toNat < S400x128.size a := fun v32 v34 v36 v38 v40 v42 v44 v46 v1277 k0_hw76 => k0_hw76.2.2.1
theorem k0_idx382_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v38] : Fin 2 → IVec S16 32) a x).toNat < S400x128.size a := fun v32 v34 v36 v38 v40 v42 v44 v46 v1277 k0_hw76 => k0_hw76.2.2.2.1
theorem k0_idx383_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v40] : Fin 2 → IVec S16 32) a x).toNat < S400x128.size a := fun v32 v34 v36 v38 v40 v42 v44 v46 v1277 k0_hw76 => k0_hw76.2.2.2.2.1
theorem k0_idx384_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v42] : Fin 2 → IVec S16 32) a x).toNat < S400x128.size a := fun v32 v34 v36 v38 v40 v42 v44 v46 v1277 k0_hw76 => k0_hw76.2.2.2.2.2.1
theorem k0_idx385_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v44] : Fin 2 → IVec S16 32) a x).toNat < S400x128.size a := fun v32 v34 v36 v38 v40 v42 v44 v46 v1277 k0_hw76 => k0_hw76.2.2.2.2.2.2.1
theorem k0_idx386_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw76 : k0_chk76 v32 v34 v36 v38 v40 v42 v44 v46 v1277), ∀ a x, ((![v1277, v46] : Fin 2 → IVec S16 32) a x).toNat < S400x128.size a := fun v32 v34 v36 v38 v40 v42 v44 v46 v1277 k0_hw76 => k0_hw76.2.2.2.2.2.2.2

def k0_chk77 (v1305 : IVec S16 32) : Prop :=
  (∀ a x, ((![v1305] : Fin 1 → IVec S16 32) a x).toNat < S784.size a) ∧
  (∀ a x, ((![v1305] : Fin 1 → IVec S16 32) a x).toNat < S784.size a)
theorem k0_idx387_inb : ∀ (v1305 : IVec S16 32) (k0_hw77 : k0_chk77 v1305), ∀ a x, ((![v1305] : Fin 1 → IVec S16 32) a x).toNat < S784.size a := fun v1305 k0_hw77 => k0_hw77.1
theorem k0_idx388_inb : ∀ (v1305 : IVec S16 32) (k0_hw77 : k0_chk77 v1305), ∀ a x, ((![v1305] : Fin 1 → IVec S16 32) a x).toNat < S784.size a := fun v1305 k0_hw77 => k0_hw77.2

def k0_chk78 (v32 : IVec S16 32) (v34 : IVec S16 32) (v36 : IVec S16 32) (v38 : IVec S16 32) (v40 : IVec S16 32) (v42 : IVec S16 32) (v44 : IVec S16 32) (v46 : IVec S16 32) (v1306 : IVec S16 32) : Prop :=
  (∀ a x, ((![v1306, v32] : Fin 2 → IVec S16 32) a x).toNat < S400x128.size a) ∧
  (∀ a x, ((![v1306, v34] : Fin 2 → IVec S16 32) a x).toNat < S400x128.size a) ∧
  (∀ a x, ((![v1306, v36] : Fin 2 → IVec S16 32) a x).toNat < S400x128.size a) ∧
  (∀ a x, ((![v1306, v38] : Fin 2 → IVec S16 32) a x).toNat < S400x128.size a) ∧
  (∀ a x, ((![v1306, v40] : Fin 2 → IVec S16 32) a x).toNat < S400x128.size a) ∧
  (∀ a x, ((![v1306, v42] : Fin 2 → IVec S16 32) a x).toNat < S400x128.size a) ∧
  (∀ a x, ((![v1306, v44] : Fin 2 → IVec S16 32) a x).toNat < S400x128.size a) ∧
  (∀ a x, ((![v1306, v46] : Fin 2 → IVec S16 32) a x).toNat < S400x128.size a)
theorem k0_idx389_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v32] : Fin 2 → IVec S16 32) a x).toNat < S400x128.size a := fun v32 v34 v36 v38 v40 v42 v44 v46 v1306 k0_hw78 => k0_hw78.1
theorem k0_idx390_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v34] : Fin 2 → IVec S16 32) a x).toNat < S400x128.size a := fun v32 v34 v36 v38 v40 v42 v44 v46 v1306 k0_hw78 => k0_hw78.2.1
theorem k0_idx391_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v36] : Fin 2 → IVec S16 32) a x).toNat < S400x128.size a := fun v32 v34 v36 v38 v40 v42 v44 v46 v1306 k0_hw78 => k0_hw78.2.2.1
theorem k0_idx392_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v38] : Fin 2 → IVec S16 32) a x).toNat < S400x128.size a := fun v32 v34 v36 v38 v40 v42 v44 v46 v1306 k0_hw78 => k0_hw78.2.2.2.1
theorem k0_idx393_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v40] : Fin 2 → IVec S16 32) a x).toNat < S400x128.size a := fun v32 v34 v36 v38 v40 v42 v44 v46 v1306 k0_hw78 => k0_hw78.2.2.2.2.1
theorem k0_idx394_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v42] : Fin 2 → IVec S16 32) a x).toNat < S400x128.size a := fun v32 v34 v36 v38 v40 v42 v44 v46 v1306 k0_hw78 => k0_hw78.2.2.2.2.2.1
theorem k0_idx395_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v44] : Fin 2 → IVec S16 32) a x).toNat < S400x128.size a := fun v32 v34 v36 v38 v40 v42 v44 v46 v1306 k0_hw78 => k0_hw78.2.2.2.2.2.2.1
theorem k0_idx396_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw78 : k0_chk78 v32 v34 v36 v38 v40 v42 v44 v46 v1306), ∀ a x, ((![v1306, v46] : Fin 2 → IVec S16 32) a x).toNat < S400x128.size a := fun v32 v34 v36 v38 v40 v42 v44 v46 v1306 k0_hw78 => k0_hw78.2.2.2.2.2.2.2

def k0_chk79 (v1334 : IVec S16 32) : Prop :=
  (∀ a x, ((![v1334] : Fin 1 → IVec S16 32) a x).toNat < S784.size a) ∧
  (∀ a x, ((![v1334] : Fin 1 → IVec S16 32) a x).toNat < S784.size a)
theorem k0_idx397_inb : ∀ (v1334 : IVec S16 32) (k0_hw79 : k0_chk79 v1334), ∀ a x, ((![v1334] : Fin 1 → IVec S16 32) a x).toNat < S784.size a := fun v1334 k0_hw79 => k0_hw79.1
theorem k0_idx398_inb : ∀ (v1334 : IVec S16 32) (k0_hw79 : k0_chk79 v1334), ∀ a x, ((![v1334] : Fin 1 → IVec S16 32) a x).toNat < S784.size a := fun v1334 k0_hw79 => k0_hw79.2

def k0_chk80 (v32 : IVec S16 32) (v34 : IVec S16 32) (v36 : IVec S16 32) (v38 : IVec S16 32) (v40 : IVec S16 32) (v42 : IVec S16 32) (v44 : IVec S16 32) (v46 : IVec S16 32) (v1335 : IVec S16 32) : Prop :=
  (∀ a x, ((![v1335, v32] : Fin 2 → IVec S16 32) a x).toNat < S400x128.size a) ∧
  (∀ a x, ((![v1335, v34] : Fin 2 → IVec S16 32) a x).toNat < S400x128.size a) ∧
  (∀ a x, ((![v1335, v36] : Fin 2 → IVec S16 32) a x).toNat < S400x128.size a) ∧
  (∀ a x, ((![v1335, v38] : Fin 2 → IVec S16 32) a x).toNat < S400x128.size a) ∧
  (∀ a x, ((![v1335, v40] : Fin 2 → IVec S16 32) a x).toNat < S400x128.size a) ∧
  (∀ a x, ((![v1335, v42] : Fin 2 → IVec S16 32) a x).toNat < S400x128.size a) ∧
  (∀ a x, ((![v1335, v44] : Fin 2 → IVec S16 32) a x).toNat < S400x128.size a) ∧
  (∀ a x, ((![v1335, v46] : Fin 2 → IVec S16 32) a x).toNat < S400x128.size a)
theorem k0_idx399_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v32] : Fin 2 → IVec S16 32) a x).toNat < S400x128.size a := fun v32 v34 v36 v38 v40 v42 v44 v46 v1335 k0_hw80 => k0_hw80.1
theorem k0_idx400_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v34] : Fin 2 → IVec S16 32) a x).toNat < S400x128.size a := fun v32 v34 v36 v38 v40 v42 v44 v46 v1335 k0_hw80 => k0_hw80.2.1
theorem k0_idx401_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v36] : Fin 2 → IVec S16 32) a x).toNat < S400x128.size a := fun v32 v34 v36 v38 v40 v42 v44 v46 v1335 k0_hw80 => k0_hw80.2.2.1
theorem k0_idx402_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v38] : Fin 2 → IVec S16 32) a x).toNat < S400x128.size a := fun v32 v34 v36 v38 v40 v42 v44 v46 v1335 k0_hw80 => k0_hw80.2.2.2.1
theorem k0_idx403_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v40] : Fin 2 → IVec S16 32) a x).toNat < S400x128.size a := fun v32 v34 v36 v38 v40 v42 v44 v46 v1335 k0_hw80 => k0_hw80.2.2.2.2.1
theorem k0_idx404_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v42] : Fin 2 → IVec S16 32) a x).toNat < S400x128.size a := fun v32 v34 v36 v38 v40 v42 v44 v46 v1335 k0_hw80 => k0_hw80.2.2.2.2.2.1
theorem k0_idx405_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v44] : Fin 2 → IVec S16 32) a x).toNat < S400x128.size a := fun v32 v34 v36 v38 v40 v42 v44 v46 v1335 k0_hw80 => k0_hw80.2.2.2.2.2.2.1
theorem k0_idx406_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw80 : k0_chk80 v32 v34 v36 v38 v40 v42 v44 v46 v1335), ∀ a x, ((![v1335, v46] : Fin 2 → IVec S16 32) a x).toNat < S400x128.size a := fun v32 v34 v36 v38 v40 v42 v44 v46 v1335 k0_hw80 => k0_hw80.2.2.2.2.2.2.2

def k0_chk81 (v1363 : IVec S16 32) : Prop :=
  (∀ a x, ((![v1363] : Fin 1 → IVec S16 32) a x).toNat < S784.size a) ∧
  (∀ a x, ((![v1363] : Fin 1 → IVec S16 32) a x).toNat < S784.size a)
theorem k0_idx407_inb : ∀ (v1363 : IVec S16 32) (k0_hw81 : k0_chk81 v1363), ∀ a x, ((![v1363] : Fin 1 → IVec S16 32) a x).toNat < S784.size a := fun v1363 k0_hw81 => k0_hw81.1
theorem k0_idx408_inb : ∀ (v1363 : IVec S16 32) (k0_hw81 : k0_chk81 v1363), ∀ a x, ((![v1363] : Fin 1 → IVec S16 32) a x).toNat < S784.size a := fun v1363 k0_hw81 => k0_hw81.2

def k0_chk82 (v32 : IVec S16 32) (v34 : IVec S16 32) (v36 : IVec S16 32) (v38 : IVec S16 32) (v40 : IVec S16 32) (v42 : IVec S16 32) (v44 : IVec S16 32) (v46 : IVec S16 32) (v1364 : IVec S16 32) : Prop :=
  (∀ a x, ((![v1364, v32] : Fin 2 → IVec S16 32) a x).toNat < S400x128.size a) ∧
  (∀ a x, ((![v1364, v34] : Fin 2 → IVec S16 32) a x).toNat < S400x128.size a) ∧
  (∀ a x, ((![v1364, v36] : Fin 2 → IVec S16 32) a x).toNat < S400x128.size a) ∧
  (∀ a x, ((![v1364, v38] : Fin 2 → IVec S16 32) a x).toNat < S400x128.size a) ∧
  (∀ a x, ((![v1364, v40] : Fin 2 → IVec S16 32) a x).toNat < S400x128.size a) ∧
  (∀ a x, ((![v1364, v42] : Fin 2 → IVec S16 32) a x).toNat < S400x128.size a) ∧
  (∀ a x, ((![v1364, v44] : Fin 2 → IVec S16 32) a x).toNat < S400x128.size a) ∧
  (∀ a x, ((![v1364, v46] : Fin 2 → IVec S16 32) a x).toNat < S400x128.size a)
theorem k0_idx409_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v32] : Fin 2 → IVec S16 32) a x).toNat < S400x128.size a := fun v32 v34 v36 v38 v40 v42 v44 v46 v1364 k0_hw82 => k0_hw82.1
theorem k0_idx410_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v34] : Fin 2 → IVec S16 32) a x).toNat < S400x128.size a := fun v32 v34 v36 v38 v40 v42 v44 v46 v1364 k0_hw82 => k0_hw82.2.1
theorem k0_idx411_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v36] : Fin 2 → IVec S16 32) a x).toNat < S400x128.size a := fun v32 v34 v36 v38 v40 v42 v44 v46 v1364 k0_hw82 => k0_hw82.2.2.1
theorem k0_idx412_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v38] : Fin 2 → IVec S16 32) a x).toNat < S400x128.size a := fun v32 v34 v36 v38 v40 v42 v44 v46 v1364 k0_hw82 => k0_hw82.2.2.2.1
theorem k0_idx413_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v40] : Fin 2 → IVec S16 32) a x).toNat < S400x128.size a := fun v32 v34 v36 v38 v40 v42 v44 v46 v1364 k0_hw82 => k0_hw82.2.2.2.2.1
theorem k0_idx414_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v42] : Fin 2 → IVec S16 32) a x).toNat < S400x128.size a := fun v32 v34 v36 v38 v40 v42 v44 v46 v1364 k0_hw82 => k0_hw82.2.2.2.2.2.1
theorem k0_idx415_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v44] : Fin 2 → IVec S16 32) a x).toNat < S400x128.size a := fun v32 v34 v36 v38 v40 v42 v44 v46 v1364 k0_hw82 => k0_hw82.2.2.2.2.2.2.1
theorem k0_idx416_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw82 : k0_chk82 v32 v34 v36 v38 v40 v42 v44 v46 v1364), ∀ a x, ((![v1364, v46] : Fin 2 → IVec S16 32) a x).toNat < S400x128.size a := fun v32 v34 v36 v38 v40 v42 v44 v46 v1364 k0_hw82 => k0_hw82.2.2.2.2.2.2.2

def k0_chk83 (v1392 : IVec S16 32) : Prop :=
  (∀ a x, ((![v1392] : Fin 1 → IVec S16 32) a x).toNat < S784.size a) ∧
  (∀ a x, ((![v1392] : Fin 1 → IVec S16 32) a x).toNat < S784.size a)
theorem k0_idx417_inb : ∀ (v1392 : IVec S16 32) (k0_hw83 : k0_chk83 v1392), ∀ a x, ((![v1392] : Fin 1 → IVec S16 32) a x).toNat < S784.size a := fun v1392 k0_hw83 => k0_hw83.1
theorem k0_idx418_inb : ∀ (v1392 : IVec S16 32) (k0_hw83 : k0_chk83 v1392), ∀ a x, ((![v1392] : Fin 1 → IVec S16 32) a x).toNat < S784.size a := fun v1392 k0_hw83 => k0_hw83.2

def k0_chk84 (v32 : IVec S16 32) (v34 : IVec S16 32) (v36 : IVec S16 32) (v38 : IVec S16 32) (v40 : IVec S16 32) (v42 : IVec S16 32) (v44 : IVec S16 32) (v46 : IVec S16 32) (v1393 : IVec S16 32) : Prop :=
  (∀ a x, ((![v1393, v32] : Fin 2 → IVec S16 32) a x).toNat < S400x128.size a) ∧
  (∀ a x, ((![v1393, v34] : Fin 2 → IVec S16 32) a x).toNat < S400x128.size a) ∧
  (∀ a x, ((![v1393, v36] : Fin 2 → IVec S16 32) a x).toNat < S400x128.size a) ∧
  (∀ a x, ((![v1393, v38] : Fin 2 → IVec S16 32) a x).toNat < S400x128.size a) ∧
  (∀ a x, ((![v1393, v40] : Fin 2 → IVec S16 32) a x).toNat < S400x128.size a) ∧
  (∀ a x, ((![v1393, v42] : Fin 2 → IVec S16 32) a x).toNat < S400x128.size a) ∧
  (∀ a x, ((![v1393, v44] : Fin 2 → IVec S16 32) a x).toNat < S400x128.size a) ∧
  (∀ a x, ((![v1393, v46] : Fin 2 → IVec S16 32) a x).toNat < S400x128.size a)
theorem k0_idx419_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v32] : Fin 2 → IVec S16 32) a x).toNat < S400x128.size a := fun v32 v34 v36 v38 v40 v42 v44 v46 v1393 k0_hw84 => k0_hw84.1
theorem k0_idx420_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v34] : Fin 2 → IVec S16 32) a x).toNat < S400x128.size a := fun v32 v34 v36 v38 v40 v42 v44 v46 v1393 k0_hw84 => k0_hw84.2.1
theorem k0_idx421_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v36] : Fin 2 → IVec S16 32) a x).toNat < S400x128.size a := fun v32 v34 v36 v38 v40 v42 v44 v46 v1393 k0_hw84 => k0_hw84.2.2.1
theorem k0_idx422_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v38] : Fin 2 → IVec S16 32) a x).toNat < S400x128.size a := fun v32 v34 v36 v38 v40 v42 v44 v46 v1393 k0_hw84 => k0_hw84.2.2.2.1
theorem k0_idx423_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v40] : Fin 2 → IVec S16 32) a x).toNat < S400x128.size a := fun v32 v34 v36 v38 v40 v42 v44 v46 v1393 k0_hw84 => k0_hw84.2.2.2.2.1
theorem k0_idx424_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v42] : Fin 2 → IVec S16 32) a x).toNat < S400x128.size a := fun v32 v34 v36 v38 v40 v42 v44 v46 v1393 k0_hw84 => k0_hw84.2.2.2.2.2.1
theorem k0_idx425_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v44] : Fin 2 → IVec S16 32) a x).toNat < S400x128.size a := fun v32 v34 v36 v38 v40 v42 v44 v46 v1393 k0_hw84 => k0_hw84.2.2.2.2.2.2.1
theorem k0_idx426_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw84 : k0_chk84 v32 v34 v36 v38 v40 v42 v44 v46 v1393), ∀ a x, ((![v1393, v46] : Fin 2 → IVec S16 32) a x).toNat < S400x128.size a := fun v32 v34 v36 v38 v40 v42 v44 v46 v1393 k0_hw84 => k0_hw84.2.2.2.2.2.2.2

def k0_chk85 (v1421 : IVec S16 32) : Prop :=
  (∀ a x, ((![v1421] : Fin 1 → IVec S16 32) a x).toNat < S784.size a) ∧
  (∀ a x, ((![v1421] : Fin 1 → IVec S16 32) a x).toNat < S784.size a)
theorem k0_idx427_inb : ∀ (v1421 : IVec S16 32) (k0_hw85 : k0_chk85 v1421), ∀ a x, ((![v1421] : Fin 1 → IVec S16 32) a x).toNat < S784.size a := fun v1421 k0_hw85 => k0_hw85.1
theorem k0_idx428_inb : ∀ (v1421 : IVec S16 32) (k0_hw85 : k0_chk85 v1421), ∀ a x, ((![v1421] : Fin 1 → IVec S16 32) a x).toNat < S784.size a := fun v1421 k0_hw85 => k0_hw85.2

def k0_chk86 (v32 : IVec S16 32) (v34 : IVec S16 32) (v36 : IVec S16 32) (v38 : IVec S16 32) (v40 : IVec S16 32) (v42 : IVec S16 32) (v44 : IVec S16 32) (v46 : IVec S16 32) (v1422 : IVec S16 32) : Prop :=
  (∀ a x, ((![v1422, v32] : Fin 2 → IVec S16 32) a x).toNat < S400x128.size a) ∧
  (∀ a x, ((![v1422, v34] : Fin 2 → IVec S16 32) a x).toNat < S400x128.size a) ∧
  (∀ a x, ((![v1422, v36] : Fin 2 → IVec S16 32) a x).toNat < S400x128.size a) ∧
  (∀ a x, ((![v1422, v38] : Fin 2 → IVec S16 32) a x).toNat < S400x128.size a) ∧
  (∀ a x, ((![v1422, v40] : Fin 2 → IVec S16 32) a x).toNat < S400x128.size a) ∧
  (∀ a x, ((![v1422, v42] : Fin 2 → IVec S16 32) a x).toNat < S400x128.size a) ∧
  (∀ a x, ((![v1422, v44] : Fin 2 → IVec S16 32) a x).toNat < S400x128.size a) ∧
  (∀ a x, ((![v1422, v46] : Fin 2 → IVec S16 32) a x).toNat < S400x128.size a)
theorem k0_idx429_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v32] : Fin 2 → IVec S16 32) a x).toNat < S400x128.size a := fun v32 v34 v36 v38 v40 v42 v44 v46 v1422 k0_hw86 => k0_hw86.1
theorem k0_idx430_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v34] : Fin 2 → IVec S16 32) a x).toNat < S400x128.size a := fun v32 v34 v36 v38 v40 v42 v44 v46 v1422 k0_hw86 => k0_hw86.2.1
theorem k0_idx431_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v36] : Fin 2 → IVec S16 32) a x).toNat < S400x128.size a := fun v32 v34 v36 v38 v40 v42 v44 v46 v1422 k0_hw86 => k0_hw86.2.2.1
theorem k0_idx432_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v38] : Fin 2 → IVec S16 32) a x).toNat < S400x128.size a := fun v32 v34 v36 v38 v40 v42 v44 v46 v1422 k0_hw86 => k0_hw86.2.2.2.1
theorem k0_idx433_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v40] : Fin 2 → IVec S16 32) a x).toNat < S400x128.size a := fun v32 v34 v36 v38 v40 v42 v44 v46 v1422 k0_hw86 => k0_hw86.2.2.2.2.1
theorem k0_idx434_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v42] : Fin 2 → IVec S16 32) a x).toNat < S400x128.size a := fun v32 v34 v36 v38 v40 v42 v44 v46 v1422 k0_hw86 => k0_hw86.2.2.2.2.2.1
theorem k0_idx435_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v44] : Fin 2 → IVec S16 32) a x).toNat < S400x128.size a := fun v32 v34 v36 v38 v40 v42 v44 v46 v1422 k0_hw86 => k0_hw86.2.2.2.2.2.2.1
theorem k0_idx436_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw86 : k0_chk86 v32 v34 v36 v38 v40 v42 v44 v46 v1422), ∀ a x, ((![v1422, v46] : Fin 2 → IVec S16 32) a x).toNat < S400x128.size a := fun v32 v34 v36 v38 v40 v42 v44 v46 v1422 k0_hw86 => k0_hw86.2.2.2.2.2.2.2

def k0_chk87 (v1450 : IVec S16 32) : Prop :=
  (∀ a x, ((![v1450] : Fin 1 → IVec S16 32) a x).toNat < S784.size a) ∧
  (∀ a x, ((![v1450] : Fin 1 → IVec S16 32) a x).toNat < S784.size a)
theorem k0_idx437_inb : ∀ (v1450 : IVec S16 32) (k0_hw87 : k0_chk87 v1450), ∀ a x, ((![v1450] : Fin 1 → IVec S16 32) a x).toNat < S784.size a := fun v1450 k0_hw87 => k0_hw87.1
theorem k0_idx438_inb : ∀ (v1450 : IVec S16 32) (k0_hw87 : k0_chk87 v1450), ∀ a x, ((![v1450] : Fin 1 → IVec S16 32) a x).toNat < S784.size a := fun v1450 k0_hw87 => k0_hw87.2

def k0_chk88 (v32 : IVec S16 32) (v34 : IVec S16 32) (v36 : IVec S16 32) (v38 : IVec S16 32) (v40 : IVec S16 32) (v42 : IVec S16 32) (v44 : IVec S16 32) (v46 : IVec S16 32) (v1451 : IVec S16 32) : Prop :=
  (∀ a x, ((![v1451, v32] : Fin 2 → IVec S16 32) a x).toNat < S400x128.size a) ∧
  (∀ a x, ((![v1451, v34] : Fin 2 → IVec S16 32) a x).toNat < S400x128.size a) ∧
  (∀ a x, ((![v1451, v36] : Fin 2 → IVec S16 32) a x).toNat < S400x128.size a) ∧
  (∀ a x, ((![v1451, v38] : Fin 2 → IVec S16 32) a x).toNat < S400x128.size a) ∧
  (∀ a x, ((![v1451, v40] : Fin 2 → IVec S16 32) a x).toNat < S400x128.size a) ∧
  (∀ a x, ((![v1451, v42] : Fin 2 → IVec S16 32) a x).toNat < S400x128.size a) ∧
  (∀ a x, ((![v1451, v44] : Fin 2 → IVec S16 32) a x).toNat < S400x128.size a) ∧
  (∀ a x, ((![v1451, v46] : Fin 2 → IVec S16 32) a x).toNat < S400x128.size a)
theorem k0_idx439_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v32] : Fin 2 → IVec S16 32) a x).toNat < S400x128.size a := fun v32 v34 v36 v38 v40 v42 v44 v46 v1451 k0_hw88 => k0_hw88.1
theorem k0_idx440_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v34] : Fin 2 → IVec S16 32) a x).toNat < S400x128.size a := fun v32 v34 v36 v38 v40 v42 v44 v46 v1451 k0_hw88 => k0_hw88.2.1
theorem k0_idx441_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v36] : Fin 2 → IVec S16 32) a x).toNat < S400x128.size a := fun v32 v34 v36 v38 v40 v42 v44 v46 v1451 k0_hw88 => k0_hw88.2.2.1
theorem k0_idx442_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v38] : Fin 2 → IVec S16 32) a x).toNat < S400x128.size a := fun v32 v34 v36 v38 v40 v42 v44 v46 v1451 k0_hw88 => k0_hw88.2.2.2.1
theorem k0_idx443_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v40] : Fin 2 → IVec S16 32) a x).toNat < S400x128.size a := fun v32 v34 v36 v38 v40 v42 v44 v46 v1451 k0_hw88 => k0_hw88.2.2.2.2.1
theorem k0_idx444_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v42] : Fin 2 → IVec S16 32) a x).toNat < S400x128.size a := fun v32 v34 v36 v38 v40 v42 v44 v46 v1451 k0_hw88 => k0_hw88.2.2.2.2.2.1
theorem k0_idx445_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v44] : Fin 2 → IVec S16 32) a x).toNat < S400x128.size a := fun v32 v34 v36 v38 v40 v42 v44 v46 v1451 k0_hw88 => k0_hw88.2.2.2.2.2.2.1
theorem k0_idx446_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw88 : k0_chk88 v32 v34 v36 v38 v40 v42 v44 v46 v1451), ∀ a x, ((![v1451, v46] : Fin 2 → IVec S16 32) a x).toNat < S400x128.size a := fun v32 v34 v36 v38 v40 v42 v44 v46 v1451 k0_hw88 => k0_hw88.2.2.2.2.2.2.2

def k0_chk89 (v1479 : IVec S16 32) : Prop :=
  (∀ a x, ((![v1479] : Fin 1 → IVec S16 32) a x).toNat < S784.size a) ∧
  (∀ a x, ((![v1479] : Fin 1 → IVec S16 32) a x).toNat < S784.size a)
theorem k0_idx447_inb : ∀ (v1479 : IVec S16 32) (k0_hw89 : k0_chk89 v1479), ∀ a x, ((![v1479] : Fin 1 → IVec S16 32) a x).toNat < S784.size a := fun v1479 k0_hw89 => k0_hw89.1
theorem k0_idx448_inb : ∀ (v1479 : IVec S16 32) (k0_hw89 : k0_chk89 v1479), ∀ a x, ((![v1479] : Fin 1 → IVec S16 32) a x).toNat < S784.size a := fun v1479 k0_hw89 => k0_hw89.2

def k0_chk90 (v32 : IVec S16 32) (v34 : IVec S16 32) (v36 : IVec S16 32) (v38 : IVec S16 32) (v40 : IVec S16 32) (v42 : IVec S16 32) (v44 : IVec S16 32) (v46 : IVec S16 32) (v1480 : IVec S16 32) : Prop :=
  (∀ a x, ((![v1480, v32] : Fin 2 → IVec S16 32) a x).toNat < S400x128.size a) ∧
  (∀ a x, ((![v1480, v34] : Fin 2 → IVec S16 32) a x).toNat < S400x128.size a) ∧
  (∀ a x, ((![v1480, v36] : Fin 2 → IVec S16 32) a x).toNat < S400x128.size a) ∧
  (∀ a x, ((![v1480, v38] : Fin 2 → IVec S16 32) a x).toNat < S400x128.size a) ∧
  (∀ a x, ((![v1480, v40] : Fin 2 → IVec S16 32) a x).toNat < S400x128.size a) ∧
  (∀ a x, ((![v1480, v42] : Fin 2 → IVec S16 32) a x).toNat < S400x128.size a) ∧
  (∀ a x, ((![v1480, v44] : Fin 2 → IVec S16 32) a x).toNat < S400x128.size a) ∧
  (∀ a x, ((![v1480, v46] : Fin 2 → IVec S16 32) a x).toNat < S400x128.size a)
theorem k0_idx449_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v32] : Fin 2 → IVec S16 32) a x).toNat < S400x128.size a := fun v32 v34 v36 v38 v40 v42 v44 v46 v1480 k0_hw90 => k0_hw90.1
theorem k0_idx450_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v34] : Fin 2 → IVec S16 32) a x).toNat < S400x128.size a := fun v32 v34 v36 v38 v40 v42 v44 v46 v1480 k0_hw90 => k0_hw90.2.1
theorem k0_idx451_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v36] : Fin 2 → IVec S16 32) a x).toNat < S400x128.size a := fun v32 v34 v36 v38 v40 v42 v44 v46 v1480 k0_hw90 => k0_hw90.2.2.1
theorem k0_idx452_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v38] : Fin 2 → IVec S16 32) a x).toNat < S400x128.size a := fun v32 v34 v36 v38 v40 v42 v44 v46 v1480 k0_hw90 => k0_hw90.2.2.2.1
theorem k0_idx453_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v40] : Fin 2 → IVec S16 32) a x).toNat < S400x128.size a := fun v32 v34 v36 v38 v40 v42 v44 v46 v1480 k0_hw90 => k0_hw90.2.2.2.2.1
theorem k0_idx454_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v42] : Fin 2 → IVec S16 32) a x).toNat < S400x128.size a := fun v32 v34 v36 v38 v40 v42 v44 v46 v1480 k0_hw90 => k0_hw90.2.2.2.2.2.1
theorem k0_idx455_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v44] : Fin 2 → IVec S16 32) a x).toNat < S400x128.size a := fun v32 v34 v36 v38 v40 v42 v44 v46 v1480 k0_hw90 => k0_hw90.2.2.2.2.2.2.1
theorem k0_idx456_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw90 : k0_chk90 v32 v34 v36 v38 v40 v42 v44 v46 v1480), ∀ a x, ((![v1480, v46] : Fin 2 → IVec S16 32) a x).toNat < S400x128.size a := fun v32 v34 v36 v38 v40 v42 v44 v46 v1480 k0_hw90 => k0_hw90.2.2.2.2.2.2.2

def k0_chk91 (v1508 : IVec S16 32) : Prop :=
  (∀ a x, ((![v1508] : Fin 1 → IVec S16 32) a x).toNat < S784.size a) ∧
  (∀ a x, ((![v1508] : Fin 1 → IVec S16 32) a x).toNat < S784.size a)
theorem k0_idx457_inb : ∀ (v1508 : IVec S16 32) (k0_hw91 : k0_chk91 v1508), ∀ a x, ((![v1508] : Fin 1 → IVec S16 32) a x).toNat < S784.size a := fun v1508 k0_hw91 => k0_hw91.1
theorem k0_idx458_inb : ∀ (v1508 : IVec S16 32) (k0_hw91 : k0_chk91 v1508), ∀ a x, ((![v1508] : Fin 1 → IVec S16 32) a x).toNat < S784.size a := fun v1508 k0_hw91 => k0_hw91.2

def k0_chk92 (v32 : IVec S16 32) (v34 : IVec S16 32) (v36 : IVec S16 32) (v38 : IVec S16 32) (v40 : IVec S16 32) (v42 : IVec S16 32) (v44 : IVec S16 32) (v46 : IVec S16 32) (v1509 : IVec S16 32) : Prop :=
  (∀ a x, ((![v1509, v32] : Fin 2 → IVec S16 32) a x).toNat < S400x128.size a) ∧
  (∀ a x, ((![v1509, v34] : Fin 2 → IVec S16 32) a x).toNat < S400x128.size a) ∧
  (∀ a x, ((![v1509, v36] : Fin 2 → IVec S16 32) a x).toNat < S400x128.size a) ∧
  (∀ a x, ((![v1509, v38] : Fin 2 → IVec S16 32) a x).toNat < S400x128.size a) ∧
  (∀ a x, ((![v1509, v40] : Fin 2 → IVec S16 32) a x).toNat < S400x128.size a) ∧
  (∀ a x, ((![v1509, v42] : Fin 2 → IVec S16 32) a x).toNat < S400x128.size a) ∧
  (∀ a x, ((![v1509, v44] : Fin 2 → IVec S16 32) a x).toNat < S400x128.size a) ∧
  (∀ a x, ((![v1509, v46] : Fin 2 → IVec S16 32) a x).toNat < S400x128.size a)
theorem k0_idx459_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v32] : Fin 2 → IVec S16 32) a x).toNat < S400x128.size a := fun v32 v34 v36 v38 v40 v42 v44 v46 v1509 k0_hw92 => k0_hw92.1
theorem k0_idx460_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v34] : Fin 2 → IVec S16 32) a x).toNat < S400x128.size a := fun v32 v34 v36 v38 v40 v42 v44 v46 v1509 k0_hw92 => k0_hw92.2.1
theorem k0_idx461_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v36] : Fin 2 → IVec S16 32) a x).toNat < S400x128.size a := fun v32 v34 v36 v38 v40 v42 v44 v46 v1509 k0_hw92 => k0_hw92.2.2.1
theorem k0_idx462_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v38] : Fin 2 → IVec S16 32) a x).toNat < S400x128.size a := fun v32 v34 v36 v38 v40 v42 v44 v46 v1509 k0_hw92 => k0_hw92.2.2.2.1
theorem k0_idx463_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v40] : Fin 2 → IVec S16 32) a x).toNat < S400x128.size a := fun v32 v34 v36 v38 v40 v42 v44 v46 v1509 k0_hw92 => k0_hw92.2.2.2.2.1
theorem k0_idx464_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v42] : Fin 2 → IVec S16 32) a x).toNat < S400x128.size a := fun v32 v34 v36 v38 v40 v42 v44 v46 v1509 k0_hw92 => k0_hw92.2.2.2.2.2.1
theorem k0_idx465_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v44] : Fin 2 → IVec S16 32) a x).toNat < S400x128.size a := fun v32 v34 v36 v38 v40 v42 v44 v46 v1509 k0_hw92 => k0_hw92.2.2.2.2.2.2.1
theorem k0_idx466_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw92 : k0_chk92 v32 v34 v36 v38 v40 v42 v44 v46 v1509), ∀ a x, ((![v1509, v46] : Fin 2 → IVec S16 32) a x).toNat < S400x128.size a := fun v32 v34 v36 v38 v40 v42 v44 v46 v1509 k0_hw92 => k0_hw92.2.2.2.2.2.2.2

def k0_chk93 (v1537 : IVec S16 32) : Prop :=
  (∀ a x, ((![v1537] : Fin 1 → IVec S16 32) a x).toNat < S784.size a) ∧
  (∀ a x, ((![v1537] : Fin 1 → IVec S16 32) a x).toNat < S784.size a)
theorem k0_idx467_inb : ∀ (v1537 : IVec S16 32) (k0_hw93 : k0_chk93 v1537), ∀ a x, ((![v1537] : Fin 1 → IVec S16 32) a x).toNat < S784.size a := fun v1537 k0_hw93 => k0_hw93.1
theorem k0_idx468_inb : ∀ (v1537 : IVec S16 32) (k0_hw93 : k0_chk93 v1537), ∀ a x, ((![v1537] : Fin 1 → IVec S16 32) a x).toNat < S784.size a := fun v1537 k0_hw93 => k0_hw93.2

def k0_chk94 (v32 : IVec S16 32) (v34 : IVec S16 32) (v36 : IVec S16 32) (v38 : IVec S16 32) (v40 : IVec S16 32) (v42 : IVec S16 32) (v44 : IVec S16 32) (v46 : IVec S16 32) (v1538 : IVec S16 32) : Prop :=
  (∀ a x, ((![v1538, v32] : Fin 2 → IVec S16 32) a x).toNat < S400x128.size a) ∧
  (∀ a x, ((![v1538, v34] : Fin 2 → IVec S16 32) a x).toNat < S400x128.size a) ∧
  (∀ a x, ((![v1538, v36] : Fin 2 → IVec S16 32) a x).toNat < S400x128.size a) ∧
  (∀ a x, ((![v1538, v38] : Fin 2 → IVec S16 32) a x).toNat < S400x128.size a) ∧
  (∀ a x, ((![v1538, v40] : Fin 2 → IVec S16 32) a x).toNat < S400x128.size a) ∧
  (∀ a x, ((![v1538, v42] : Fin 2 → IVec S16 32) a x).toNat < S400x128.size a) ∧
  (∀ a x, ((![v1538, v44] : Fin 2 → IVec S16 32) a x).toNat < S400x128.size a) ∧
  (∀ a x, ((![v1538, v46] : Fin 2 → IVec S16 32) a x).toNat < S400x128.size a)
theorem k0_idx469_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v32] : Fin 2 → IVec S16 32) a x).toNat < S400x128.size a := fun v32 v34 v36 v38 v40 v42 v44 v46 v1538 k0_hw94 => k0_hw94.1
theorem k0_idx470_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v34] : Fin 2 → IVec S16 32) a x).toNat < S400x128.size a := fun v32 v34 v36 v38 v40 v42 v44 v46 v1538 k0_hw94 => k0_hw94.2.1
theorem k0_idx471_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v36] : Fin 2 → IVec S16 32) a x).toNat < S400x128.size a := fun v32 v34 v36 v38 v40 v42 v44 v46 v1538 k0_hw94 => k0_hw94.2.2.1
theorem k0_idx472_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v38] : Fin 2 → IVec S16 32) a x).toNat < S400x128.size a := fun v32 v34 v36 v38 v40 v42 v44 v46 v1538 k0_hw94 => k0_hw94.2.2.2.1
theorem k0_idx473_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v40] : Fin 2 → IVec S16 32) a x).toNat < S400x128.size a := fun v32 v34 v36 v38 v40 v42 v44 v46 v1538 k0_hw94 => k0_hw94.2.2.2.2.1
theorem k0_idx474_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v42] : Fin 2 → IVec S16 32) a x).toNat < S400x128.size a := fun v32 v34 v36 v38 v40 v42 v44 v46 v1538 k0_hw94 => k0_hw94.2.2.2.2.2.1
theorem k0_idx475_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v44] : Fin 2 → IVec S16 32) a x).toNat < S400x128.size a := fun v32 v34 v36 v38 v40 v42 v44 v46 v1538 k0_hw94 => k0_hw94.2.2.2.2.2.2.1
theorem k0_idx476_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw94 : k0_chk94 v32 v34 v36 v38 v40 v42 v44 v46 v1538), ∀ a x, ((![v1538, v46] : Fin 2 → IVec S16 32) a x).toNat < S400x128.size a := fun v32 v34 v36 v38 v40 v42 v44 v46 v1538 k0_hw94 => k0_hw94.2.2.2.2.2.2.2

def k0_chk95 (v1566 : IVec S16 32) : Prop :=
  (∀ a x, ((![v1566] : Fin 1 → IVec S16 32) a x).toNat < S784.size a) ∧
  (∀ a x, ((![v1566] : Fin 1 → IVec S16 32) a x).toNat < S784.size a)
theorem k0_idx477_inb : ∀ (v1566 : IVec S16 32) (k0_hw95 : k0_chk95 v1566), ∀ a x, ((![v1566] : Fin 1 → IVec S16 32) a x).toNat < S784.size a := fun v1566 k0_hw95 => k0_hw95.1
theorem k0_idx478_inb : ∀ (v1566 : IVec S16 32) (k0_hw95 : k0_chk95 v1566), ∀ a x, ((![v1566] : Fin 1 → IVec S16 32) a x).toNat < S784.size a := fun v1566 k0_hw95 => k0_hw95.2

def k0_chk96 (v32 : IVec S16 32) (v34 : IVec S16 32) (v36 : IVec S16 32) (v38 : IVec S16 32) (v40 : IVec S16 32) (v42 : IVec S16 32) (v44 : IVec S16 32) (v46 : IVec S16 32) (v1567 : IVec S16 32) : Prop :=
  (∀ a x, ((![v1567, v32] : Fin 2 → IVec S16 32) a x).toNat < S400x128.size a) ∧
  (∀ a x, ((![v1567, v34] : Fin 2 → IVec S16 32) a x).toNat < S400x128.size a) ∧
  (∀ a x, ((![v1567, v36] : Fin 2 → IVec S16 32) a x).toNat < S400x128.size a) ∧
  (∀ a x, ((![v1567, v38] : Fin 2 → IVec S16 32) a x).toNat < S400x128.size a) ∧
  (∀ a x, ((![v1567, v40] : Fin 2 → IVec S16 32) a x).toNat < S400x128.size a) ∧
  (∀ a x, ((![v1567, v42] : Fin 2 → IVec S16 32) a x).toNat < S400x128.size a) ∧
  (∀ a x, ((![v1567, v44] : Fin 2 → IVec S16 32) a x).toNat < S400x128.size a) ∧
  (∀ a x, ((![v1567, v46] : Fin 2 → IVec S16 32) a x).toNat < S400x128.size a)
theorem k0_idx479_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v32] : Fin 2 → IVec S16 32) a x).toNat < S400x128.size a := fun v32 v34 v36 v38 v40 v42 v44 v46 v1567 k0_hw96 => k0_hw96.1
theorem k0_idx480_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v34] : Fin 2 → IVec S16 32) a x).toNat < S400x128.size a := fun v32 v34 v36 v38 v40 v42 v44 v46 v1567 k0_hw96 => k0_hw96.2.1
theorem k0_idx481_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v36] : Fin 2 → IVec S16 32) a x).toNat < S400x128.size a := fun v32 v34 v36 v38 v40 v42 v44 v46 v1567 k0_hw96 => k0_hw96.2.2.1
theorem k0_idx482_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v38] : Fin 2 → IVec S16 32) a x).toNat < S400x128.size a := fun v32 v34 v36 v38 v40 v42 v44 v46 v1567 k0_hw96 => k0_hw96.2.2.2.1
theorem k0_idx483_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v40] : Fin 2 → IVec S16 32) a x).toNat < S400x128.size a := fun v32 v34 v36 v38 v40 v42 v44 v46 v1567 k0_hw96 => k0_hw96.2.2.2.2.1
theorem k0_idx484_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v42] : Fin 2 → IVec S16 32) a x).toNat < S400x128.size a := fun v32 v34 v36 v38 v40 v42 v44 v46 v1567 k0_hw96 => k0_hw96.2.2.2.2.2.1
theorem k0_idx485_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v44] : Fin 2 → IVec S16 32) a x).toNat < S400x128.size a := fun v32 v34 v36 v38 v40 v42 v44 v46 v1567 k0_hw96 => k0_hw96.2.2.2.2.2.2.1
theorem k0_idx486_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw96 : k0_chk96 v32 v34 v36 v38 v40 v42 v44 v46 v1567), ∀ a x, ((![v1567, v46] : Fin 2 → IVec S16 32) a x).toNat < S400x128.size a := fun v32 v34 v36 v38 v40 v42 v44 v46 v1567 k0_hw96 => k0_hw96.2.2.2.2.2.2.2

def k0_chk97 (v1595 : IVec S16 32) : Prop :=
  (∀ a x, ((![v1595] : Fin 1 → IVec S16 32) a x).toNat < S784.size a) ∧
  (∀ a x, ((![v1595] : Fin 1 → IVec S16 32) a x).toNat < S784.size a)
theorem k0_idx487_inb : ∀ (v1595 : IVec S16 32) (k0_hw97 : k0_chk97 v1595), ∀ a x, ((![v1595] : Fin 1 → IVec S16 32) a x).toNat < S784.size a := fun v1595 k0_hw97 => k0_hw97.1
theorem k0_idx488_inb : ∀ (v1595 : IVec S16 32) (k0_hw97 : k0_chk97 v1595), ∀ a x, ((![v1595] : Fin 1 → IVec S16 32) a x).toNat < S784.size a := fun v1595 k0_hw97 => k0_hw97.2

def k0_chk98 (v32 : IVec S16 32) (v34 : IVec S16 32) (v36 : IVec S16 32) (v38 : IVec S16 32) (v40 : IVec S16 32) (v42 : IVec S16 32) (v44 : IVec S16 32) (v46 : IVec S16 32) (v1596 : IVec S16 32) : Prop :=
  (∀ a x, ((![v1596, v32] : Fin 2 → IVec S16 32) a x).toNat < S400x128.size a) ∧
  (∀ a x, ((![v1596, v34] : Fin 2 → IVec S16 32) a x).toNat < S400x128.size a) ∧
  (∀ a x, ((![v1596, v36] : Fin 2 → IVec S16 32) a x).toNat < S400x128.size a) ∧
  (∀ a x, ((![v1596, v38] : Fin 2 → IVec S16 32) a x).toNat < S400x128.size a) ∧
  (∀ a x, ((![v1596, v40] : Fin 2 → IVec S16 32) a x).toNat < S400x128.size a) ∧
  (∀ a x, ((![v1596, v42] : Fin 2 → IVec S16 32) a x).toNat < S400x128.size a) ∧
  (∀ a x, ((![v1596, v44] : Fin 2 → IVec S16 32) a x).toNat < S400x128.size a) ∧
  (∀ a x, ((![v1596, v46] : Fin 2 → IVec S16 32) a x).toNat < S400x128.size a)
theorem k0_idx489_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v32] : Fin 2 → IVec S16 32) a x).toNat < S400x128.size a := fun v32 v34 v36 v38 v40 v42 v44 v46 v1596 k0_hw98 => k0_hw98.1
theorem k0_idx490_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v34] : Fin 2 → IVec S16 32) a x).toNat < S400x128.size a := fun v32 v34 v36 v38 v40 v42 v44 v46 v1596 k0_hw98 => k0_hw98.2.1
theorem k0_idx491_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v36] : Fin 2 → IVec S16 32) a x).toNat < S400x128.size a := fun v32 v34 v36 v38 v40 v42 v44 v46 v1596 k0_hw98 => k0_hw98.2.2.1
theorem k0_idx492_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v38] : Fin 2 → IVec S16 32) a x).toNat < S400x128.size a := fun v32 v34 v36 v38 v40 v42 v44 v46 v1596 k0_hw98 => k0_hw98.2.2.2.1
theorem k0_idx493_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v40] : Fin 2 → IVec S16 32) a x).toNat < S400x128.size a := fun v32 v34 v36 v38 v40 v42 v44 v46 v1596 k0_hw98 => k0_hw98.2.2.2.2.1
theorem k0_idx494_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v42] : Fin 2 → IVec S16 32) a x).toNat < S400x128.size a := fun v32 v34 v36 v38 v40 v42 v44 v46 v1596 k0_hw98 => k0_hw98.2.2.2.2.2.1
theorem k0_idx495_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v44] : Fin 2 → IVec S16 32) a x).toNat < S400x128.size a := fun v32 v34 v36 v38 v40 v42 v44 v46 v1596 k0_hw98 => k0_hw98.2.2.2.2.2.2.1
theorem k0_idx496_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw98 : k0_chk98 v32 v34 v36 v38 v40 v42 v44 v46 v1596), ∀ a x, ((![v1596, v46] : Fin 2 → IVec S16 32) a x).toNat < S400x128.size a := fun v32 v34 v36 v38 v40 v42 v44 v46 v1596 k0_hw98 => k0_hw98.2.2.2.2.2.2.2

def k0_chk99 (v32 : IVec S16 32) (v34 : IVec S16 32) (v36 : IVec S16 32) (v38 : IVec S16 32) (v40 : IVec S16 32) (v42 : IVec S16 32) (v44 : IVec S16 32) (v46 : IVec S16 32) (v1622 : IVec S16 32) : Prop :=
  (∀ a x, ((![v32, v1622] : Fin 2 → IVec S16 32) a x).toNat < S128x49.size a) ∧
  (∀ a x, ((![v34, v1622] : Fin 2 → IVec S16 32) a x).toNat < S128x49.size a) ∧
  (∀ a x, ((![v36, v1622] : Fin 2 → IVec S16 32) a x).toNat < S128x49.size a) ∧
  (∀ a x, ((![v38, v1622] : Fin 2 → IVec S16 32) a x).toNat < S128x49.size a) ∧
  (∀ a x, ((![v40, v1622] : Fin 2 → IVec S16 32) a x).toNat < S128x49.size a) ∧
  (∀ a x, ((![v42, v1622] : Fin 2 → IVec S16 32) a x).toNat < S128x49.size a) ∧
  (∀ a x, ((![v44, v1622] : Fin 2 → IVec S16 32) a x).toNat < S128x49.size a) ∧
  (∀ a x, ((![v46, v1622] : Fin 2 → IVec S16 32) a x).toNat < S128x49.size a)
theorem k0_idx497_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v32, v1622] : Fin 2 → IVec S16 32) a x).toNat < S128x49.size a := fun v32 v34 v36 v38 v40 v42 v44 v46 v1622 k0_hw99 => k0_hw99.1
theorem k0_idx498_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v34, v1622] : Fin 2 → IVec S16 32) a x).toNat < S128x49.size a := fun v32 v34 v36 v38 v40 v42 v44 v46 v1622 k0_hw99 => k0_hw99.2.1
theorem k0_idx499_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v36, v1622] : Fin 2 → IVec S16 32) a x).toNat < S128x49.size a := fun v32 v34 v36 v38 v40 v42 v44 v46 v1622 k0_hw99 => k0_hw99.2.2.1
theorem k0_idx500_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v38, v1622] : Fin 2 → IVec S16 32) a x).toNat < S128x49.size a := fun v32 v34 v36 v38 v40 v42 v44 v46 v1622 k0_hw99 => k0_hw99.2.2.2.1
theorem k0_idx501_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v40, v1622] : Fin 2 → IVec S16 32) a x).toNat < S128x49.size a := fun v32 v34 v36 v38 v40 v42 v44 v46 v1622 k0_hw99 => k0_hw99.2.2.2.2.1
theorem k0_idx502_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v42, v1622] : Fin 2 → IVec S16 32) a x).toNat < S128x49.size a := fun v32 v34 v36 v38 v40 v42 v44 v46 v1622 k0_hw99 => k0_hw99.2.2.2.2.2.1
theorem k0_idx503_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v44, v1622] : Fin 2 → IVec S16 32) a x).toNat < S128x49.size a := fun v32 v34 v36 v38 v40 v42 v44 v46 v1622 k0_hw99 => k0_hw99.2.2.2.2.2.2.1
theorem k0_idx504_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw99 : k0_chk99 v32 v34 v36 v38 v40 v42 v44 v46 v1622), ∀ a x, ((![v46, v1622] : Fin 2 → IVec S16 32) a x).toNat < S128x49.size a := fun v32 v34 v36 v38 v40 v42 v44 v46 v1622 k0_hw99 => k0_hw99.2.2.2.2.2.2.2
def k0_off15 (i : grid0.Coords) (k0_t3 : Fin k0_t3_loop.trips) : Fin 2 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c2_i32_752 : BitVec 32 := 2#32
  let v922 : BitVec 32 := Scalar.addi v710 c2_i32_752
  let c124_i32_753 : BitVec 32 := 124#32
  let v923 : BitVec 32 := Scalar.minsi v922 c124_i32_753
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v924 : BitVec 32 := Scalar.addi v923 v29
  let c0_i32_754 : BitVec 32 := 0#32
  ![v924.toNat, 0]
def k0_off16 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let v933 : BitVec 32 := Scalar.addi v29 v710
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_758 : BitVec 32 := 128#32
  let v934 : BitVec 32 := Scalar.muli v11 c128_i32_758
  let c0_i32_947_r5 : BitVec 32 := 0#32
  ![v933.toNat, v934.toNat, 0]
def k0_off17 (k0_t3 : Fin k0_t3_loop.trips) : Fin 3 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_759 : BitVec 32 := 1#32
  let v935 : BitVec 32 := Scalar.addi v710 c1_i32_759
  let c1_i32_760 : BitVec 32 := 1#32
  let v936 : BitVec 32 := Scalar.addi v935 c1_i32_760
  let c0_i32_761 : BitVec 32 := 0#32
  let c0_i32_762 : BitVec 32 := 0#32
  ![v936.toNat, 0, 0]
def k0_off18 (i : grid0.Coords) (k0_t3 : Fin k0_t3_loop.trips) : Fin 3 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_759 : BitVec 32 := 1#32
  let v935 : BitVec 32 := Scalar.addi v710 c1_i32_759
  let c2_i32_925 : BitVec 32 := 2#32
  let v1131 : BitVec 32 := Scalar.addi v935 c2_i32_925
  let c124_i32_926 : BitVec 32 := 124#32
  let v1132 : BitVec 32 := Scalar.minsi v1131 c124_i32_926
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v1133 : BitVec 32 := Scalar.addi v1132 v29
  let c0_i32_927 : BitVec 32 := 0#32
  let c0_i32_928 : BitVec 32 := 0#32
  ![v1133.toNat, 0, 0]
def k0_off19 (k0_t3 : Fin k0_t3_loop.trips) : Fin 2 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_759 : BitVec 32 := 1#32
  let v935 : BitVec 32 := Scalar.addi v710 c1_i32_759
  let c0_i32_931 : BitVec 32 := 0#32
  ![v935.toNat, 0]
@[reducible] def k0_t5_loop : Scf.Loop 32 :=
  let c0_i32_936 : BitVec 32 := 0#32
  let c49_i32_937 : BitVec 32 := 49#32
  let v1146 : BitVec 32 := Scalar.addi c0_i32_936 c49_i32_937
  let c1_i32_938 : BitVec 32 := 1#32
  ⟨c0_i32_936, v1146, c1_i32_938⟩
def k0_off20 (k0_t5 : Fin k0_t5_loop.trips) : Fin 1 → Nat :=
  let c0_i32_936 : BitVec 32 := 0#32
  let c1_i32_938 : BitVec 32 := 1#32
  let arg23 : BitVec 32 := Scf.iv c0_i32_936 c1_i32_938 k0_t5
  let c16_i32_947 : BitVec 32 := 16#32
  let v1160 : BitVec 32 := Scalar.muli arg23 c16_i32_947
  let v1161 : Index := Scalar.indexCast v1160
  ![v1161.toNat]

def k0_chk100 (v1168 : IVec S16 32) : Prop :=
  (∀ a x, ((![v1168] : Fin 1 → IVec S16 32) a x).toNat < S784.size a) ∧
  (∀ a x, ((![v1168] : Fin 1 → IVec S16 32) a x).toNat < S784.size a)
theorem k0_idx505_inb : ∀ (v1168 : IVec S16 32) (k0_hw100 : k0_chk100 v1168), ∀ a x, ((![v1168] : Fin 1 → IVec S16 32) a x).toNat < S784.size a := fun v1168 k0_hw100 => k0_hw100.1
theorem k0_idx506_inb : ∀ (v1168 : IVec S16 32) (k0_hw100 : k0_chk100 v1168), ∀ a x, ((![v1168] : Fin 1 → IVec S16 32) a x).toNat < S784.size a := fun v1168 k0_hw100 => k0_hw100.2

def k0_chk101 (v32 : IVec S16 32) (v34 : IVec S16 32) (v36 : IVec S16 32) (v38 : IVec S16 32) (v40 : IVec S16 32) (v42 : IVec S16 32) (v44 : IVec S16 32) (v46 : IVec S16 32) (v1169 : IVec S16 32) : Prop :=
  (∀ a x, ((![v1169, v32] : Fin 2 → IVec S16 32) a x).toNat < S400x128.size a) ∧
  (∀ a x, ((![v1169, v34] : Fin 2 → IVec S16 32) a x).toNat < S400x128.size a) ∧
  (∀ a x, ((![v1169, v36] : Fin 2 → IVec S16 32) a x).toNat < S400x128.size a) ∧
  (∀ a x, ((![v1169, v38] : Fin 2 → IVec S16 32) a x).toNat < S400x128.size a) ∧
  (∀ a x, ((![v1169, v40] : Fin 2 → IVec S16 32) a x).toNat < S400x128.size a) ∧
  (∀ a x, ((![v1169, v42] : Fin 2 → IVec S16 32) a x).toNat < S400x128.size a) ∧
  (∀ a x, ((![v1169, v44] : Fin 2 → IVec S16 32) a x).toNat < S400x128.size a) ∧
  (∀ a x, ((![v1169, v46] : Fin 2 → IVec S16 32) a x).toNat < S400x128.size a)
theorem k0_idx507_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v32] : Fin 2 → IVec S16 32) a x).toNat < S400x128.size a := fun v32 v34 v36 v38 v40 v42 v44 v46 v1169 k0_hw101 => k0_hw101.1
theorem k0_idx508_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v34] : Fin 2 → IVec S16 32) a x).toNat < S400x128.size a := fun v32 v34 v36 v38 v40 v42 v44 v46 v1169 k0_hw101 => k0_hw101.2.1
theorem k0_idx509_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v36] : Fin 2 → IVec S16 32) a x).toNat < S400x128.size a := fun v32 v34 v36 v38 v40 v42 v44 v46 v1169 k0_hw101 => k0_hw101.2.2.1
theorem k0_idx510_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v38] : Fin 2 → IVec S16 32) a x).toNat < S400x128.size a := fun v32 v34 v36 v38 v40 v42 v44 v46 v1169 k0_hw101 => k0_hw101.2.2.2.1
theorem k0_idx511_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v40] : Fin 2 → IVec S16 32) a x).toNat < S400x128.size a := fun v32 v34 v36 v38 v40 v42 v44 v46 v1169 k0_hw101 => k0_hw101.2.2.2.2.1
theorem k0_idx512_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v42] : Fin 2 → IVec S16 32) a x).toNat < S400x128.size a := fun v32 v34 v36 v38 v40 v42 v44 v46 v1169 k0_hw101 => k0_hw101.2.2.2.2.2.1
theorem k0_idx513_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v44] : Fin 2 → IVec S16 32) a x).toNat < S400x128.size a := fun v32 v34 v36 v38 v40 v42 v44 v46 v1169 k0_hw101 => k0_hw101.2.2.2.2.2.2.1
theorem k0_idx514_inb : ∀ (v32 : IVec S16 32) (v34 : IVec S16 32) (v36 : IVec S16 32) (v38 : IVec S16 32) (v40 : IVec S16 32) (v42 : IVec S16 32) (v44 : IVec S16 32) (v46 : IVec S16 32) (v1169 : IVec S16 32) (k0_hw101 : k0_chk101 v32 v34 v36 v38 v40 v42 v44 v46 v1169), ∀ a x, ((![v1169, v46] : Fin 2 → IVec S16 32) a x).toNat < S400x128.size a := fun v32 v34 v36 v38 v40 v42 v44 v46 v1169 k0_hw101 => k0_hw101.2.2.2.2.2.2.2

def k0_chk102 (v1189 : IVec S16 32) : Prop :=
  (∀ a x, ((![v1189] : Fin 1 → IVec S16 32) a x).toNat < S784.size a) ∧
  (∀ a x, ((![v1189] : Fin 1 → IVec S16 32) a x).toNat < S784.size a)
theorem k0_idx515_inb : ∀ (v1189 : IVec S16 32) (k0_hw102 : k0_chk102 v1189), ∀ a x, ((![v1189] : Fin 1 → IVec S16 32) a x).toNat < S784.size a := fun v1189 k0_hw102 => k0_hw102.1
theorem k0_idx516_inb : ∀ (v1189 : IVec S16 32) (k0_hw102 : k0_chk102 v1189), ∀ a x, ((![v1189] : Fin 1 → IVec S16 32) a x).toNat < S784.size a := fun v1189 k0_hw102 => k0_hw102.2

def k0_chk103 (v32 : IVec S16 32) (v34 : IVec S16 32) (v36 : IVec S16 32) (v38 : IVec S16 32) (v40 : IVec S16 32) (v42 : IVec S16 32) (v44 : IVec S16 32) (v46 : IVec S16 32) (v1190 : IVec S16 32) : Prop :=
  (∀ a x, ((![v1190, v32] : Fin 2 → IVec S16 32) a x).toNat < S400x128.size a) ∧
  (∀ a x, ((![v1190, v34] : Fin 2 → IVec S16 32) a x).toNat < S400x128.size a) ∧
  (∀ a x, ((![v1190, v36] : Fin 2 → IVec S16 32) a x).toNat < S400x128.size a) ∧
  (∀ a x, ((![v1190, v38] : Fin 2 → IVec S16 32) a x).toNat < S400x128.size a) ∧
  (∀ a x, ((![v1190, v40] : Fin 2 → IVec S16 32) a x).toNat < S400x128.size a) ∧
  (∀ a x, ((![v1190, v42] : Fin 2 → IVec S16 32) a x).toNat < S400x128.size a) ∧
  (∀ a x, ((![v1190, v44] : Fin 2 → IVec S16 32) a x).toNat < S400x128.size a) ∧
  (∀ a x, ((![v1190, v46] : Fin 2 → IVec S16 32) a x).toNat < S400x128.size a)
theorem k0_idx517_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v32] : Fin 2 → IVec S16 32) a x).toNat < S400x128.size a := fun v32 v34 v36 v38 v40 v42 v44 v46 v1190 k0_hw103 => k0_hw103.1
theorem k0_idx518_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v34] : Fin 2 → IVec S16 32) a x).toNat < S400x128.size a := fun v32 v34 v36 v38 v40 v42 v44 v46 v1190 k0_hw103 => k0_hw103.2.1
theorem k0_idx519_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v36] : Fin 2 → IVec S16 32) a x).toNat < S400x128.size a := fun v32 v34 v36 v38 v40 v42 v44 v46 v1190 k0_hw103 => k0_hw103.2.2.1
theorem k0_idx520_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v38] : Fin 2 → IVec S16 32) a x).toNat < S400x128.size a := fun v32 v34 v36 v38 v40 v42 v44 v46 v1190 k0_hw103 => k0_hw103.2.2.2.1
theorem k0_idx521_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v40] : Fin 2 → IVec S16 32) a x).toNat < S400x128.size a := fun v32 v34 v36 v38 v40 v42 v44 v46 v1190 k0_hw103 => k0_hw103.2.2.2.2.1
theorem k0_idx522_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v42] : Fin 2 → IVec S16 32) a x).toNat < S400x128.size a := fun v32 v34 v36 v38 v40 v42 v44 v46 v1190 k0_hw103 => k0_hw103.2.2.2.2.2.1
theorem k0_idx523_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v44] : Fin 2 → IVec S16 32) a x).toNat < S400x128.size a := fun v32 v34 v36 v38 v40 v42 v44 v46 v1190 k0_hw103 => k0_hw103.2.2.2.2.2.2.1
theorem k0_idx524_inb : ∀ (v32 : IVec S16 32) (v34 : IVec S16 32) (v36 : IVec S16 32) (v38 : IVec S16 32) (v40 : IVec S16 32) (v42 : IVec S16 32) (v44 : IVec S16 32) (v46 : IVec S16 32) (v1190 : IVec S16 32) (k0_hw103 : k0_chk103 v32 v34 v36 v38 v40 v42 v44 v46 v1190), ∀ a x, ((![v1190, v46] : Fin 2 → IVec S16 32) a x).toNat < S400x128.size a := fun v32 v34 v36 v38 v40 v42 v44 v46 v1190 k0_hw103 => k0_hw103.2.2.2.2.2.2.2

def k0_chk104 (v1218 : IVec S16 32) : Prop :=
  (∀ a x, ((![v1218] : Fin 1 → IVec S16 32) a x).toNat < S784.size a) ∧
  (∀ a x, ((![v1218] : Fin 1 → IVec S16 32) a x).toNat < S784.size a)
theorem k0_idx525_inb : ∀ (v1218 : IVec S16 32) (k0_hw104 : k0_chk104 v1218), ∀ a x, ((![v1218] : Fin 1 → IVec S16 32) a x).toNat < S784.size a := fun v1218 k0_hw104 => k0_hw104.1
theorem k0_idx526_inb : ∀ (v1218 : IVec S16 32) (k0_hw104 : k0_chk104 v1218), ∀ a x, ((![v1218] : Fin 1 → IVec S16 32) a x).toNat < S784.size a := fun v1218 k0_hw104 => k0_hw104.2

def k0_chk105 (v32 : IVec S16 32) (v34 : IVec S16 32) (v36 : IVec S16 32) (v38 : IVec S16 32) (v40 : IVec S16 32) (v42 : IVec S16 32) (v44 : IVec S16 32) (v46 : IVec S16 32) (v1219 : IVec S16 32) : Prop :=
  (∀ a x, ((![v1219, v32] : Fin 2 → IVec S16 32) a x).toNat < S400x128.size a) ∧
  (∀ a x, ((![v1219, v34] : Fin 2 → IVec S16 32) a x).toNat < S400x128.size a) ∧
  (∀ a x, ((![v1219, v36] : Fin 2 → IVec S16 32) a x).toNat < S400x128.size a) ∧
  (∀ a x, ((![v1219, v38] : Fin 2 → IVec S16 32) a x).toNat < S400x128.size a) ∧
  (∀ a x, ((![v1219, v40] : Fin 2 → IVec S16 32) a x).toNat < S400x128.size a) ∧
  (∀ a x, ((![v1219, v42] : Fin 2 → IVec S16 32) a x).toNat < S400x128.size a) ∧
  (∀ a x, ((![v1219, v44] : Fin 2 → IVec S16 32) a x).toNat < S400x128.size a) ∧
  (∀ a x, ((![v1219, v46] : Fin 2 → IVec S16 32) a x).toNat < S400x128.size a)
theorem k0_idx527_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v32] : Fin 2 → IVec S16 32) a x).toNat < S400x128.size a := fun v32 v34 v36 v38 v40 v42 v44 v46 v1219 k0_hw105 => k0_hw105.1
theorem k0_idx528_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v34] : Fin 2 → IVec S16 32) a x).toNat < S400x128.size a := fun v32 v34 v36 v38 v40 v42 v44 v46 v1219 k0_hw105 => k0_hw105.2.1
theorem k0_idx529_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v36] : Fin 2 → IVec S16 32) a x).toNat < S400x128.size a := fun v32 v34 v36 v38 v40 v42 v44 v46 v1219 k0_hw105 => k0_hw105.2.2.1
theorem k0_idx530_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v38] : Fin 2 → IVec S16 32) a x).toNat < S400x128.size a := fun v32 v34 v36 v38 v40 v42 v44 v46 v1219 k0_hw105 => k0_hw105.2.2.2.1
theorem k0_idx531_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v40] : Fin 2 → IVec S16 32) a x).toNat < S400x128.size a := fun v32 v34 v36 v38 v40 v42 v44 v46 v1219 k0_hw105 => k0_hw105.2.2.2.2.1
theorem k0_idx532_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v42] : Fin 2 → IVec S16 32) a x).toNat < S400x128.size a := fun v32 v34 v36 v38 v40 v42 v44 v46 v1219 k0_hw105 => k0_hw105.2.2.2.2.2.1
theorem k0_idx533_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v44] : Fin 2 → IVec S16 32) a x).toNat < S400x128.size a := fun v32 v34 v36 v38 v40 v42 v44 v46 v1219 k0_hw105 => k0_hw105.2.2.2.2.2.2.1
theorem k0_idx534_inb : ∀ (v32 : IVec S16 32) (v34 : IVec S16 32) (v36 : IVec S16 32) (v38 : IVec S16 32) (v40 : IVec S16 32) (v42 : IVec S16 32) (v44 : IVec S16 32) (v46 : IVec S16 32) (v1219 : IVec S16 32) (k0_hw105 : k0_chk105 v32 v34 v36 v38 v40 v42 v44 v46 v1219), ∀ a x, ((![v1219, v46] : Fin 2 → IVec S16 32) a x).toNat < S400x128.size a := fun v32 v34 v36 v38 v40 v42 v44 v46 v1219 k0_hw105 => k0_hw105.2.2.2.2.2.2.2

def k0_chk106 (v1247 : IVec S16 32) : Prop :=
  (∀ a x, ((![v1247] : Fin 1 → IVec S16 32) a x).toNat < S784.size a) ∧
  (∀ a x, ((![v1247] : Fin 1 → IVec S16 32) a x).toNat < S784.size a)
theorem k0_idx535_inb : ∀ (v1247 : IVec S16 32) (k0_hw106 : k0_chk106 v1247), ∀ a x, ((![v1247] : Fin 1 → IVec S16 32) a x).toNat < S784.size a := fun v1247 k0_hw106 => k0_hw106.1
theorem k0_idx536_inb : ∀ (v1247 : IVec S16 32) (k0_hw106 : k0_chk106 v1247), ∀ a x, ((![v1247] : Fin 1 → IVec S16 32) a x).toNat < S784.size a := fun v1247 k0_hw106 => k0_hw106.2

def k0_chk107 (v32 : IVec S16 32) (v34 : IVec S16 32) (v36 : IVec S16 32) (v38 : IVec S16 32) (v40 : IVec S16 32) (v42 : IVec S16 32) (v44 : IVec S16 32) (v46 : IVec S16 32) (v1248 : IVec S16 32) : Prop :=
  (∀ a x, ((![v1248, v32] : Fin 2 → IVec S16 32) a x).toNat < S400x128.size a) ∧
  (∀ a x, ((![v1248, v34] : Fin 2 → IVec S16 32) a x).toNat < S400x128.size a) ∧
  (∀ a x, ((![v1248, v36] : Fin 2 → IVec S16 32) a x).toNat < S400x128.size a) ∧
  (∀ a x, ((![v1248, v38] : Fin 2 → IVec S16 32) a x).toNat < S400x128.size a) ∧
  (∀ a x, ((![v1248, v40] : Fin 2 → IVec S16 32) a x).toNat < S400x128.size a) ∧
  (∀ a x, ((![v1248, v42] : Fin 2 → IVec S16 32) a x).toNat < S400x128.size a) ∧
  (∀ a x, ((![v1248, v44] : Fin 2 → IVec S16 32) a x).toNat < S400x128.size a) ∧
  (∀ a x, ((![v1248, v46] : Fin 2 → IVec S16 32) a x).toNat < S400x128.size a)
theorem k0_idx537_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v32] : Fin 2 → IVec S16 32) a x).toNat < S400x128.size a := fun v32 v34 v36 v38 v40 v42 v44 v46 v1248 k0_hw107 => k0_hw107.1
theorem k0_idx538_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v34] : Fin 2 → IVec S16 32) a x).toNat < S400x128.size a := fun v32 v34 v36 v38 v40 v42 v44 v46 v1248 k0_hw107 => k0_hw107.2.1
theorem k0_idx539_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v36] : Fin 2 → IVec S16 32) a x).toNat < S400x128.size a := fun v32 v34 v36 v38 v40 v42 v44 v46 v1248 k0_hw107 => k0_hw107.2.2.1
theorem k0_idx540_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v38] : Fin 2 → IVec S16 32) a x).toNat < S400x128.size a := fun v32 v34 v36 v38 v40 v42 v44 v46 v1248 k0_hw107 => k0_hw107.2.2.2.1
theorem k0_idx541_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v40] : Fin 2 → IVec S16 32) a x).toNat < S400x128.size a := fun v32 v34 v36 v38 v40 v42 v44 v46 v1248 k0_hw107 => k0_hw107.2.2.2.2.1
theorem k0_idx542_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v42] : Fin 2 → IVec S16 32) a x).toNat < S400x128.size a := fun v32 v34 v36 v38 v40 v42 v44 v46 v1248 k0_hw107 => k0_hw107.2.2.2.2.2.1
theorem k0_idx543_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v44] : Fin 2 → IVec S16 32) a x).toNat < S400x128.size a := fun v32 v34 v36 v38 v40 v42 v44 v46 v1248 k0_hw107 => k0_hw107.2.2.2.2.2.2.1
theorem k0_idx544_inb : ∀ (v32 : IVec S16 32) (v34 : IVec S16 32) (v36 : IVec S16 32) (v38 : IVec S16 32) (v40 : IVec S16 32) (v42 : IVec S16 32) (v44 : IVec S16 32) (v46 : IVec S16 32) (v1248 : IVec S16 32) (k0_hw107 : k0_chk107 v32 v34 v36 v38 v40 v42 v44 v46 v1248), ∀ a x, ((![v1248, v46] : Fin 2 → IVec S16 32) a x).toNat < S400x128.size a := fun v32 v34 v36 v38 v40 v42 v44 v46 v1248 k0_hw107 => k0_hw107.2.2.2.2.2.2.2

def k0_chk108 (v1276 : IVec S16 32) : Prop :=
  (∀ a x, ((![v1276] : Fin 1 → IVec S16 32) a x).toNat < S784.size a) ∧
  (∀ a x, ((![v1276] : Fin 1 → IVec S16 32) a x).toNat < S784.size a)
theorem k0_idx545_inb : ∀ (v1276 : IVec S16 32) (k0_hw108 : k0_chk108 v1276), ∀ a x, ((![v1276] : Fin 1 → IVec S16 32) a x).toNat < S784.size a := fun v1276 k0_hw108 => k0_hw108.1
theorem k0_idx546_inb : ∀ (v1276 : IVec S16 32) (k0_hw108 : k0_chk108 v1276), ∀ a x, ((![v1276] : Fin 1 → IVec S16 32) a x).toNat < S784.size a := fun v1276 k0_hw108 => k0_hw108.2

def k0_chk109 (v32 : IVec S16 32) (v34 : IVec S16 32) (v36 : IVec S16 32) (v38 : IVec S16 32) (v40 : IVec S16 32) (v42 : IVec S16 32) (v44 : IVec S16 32) (v46 : IVec S16 32) (v1277 : IVec S16 32) : Prop :=
  (∀ a x, ((![v1277, v32] : Fin 2 → IVec S16 32) a x).toNat < S400x128.size a) ∧
  (∀ a x, ((![v1277, v34] : Fin 2 → IVec S16 32) a x).toNat < S400x128.size a) ∧
  (∀ a x, ((![v1277, v36] : Fin 2 → IVec S16 32) a x).toNat < S400x128.size a) ∧
  (∀ a x, ((![v1277, v38] : Fin 2 → IVec S16 32) a x).toNat < S400x128.size a) ∧
  (∀ a x, ((![v1277, v40] : Fin 2 → IVec S16 32) a x).toNat < S400x128.size a) ∧
  (∀ a x, ((![v1277, v42] : Fin 2 → IVec S16 32) a x).toNat < S400x128.size a) ∧
  (∀ a x, ((![v1277, v44] : Fin 2 → IVec S16 32) a x).toNat < S400x128.size a) ∧
  (∀ a x, ((![v1277, v46] : Fin 2 → IVec S16 32) a x).toNat < S400x128.size a)
theorem k0_idx547_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v32] : Fin 2 → IVec S16 32) a x).toNat < S400x128.size a := fun v32 v34 v36 v38 v40 v42 v44 v46 v1277 k0_hw109 => k0_hw109.1
theorem k0_idx548_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v34] : Fin 2 → IVec S16 32) a x).toNat < S400x128.size a := fun v32 v34 v36 v38 v40 v42 v44 v46 v1277 k0_hw109 => k0_hw109.2.1
theorem k0_idx549_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v36] : Fin 2 → IVec S16 32) a x).toNat < S400x128.size a := fun v32 v34 v36 v38 v40 v42 v44 v46 v1277 k0_hw109 => k0_hw109.2.2.1
theorem k0_idx550_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v38] : Fin 2 → IVec S16 32) a x).toNat < S400x128.size a := fun v32 v34 v36 v38 v40 v42 v44 v46 v1277 k0_hw109 => k0_hw109.2.2.2.1
theorem k0_idx551_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v40] : Fin 2 → IVec S16 32) a x).toNat < S400x128.size a := fun v32 v34 v36 v38 v40 v42 v44 v46 v1277 k0_hw109 => k0_hw109.2.2.2.2.1
theorem k0_idx552_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v42] : Fin 2 → IVec S16 32) a x).toNat < S400x128.size a := fun v32 v34 v36 v38 v40 v42 v44 v46 v1277 k0_hw109 => k0_hw109.2.2.2.2.2.1
theorem k0_idx553_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v44] : Fin 2 → IVec S16 32) a x).toNat < S400x128.size a := fun v32 v34 v36 v38 v40 v42 v44 v46 v1277 k0_hw109 => k0_hw109.2.2.2.2.2.2.1
theorem k0_idx554_inb : ∀ (v32 : IVec S16 32) (v34 : IVec S16 32) (v36 : IVec S16 32) (v38 : IVec S16 32) (v40 : IVec S16 32) (v42 : IVec S16 32) (v44 : IVec S16 32) (v46 : IVec S16 32) (v1277 : IVec S16 32) (k0_hw109 : k0_chk109 v32 v34 v36 v38 v40 v42 v44 v46 v1277), ∀ a x, ((![v1277, v46] : Fin 2 → IVec S16 32) a x).toNat < S400x128.size a := fun v32 v34 v36 v38 v40 v42 v44 v46 v1277 k0_hw109 => k0_hw109.2.2.2.2.2.2.2

def k0_chk110 (v1305 : IVec S16 32) : Prop :=
  (∀ a x, ((![v1305] : Fin 1 → IVec S16 32) a x).toNat < S784.size a) ∧
  (∀ a x, ((![v1305] : Fin 1 → IVec S16 32) a x).toNat < S784.size a)
theorem k0_idx555_inb : ∀ (v1305 : IVec S16 32) (k0_hw110 : k0_chk110 v1305), ∀ a x, ((![v1305] : Fin 1 → IVec S16 32) a x).toNat < S784.size a := fun v1305 k0_hw110 => k0_hw110.1
theorem k0_idx556_inb : ∀ (v1305 : IVec S16 32) (k0_hw110 : k0_chk110 v1305), ∀ a x, ((![v1305] : Fin 1 → IVec S16 32) a x).toNat < S784.size a := fun v1305 k0_hw110 => k0_hw110.2

def k0_chk111 (v32 : IVec S16 32) (v34 : IVec S16 32) (v36 : IVec S16 32) (v38 : IVec S16 32) (v40 : IVec S16 32) (v42 : IVec S16 32) (v44 : IVec S16 32) (v46 : IVec S16 32) (v1306 : IVec S16 32) : Prop :=
  (∀ a x, ((![v1306, v32] : Fin 2 → IVec S16 32) a x).toNat < S400x128.size a) ∧
  (∀ a x, ((![v1306, v34] : Fin 2 → IVec S16 32) a x).toNat < S400x128.size a) ∧
  (∀ a x, ((![v1306, v36] : Fin 2 → IVec S16 32) a x).toNat < S400x128.size a) ∧
  (∀ a x, ((![v1306, v38] : Fin 2 → IVec S16 32) a x).toNat < S400x128.size a) ∧
  (∀ a x, ((![v1306, v40] : Fin 2 → IVec S16 32) a x).toNat < S400x128.size a) ∧
  (∀ a x, ((![v1306, v42] : Fin 2 → IVec S16 32) a x).toNat < S400x128.size a) ∧
  (∀ a x, ((![v1306, v44] : Fin 2 → IVec S16 32) a x).toNat < S400x128.size a) ∧
  (∀ a x, ((![v1306, v46] : Fin 2 → IVec S16 32) a x).toNat < S400x128.size a)
theorem k0_idx557_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v32] : Fin 2 → IVec S16 32) a x).toNat < S400x128.size a := fun v32 v34 v36 v38 v40 v42 v44 v46 v1306 k0_hw111 => k0_hw111.1
theorem k0_idx558_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v34] : Fin 2 → IVec S16 32) a x).toNat < S400x128.size a := fun v32 v34 v36 v38 v40 v42 v44 v46 v1306 k0_hw111 => k0_hw111.2.1
theorem k0_idx559_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v36] : Fin 2 → IVec S16 32) a x).toNat < S400x128.size a := fun v32 v34 v36 v38 v40 v42 v44 v46 v1306 k0_hw111 => k0_hw111.2.2.1
theorem k0_idx560_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v38] : Fin 2 → IVec S16 32) a x).toNat < S400x128.size a := fun v32 v34 v36 v38 v40 v42 v44 v46 v1306 k0_hw111 => k0_hw111.2.2.2.1
theorem k0_idx561_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v40] : Fin 2 → IVec S16 32) a x).toNat < S400x128.size a := fun v32 v34 v36 v38 v40 v42 v44 v46 v1306 k0_hw111 => k0_hw111.2.2.2.2.1
theorem k0_idx562_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v42] : Fin 2 → IVec S16 32) a x).toNat < S400x128.size a := fun v32 v34 v36 v38 v40 v42 v44 v46 v1306 k0_hw111 => k0_hw111.2.2.2.2.2.1
theorem k0_idx563_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v44] : Fin 2 → IVec S16 32) a x).toNat < S400x128.size a := fun v32 v34 v36 v38 v40 v42 v44 v46 v1306 k0_hw111 => k0_hw111.2.2.2.2.2.2.1
theorem k0_idx564_inb : ∀ (v32 : IVec S16 32) (v34 : IVec S16 32) (v36 : IVec S16 32) (v38 : IVec S16 32) (v40 : IVec S16 32) (v42 : IVec S16 32) (v44 : IVec S16 32) (v46 : IVec S16 32) (v1306 : IVec S16 32) (k0_hw111 : k0_chk111 v32 v34 v36 v38 v40 v42 v44 v46 v1306), ∀ a x, ((![v1306, v46] : Fin 2 → IVec S16 32) a x).toNat < S400x128.size a := fun v32 v34 v36 v38 v40 v42 v44 v46 v1306 k0_hw111 => k0_hw111.2.2.2.2.2.2.2

def k0_chk112 (v1334 : IVec S16 32) : Prop :=
  (∀ a x, ((![v1334] : Fin 1 → IVec S16 32) a x).toNat < S784.size a) ∧
  (∀ a x, ((![v1334] : Fin 1 → IVec S16 32) a x).toNat < S784.size a)
theorem k0_idx565_inb : ∀ (v1334 : IVec S16 32) (k0_hw112 : k0_chk112 v1334), ∀ a x, ((![v1334] : Fin 1 → IVec S16 32) a x).toNat < S784.size a := fun v1334 k0_hw112 => k0_hw112.1
theorem k0_idx566_inb : ∀ (v1334 : IVec S16 32) (k0_hw112 : k0_chk112 v1334), ∀ a x, ((![v1334] : Fin 1 → IVec S16 32) a x).toNat < S784.size a := fun v1334 k0_hw112 => k0_hw112.2

def k0_chk113 (v32 : IVec S16 32) (v34 : IVec S16 32) (v36 : IVec S16 32) (v38 : IVec S16 32) (v40 : IVec S16 32) (v42 : IVec S16 32) (v44 : IVec S16 32) (v46 : IVec S16 32) (v1335 : IVec S16 32) : Prop :=
  (∀ a x, ((![v1335, v32] : Fin 2 → IVec S16 32) a x).toNat < S400x128.size a) ∧
  (∀ a x, ((![v1335, v34] : Fin 2 → IVec S16 32) a x).toNat < S400x128.size a) ∧
  (∀ a x, ((![v1335, v36] : Fin 2 → IVec S16 32) a x).toNat < S400x128.size a) ∧
  (∀ a x, ((![v1335, v38] : Fin 2 → IVec S16 32) a x).toNat < S400x128.size a) ∧
  (∀ a x, ((![v1335, v40] : Fin 2 → IVec S16 32) a x).toNat < S400x128.size a) ∧
  (∀ a x, ((![v1335, v42] : Fin 2 → IVec S16 32) a x).toNat < S400x128.size a) ∧
  (∀ a x, ((![v1335, v44] : Fin 2 → IVec S16 32) a x).toNat < S400x128.size a) ∧
  (∀ a x, ((![v1335, v46] : Fin 2 → IVec S16 32) a x).toNat < S400x128.size a)
theorem k0_idx567_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v32] : Fin 2 → IVec S16 32) a x).toNat < S400x128.size a := fun v32 v34 v36 v38 v40 v42 v44 v46 v1335 k0_hw113 => k0_hw113.1
theorem k0_idx568_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v34] : Fin 2 → IVec S16 32) a x).toNat < S400x128.size a := fun v32 v34 v36 v38 v40 v42 v44 v46 v1335 k0_hw113 => k0_hw113.2.1
theorem k0_idx569_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v36] : Fin 2 → IVec S16 32) a x).toNat < S400x128.size a := fun v32 v34 v36 v38 v40 v42 v44 v46 v1335 k0_hw113 => k0_hw113.2.2.1
theorem k0_idx570_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v38] : Fin 2 → IVec S16 32) a x).toNat < S400x128.size a := fun v32 v34 v36 v38 v40 v42 v44 v46 v1335 k0_hw113 => k0_hw113.2.2.2.1
theorem k0_idx571_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v40] : Fin 2 → IVec S16 32) a x).toNat < S400x128.size a := fun v32 v34 v36 v38 v40 v42 v44 v46 v1335 k0_hw113 => k0_hw113.2.2.2.2.1
theorem k0_idx572_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v42] : Fin 2 → IVec S16 32) a x).toNat < S400x128.size a := fun v32 v34 v36 v38 v40 v42 v44 v46 v1335 k0_hw113 => k0_hw113.2.2.2.2.2.1
theorem k0_idx573_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v44] : Fin 2 → IVec S16 32) a x).toNat < S400x128.size a := fun v32 v34 v36 v38 v40 v42 v44 v46 v1335 k0_hw113 => k0_hw113.2.2.2.2.2.2.1
theorem k0_idx574_inb : ∀ (v32 : IVec S16 32) (v34 : IVec S16 32) (v36 : IVec S16 32) (v38 : IVec S16 32) (v40 : IVec S16 32) (v42 : IVec S16 32) (v44 : IVec S16 32) (v46 : IVec S16 32) (v1335 : IVec S16 32) (k0_hw113 : k0_chk113 v32 v34 v36 v38 v40 v42 v44 v46 v1335), ∀ a x, ((![v1335, v46] : Fin 2 → IVec S16 32) a x).toNat < S400x128.size a := fun v32 v34 v36 v38 v40 v42 v44 v46 v1335 k0_hw113 => k0_hw113.2.2.2.2.2.2.2

def k0_chk114 (v1363 : IVec S16 32) : Prop :=
  (∀ a x, ((![v1363] : Fin 1 → IVec S16 32) a x).toNat < S784.size a) ∧
  (∀ a x, ((![v1363] : Fin 1 → IVec S16 32) a x).toNat < S784.size a)
theorem k0_idx575_inb : ∀ (v1363 : IVec S16 32) (k0_hw114 : k0_chk114 v1363), ∀ a x, ((![v1363] : Fin 1 → IVec S16 32) a x).toNat < S784.size a := fun v1363 k0_hw114 => k0_hw114.1
theorem k0_idx576_inb : ∀ (v1363 : IVec S16 32) (k0_hw114 : k0_chk114 v1363), ∀ a x, ((![v1363] : Fin 1 → IVec S16 32) a x).toNat < S784.size a := fun v1363 k0_hw114 => k0_hw114.2

def k0_chk115 (v32 : IVec S16 32) (v34 : IVec S16 32) (v36 : IVec S16 32) (v38 : IVec S16 32) (v40 : IVec S16 32) (v42 : IVec S16 32) (v44 : IVec S16 32) (v46 : IVec S16 32) (v1364 : IVec S16 32) : Prop :=
  (∀ a x, ((![v1364, v32] : Fin 2 → IVec S16 32) a x).toNat < S400x128.size a) ∧
  (∀ a x, ((![v1364, v34] : Fin 2 → IVec S16 32) a x).toNat < S400x128.size a) ∧
  (∀ a x, ((![v1364, v36] : Fin 2 → IVec S16 32) a x).toNat < S400x128.size a) ∧
  (∀ a x, ((![v1364, v38] : Fin 2 → IVec S16 32) a x).toNat < S400x128.size a) ∧
  (∀ a x, ((![v1364, v40] : Fin 2 → IVec S16 32) a x).toNat < S400x128.size a) ∧
  (∀ a x, ((![v1364, v42] : Fin 2 → IVec S16 32) a x).toNat < S400x128.size a) ∧
  (∀ a x, ((![v1364, v44] : Fin 2 → IVec S16 32) a x).toNat < S400x128.size a) ∧
  (∀ a x, ((![v1364, v46] : Fin 2 → IVec S16 32) a x).toNat < S400x128.size a)
theorem k0_idx577_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v32] : Fin 2 → IVec S16 32) a x).toNat < S400x128.size a := fun v32 v34 v36 v38 v40 v42 v44 v46 v1364 k0_hw115 => k0_hw115.1
theorem k0_idx578_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v34] : Fin 2 → IVec S16 32) a x).toNat < S400x128.size a := fun v32 v34 v36 v38 v40 v42 v44 v46 v1364 k0_hw115 => k0_hw115.2.1
theorem k0_idx579_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v36] : Fin 2 → IVec S16 32) a x).toNat < S400x128.size a := fun v32 v34 v36 v38 v40 v42 v44 v46 v1364 k0_hw115 => k0_hw115.2.2.1
theorem k0_idx580_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v38] : Fin 2 → IVec S16 32) a x).toNat < S400x128.size a := fun v32 v34 v36 v38 v40 v42 v44 v46 v1364 k0_hw115 => k0_hw115.2.2.2.1
theorem k0_idx581_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v40] : Fin 2 → IVec S16 32) a x).toNat < S400x128.size a := fun v32 v34 v36 v38 v40 v42 v44 v46 v1364 k0_hw115 => k0_hw115.2.2.2.2.1
theorem k0_idx582_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v42] : Fin 2 → IVec S16 32) a x).toNat < S400x128.size a := fun v32 v34 v36 v38 v40 v42 v44 v46 v1364 k0_hw115 => k0_hw115.2.2.2.2.2.1
theorem k0_idx583_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v44] : Fin 2 → IVec S16 32) a x).toNat < S400x128.size a := fun v32 v34 v36 v38 v40 v42 v44 v46 v1364 k0_hw115 => k0_hw115.2.2.2.2.2.2.1
theorem k0_idx584_inb : ∀ (v32 : IVec S16 32) (v34 : IVec S16 32) (v36 : IVec S16 32) (v38 : IVec S16 32) (v40 : IVec S16 32) (v42 : IVec S16 32) (v44 : IVec S16 32) (v46 : IVec S16 32) (v1364 : IVec S16 32) (k0_hw115 : k0_chk115 v32 v34 v36 v38 v40 v42 v44 v46 v1364), ∀ a x, ((![v1364, v46] : Fin 2 → IVec S16 32) a x).toNat < S400x128.size a := fun v32 v34 v36 v38 v40 v42 v44 v46 v1364 k0_hw115 => k0_hw115.2.2.2.2.2.2.2

def k0_chk116 (v1392 : IVec S16 32) : Prop :=
  (∀ a x, ((![v1392] : Fin 1 → IVec S16 32) a x).toNat < S784.size a) ∧
  (∀ a x, ((![v1392] : Fin 1 → IVec S16 32) a x).toNat < S784.size a)
theorem k0_idx585_inb : ∀ (v1392 : IVec S16 32) (k0_hw116 : k0_chk116 v1392), ∀ a x, ((![v1392] : Fin 1 → IVec S16 32) a x).toNat < S784.size a := fun v1392 k0_hw116 => k0_hw116.1
theorem k0_idx586_inb : ∀ (v1392 : IVec S16 32) (k0_hw116 : k0_chk116 v1392), ∀ a x, ((![v1392] : Fin 1 → IVec S16 32) a x).toNat < S784.size a := fun v1392 k0_hw116 => k0_hw116.2

def k0_chk117 (v32 : IVec S16 32) (v34 : IVec S16 32) (v36 : IVec S16 32) (v38 : IVec S16 32) (v40 : IVec S16 32) (v42 : IVec S16 32) (v44 : IVec S16 32) (v46 : IVec S16 32) (v1393 : IVec S16 32) : Prop :=
  (∀ a x, ((![v1393, v32] : Fin 2 → IVec S16 32) a x).toNat < S400x128.size a) ∧
  (∀ a x, ((![v1393, v34] : Fin 2 → IVec S16 32) a x).toNat < S400x128.size a) ∧
  (∀ a x, ((![v1393, v36] : Fin 2 → IVec S16 32) a x).toNat < S400x128.size a) ∧
  (∀ a x, ((![v1393, v38] : Fin 2 → IVec S16 32) a x).toNat < S400x128.size a) ∧
  (∀ a x, ((![v1393, v40] : Fin 2 → IVec S16 32) a x).toNat < S400x128.size a) ∧
  (∀ a x, ((![v1393, v42] : Fin 2 → IVec S16 32) a x).toNat < S400x128.size a) ∧
  (∀ a x, ((![v1393, v44] : Fin 2 → IVec S16 32) a x).toNat < S400x128.size a) ∧
  (∀ a x, ((![v1393, v46] : Fin 2 → IVec S16 32) a x).toNat < S400x128.size a)
theorem k0_idx587_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v32] : Fin 2 → IVec S16 32) a x).toNat < S400x128.size a := fun v32 v34 v36 v38 v40 v42 v44 v46 v1393 k0_hw117 => k0_hw117.1
theorem k0_idx588_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v34] : Fin 2 → IVec S16 32) a x).toNat < S400x128.size a := fun v32 v34 v36 v38 v40 v42 v44 v46 v1393 k0_hw117 => k0_hw117.2.1
theorem k0_idx589_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v36] : Fin 2 → IVec S16 32) a x).toNat < S400x128.size a := fun v32 v34 v36 v38 v40 v42 v44 v46 v1393 k0_hw117 => k0_hw117.2.2.1
theorem k0_idx590_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v38] : Fin 2 → IVec S16 32) a x).toNat < S400x128.size a := fun v32 v34 v36 v38 v40 v42 v44 v46 v1393 k0_hw117 => k0_hw117.2.2.2.1
theorem k0_idx591_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v40] : Fin 2 → IVec S16 32) a x).toNat < S400x128.size a := fun v32 v34 v36 v38 v40 v42 v44 v46 v1393 k0_hw117 => k0_hw117.2.2.2.2.1
theorem k0_idx592_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v42] : Fin 2 → IVec S16 32) a x).toNat < S400x128.size a := fun v32 v34 v36 v38 v40 v42 v44 v46 v1393 k0_hw117 => k0_hw117.2.2.2.2.2.1
theorem k0_idx593_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v44] : Fin 2 → IVec S16 32) a x).toNat < S400x128.size a := fun v32 v34 v36 v38 v40 v42 v44 v46 v1393 k0_hw117 => k0_hw117.2.2.2.2.2.2.1
theorem k0_idx594_inb : ∀ (v32 : IVec S16 32) (v34 : IVec S16 32) (v36 : IVec S16 32) (v38 : IVec S16 32) (v40 : IVec S16 32) (v42 : IVec S16 32) (v44 : IVec S16 32) (v46 : IVec S16 32) (v1393 : IVec S16 32) (k0_hw117 : k0_chk117 v32 v34 v36 v38 v40 v42 v44 v46 v1393), ∀ a x, ((![v1393, v46] : Fin 2 → IVec S16 32) a x).toNat < S400x128.size a := fun v32 v34 v36 v38 v40 v42 v44 v46 v1393 k0_hw117 => k0_hw117.2.2.2.2.2.2.2

def k0_chk118 (v1421 : IVec S16 32) : Prop :=
  (∀ a x, ((![v1421] : Fin 1 → IVec S16 32) a x).toNat < S784.size a) ∧
  (∀ a x, ((![v1421] : Fin 1 → IVec S16 32) a x).toNat < S784.size a)
theorem k0_idx595_inb : ∀ (v1421 : IVec S16 32) (k0_hw118 : k0_chk118 v1421), ∀ a x, ((![v1421] : Fin 1 → IVec S16 32) a x).toNat < S784.size a := fun v1421 k0_hw118 => k0_hw118.1
theorem k0_idx596_inb : ∀ (v1421 : IVec S16 32) (k0_hw118 : k0_chk118 v1421), ∀ a x, ((![v1421] : Fin 1 → IVec S16 32) a x).toNat < S784.size a := fun v1421 k0_hw118 => k0_hw118.2

def k0_chk119 (v32 : IVec S16 32) (v34 : IVec S16 32) (v36 : IVec S16 32) (v38 : IVec S16 32) (v40 : IVec S16 32) (v42 : IVec S16 32) (v44 : IVec S16 32) (v46 : IVec S16 32) (v1422 : IVec S16 32) : Prop :=
  (∀ a x, ((![v1422, v32] : Fin 2 → IVec S16 32) a x).toNat < S400x128.size a) ∧
  (∀ a x, ((![v1422, v34] : Fin 2 → IVec S16 32) a x).toNat < S400x128.size a) ∧
  (∀ a x, ((![v1422, v36] : Fin 2 → IVec S16 32) a x).toNat < S400x128.size a) ∧
  (∀ a x, ((![v1422, v38] : Fin 2 → IVec S16 32) a x).toNat < S400x128.size a) ∧
  (∀ a x, ((![v1422, v40] : Fin 2 → IVec S16 32) a x).toNat < S400x128.size a) ∧
  (∀ a x, ((![v1422, v42] : Fin 2 → IVec S16 32) a x).toNat < S400x128.size a) ∧
  (∀ a x, ((![v1422, v44] : Fin 2 → IVec S16 32) a x).toNat < S400x128.size a) ∧
  (∀ a x, ((![v1422, v46] : Fin 2 → IVec S16 32) a x).toNat < S400x128.size a)
theorem k0_idx597_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v32] : Fin 2 → IVec S16 32) a x).toNat < S400x128.size a := fun v32 v34 v36 v38 v40 v42 v44 v46 v1422 k0_hw119 => k0_hw119.1
theorem k0_idx598_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v34] : Fin 2 → IVec S16 32) a x).toNat < S400x128.size a := fun v32 v34 v36 v38 v40 v42 v44 v46 v1422 k0_hw119 => k0_hw119.2.1
theorem k0_idx599_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v36] : Fin 2 → IVec S16 32) a x).toNat < S400x128.size a := fun v32 v34 v36 v38 v40 v42 v44 v46 v1422 k0_hw119 => k0_hw119.2.2.1
theorem k0_idx600_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v38] : Fin 2 → IVec S16 32) a x).toNat < S400x128.size a := fun v32 v34 v36 v38 v40 v42 v44 v46 v1422 k0_hw119 => k0_hw119.2.2.2.1
theorem k0_idx601_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v40] : Fin 2 → IVec S16 32) a x).toNat < S400x128.size a := fun v32 v34 v36 v38 v40 v42 v44 v46 v1422 k0_hw119 => k0_hw119.2.2.2.2.1
theorem k0_idx602_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v42] : Fin 2 → IVec S16 32) a x).toNat < S400x128.size a := fun v32 v34 v36 v38 v40 v42 v44 v46 v1422 k0_hw119 => k0_hw119.2.2.2.2.2.1
theorem k0_idx603_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v44] : Fin 2 → IVec S16 32) a x).toNat < S400x128.size a := fun v32 v34 v36 v38 v40 v42 v44 v46 v1422 k0_hw119 => k0_hw119.2.2.2.2.2.2.1
theorem k0_idx604_inb : ∀ (v32 : IVec S16 32) (v34 : IVec S16 32) (v36 : IVec S16 32) (v38 : IVec S16 32) (v40 : IVec S16 32) (v42 : IVec S16 32) (v44 : IVec S16 32) (v46 : IVec S16 32) (v1422 : IVec S16 32) (k0_hw119 : k0_chk119 v32 v34 v36 v38 v40 v42 v44 v46 v1422), ∀ a x, ((![v1422, v46] : Fin 2 → IVec S16 32) a x).toNat < S400x128.size a := fun v32 v34 v36 v38 v40 v42 v44 v46 v1422 k0_hw119 => k0_hw119.2.2.2.2.2.2.2

def k0_chk120 (v1450 : IVec S16 32) : Prop :=
  (∀ a x, ((![v1450] : Fin 1 → IVec S16 32) a x).toNat < S784.size a) ∧
  (∀ a x, ((![v1450] : Fin 1 → IVec S16 32) a x).toNat < S784.size a)
theorem k0_idx605_inb : ∀ (v1450 : IVec S16 32) (k0_hw120 : k0_chk120 v1450), ∀ a x, ((![v1450] : Fin 1 → IVec S16 32) a x).toNat < S784.size a := fun v1450 k0_hw120 => k0_hw120.1
theorem k0_idx606_inb : ∀ (v1450 : IVec S16 32) (k0_hw120 : k0_chk120 v1450), ∀ a x, ((![v1450] : Fin 1 → IVec S16 32) a x).toNat < S784.size a := fun v1450 k0_hw120 => k0_hw120.2

def k0_chk121 (v32 : IVec S16 32) (v34 : IVec S16 32) (v36 : IVec S16 32) (v38 : IVec S16 32) (v40 : IVec S16 32) (v42 : IVec S16 32) (v44 : IVec S16 32) (v46 : IVec S16 32) (v1451 : IVec S16 32) : Prop :=
  (∀ a x, ((![v1451, v32] : Fin 2 → IVec S16 32) a x).toNat < S400x128.size a) ∧
  (∀ a x, ((![v1451, v34] : Fin 2 → IVec S16 32) a x).toNat < S400x128.size a) ∧
  (∀ a x, ((![v1451, v36] : Fin 2 → IVec S16 32) a x).toNat < S400x128.size a) ∧
  (∀ a x, ((![v1451, v38] : Fin 2 → IVec S16 32) a x).toNat < S400x128.size a) ∧
  (∀ a x, ((![v1451, v40] : Fin 2 → IVec S16 32) a x).toNat < S400x128.size a) ∧
  (∀ a x, ((![v1451, v42] : Fin 2 → IVec S16 32) a x).toNat < S400x128.size a) ∧
  (∀ a x, ((![v1451, v44] : Fin 2 → IVec S16 32) a x).toNat < S400x128.size a) ∧
  (∀ a x, ((![v1451, v46] : Fin 2 → IVec S16 32) a x).toNat < S400x128.size a)
theorem k0_idx607_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v32] : Fin 2 → IVec S16 32) a x).toNat < S400x128.size a := fun v32 v34 v36 v38 v40 v42 v44 v46 v1451 k0_hw121 => k0_hw121.1
theorem k0_idx608_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v34] : Fin 2 → IVec S16 32) a x).toNat < S400x128.size a := fun v32 v34 v36 v38 v40 v42 v44 v46 v1451 k0_hw121 => k0_hw121.2.1
theorem k0_idx609_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v36] : Fin 2 → IVec S16 32) a x).toNat < S400x128.size a := fun v32 v34 v36 v38 v40 v42 v44 v46 v1451 k0_hw121 => k0_hw121.2.2.1
theorem k0_idx610_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v38] : Fin 2 → IVec S16 32) a x).toNat < S400x128.size a := fun v32 v34 v36 v38 v40 v42 v44 v46 v1451 k0_hw121 => k0_hw121.2.2.2.1
theorem k0_idx611_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v40] : Fin 2 → IVec S16 32) a x).toNat < S400x128.size a := fun v32 v34 v36 v38 v40 v42 v44 v46 v1451 k0_hw121 => k0_hw121.2.2.2.2.1
theorem k0_idx612_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v42] : Fin 2 → IVec S16 32) a x).toNat < S400x128.size a := fun v32 v34 v36 v38 v40 v42 v44 v46 v1451 k0_hw121 => k0_hw121.2.2.2.2.2.1
theorem k0_idx613_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v44] : Fin 2 → IVec S16 32) a x).toNat < S400x128.size a := fun v32 v34 v36 v38 v40 v42 v44 v46 v1451 k0_hw121 => k0_hw121.2.2.2.2.2.2.1
theorem k0_idx614_inb : ∀ (v32 : IVec S16 32) (v34 : IVec S16 32) (v36 : IVec S16 32) (v38 : IVec S16 32) (v40 : IVec S16 32) (v42 : IVec S16 32) (v44 : IVec S16 32) (v46 : IVec S16 32) (v1451 : IVec S16 32) (k0_hw121 : k0_chk121 v32 v34 v36 v38 v40 v42 v44 v46 v1451), ∀ a x, ((![v1451, v46] : Fin 2 → IVec S16 32) a x).toNat < S400x128.size a := fun v32 v34 v36 v38 v40 v42 v44 v46 v1451 k0_hw121 => k0_hw121.2.2.2.2.2.2.2

def k0_chk122 (v1479 : IVec S16 32) : Prop :=
  (∀ a x, ((![v1479] : Fin 1 → IVec S16 32) a x).toNat < S784.size a) ∧
  (∀ a x, ((![v1479] : Fin 1 → IVec S16 32) a x).toNat < S784.size a)
theorem k0_idx615_inb : ∀ (v1479 : IVec S16 32) (k0_hw122 : k0_chk122 v1479), ∀ a x, ((![v1479] : Fin 1 → IVec S16 32) a x).toNat < S784.size a := fun v1479 k0_hw122 => k0_hw122.1
theorem k0_idx616_inb : ∀ (v1479 : IVec S16 32) (k0_hw122 : k0_chk122 v1479), ∀ a x, ((![v1479] : Fin 1 → IVec S16 32) a x).toNat < S784.size a := fun v1479 k0_hw122 => k0_hw122.2

def k0_chk123 (v32 : IVec S16 32) (v34 : IVec S16 32) (v36 : IVec S16 32) (v38 : IVec S16 32) (v40 : IVec S16 32) (v42 : IVec S16 32) (v44 : IVec S16 32) (v46 : IVec S16 32) (v1480 : IVec S16 32) : Prop :=
  (∀ a x, ((![v1480, v32] : Fin 2 → IVec S16 32) a x).toNat < S400x128.size a) ∧
  (∀ a x, ((![v1480, v34] : Fin 2 → IVec S16 32) a x).toNat < S400x128.size a) ∧
  (∀ a x, ((![v1480, v36] : Fin 2 → IVec S16 32) a x).toNat < S400x128.size a) ∧
  (∀ a x, ((![v1480, v38] : Fin 2 → IVec S16 32) a x).toNat < S400x128.size a) ∧
  (∀ a x, ((![v1480, v40] : Fin 2 → IVec S16 32) a x).toNat < S400x128.size a) ∧
  (∀ a x, ((![v1480, v42] : Fin 2 → IVec S16 32) a x).toNat < S400x128.size a) ∧
  (∀ a x, ((![v1480, v44] : Fin 2 → IVec S16 32) a x).toNat < S400x128.size a) ∧
  (∀ a x, ((![v1480, v46] : Fin 2 → IVec S16 32) a x).toNat < S400x128.size a)
theorem k0_idx617_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v32] : Fin 2 → IVec S16 32) a x).toNat < S400x128.size a := fun v32 v34 v36 v38 v40 v42 v44 v46 v1480 k0_hw123 => k0_hw123.1
theorem k0_idx618_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v34] : Fin 2 → IVec S16 32) a x).toNat < S400x128.size a := fun v32 v34 v36 v38 v40 v42 v44 v46 v1480 k0_hw123 => k0_hw123.2.1
theorem k0_idx619_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v36] : Fin 2 → IVec S16 32) a x).toNat < S400x128.size a := fun v32 v34 v36 v38 v40 v42 v44 v46 v1480 k0_hw123 => k0_hw123.2.2.1
theorem k0_idx620_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v38] : Fin 2 → IVec S16 32) a x).toNat < S400x128.size a := fun v32 v34 v36 v38 v40 v42 v44 v46 v1480 k0_hw123 => k0_hw123.2.2.2.1
theorem k0_idx621_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v40] : Fin 2 → IVec S16 32) a x).toNat < S400x128.size a := fun v32 v34 v36 v38 v40 v42 v44 v46 v1480 k0_hw123 => k0_hw123.2.2.2.2.1
theorem k0_idx622_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v42] : Fin 2 → IVec S16 32) a x).toNat < S400x128.size a := fun v32 v34 v36 v38 v40 v42 v44 v46 v1480 k0_hw123 => k0_hw123.2.2.2.2.2.1
theorem k0_idx623_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v44] : Fin 2 → IVec S16 32) a x).toNat < S400x128.size a := fun v32 v34 v36 v38 v40 v42 v44 v46 v1480 k0_hw123 => k0_hw123.2.2.2.2.2.2.1
theorem k0_idx624_inb : ∀ (v32 : IVec S16 32) (v34 : IVec S16 32) (v36 : IVec S16 32) (v38 : IVec S16 32) (v40 : IVec S16 32) (v42 : IVec S16 32) (v44 : IVec S16 32) (v46 : IVec S16 32) (v1480 : IVec S16 32) (k0_hw123 : k0_chk123 v32 v34 v36 v38 v40 v42 v44 v46 v1480), ∀ a x, ((![v1480, v46] : Fin 2 → IVec S16 32) a x).toNat < S400x128.size a := fun v32 v34 v36 v38 v40 v42 v44 v46 v1480 k0_hw123 => k0_hw123.2.2.2.2.2.2.2

def k0_chk124 (v1508 : IVec S16 32) : Prop :=
  (∀ a x, ((![v1508] : Fin 1 → IVec S16 32) a x).toNat < S784.size a) ∧
  (∀ a x, ((![v1508] : Fin 1 → IVec S16 32) a x).toNat < S784.size a)
theorem k0_idx625_inb : ∀ (v1508 : IVec S16 32) (k0_hw124 : k0_chk124 v1508), ∀ a x, ((![v1508] : Fin 1 → IVec S16 32) a x).toNat < S784.size a := fun v1508 k0_hw124 => k0_hw124.1
theorem k0_idx626_inb : ∀ (v1508 : IVec S16 32) (k0_hw124 : k0_chk124 v1508), ∀ a x, ((![v1508] : Fin 1 → IVec S16 32) a x).toNat < S784.size a := fun v1508 k0_hw124 => k0_hw124.2

def k0_chk125 (v32 : IVec S16 32) (v34 : IVec S16 32) (v36 : IVec S16 32) (v38 : IVec S16 32) (v40 : IVec S16 32) (v42 : IVec S16 32) (v44 : IVec S16 32) (v46 : IVec S16 32) (v1509 : IVec S16 32) : Prop :=
  (∀ a x, ((![v1509, v32] : Fin 2 → IVec S16 32) a x).toNat < S400x128.size a) ∧
  (∀ a x, ((![v1509, v34] : Fin 2 → IVec S16 32) a x).toNat < S400x128.size a) ∧
  (∀ a x, ((![v1509, v36] : Fin 2 → IVec S16 32) a x).toNat < S400x128.size a) ∧
  (∀ a x, ((![v1509, v38] : Fin 2 → IVec S16 32) a x).toNat < S400x128.size a) ∧
  (∀ a x, ((![v1509, v40] : Fin 2 → IVec S16 32) a x).toNat < S400x128.size a) ∧
  (∀ a x, ((![v1509, v42] : Fin 2 → IVec S16 32) a x).toNat < S400x128.size a) ∧
  (∀ a x, ((![v1509, v44] : Fin 2 → IVec S16 32) a x).toNat < S400x128.size a) ∧
  (∀ a x, ((![v1509, v46] : Fin 2 → IVec S16 32) a x).toNat < S400x128.size a)
theorem k0_idx627_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v32] : Fin 2 → IVec S16 32) a x).toNat < S400x128.size a := fun v32 v34 v36 v38 v40 v42 v44 v46 v1509 k0_hw125 => k0_hw125.1
theorem k0_idx628_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v34] : Fin 2 → IVec S16 32) a x).toNat < S400x128.size a := fun v32 v34 v36 v38 v40 v42 v44 v46 v1509 k0_hw125 => k0_hw125.2.1
theorem k0_idx629_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v36] : Fin 2 → IVec S16 32) a x).toNat < S400x128.size a := fun v32 v34 v36 v38 v40 v42 v44 v46 v1509 k0_hw125 => k0_hw125.2.2.1
theorem k0_idx630_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v38] : Fin 2 → IVec S16 32) a x).toNat < S400x128.size a := fun v32 v34 v36 v38 v40 v42 v44 v46 v1509 k0_hw125 => k0_hw125.2.2.2.1
theorem k0_idx631_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v40] : Fin 2 → IVec S16 32) a x).toNat < S400x128.size a := fun v32 v34 v36 v38 v40 v42 v44 v46 v1509 k0_hw125 => k0_hw125.2.2.2.2.1
theorem k0_idx632_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v42] : Fin 2 → IVec S16 32) a x).toNat < S400x128.size a := fun v32 v34 v36 v38 v40 v42 v44 v46 v1509 k0_hw125 => k0_hw125.2.2.2.2.2.1
theorem k0_idx633_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v44] : Fin 2 → IVec S16 32) a x).toNat < S400x128.size a := fun v32 v34 v36 v38 v40 v42 v44 v46 v1509 k0_hw125 => k0_hw125.2.2.2.2.2.2.1
theorem k0_idx634_inb : ∀ (v32 : IVec S16 32) (v34 : IVec S16 32) (v36 : IVec S16 32) (v38 : IVec S16 32) (v40 : IVec S16 32) (v42 : IVec S16 32) (v44 : IVec S16 32) (v46 : IVec S16 32) (v1509 : IVec S16 32) (k0_hw125 : k0_chk125 v32 v34 v36 v38 v40 v42 v44 v46 v1509), ∀ a x, ((![v1509, v46] : Fin 2 → IVec S16 32) a x).toNat < S400x128.size a := fun v32 v34 v36 v38 v40 v42 v44 v46 v1509 k0_hw125 => k0_hw125.2.2.2.2.2.2.2

def k0_chk126 (v1537 : IVec S16 32) : Prop :=
  (∀ a x, ((![v1537] : Fin 1 → IVec S16 32) a x).toNat < S784.size a) ∧
  (∀ a x, ((![v1537] : Fin 1 → IVec S16 32) a x).toNat < S784.size a)
theorem k0_idx635_inb : ∀ (v1537 : IVec S16 32) (k0_hw126 : k0_chk126 v1537), ∀ a x, ((![v1537] : Fin 1 → IVec S16 32) a x).toNat < S784.size a := fun v1537 k0_hw126 => k0_hw126.1
theorem k0_idx636_inb : ∀ (v1537 : IVec S16 32) (k0_hw126 : k0_chk126 v1537), ∀ a x, ((![v1537] : Fin 1 → IVec S16 32) a x).toNat < S784.size a := fun v1537 k0_hw126 => k0_hw126.2

def k0_chk127 (v32 : IVec S16 32) (v34 : IVec S16 32) (v36 : IVec S16 32) (v38 : IVec S16 32) (v40 : IVec S16 32) (v42 : IVec S16 32) (v44 : IVec S16 32) (v46 : IVec S16 32) (v1538 : IVec S16 32) : Prop :=
  (∀ a x, ((![v1538, v32] : Fin 2 → IVec S16 32) a x).toNat < S400x128.size a) ∧
  (∀ a x, ((![v1538, v34] : Fin 2 → IVec S16 32) a x).toNat < S400x128.size a) ∧
  (∀ a x, ((![v1538, v36] : Fin 2 → IVec S16 32) a x).toNat < S400x128.size a) ∧
  (∀ a x, ((![v1538, v38] : Fin 2 → IVec S16 32) a x).toNat < S400x128.size a) ∧
  (∀ a x, ((![v1538, v40] : Fin 2 → IVec S16 32) a x).toNat < S400x128.size a) ∧
  (∀ a x, ((![v1538, v42] : Fin 2 → IVec S16 32) a x).toNat < S400x128.size a) ∧
  (∀ a x, ((![v1538, v44] : Fin 2 → IVec S16 32) a x).toNat < S400x128.size a) ∧
  (∀ a x, ((![v1538, v46] : Fin 2 → IVec S16 32) a x).toNat < S400x128.size a)
theorem k0_idx637_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v32] : Fin 2 → IVec S16 32) a x).toNat < S400x128.size a := fun v32 v34 v36 v38 v40 v42 v44 v46 v1538 k0_hw127 => k0_hw127.1
theorem k0_idx638_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v34] : Fin 2 → IVec S16 32) a x).toNat < S400x128.size a := fun v32 v34 v36 v38 v40 v42 v44 v46 v1538 k0_hw127 => k0_hw127.2.1
theorem k0_idx639_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v36] : Fin 2 → IVec S16 32) a x).toNat < S400x128.size a := fun v32 v34 v36 v38 v40 v42 v44 v46 v1538 k0_hw127 => k0_hw127.2.2.1
theorem k0_idx640_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v38] : Fin 2 → IVec S16 32) a x).toNat < S400x128.size a := fun v32 v34 v36 v38 v40 v42 v44 v46 v1538 k0_hw127 => k0_hw127.2.2.2.1
theorem k0_idx641_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v40] : Fin 2 → IVec S16 32) a x).toNat < S400x128.size a := fun v32 v34 v36 v38 v40 v42 v44 v46 v1538 k0_hw127 => k0_hw127.2.2.2.2.1
theorem k0_idx642_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v42] : Fin 2 → IVec S16 32) a x).toNat < S400x128.size a := fun v32 v34 v36 v38 v40 v42 v44 v46 v1538 k0_hw127 => k0_hw127.2.2.2.2.2.1
theorem k0_idx643_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v44] : Fin 2 → IVec S16 32) a x).toNat < S400x128.size a := fun v32 v34 v36 v38 v40 v42 v44 v46 v1538 k0_hw127 => k0_hw127.2.2.2.2.2.2.1
theorem k0_idx644_inb : ∀ (v32 : IVec S16 32) (v34 : IVec S16 32) (v36 : IVec S16 32) (v38 : IVec S16 32) (v40 : IVec S16 32) (v42 : IVec S16 32) (v44 : IVec S16 32) (v46 : IVec S16 32) (v1538 : IVec S16 32) (k0_hw127 : k0_chk127 v32 v34 v36 v38 v40 v42 v44 v46 v1538), ∀ a x, ((![v1538, v46] : Fin 2 → IVec S16 32) a x).toNat < S400x128.size a := fun v32 v34 v36 v38 v40 v42 v44 v46 v1538 k0_hw127 => k0_hw127.2.2.2.2.2.2.2

def k0_chk128 (v1566 : IVec S16 32) : Prop :=
  (∀ a x, ((![v1566] : Fin 1 → IVec S16 32) a x).toNat < S784.size a) ∧
  (∀ a x, ((![v1566] : Fin 1 → IVec S16 32) a x).toNat < S784.size a)
theorem k0_idx645_inb : ∀ (v1566 : IVec S16 32) (k0_hw128 : k0_chk128 v1566), ∀ a x, ((![v1566] : Fin 1 → IVec S16 32) a x).toNat < S784.size a := fun v1566 k0_hw128 => k0_hw128.1
theorem k0_idx646_inb : ∀ (v1566 : IVec S16 32) (k0_hw128 : k0_chk128 v1566), ∀ a x, ((![v1566] : Fin 1 → IVec S16 32) a x).toNat < S784.size a := fun v1566 k0_hw128 => k0_hw128.2

def k0_chk129 (v32 : IVec S16 32) (v34 : IVec S16 32) (v36 : IVec S16 32) (v38 : IVec S16 32) (v40 : IVec S16 32) (v42 : IVec S16 32) (v44 : IVec S16 32) (v46 : IVec S16 32) (v1567 : IVec S16 32) : Prop :=
  (∀ a x, ((![v1567, v32] : Fin 2 → IVec S16 32) a x).toNat < S400x128.size a) ∧
  (∀ a x, ((![v1567, v34] : Fin 2 → IVec S16 32) a x).toNat < S400x128.size a) ∧
  (∀ a x, ((![v1567, v36] : Fin 2 → IVec S16 32) a x).toNat < S400x128.size a) ∧
  (∀ a x, ((![v1567, v38] : Fin 2 → IVec S16 32) a x).toNat < S400x128.size a) ∧
  (∀ a x, ((![v1567, v40] : Fin 2 → IVec S16 32) a x).toNat < S400x128.size a) ∧
  (∀ a x, ((![v1567, v42] : Fin 2 → IVec S16 32) a x).toNat < S400x128.size a) ∧
  (∀ a x, ((![v1567, v44] : Fin 2 → IVec S16 32) a x).toNat < S400x128.size a) ∧
  (∀ a x, ((![v1567, v46] : Fin 2 → IVec S16 32) a x).toNat < S400x128.size a)
theorem k0_idx647_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v32] : Fin 2 → IVec S16 32) a x).toNat < S400x128.size a := fun v32 v34 v36 v38 v40 v42 v44 v46 v1567 k0_hw129 => k0_hw129.1
theorem k0_idx648_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v34] : Fin 2 → IVec S16 32) a x).toNat < S400x128.size a := fun v32 v34 v36 v38 v40 v42 v44 v46 v1567 k0_hw129 => k0_hw129.2.1
theorem k0_idx649_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v36] : Fin 2 → IVec S16 32) a x).toNat < S400x128.size a := fun v32 v34 v36 v38 v40 v42 v44 v46 v1567 k0_hw129 => k0_hw129.2.2.1
theorem k0_idx650_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v38] : Fin 2 → IVec S16 32) a x).toNat < S400x128.size a := fun v32 v34 v36 v38 v40 v42 v44 v46 v1567 k0_hw129 => k0_hw129.2.2.2.1
theorem k0_idx651_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v40] : Fin 2 → IVec S16 32) a x).toNat < S400x128.size a := fun v32 v34 v36 v38 v40 v42 v44 v46 v1567 k0_hw129 => k0_hw129.2.2.2.2.1
theorem k0_idx652_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v42] : Fin 2 → IVec S16 32) a x).toNat < S400x128.size a := fun v32 v34 v36 v38 v40 v42 v44 v46 v1567 k0_hw129 => k0_hw129.2.2.2.2.2.1
theorem k0_idx653_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v44] : Fin 2 → IVec S16 32) a x).toNat < S400x128.size a := fun v32 v34 v36 v38 v40 v42 v44 v46 v1567 k0_hw129 => k0_hw129.2.2.2.2.2.2.1
theorem k0_idx654_inb : ∀ (v32 : IVec S16 32) (v34 : IVec S16 32) (v36 : IVec S16 32) (v38 : IVec S16 32) (v40 : IVec S16 32) (v42 : IVec S16 32) (v44 : IVec S16 32) (v46 : IVec S16 32) (v1567 : IVec S16 32) (k0_hw129 : k0_chk129 v32 v34 v36 v38 v40 v42 v44 v46 v1567), ∀ a x, ((![v1567, v46] : Fin 2 → IVec S16 32) a x).toNat < S400x128.size a := fun v32 v34 v36 v38 v40 v42 v44 v46 v1567 k0_hw129 => k0_hw129.2.2.2.2.2.2.2

def k0_chk130 (v1595 : IVec S16 32) : Prop :=
  (∀ a x, ((![v1595] : Fin 1 → IVec S16 32) a x).toNat < S784.size a) ∧
  (∀ a x, ((![v1595] : Fin 1 → IVec S16 32) a x).toNat < S784.size a)
theorem k0_idx655_inb : ∀ (v1595 : IVec S16 32) (k0_hw130 : k0_chk130 v1595), ∀ a x, ((![v1595] : Fin 1 → IVec S16 32) a x).toNat < S784.size a := fun v1595 k0_hw130 => k0_hw130.1
theorem k0_idx656_inb : ∀ (v1595 : IVec S16 32) (k0_hw130 : k0_chk130 v1595), ∀ a x, ((![v1595] : Fin 1 → IVec S16 32) a x).toNat < S784.size a := fun v1595 k0_hw130 => k0_hw130.2

def k0_chk131 (v32 : IVec S16 32) (v34 : IVec S16 32) (v36 : IVec S16 32) (v38 : IVec S16 32) (v40 : IVec S16 32) (v42 : IVec S16 32) (v44 : IVec S16 32) (v46 : IVec S16 32) (v1596 : IVec S16 32) : Prop :=
  (∀ a x, ((![v1596, v32] : Fin 2 → IVec S16 32) a x).toNat < S400x128.size a) ∧
  (∀ a x, ((![v1596, v34] : Fin 2 → IVec S16 32) a x).toNat < S400x128.size a) ∧
  (∀ a x, ((![v1596, v36] : Fin 2 → IVec S16 32) a x).toNat < S400x128.size a) ∧
  (∀ a x, ((![v1596, v38] : Fin 2 → IVec S16 32) a x).toNat < S400x128.size a) ∧
  (∀ a x, ((![v1596, v40] : Fin 2 → IVec S16 32) a x).toNat < S400x128.size a) ∧
  (∀ a x, ((![v1596, v42] : Fin 2 → IVec S16 32) a x).toNat < S400x128.size a) ∧
  (∀ a x, ((![v1596, v44] : Fin 2 → IVec S16 32) a x).toNat < S400x128.size a) ∧
  (∀ a x, ((![v1596, v46] : Fin 2 → IVec S16 32) a x).toNat < S400x128.size a)
theorem k0_idx657_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v32] : Fin 2 → IVec S16 32) a x).toNat < S400x128.size a := fun v32 v34 v36 v38 v40 v42 v44 v46 v1596 k0_hw131 => k0_hw131.1
theorem k0_idx658_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v34] : Fin 2 → IVec S16 32) a x).toNat < S400x128.size a := fun v32 v34 v36 v38 v40 v42 v44 v46 v1596 k0_hw131 => k0_hw131.2.1
theorem k0_idx659_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v36] : Fin 2 → IVec S16 32) a x).toNat < S400x128.size a := fun v32 v34 v36 v38 v40 v42 v44 v46 v1596 k0_hw131 => k0_hw131.2.2.1
theorem k0_idx660_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v38] : Fin 2 → IVec S16 32) a x).toNat < S400x128.size a := fun v32 v34 v36 v38 v40 v42 v44 v46 v1596 k0_hw131 => k0_hw131.2.2.2.1
theorem k0_idx661_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v40] : Fin 2 → IVec S16 32) a x).toNat < S400x128.size a := fun v32 v34 v36 v38 v40 v42 v44 v46 v1596 k0_hw131 => k0_hw131.2.2.2.2.1
theorem k0_idx662_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v42] : Fin 2 → IVec S16 32) a x).toNat < S400x128.size a := fun v32 v34 v36 v38 v40 v42 v44 v46 v1596 k0_hw131 => k0_hw131.2.2.2.2.2.1
theorem k0_idx663_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v44] : Fin 2 → IVec S16 32) a x).toNat < S400x128.size a := fun v32 v34 v36 v38 v40 v42 v44 v46 v1596 k0_hw131 => k0_hw131.2.2.2.2.2.2.1
theorem k0_idx664_inb : ∀ (v32 : IVec S16 32) (v34 : IVec S16 32) (v36 : IVec S16 32) (v38 : IVec S16 32) (v40 : IVec S16 32) (v42 : IVec S16 32) (v44 : IVec S16 32) (v46 : IVec S16 32) (v1596 : IVec S16 32) (k0_hw131 : k0_chk131 v32 v34 v36 v38 v40 v42 v44 v46 v1596), ∀ a x, ((![v1596, v46] : Fin 2 → IVec S16 32) a x).toNat < S400x128.size a := fun v32 v34 v36 v38 v40 v42 v44 v46 v1596 k0_hw131 => k0_hw131.2.2.2.2.2.2.2

def k0_chk132 (v32 : IVec S16 32) (v34 : IVec S16 32) (v36 : IVec S16 32) (v38 : IVec S16 32) (v40 : IVec S16 32) (v42 : IVec S16 32) (v44 : IVec S16 32) (v46 : IVec S16 32) (v1622 : IVec S16 32) : Prop :=
  (∀ a x, ((![v32, v1622] : Fin 2 → IVec S16 32) a x).toNat < S128x49.size a) ∧
  (∀ a x, ((![v34, v1622] : Fin 2 → IVec S16 32) a x).toNat < S128x49.size a) ∧
  (∀ a x, ((![v36, v1622] : Fin 2 → IVec S16 32) a x).toNat < S128x49.size a) ∧
  (∀ a x, ((![v38, v1622] : Fin 2 → IVec S16 32) a x).toNat < S128x49.size a) ∧
  (∀ a x, ((![v40, v1622] : Fin 2 → IVec S16 32) a x).toNat < S128x49.size a) ∧
  (∀ a x, ((![v42, v1622] : Fin 2 → IVec S16 32) a x).toNat < S128x49.size a) ∧
  (∀ a x, ((![v44, v1622] : Fin 2 → IVec S16 32) a x).toNat < S128x49.size a) ∧
  (∀ a x, ((![v46, v1622] : Fin 2 → IVec S16 32) a x).toNat < S128x49.size a)
theorem k0_idx665_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v32, v1622] : Fin 2 → IVec S16 32) a x).toNat < S128x49.size a := fun v32 v34 v36 v38 v40 v42 v44 v46 v1622 k0_hw132 => k0_hw132.1
theorem k0_idx666_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v34, v1622] : Fin 2 → IVec S16 32) a x).toNat < S128x49.size a := fun v32 v34 v36 v38 v40 v42 v44 v46 v1622 k0_hw132 => k0_hw132.2.1
theorem k0_idx667_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v36, v1622] : Fin 2 → IVec S16 32) a x).toNat < S128x49.size a := fun v32 v34 v36 v38 v40 v42 v44 v46 v1622 k0_hw132 => k0_hw132.2.2.1
theorem k0_idx668_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v38, v1622] : Fin 2 → IVec S16 32) a x).toNat < S128x49.size a := fun v32 v34 v36 v38 v40 v42 v44 v46 v1622 k0_hw132 => k0_hw132.2.2.2.1
theorem k0_idx669_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v40, v1622] : Fin 2 → IVec S16 32) a x).toNat < S128x49.size a := fun v32 v34 v36 v38 v40 v42 v44 v46 v1622 k0_hw132 => k0_hw132.2.2.2.2.1
theorem k0_idx670_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v42, v1622] : Fin 2 → IVec S16 32) a x).toNat < S128x49.size a := fun v32 v34 v36 v38 v40 v42 v44 v46 v1622 k0_hw132 => k0_hw132.2.2.2.2.2.1
theorem k0_idx671_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v44, v1622] : Fin 2 → IVec S16 32) a x).toNat < S128x49.size a := fun v32 v34 v36 v38 v40 v42 v44 v46 v1622 k0_hw132 => k0_hw132.2.2.2.2.2.2.1
theorem k0_idx672_inb : ∀ (v32 : IVec S16 32) (v34 : IVec S16 32) (v36 : IVec S16 32) (v38 : IVec S16 32) (v40 : IVec S16 32) (v42 : IVec S16 32) (v44 : IVec S16 32) (v46 : IVec S16 32) (v1622 : IVec S16 32) (k0_hw132 : k0_chk132 v32 v34 v36 v38 v40 v42 v44 v46 v1622), ∀ a x, ((![v46, v1622] : Fin 2 → IVec S16 32) a x).toNat < S128x49.size a := fun v32 v34 v36 v38 v40 v42 v44 v46 v1622 k0_hw132 => k0_hw132.2.2.2.2.2.2.2
def k0_off21 (i : grid0.Coords) (k0_t3 : Fin k0_t3_loop.trips) : Fin 2 → Nat :=
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_759 : BitVec 32 := 1#32
  let v935 : BitVec 32 := Scalar.addi v710 c1_i32_759
  let c2_i32_940 : BitVec 32 := 2#32
  let v1147 : BitVec 32 := Scalar.addi v935 c2_i32_940
  let c124_i32_941 : BitVec 32 := 124#32
  let v1148 : BitVec 32 := Scalar.minsi v1147 c124_i32_941
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let v1149 : BitVec 32 := Scalar.addi v1148 v29
  let c0_i32_942 : BitVec 32 := 0#32
  ![v1149.toNat, 0]
def k0_off22 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c125_i32 : BitVec 32 := 125#32
  let v29 : BitVec 32 := Scalar.muli v28 c125_i32
  let c2_i32_571 : BitVec 32 := 2#32
  let c1_i32_514 : BitVec 32 := 1#32
  let c1_i32_515 : BitVec 32 := 1#32
  let arg22 : BitVec 32 := Scf.iv c1_i32_514 c1_i32_515 k0_t3
  let v710 : BitVec 32 := Scalar.muli c2_i32_571 arg22
  let c1_i32_759 : BitVec 32 := 1#32
  let v935 : BitVec 32 := Scalar.addi v710 c1_i32_759
  let v1158 : BitVec 32 := Scalar.addi v29 v935
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_946 : BitVec 32 := 128#32
  let v1159 : BitVec 32 := Scalar.muli v11 c128_i32_946
  let c0_i32_947_r6 : BitVec 32 := 0#32
  ![v1158.toNat, v1159.toNat, 0]
@[reducible] def k0_t6_loop : Scf.Loop 32 :=
  let c0_i32_559 : BitVec 32 := 0#32
  let c49_i32_560 : BitVec 32 := 49#32
  let v699 : BitVec 32 := Scalar.addi c0_i32_559 c49_i32_560
  let c1_i32_561 : BitVec 32 := 1#32
  ⟨c0_i32_559, v699, c1_i32_561⟩
def k0_off23 (k0_t6 : Fin k0_t6_loop.trips) : Fin 1 → Nat :=
  let c0_i32_559 : BitVec 32 := 0#32
  let c1_i32_561 : BitVec 32 := 1#32
  let arg22 : BitVec 32 := Scf.iv c0_i32_559 c1_i32_561 k0_t6
  let c16_i32_571 : BitVec 32 := 16#32
  let v710 : BitVec 32 := Scalar.muli arg22 c16_i32_571
  let v711 : Index := Scalar.indexCast v710
  ![v711.toNat]

def k0_chk133 (v718 : IVec S16 32) : Prop :=
  (∀ a x, ((![v718] : Fin 1 → IVec S16 32) a x).toNat < S784.size a) ∧
  (∀ a x, ((![v718] : Fin 1 → IVec S16 32) a x).toNat < S784.size a)
theorem k0_idx673_inb : ∀ (v718 : IVec S16 32) (k0_hw133 : k0_chk133 v718), ∀ a x, ((![v718] : Fin 1 → IVec S16 32) a x).toNat < S784.size a := fun v718 k0_hw133 => k0_hw133.1
theorem k0_idx674_inb : ∀ (v718 : IVec S16 32) (k0_hw133 : k0_chk133 v718), ∀ a x, ((![v718] : Fin 1 → IVec S16 32) a x).toNat < S784.size a := fun v718 k0_hw133 => k0_hw133.2

def k0_chk134 (v32 : IVec S16 32) (v34 : IVec S16 32) (v36 : IVec S16 32) (v38 : IVec S16 32) (v40 : IVec S16 32) (v42 : IVec S16 32) (v44 : IVec S16 32) (v46 : IVec S16 32) (v719 : IVec S16 32) : Prop :=
  (∀ a x, ((![v719, v32] : Fin 2 → IVec S16 32) a x).toNat < S400x128.size a) ∧
  (∀ a x, ((![v719, v34] : Fin 2 → IVec S16 32) a x).toNat < S400x128.size a) ∧
  (∀ a x, ((![v719, v36] : Fin 2 → IVec S16 32) a x).toNat < S400x128.size a) ∧
  (∀ a x, ((![v719, v38] : Fin 2 → IVec S16 32) a x).toNat < S400x128.size a) ∧
  (∀ a x, ((![v719, v40] : Fin 2 → IVec S16 32) a x).toNat < S400x128.size a) ∧
  (∀ a x, ((![v719, v42] : Fin 2 → IVec S16 32) a x).toNat < S400x128.size a) ∧
  (∀ a x, ((![v719, v44] : Fin 2 → IVec S16 32) a x).toNat < S400x128.size a) ∧
  (∀ a x, ((![v719, v46] : Fin 2 → IVec S16 32) a x).toNat < S400x128.size a)
theorem k0_idx675_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v32] : Fin 2 → IVec S16 32) a x).toNat < S400x128.size a := fun v32 v34 v36 v38 v40 v42 v44 v46 v719 k0_hw134 => k0_hw134.1
theorem k0_idx676_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v34] : Fin 2 → IVec S16 32) a x).toNat < S400x128.size a := fun v32 v34 v36 v38 v40 v42 v44 v46 v719 k0_hw134 => k0_hw134.2.1
theorem k0_idx677_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v36] : Fin 2 → IVec S16 32) a x).toNat < S400x128.size a := fun v32 v34 v36 v38 v40 v42 v44 v46 v719 k0_hw134 => k0_hw134.2.2.1
theorem k0_idx678_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v38] : Fin 2 → IVec S16 32) a x).toNat < S400x128.size a := fun v32 v34 v36 v38 v40 v42 v44 v46 v719 k0_hw134 => k0_hw134.2.2.2.1
theorem k0_idx679_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v40] : Fin 2 → IVec S16 32) a x).toNat < S400x128.size a := fun v32 v34 v36 v38 v40 v42 v44 v46 v719 k0_hw134 => k0_hw134.2.2.2.2.1
theorem k0_idx680_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v42] : Fin 2 → IVec S16 32) a x).toNat < S400x128.size a := fun v32 v34 v36 v38 v40 v42 v44 v46 v719 k0_hw134 => k0_hw134.2.2.2.2.2.1
theorem k0_idx681_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v44] : Fin 2 → IVec S16 32) a x).toNat < S400x128.size a := fun v32 v34 v36 v38 v40 v42 v44 v46 v719 k0_hw134 => k0_hw134.2.2.2.2.2.2.1
theorem k0_idx682_inb : ∀ (v32 : IVec S16 32) (v34 : IVec S16 32) (v36 : IVec S16 32) (v38 : IVec S16 32) (v40 : IVec S16 32) (v42 : IVec S16 32) (v44 : IVec S16 32) (v46 : IVec S16 32) (v719 : IVec S16 32) (k0_hw134 : k0_chk134 v32 v34 v36 v38 v40 v42 v44 v46 v719), ∀ a x, ((![v719, v46] : Fin 2 → IVec S16 32) a x).toNat < S400x128.size a := fun v32 v34 v36 v38 v40 v42 v44 v46 v719 k0_hw134 => k0_hw134.2.2.2.2.2.2.2

def k0_chk135 (v739 : IVec S16 32) : Prop :=
  (∀ a x, ((![v739] : Fin 1 → IVec S16 32) a x).toNat < S784.size a) ∧
  (∀ a x, ((![v739] : Fin 1 → IVec S16 32) a x).toNat < S784.size a)
theorem k0_idx683_inb : ∀ (v739 : IVec S16 32) (k0_hw135 : k0_chk135 v739), ∀ a x, ((![v739] : Fin 1 → IVec S16 32) a x).toNat < S784.size a := fun v739 k0_hw135 => k0_hw135.1
theorem k0_idx684_inb : ∀ (v739 : IVec S16 32) (k0_hw135 : k0_chk135 v739), ∀ a x, ((![v739] : Fin 1 → IVec S16 32) a x).toNat < S784.size a := fun v739 k0_hw135 => k0_hw135.2

def k0_chk136 (v32 : IVec S16 32) (v34 : IVec S16 32) (v36 : IVec S16 32) (v38 : IVec S16 32) (v40 : IVec S16 32) (v42 : IVec S16 32) (v44 : IVec S16 32) (v46 : IVec S16 32) (v740 : IVec S16 32) : Prop :=
  (∀ a x, ((![v740, v32] : Fin 2 → IVec S16 32) a x).toNat < S400x128.size a) ∧
  (∀ a x, ((![v740, v34] : Fin 2 → IVec S16 32) a x).toNat < S400x128.size a) ∧
  (∀ a x, ((![v740, v36] : Fin 2 → IVec S16 32) a x).toNat < S400x128.size a) ∧
  (∀ a x, ((![v740, v38] : Fin 2 → IVec S16 32) a x).toNat < S400x128.size a) ∧
  (∀ a x, ((![v740, v40] : Fin 2 → IVec S16 32) a x).toNat < S400x128.size a) ∧
  (∀ a x, ((![v740, v42] : Fin 2 → IVec S16 32) a x).toNat < S400x128.size a) ∧
  (∀ a x, ((![v740, v44] : Fin 2 → IVec S16 32) a x).toNat < S400x128.size a) ∧
  (∀ a x, ((![v740, v46] : Fin 2 → IVec S16 32) a x).toNat < S400x128.size a)
theorem k0_idx685_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v32] : Fin 2 → IVec S16 32) a x).toNat < S400x128.size a := fun v32 v34 v36 v38 v40 v42 v44 v46 v740 k0_hw136 => k0_hw136.1
theorem k0_idx686_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v34] : Fin 2 → IVec S16 32) a x).toNat < S400x128.size a := fun v32 v34 v36 v38 v40 v42 v44 v46 v740 k0_hw136 => k0_hw136.2.1
theorem k0_idx687_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v36] : Fin 2 → IVec S16 32) a x).toNat < S400x128.size a := fun v32 v34 v36 v38 v40 v42 v44 v46 v740 k0_hw136 => k0_hw136.2.2.1
theorem k0_idx688_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v38] : Fin 2 → IVec S16 32) a x).toNat < S400x128.size a := fun v32 v34 v36 v38 v40 v42 v44 v46 v740 k0_hw136 => k0_hw136.2.2.2.1
theorem k0_idx689_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v40] : Fin 2 → IVec S16 32) a x).toNat < S400x128.size a := fun v32 v34 v36 v38 v40 v42 v44 v46 v740 k0_hw136 => k0_hw136.2.2.2.2.1
theorem k0_idx690_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v42] : Fin 2 → IVec S16 32) a x).toNat < S400x128.size a := fun v32 v34 v36 v38 v40 v42 v44 v46 v740 k0_hw136 => k0_hw136.2.2.2.2.2.1
theorem k0_idx691_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v44] : Fin 2 → IVec S16 32) a x).toNat < S400x128.size a := fun v32 v34 v36 v38 v40 v42 v44 v46 v740 k0_hw136 => k0_hw136.2.2.2.2.2.2.1
theorem k0_idx692_inb : ∀ (v32 : IVec S16 32) (v34 : IVec S16 32) (v36 : IVec S16 32) (v38 : IVec S16 32) (v40 : IVec S16 32) (v42 : IVec S16 32) (v44 : IVec S16 32) (v46 : IVec S16 32) (v740 : IVec S16 32) (k0_hw136 : k0_chk136 v32 v34 v36 v38 v40 v42 v44 v46 v740), ∀ a x, ((![v740, v46] : Fin 2 → IVec S16 32) a x).toNat < S400x128.size a := fun v32 v34 v36 v38 v40 v42 v44 v46 v740 k0_hw136 => k0_hw136.2.2.2.2.2.2.2

def k0_chk137 (v768 : IVec S16 32) : Prop :=
  (∀ a x, ((![v768] : Fin 1 → IVec S16 32) a x).toNat < S784.size a) ∧
  (∀ a x, ((![v768] : Fin 1 → IVec S16 32) a x).toNat < S784.size a)
theorem k0_idx693_inb : ∀ (v768 : IVec S16 32) (k0_hw137 : k0_chk137 v768), ∀ a x, ((![v768] : Fin 1 → IVec S16 32) a x).toNat < S784.size a := fun v768 k0_hw137 => k0_hw137.1
theorem k0_idx694_inb : ∀ (v768 : IVec S16 32) (k0_hw137 : k0_chk137 v768), ∀ a x, ((![v768] : Fin 1 → IVec S16 32) a x).toNat < S784.size a := fun v768 k0_hw137 => k0_hw137.2

def k0_chk138 (v32 : IVec S16 32) (v34 : IVec S16 32) (v36 : IVec S16 32) (v38 : IVec S16 32) (v40 : IVec S16 32) (v42 : IVec S16 32) (v44 : IVec S16 32) (v46 : IVec S16 32) (v769 : IVec S16 32) : Prop :=
  (∀ a x, ((![v769, v32] : Fin 2 → IVec S16 32) a x).toNat < S400x128.size a) ∧
  (∀ a x, ((![v769, v34] : Fin 2 → IVec S16 32) a x).toNat < S400x128.size a) ∧
  (∀ a x, ((![v769, v36] : Fin 2 → IVec S16 32) a x).toNat < S400x128.size a) ∧
  (∀ a x, ((![v769, v38] : Fin 2 → IVec S16 32) a x).toNat < S400x128.size a) ∧
  (∀ a x, ((![v769, v40] : Fin 2 → IVec S16 32) a x).toNat < S400x128.size a) ∧
  (∀ a x, ((![v769, v42] : Fin 2 → IVec S16 32) a x).toNat < S400x128.size a) ∧
  (∀ a x, ((![v769, v44] : Fin 2 → IVec S16 32) a x).toNat < S400x128.size a) ∧
  (∀ a x, ((![v769, v46] : Fin 2 → IVec S16 32) a x).toNat < S400x128.size a)
theorem k0_idx695_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v32] : Fin 2 → IVec S16 32) a x).toNat < S400x128.size a := fun v32 v34 v36 v38 v40 v42 v44 v46 v769 k0_hw138 => k0_hw138.1
theorem k0_idx696_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v34] : Fin 2 → IVec S16 32) a x).toNat < S400x128.size a := fun v32 v34 v36 v38 v40 v42 v44 v46 v769 k0_hw138 => k0_hw138.2.1
theorem k0_idx697_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v36] : Fin 2 → IVec S16 32) a x).toNat < S400x128.size a := fun v32 v34 v36 v38 v40 v42 v44 v46 v769 k0_hw138 => k0_hw138.2.2.1
theorem k0_idx698_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v38] : Fin 2 → IVec S16 32) a x).toNat < S400x128.size a := fun v32 v34 v36 v38 v40 v42 v44 v46 v769 k0_hw138 => k0_hw138.2.2.2.1
theorem k0_idx699_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v40] : Fin 2 → IVec S16 32) a x).toNat < S400x128.size a := fun v32 v34 v36 v38 v40 v42 v44 v46 v769 k0_hw138 => k0_hw138.2.2.2.2.1
theorem k0_idx700_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v42] : Fin 2 → IVec S16 32) a x).toNat < S400x128.size a := fun v32 v34 v36 v38 v40 v42 v44 v46 v769 k0_hw138 => k0_hw138.2.2.2.2.2.1
theorem k0_idx701_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v44] : Fin 2 → IVec S16 32) a x).toNat < S400x128.size a := fun v32 v34 v36 v38 v40 v42 v44 v46 v769 k0_hw138 => k0_hw138.2.2.2.2.2.2.1
theorem k0_idx702_inb : ∀ (v32 : IVec S16 32) (v34 : IVec S16 32) (v36 : IVec S16 32) (v38 : IVec S16 32) (v40 : IVec S16 32) (v42 : IVec S16 32) (v44 : IVec S16 32) (v46 : IVec S16 32) (v769 : IVec S16 32) (k0_hw138 : k0_chk138 v32 v34 v36 v38 v40 v42 v44 v46 v769), ∀ a x, ((![v769, v46] : Fin 2 → IVec S16 32) a x).toNat < S400x128.size a := fun v32 v34 v36 v38 v40 v42 v44 v46 v769 k0_hw138 => k0_hw138.2.2.2.2.2.2.2

def k0_chk139 (v797 : IVec S16 32) : Prop :=
  (∀ a x, ((![v797] : Fin 1 → IVec S16 32) a x).toNat < S784.size a) ∧
  (∀ a x, ((![v797] : Fin 1 → IVec S16 32) a x).toNat < S784.size a)
theorem k0_idx703_inb : ∀ (v797 : IVec S16 32) (k0_hw139 : k0_chk139 v797), ∀ a x, ((![v797] : Fin 1 → IVec S16 32) a x).toNat < S784.size a := fun v797 k0_hw139 => k0_hw139.1
theorem k0_idx704_inb : ∀ (v797 : IVec S16 32) (k0_hw139 : k0_chk139 v797), ∀ a x, ((![v797] : Fin 1 → IVec S16 32) a x).toNat < S784.size a := fun v797 k0_hw139 => k0_hw139.2

def k0_chk140 (v32 : IVec S16 32) (v34 : IVec S16 32) (v36 : IVec S16 32) (v38 : IVec S16 32) (v40 : IVec S16 32) (v42 : IVec S16 32) (v44 : IVec S16 32) (v46 : IVec S16 32) (v798 : IVec S16 32) : Prop :=
  (∀ a x, ((![v798, v32] : Fin 2 → IVec S16 32) a x).toNat < S400x128.size a) ∧
  (∀ a x, ((![v798, v34] : Fin 2 → IVec S16 32) a x).toNat < S400x128.size a) ∧
  (∀ a x, ((![v798, v36] : Fin 2 → IVec S16 32) a x).toNat < S400x128.size a) ∧
  (∀ a x, ((![v798, v38] : Fin 2 → IVec S16 32) a x).toNat < S400x128.size a) ∧
  (∀ a x, ((![v798, v40] : Fin 2 → IVec S16 32) a x).toNat < S400x128.size a) ∧
  (∀ a x, ((![v798, v42] : Fin 2 → IVec S16 32) a x).toNat < S400x128.size a) ∧
  (∀ a x, ((![v798, v44] : Fin 2 → IVec S16 32) a x).toNat < S400x128.size a) ∧
  (∀ a x, ((![v798, v46] : Fin 2 → IVec S16 32) a x).toNat < S400x128.size a)
theorem k0_idx705_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v32] : Fin 2 → IVec S16 32) a x).toNat < S400x128.size a := fun v32 v34 v36 v38 v40 v42 v44 v46 v798 k0_hw140 => k0_hw140.1
theorem k0_idx706_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v34] : Fin 2 → IVec S16 32) a x).toNat < S400x128.size a := fun v32 v34 v36 v38 v40 v42 v44 v46 v798 k0_hw140 => k0_hw140.2.1
theorem k0_idx707_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v36] : Fin 2 → IVec S16 32) a x).toNat < S400x128.size a := fun v32 v34 v36 v38 v40 v42 v44 v46 v798 k0_hw140 => k0_hw140.2.2.1
theorem k0_idx708_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v38] : Fin 2 → IVec S16 32) a x).toNat < S400x128.size a := fun v32 v34 v36 v38 v40 v42 v44 v46 v798 k0_hw140 => k0_hw140.2.2.2.1
theorem k0_idx709_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v40] : Fin 2 → IVec S16 32) a x).toNat < S400x128.size a := fun v32 v34 v36 v38 v40 v42 v44 v46 v798 k0_hw140 => k0_hw140.2.2.2.2.1
theorem k0_idx710_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v42] : Fin 2 → IVec S16 32) a x).toNat < S400x128.size a := fun v32 v34 v36 v38 v40 v42 v44 v46 v798 k0_hw140 => k0_hw140.2.2.2.2.2.1
theorem k0_idx711_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v44] : Fin 2 → IVec S16 32) a x).toNat < S400x128.size a := fun v32 v34 v36 v38 v40 v42 v44 v46 v798 k0_hw140 => k0_hw140.2.2.2.2.2.2.1
theorem k0_idx712_inb : ∀ (v32 : IVec S16 32) (v34 : IVec S16 32) (v36 : IVec S16 32) (v38 : IVec S16 32) (v40 : IVec S16 32) (v42 : IVec S16 32) (v44 : IVec S16 32) (v46 : IVec S16 32) (v798 : IVec S16 32) (k0_hw140 : k0_chk140 v32 v34 v36 v38 v40 v42 v44 v46 v798), ∀ a x, ((![v798, v46] : Fin 2 → IVec S16 32) a x).toNat < S400x128.size a := fun v32 v34 v36 v38 v40 v42 v44 v46 v798 k0_hw140 => k0_hw140.2.2.2.2.2.2.2

def k0_chk141 (v826 : IVec S16 32) : Prop :=
  (∀ a x, ((![v826] : Fin 1 → IVec S16 32) a x).toNat < S784.size a) ∧
  (∀ a x, ((![v826] : Fin 1 → IVec S16 32) a x).toNat < S784.size a)
theorem k0_idx713_inb : ∀ (v826 : IVec S16 32) (k0_hw141 : k0_chk141 v826), ∀ a x, ((![v826] : Fin 1 → IVec S16 32) a x).toNat < S784.size a := fun v826 k0_hw141 => k0_hw141.1
theorem k0_idx714_inb : ∀ (v826 : IVec S16 32) (k0_hw141 : k0_chk141 v826), ∀ a x, ((![v826] : Fin 1 → IVec S16 32) a x).toNat < S784.size a := fun v826 k0_hw141 => k0_hw141.2

def k0_chk142 (v32 : IVec S16 32) (v34 : IVec S16 32) (v36 : IVec S16 32) (v38 : IVec S16 32) (v40 : IVec S16 32) (v42 : IVec S16 32) (v44 : IVec S16 32) (v46 : IVec S16 32) (v827 : IVec S16 32) : Prop :=
  (∀ a x, ((![v827, v32] : Fin 2 → IVec S16 32) a x).toNat < S400x128.size a) ∧
  (∀ a x, ((![v827, v34] : Fin 2 → IVec S16 32) a x).toNat < S400x128.size a) ∧
  (∀ a x, ((![v827, v36] : Fin 2 → IVec S16 32) a x).toNat < S400x128.size a) ∧
  (∀ a x, ((![v827, v38] : Fin 2 → IVec S16 32) a x).toNat < S400x128.size a) ∧
  (∀ a x, ((![v827, v40] : Fin 2 → IVec S16 32) a x).toNat < S400x128.size a) ∧
  (∀ a x, ((![v827, v42] : Fin 2 → IVec S16 32) a x).toNat < S400x128.size a) ∧
  (∀ a x, ((![v827, v44] : Fin 2 → IVec S16 32) a x).toNat < S400x128.size a) ∧
  (∀ a x, ((![v827, v46] : Fin 2 → IVec S16 32) a x).toNat < S400x128.size a)
theorem k0_idx715_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v32] : Fin 2 → IVec S16 32) a x).toNat < S400x128.size a := fun v32 v34 v36 v38 v40 v42 v44 v46 v827 k0_hw142 => k0_hw142.1
theorem k0_idx716_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v34] : Fin 2 → IVec S16 32) a x).toNat < S400x128.size a := fun v32 v34 v36 v38 v40 v42 v44 v46 v827 k0_hw142 => k0_hw142.2.1
theorem k0_idx717_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v36] : Fin 2 → IVec S16 32) a x).toNat < S400x128.size a := fun v32 v34 v36 v38 v40 v42 v44 v46 v827 k0_hw142 => k0_hw142.2.2.1
theorem k0_idx718_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v38] : Fin 2 → IVec S16 32) a x).toNat < S400x128.size a := fun v32 v34 v36 v38 v40 v42 v44 v46 v827 k0_hw142 => k0_hw142.2.2.2.1
theorem k0_idx719_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v40] : Fin 2 → IVec S16 32) a x).toNat < S400x128.size a := fun v32 v34 v36 v38 v40 v42 v44 v46 v827 k0_hw142 => k0_hw142.2.2.2.2.1
theorem k0_idx720_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v42] : Fin 2 → IVec S16 32) a x).toNat < S400x128.size a := fun v32 v34 v36 v38 v40 v42 v44 v46 v827 k0_hw142 => k0_hw142.2.2.2.2.2.1
theorem k0_idx721_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v44] : Fin 2 → IVec S16 32) a x).toNat < S400x128.size a := fun v32 v34 v36 v38 v40 v42 v44 v46 v827 k0_hw142 => k0_hw142.2.2.2.2.2.2.1
theorem k0_idx722_inb : ∀ (v32 : IVec S16 32) (v34 : IVec S16 32) (v36 : IVec S16 32) (v38 : IVec S16 32) (v40 : IVec S16 32) (v42 : IVec S16 32) (v44 : IVec S16 32) (v46 : IVec S16 32) (v827 : IVec S16 32) (k0_hw142 : k0_chk142 v32 v34 v36 v38 v40 v42 v44 v46 v827), ∀ a x, ((![v827, v46] : Fin 2 → IVec S16 32) a x).toNat < S400x128.size a := fun v32 v34 v36 v38 v40 v42 v44 v46 v827 k0_hw142 => k0_hw142.2.2.2.2.2.2.2

def k0_chk143 (v855 : IVec S16 32) : Prop :=
  (∀ a x, ((![v855] : Fin 1 → IVec S16 32) a x).toNat < S784.size a) ∧
  (∀ a x, ((![v855] : Fin 1 → IVec S16 32) a x).toNat < S784.size a)
theorem k0_idx723_inb : ∀ (v855 : IVec S16 32) (k0_hw143 : k0_chk143 v855), ∀ a x, ((![v855] : Fin 1 → IVec S16 32) a x).toNat < S784.size a := fun v855 k0_hw143 => k0_hw143.1
theorem k0_idx724_inb : ∀ (v855 : IVec S16 32) (k0_hw143 : k0_chk143 v855), ∀ a x, ((![v855] : Fin 1 → IVec S16 32) a x).toNat < S784.size a := fun v855 k0_hw143 => k0_hw143.2

def k0_chk144 (v32 : IVec S16 32) (v34 : IVec S16 32) (v36 : IVec S16 32) (v38 : IVec S16 32) (v40 : IVec S16 32) (v42 : IVec S16 32) (v44 : IVec S16 32) (v46 : IVec S16 32) (v856 : IVec S16 32) : Prop :=
  (∀ a x, ((![v856, v32] : Fin 2 → IVec S16 32) a x).toNat < S400x128.size a) ∧
  (∀ a x, ((![v856, v34] : Fin 2 → IVec S16 32) a x).toNat < S400x128.size a) ∧
  (∀ a x, ((![v856, v36] : Fin 2 → IVec S16 32) a x).toNat < S400x128.size a) ∧
  (∀ a x, ((![v856, v38] : Fin 2 → IVec S16 32) a x).toNat < S400x128.size a) ∧
  (∀ a x, ((![v856, v40] : Fin 2 → IVec S16 32) a x).toNat < S400x128.size a) ∧
  (∀ a x, ((![v856, v42] : Fin 2 → IVec S16 32) a x).toNat < S400x128.size a) ∧
  (∀ a x, ((![v856, v44] : Fin 2 → IVec S16 32) a x).toNat < S400x128.size a) ∧
  (∀ a x, ((![v856, v46] : Fin 2 → IVec S16 32) a x).toNat < S400x128.size a)
theorem k0_idx725_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v32] : Fin 2 → IVec S16 32) a x).toNat < S400x128.size a := fun v32 v34 v36 v38 v40 v42 v44 v46 v856 k0_hw144 => k0_hw144.1
theorem k0_idx726_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v34] : Fin 2 → IVec S16 32) a x).toNat < S400x128.size a := fun v32 v34 v36 v38 v40 v42 v44 v46 v856 k0_hw144 => k0_hw144.2.1
theorem k0_idx727_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v36] : Fin 2 → IVec S16 32) a x).toNat < S400x128.size a := fun v32 v34 v36 v38 v40 v42 v44 v46 v856 k0_hw144 => k0_hw144.2.2.1
theorem k0_idx728_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v38] : Fin 2 → IVec S16 32) a x).toNat < S400x128.size a := fun v32 v34 v36 v38 v40 v42 v44 v46 v856 k0_hw144 => k0_hw144.2.2.2.1
theorem k0_idx729_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v40] : Fin 2 → IVec S16 32) a x).toNat < S400x128.size a := fun v32 v34 v36 v38 v40 v42 v44 v46 v856 k0_hw144 => k0_hw144.2.2.2.2.1
theorem k0_idx730_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v42] : Fin 2 → IVec S16 32) a x).toNat < S400x128.size a := fun v32 v34 v36 v38 v40 v42 v44 v46 v856 k0_hw144 => k0_hw144.2.2.2.2.2.1
theorem k0_idx731_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v44] : Fin 2 → IVec S16 32) a x).toNat < S400x128.size a := fun v32 v34 v36 v38 v40 v42 v44 v46 v856 k0_hw144 => k0_hw144.2.2.2.2.2.2.1
theorem k0_idx732_inb : ∀ (v32 : IVec S16 32) (v34 : IVec S16 32) (v36 : IVec S16 32) (v38 : IVec S16 32) (v40 : IVec S16 32) (v42 : IVec S16 32) (v44 : IVec S16 32) (v46 : IVec S16 32) (v856 : IVec S16 32) (k0_hw144 : k0_chk144 v32 v34 v36 v38 v40 v42 v44 v46 v856), ∀ a x, ((![v856, v46] : Fin 2 → IVec S16 32) a x).toNat < S400x128.size a := fun v32 v34 v36 v38 v40 v42 v44 v46 v856 k0_hw144 => k0_hw144.2.2.2.2.2.2.2

def k0_chk145 (v884 : IVec S16 32) : Prop :=
  (∀ a x, ((![v884] : Fin 1 → IVec S16 32) a x).toNat < S784.size a) ∧
  (∀ a x, ((![v884] : Fin 1 → IVec S16 32) a x).toNat < S784.size a)
theorem k0_idx733_inb : ∀ (v884 : IVec S16 32) (k0_hw145 : k0_chk145 v884), ∀ a x, ((![v884] : Fin 1 → IVec S16 32) a x).toNat < S784.size a := fun v884 k0_hw145 => k0_hw145.1
theorem k0_idx734_inb : ∀ (v884 : IVec S16 32) (k0_hw145 : k0_chk145 v884), ∀ a x, ((![v884] : Fin 1 → IVec S16 32) a x).toNat < S784.size a := fun v884 k0_hw145 => k0_hw145.2

def k0_chk146 (v32 : IVec S16 32) (v34 : IVec S16 32) (v36 : IVec S16 32) (v38 : IVec S16 32) (v40 : IVec S16 32) (v42 : IVec S16 32) (v44 : IVec S16 32) (v46 : IVec S16 32) (v885 : IVec S16 32) : Prop :=
  (∀ a x, ((![v885, v32] : Fin 2 → IVec S16 32) a x).toNat < S400x128.size a) ∧
  (∀ a x, ((![v885, v34] : Fin 2 → IVec S16 32) a x).toNat < S400x128.size a) ∧
  (∀ a x, ((![v885, v36] : Fin 2 → IVec S16 32) a x).toNat < S400x128.size a) ∧
  (∀ a x, ((![v885, v38] : Fin 2 → IVec S16 32) a x).toNat < S400x128.size a) ∧
  (∀ a x, ((![v885, v40] : Fin 2 → IVec S16 32) a x).toNat < S400x128.size a) ∧
  (∀ a x, ((![v885, v42] : Fin 2 → IVec S16 32) a x).toNat < S400x128.size a) ∧
  (∀ a x, ((![v885, v44] : Fin 2 → IVec S16 32) a x).toNat < S400x128.size a) ∧
  (∀ a x, ((![v885, v46] : Fin 2 → IVec S16 32) a x).toNat < S400x128.size a)
theorem k0_idx735_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v32] : Fin 2 → IVec S16 32) a x).toNat < S400x128.size a := fun v32 v34 v36 v38 v40 v42 v44 v46 v885 k0_hw146 => k0_hw146.1
theorem k0_idx736_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v34] : Fin 2 → IVec S16 32) a x).toNat < S400x128.size a := fun v32 v34 v36 v38 v40 v42 v44 v46 v885 k0_hw146 => k0_hw146.2.1
theorem k0_idx737_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v36] : Fin 2 → IVec S16 32) a x).toNat < S400x128.size a := fun v32 v34 v36 v38 v40 v42 v44 v46 v885 k0_hw146 => k0_hw146.2.2.1
theorem k0_idx738_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v38] : Fin 2 → IVec S16 32) a x).toNat < S400x128.size a := fun v32 v34 v36 v38 v40 v42 v44 v46 v885 k0_hw146 => k0_hw146.2.2.2.1
theorem k0_idx739_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v40] : Fin 2 → IVec S16 32) a x).toNat < S400x128.size a := fun v32 v34 v36 v38 v40 v42 v44 v46 v885 k0_hw146 => k0_hw146.2.2.2.2.1
theorem k0_idx740_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v42] : Fin 2 → IVec S16 32) a x).toNat < S400x128.size a := fun v32 v34 v36 v38 v40 v42 v44 v46 v885 k0_hw146 => k0_hw146.2.2.2.2.2.1
theorem k0_idx741_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v44] : Fin 2 → IVec S16 32) a x).toNat < S400x128.size a := fun v32 v34 v36 v38 v40 v42 v44 v46 v885 k0_hw146 => k0_hw146.2.2.2.2.2.2.1
theorem k0_idx742_inb : ∀ (v32 : IVec S16 32) (v34 : IVec S16 32) (v36 : IVec S16 32) (v38 : IVec S16 32) (v40 : IVec S16 32) (v42 : IVec S16 32) (v44 : IVec S16 32) (v46 : IVec S16 32) (v885 : IVec S16 32) (k0_hw146 : k0_chk146 v32 v34 v36 v38 v40 v42 v44 v46 v885), ∀ a x, ((![v885, v46] : Fin 2 → IVec S16 32) a x).toNat < S400x128.size a := fun v32 v34 v36 v38 v40 v42 v44 v46 v885 k0_hw146 => k0_hw146.2.2.2.2.2.2.2

def k0_chk147 (v913 : IVec S16 32) : Prop :=
  (∀ a x, ((![v913] : Fin 1 → IVec S16 32) a x).toNat < S784.size a) ∧
  (∀ a x, ((![v913] : Fin 1 → IVec S16 32) a x).toNat < S784.size a)
theorem k0_idx743_inb : ∀ (v913 : IVec S16 32) (k0_hw147 : k0_chk147 v913), ∀ a x, ((![v913] : Fin 1 → IVec S16 32) a x).toNat < S784.size a := fun v913 k0_hw147 => k0_hw147.1
theorem k0_idx744_inb : ∀ (v913 : IVec S16 32) (k0_hw147 : k0_chk147 v913), ∀ a x, ((![v913] : Fin 1 → IVec S16 32) a x).toNat < S784.size a := fun v913 k0_hw147 => k0_hw147.2

def k0_chk148 (v32 : IVec S16 32) (v34 : IVec S16 32) (v36 : IVec S16 32) (v38 : IVec S16 32) (v40 : IVec S16 32) (v42 : IVec S16 32) (v44 : IVec S16 32) (v46 : IVec S16 32) (v914 : IVec S16 32) : Prop :=
  (∀ a x, ((![v914, v32] : Fin 2 → IVec S16 32) a x).toNat < S400x128.size a) ∧
  (∀ a x, ((![v914, v34] : Fin 2 → IVec S16 32) a x).toNat < S400x128.size a) ∧
  (∀ a x, ((![v914, v36] : Fin 2 → IVec S16 32) a x).toNat < S400x128.size a) ∧
  (∀ a x, ((![v914, v38] : Fin 2 → IVec S16 32) a x).toNat < S400x128.size a) ∧
  (∀ a x, ((![v914, v40] : Fin 2 → IVec S16 32) a x).toNat < S400x128.size a) ∧
  (∀ a x, ((![v914, v42] : Fin 2 → IVec S16 32) a x).toNat < S400x128.size a) ∧
  (∀ a x, ((![v914, v44] : Fin 2 → IVec S16 32) a x).toNat < S400x128.size a) ∧
  (∀ a x, ((![v914, v46] : Fin 2 → IVec S16 32) a x).toNat < S400x128.size a)
theorem k0_idx745_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v32] : Fin 2 → IVec S16 32) a x).toNat < S400x128.size a := fun v32 v34 v36 v38 v40 v42 v44 v46 v914 k0_hw148 => k0_hw148.1
theorem k0_idx746_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v34] : Fin 2 → IVec S16 32) a x).toNat < S400x128.size a := fun v32 v34 v36 v38 v40 v42 v44 v46 v914 k0_hw148 => k0_hw148.2.1
theorem k0_idx747_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v36] : Fin 2 → IVec S16 32) a x).toNat < S400x128.size a := fun v32 v34 v36 v38 v40 v42 v44 v46 v914 k0_hw148 => k0_hw148.2.2.1
theorem k0_idx748_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v38] : Fin 2 → IVec S16 32) a x).toNat < S400x128.size a := fun v32 v34 v36 v38 v40 v42 v44 v46 v914 k0_hw148 => k0_hw148.2.2.2.1
theorem k0_idx749_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v40] : Fin 2 → IVec S16 32) a x).toNat < S400x128.size a := fun v32 v34 v36 v38 v40 v42 v44 v46 v914 k0_hw148 => k0_hw148.2.2.2.2.1
theorem k0_idx750_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v42] : Fin 2 → IVec S16 32) a x).toNat < S400x128.size a := fun v32 v34 v36 v38 v40 v42 v44 v46 v914 k0_hw148 => k0_hw148.2.2.2.2.2.1
theorem k0_idx751_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v44] : Fin 2 → IVec S16 32) a x).toNat < S400x128.size a := fun v32 v34 v36 v38 v40 v42 v44 v46 v914 k0_hw148 => k0_hw148.2.2.2.2.2.2.1
theorem k0_idx752_inb : ∀ (v32 : IVec S16 32) (v34 : IVec S16 32) (v36 : IVec S16 32) (v38 : IVec S16 32) (v40 : IVec S16 32) (v42 : IVec S16 32) (v44 : IVec S16 32) (v46 : IVec S16 32) (v914 : IVec S16 32) (k0_hw148 : k0_chk148 v32 v34 v36 v38 v40 v42 v44 v46 v914), ∀ a x, ((![v914, v46] : Fin 2 → IVec S16 32) a x).toNat < S400x128.size a := fun v32 v34 v36 v38 v40 v42 v44 v46 v914 k0_hw148 => k0_hw148.2.2.2.2.2.2.2

def k0_chk149 (v942 : IVec S16 32) : Prop :=
  (∀ a x, ((![v942] : Fin 1 → IVec S16 32) a x).toNat < S784.size a) ∧
  (∀ a x, ((![v942] : Fin 1 → IVec S16 32) a x).toNat < S784.size a)
theorem k0_idx753_inb : ∀ (v942 : IVec S16 32) (k0_hw149 : k0_chk149 v942), ∀ a x, ((![v942] : Fin 1 → IVec S16 32) a x).toNat < S784.size a := fun v942 k0_hw149 => k0_hw149.1
theorem k0_idx754_inb : ∀ (v942 : IVec S16 32) (k0_hw149 : k0_chk149 v942), ∀ a x, ((![v942] : Fin 1 → IVec S16 32) a x).toNat < S784.size a := fun v942 k0_hw149 => k0_hw149.2

def k0_chk150 (v32 : IVec S16 32) (v34 : IVec S16 32) (v36 : IVec S16 32) (v38 : IVec S16 32) (v40 : IVec S16 32) (v42 : IVec S16 32) (v44 : IVec S16 32) (v46 : IVec S16 32) (v943 : IVec S16 32) : Prop :=
  (∀ a x, ((![v943, v32] : Fin 2 → IVec S16 32) a x).toNat < S400x128.size a) ∧
  (∀ a x, ((![v943, v34] : Fin 2 → IVec S16 32) a x).toNat < S400x128.size a) ∧
  (∀ a x, ((![v943, v36] : Fin 2 → IVec S16 32) a x).toNat < S400x128.size a) ∧
  (∀ a x, ((![v943, v38] : Fin 2 → IVec S16 32) a x).toNat < S400x128.size a) ∧
  (∀ a x, ((![v943, v40] : Fin 2 → IVec S16 32) a x).toNat < S400x128.size a) ∧
  (∀ a x, ((![v943, v42] : Fin 2 → IVec S16 32) a x).toNat < S400x128.size a) ∧
  (∀ a x, ((![v943, v44] : Fin 2 → IVec S16 32) a x).toNat < S400x128.size a) ∧
  (∀ a x, ((![v943, v46] : Fin 2 → IVec S16 32) a x).toNat < S400x128.size a)
theorem k0_idx755_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v32] : Fin 2 → IVec S16 32) a x).toNat < S400x128.size a := fun v32 v34 v36 v38 v40 v42 v44 v46 v943 k0_hw150 => k0_hw150.1
theorem k0_idx756_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v34] : Fin 2 → IVec S16 32) a x).toNat < S400x128.size a := fun v32 v34 v36 v38 v40 v42 v44 v46 v943 k0_hw150 => k0_hw150.2.1
theorem k0_idx757_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v36] : Fin 2 → IVec S16 32) a x).toNat < S400x128.size a := fun v32 v34 v36 v38 v40 v42 v44 v46 v943 k0_hw150 => k0_hw150.2.2.1
theorem k0_idx758_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v38] : Fin 2 → IVec S16 32) a x).toNat < S400x128.size a := fun v32 v34 v36 v38 v40 v42 v44 v46 v943 k0_hw150 => k0_hw150.2.2.2.1
theorem k0_idx759_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v40] : Fin 2 → IVec S16 32) a x).toNat < S400x128.size a := fun v32 v34 v36 v38 v40 v42 v44 v46 v943 k0_hw150 => k0_hw150.2.2.2.2.1
theorem k0_idx760_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v42] : Fin 2 → IVec S16 32) a x).toNat < S400x128.size a := fun v32 v34 v36 v38 v40 v42 v44 v46 v943 k0_hw150 => k0_hw150.2.2.2.2.2.1
theorem k0_idx761_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v44] : Fin 2 → IVec S16 32) a x).toNat < S400x128.size a := fun v32 v34 v36 v38 v40 v42 v44 v46 v943 k0_hw150 => k0_hw150.2.2.2.2.2.2.1
theorem k0_idx762_inb : ∀ (v32 : IVec S16 32) (v34 : IVec S16 32) (v36 : IVec S16 32) (v38 : IVec S16 32) (v40 : IVec S16 32) (v42 : IVec S16 32) (v44 : IVec S16 32) (v46 : IVec S16 32) (v943 : IVec S16 32) (k0_hw150 : k0_chk150 v32 v34 v36 v38 v40 v42 v44 v46 v943), ∀ a x, ((![v943, v46] : Fin 2 → IVec S16 32) a x).toNat < S400x128.size a := fun v32 v34 v36 v38 v40 v42 v44 v46 v943 k0_hw150 => k0_hw150.2.2.2.2.2.2.2

def k0_chk151 (v971 : IVec S16 32) : Prop :=
  (∀ a x, ((![v971] : Fin 1 → IVec S16 32) a x).toNat < S784.size a) ∧
  (∀ a x, ((![v971] : Fin 1 → IVec S16 32) a x).toNat < S784.size a)
theorem k0_idx763_inb : ∀ (v971 : IVec S16 32) (k0_hw151 : k0_chk151 v971), ∀ a x, ((![v971] : Fin 1 → IVec S16 32) a x).toNat < S784.size a := fun v971 k0_hw151 => k0_hw151.1
theorem k0_idx764_inb : ∀ (v971 : IVec S16 32) (k0_hw151 : k0_chk151 v971), ∀ a x, ((![v971] : Fin 1 → IVec S16 32) a x).toNat < S784.size a := fun v971 k0_hw151 => k0_hw151.2

def k0_chk152 (v32 : IVec S16 32) (v34 : IVec S16 32) (v36 : IVec S16 32) (v38 : IVec S16 32) (v40 : IVec S16 32) (v42 : IVec S16 32) (v44 : IVec S16 32) (v46 : IVec S16 32) (v972 : IVec S16 32) : Prop :=
  (∀ a x, ((![v972, v32] : Fin 2 → IVec S16 32) a x).toNat < S400x128.size a) ∧
  (∀ a x, ((![v972, v34] : Fin 2 → IVec S16 32) a x).toNat < S400x128.size a) ∧
  (∀ a x, ((![v972, v36] : Fin 2 → IVec S16 32) a x).toNat < S400x128.size a) ∧
  (∀ a x, ((![v972, v38] : Fin 2 → IVec S16 32) a x).toNat < S400x128.size a) ∧
  (∀ a x, ((![v972, v40] : Fin 2 → IVec S16 32) a x).toNat < S400x128.size a) ∧
  (∀ a x, ((![v972, v42] : Fin 2 → IVec S16 32) a x).toNat < S400x128.size a) ∧
  (∀ a x, ((![v972, v44] : Fin 2 → IVec S16 32) a x).toNat < S400x128.size a) ∧
  (∀ a x, ((![v972, v46] : Fin 2 → IVec S16 32) a x).toNat < S400x128.size a)
theorem k0_idx765_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v32] : Fin 2 → IVec S16 32) a x).toNat < S400x128.size a := fun v32 v34 v36 v38 v40 v42 v44 v46 v972 k0_hw152 => k0_hw152.1
theorem k0_idx766_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v34] : Fin 2 → IVec S16 32) a x).toNat < S400x128.size a := fun v32 v34 v36 v38 v40 v42 v44 v46 v972 k0_hw152 => k0_hw152.2.1
theorem k0_idx767_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v36] : Fin 2 → IVec S16 32) a x).toNat < S400x128.size a := fun v32 v34 v36 v38 v40 v42 v44 v46 v972 k0_hw152 => k0_hw152.2.2.1
theorem k0_idx768_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v38] : Fin 2 → IVec S16 32) a x).toNat < S400x128.size a := fun v32 v34 v36 v38 v40 v42 v44 v46 v972 k0_hw152 => k0_hw152.2.2.2.1
theorem k0_idx769_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v40] : Fin 2 → IVec S16 32) a x).toNat < S400x128.size a := fun v32 v34 v36 v38 v40 v42 v44 v46 v972 k0_hw152 => k0_hw152.2.2.2.2.1
theorem k0_idx770_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v42] : Fin 2 → IVec S16 32) a x).toNat < S400x128.size a := fun v32 v34 v36 v38 v40 v42 v44 v46 v972 k0_hw152 => k0_hw152.2.2.2.2.2.1
theorem k0_idx771_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v44] : Fin 2 → IVec S16 32) a x).toNat < S400x128.size a := fun v32 v34 v36 v38 v40 v42 v44 v46 v972 k0_hw152 => k0_hw152.2.2.2.2.2.2.1
theorem k0_idx772_inb : ∀ (v32 : IVec S16 32) (v34 : IVec S16 32) (v36 : IVec S16 32) (v38 : IVec S16 32) (v40 : IVec S16 32) (v42 : IVec S16 32) (v44 : IVec S16 32) (v46 : IVec S16 32) (v972 : IVec S16 32) (k0_hw152 : k0_chk152 v32 v34 v36 v38 v40 v42 v44 v46 v972), ∀ a x, ((![v972, v46] : Fin 2 → IVec S16 32) a x).toNat < S400x128.size a := fun v32 v34 v36 v38 v40 v42 v44 v46 v972 k0_hw152 => k0_hw152.2.2.2.2.2.2.2

def k0_chk153 (v1000 : IVec S16 32) : Prop :=
  (∀ a x, ((![v1000] : Fin 1 → IVec S16 32) a x).toNat < S784.size a) ∧
  (∀ a x, ((![v1000] : Fin 1 → IVec S16 32) a x).toNat < S784.size a)
theorem k0_idx773_inb : ∀ (v1000 : IVec S16 32) (k0_hw153 : k0_chk153 v1000), ∀ a x, ((![v1000] : Fin 1 → IVec S16 32) a x).toNat < S784.size a := fun v1000 k0_hw153 => k0_hw153.1
theorem k0_idx774_inb : ∀ (v1000 : IVec S16 32) (k0_hw153 : k0_chk153 v1000), ∀ a x, ((![v1000] : Fin 1 → IVec S16 32) a x).toNat < S784.size a := fun v1000 k0_hw153 => k0_hw153.2

def k0_chk154 (v32 : IVec S16 32) (v34 : IVec S16 32) (v36 : IVec S16 32) (v38 : IVec S16 32) (v40 : IVec S16 32) (v42 : IVec S16 32) (v44 : IVec S16 32) (v46 : IVec S16 32) (v1001 : IVec S16 32) : Prop :=
  (∀ a x, ((![v1001, v32] : Fin 2 → IVec S16 32) a x).toNat < S400x128.size a) ∧
  (∀ a x, ((![v1001, v34] : Fin 2 → IVec S16 32) a x).toNat < S400x128.size a) ∧
  (∀ a x, ((![v1001, v36] : Fin 2 → IVec S16 32) a x).toNat < S400x128.size a) ∧
  (∀ a x, ((![v1001, v38] : Fin 2 → IVec S16 32) a x).toNat < S400x128.size a) ∧
  (∀ a x, ((![v1001, v40] : Fin 2 → IVec S16 32) a x).toNat < S400x128.size a) ∧
  (∀ a x, ((![v1001, v42] : Fin 2 → IVec S16 32) a x).toNat < S400x128.size a) ∧
  (∀ a x, ((![v1001, v44] : Fin 2 → IVec S16 32) a x).toNat < S400x128.size a) ∧
  (∀ a x, ((![v1001, v46] : Fin 2 → IVec S16 32) a x).toNat < S400x128.size a)
theorem k0_idx775_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v32] : Fin 2 → IVec S16 32) a x).toNat < S400x128.size a := fun v32 v34 v36 v38 v40 v42 v44 v46 v1001 k0_hw154 => k0_hw154.1
theorem k0_idx776_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v34] : Fin 2 → IVec S16 32) a x).toNat < S400x128.size a := fun v32 v34 v36 v38 v40 v42 v44 v46 v1001 k0_hw154 => k0_hw154.2.1
theorem k0_idx777_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v36] : Fin 2 → IVec S16 32) a x).toNat < S400x128.size a := fun v32 v34 v36 v38 v40 v42 v44 v46 v1001 k0_hw154 => k0_hw154.2.2.1
theorem k0_idx778_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v38] : Fin 2 → IVec S16 32) a x).toNat < S400x128.size a := fun v32 v34 v36 v38 v40 v42 v44 v46 v1001 k0_hw154 => k0_hw154.2.2.2.1
theorem k0_idx779_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v40] : Fin 2 → IVec S16 32) a x).toNat < S400x128.size a := fun v32 v34 v36 v38 v40 v42 v44 v46 v1001 k0_hw154 => k0_hw154.2.2.2.2.1
theorem k0_idx780_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v42] : Fin 2 → IVec S16 32) a x).toNat < S400x128.size a := fun v32 v34 v36 v38 v40 v42 v44 v46 v1001 k0_hw154 => k0_hw154.2.2.2.2.2.1
theorem k0_idx781_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v44] : Fin 2 → IVec S16 32) a x).toNat < S400x128.size a := fun v32 v34 v36 v38 v40 v42 v44 v46 v1001 k0_hw154 => k0_hw154.2.2.2.2.2.2.1
theorem k0_idx782_inb : ∀ (v32 : IVec S16 32) (v34 : IVec S16 32) (v36 : IVec S16 32) (v38 : IVec S16 32) (v40 : IVec S16 32) (v42 : IVec S16 32) (v44 : IVec S16 32) (v46 : IVec S16 32) (v1001 : IVec S16 32) (k0_hw154 : k0_chk154 v32 v34 v36 v38 v40 v42 v44 v46 v1001), ∀ a x, ((![v1001, v46] : Fin 2 → IVec S16 32) a x).toNat < S400x128.size a := fun v32 v34 v36 v38 v40 v42 v44 v46 v1001 k0_hw154 => k0_hw154.2.2.2.2.2.2.2

def k0_chk155 (v1029 : IVec S16 32) : Prop :=
  (∀ a x, ((![v1029] : Fin 1 → IVec S16 32) a x).toNat < S784.size a) ∧
  (∀ a x, ((![v1029] : Fin 1 → IVec S16 32) a x).toNat < S784.size a)
theorem k0_idx783_inb : ∀ (v1029 : IVec S16 32) (k0_hw155 : k0_chk155 v1029), ∀ a x, ((![v1029] : Fin 1 → IVec S16 32) a x).toNat < S784.size a := fun v1029 k0_hw155 => k0_hw155.1
theorem k0_idx784_inb : ∀ (v1029 : IVec S16 32) (k0_hw155 : k0_chk155 v1029), ∀ a x, ((![v1029] : Fin 1 → IVec S16 32) a x).toNat < S784.size a := fun v1029 k0_hw155 => k0_hw155.2

def k0_chk156 (v32 : IVec S16 32) (v34 : IVec S16 32) (v36 : IVec S16 32) (v38 : IVec S16 32) (v40 : IVec S16 32) (v42 : IVec S16 32) (v44 : IVec S16 32) (v46 : IVec S16 32) (v1030 : IVec S16 32) : Prop :=
  (∀ a x, ((![v1030, v32] : Fin 2 → IVec S16 32) a x).toNat < S400x128.size a) ∧
  (∀ a x, ((![v1030, v34] : Fin 2 → IVec S16 32) a x).toNat < S400x128.size a) ∧
  (∀ a x, ((![v1030, v36] : Fin 2 → IVec S16 32) a x).toNat < S400x128.size a) ∧
  (∀ a x, ((![v1030, v38] : Fin 2 → IVec S16 32) a x).toNat < S400x128.size a) ∧
  (∀ a x, ((![v1030, v40] : Fin 2 → IVec S16 32) a x).toNat < S400x128.size a) ∧
  (∀ a x, ((![v1030, v42] : Fin 2 → IVec S16 32) a x).toNat < S400x128.size a) ∧
  (∀ a x, ((![v1030, v44] : Fin 2 → IVec S16 32) a x).toNat < S400x128.size a) ∧
  (∀ a x, ((![v1030, v46] : Fin 2 → IVec S16 32) a x).toNat < S400x128.size a)
theorem k0_idx785_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v32] : Fin 2 → IVec S16 32) a x).toNat < S400x128.size a := fun v32 v34 v36 v38 v40 v42 v44 v46 v1030 k0_hw156 => k0_hw156.1
theorem k0_idx786_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v34] : Fin 2 → IVec S16 32) a x).toNat < S400x128.size a := fun v32 v34 v36 v38 v40 v42 v44 v46 v1030 k0_hw156 => k0_hw156.2.1
theorem k0_idx787_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v36] : Fin 2 → IVec S16 32) a x).toNat < S400x128.size a := fun v32 v34 v36 v38 v40 v42 v44 v46 v1030 k0_hw156 => k0_hw156.2.2.1
theorem k0_idx788_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v38] : Fin 2 → IVec S16 32) a x).toNat < S400x128.size a := fun v32 v34 v36 v38 v40 v42 v44 v46 v1030 k0_hw156 => k0_hw156.2.2.2.1
theorem k0_idx789_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v40] : Fin 2 → IVec S16 32) a x).toNat < S400x128.size a := fun v32 v34 v36 v38 v40 v42 v44 v46 v1030 k0_hw156 => k0_hw156.2.2.2.2.1
theorem k0_idx790_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v42] : Fin 2 → IVec S16 32) a x).toNat < S400x128.size a := fun v32 v34 v36 v38 v40 v42 v44 v46 v1030 k0_hw156 => k0_hw156.2.2.2.2.2.1
theorem k0_idx791_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v44] : Fin 2 → IVec S16 32) a x).toNat < S400x128.size a := fun v32 v34 v36 v38 v40 v42 v44 v46 v1030 k0_hw156 => k0_hw156.2.2.2.2.2.2.1
theorem k0_idx792_inb : ∀ (v32 : IVec S16 32) (v34 : IVec S16 32) (v36 : IVec S16 32) (v38 : IVec S16 32) (v40 : IVec S16 32) (v42 : IVec S16 32) (v44 : IVec S16 32) (v46 : IVec S16 32) (v1030 : IVec S16 32) (k0_hw156 : k0_chk156 v32 v34 v36 v38 v40 v42 v44 v46 v1030), ∀ a x, ((![v1030, v46] : Fin 2 → IVec S16 32) a x).toNat < S400x128.size a := fun v32 v34 v36 v38 v40 v42 v44 v46 v1030 k0_hw156 => k0_hw156.2.2.2.2.2.2.2

def k0_chk157 (v1058 : IVec S16 32) : Prop :=
  (∀ a x, ((![v1058] : Fin 1 → IVec S16 32) a x).toNat < S784.size a) ∧
  (∀ a x, ((![v1058] : Fin 1 → IVec S16 32) a x).toNat < S784.size a)
theorem k0_idx793_inb : ∀ (v1058 : IVec S16 32) (k0_hw157 : k0_chk157 v1058), ∀ a x, ((![v1058] : Fin 1 → IVec S16 32) a x).toNat < S784.size a := fun v1058 k0_hw157 => k0_hw157.1
theorem k0_idx794_inb : ∀ (v1058 : IVec S16 32) (k0_hw157 : k0_chk157 v1058), ∀ a x, ((![v1058] : Fin 1 → IVec S16 32) a x).toNat < S784.size a := fun v1058 k0_hw157 => k0_hw157.2

def k0_chk158 (v32 : IVec S16 32) (v34 : IVec S16 32) (v36 : IVec S16 32) (v38 : IVec S16 32) (v40 : IVec S16 32) (v42 : IVec S16 32) (v44 : IVec S16 32) (v46 : IVec S16 32) (v1059 : IVec S16 32) : Prop :=
  (∀ a x, ((![v1059, v32] : Fin 2 → IVec S16 32) a x).toNat < S400x128.size a) ∧
  (∀ a x, ((![v1059, v34] : Fin 2 → IVec S16 32) a x).toNat < S400x128.size a) ∧
  (∀ a x, ((![v1059, v36] : Fin 2 → IVec S16 32) a x).toNat < S400x128.size a) ∧
  (∀ a x, ((![v1059, v38] : Fin 2 → IVec S16 32) a x).toNat < S400x128.size a) ∧
  (∀ a x, ((![v1059, v40] : Fin 2 → IVec S16 32) a x).toNat < S400x128.size a) ∧
  (∀ a x, ((![v1059, v42] : Fin 2 → IVec S16 32) a x).toNat < S400x128.size a) ∧
  (∀ a x, ((![v1059, v44] : Fin 2 → IVec S16 32) a x).toNat < S400x128.size a) ∧
  (∀ a x, ((![v1059, v46] : Fin 2 → IVec S16 32) a x).toNat < S400x128.size a)
theorem k0_idx795_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v32] : Fin 2 → IVec S16 32) a x).toNat < S400x128.size a := fun v32 v34 v36 v38 v40 v42 v44 v46 v1059 k0_hw158 => k0_hw158.1
theorem k0_idx796_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v34] : Fin 2 → IVec S16 32) a x).toNat < S400x128.size a := fun v32 v34 v36 v38 v40 v42 v44 v46 v1059 k0_hw158 => k0_hw158.2.1
theorem k0_idx797_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v36] : Fin 2 → IVec S16 32) a x).toNat < S400x128.size a := fun v32 v34 v36 v38 v40 v42 v44 v46 v1059 k0_hw158 => k0_hw158.2.2.1
theorem k0_idx798_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v38] : Fin 2 → IVec S16 32) a x).toNat < S400x128.size a := fun v32 v34 v36 v38 v40 v42 v44 v46 v1059 k0_hw158 => k0_hw158.2.2.2.1
theorem k0_idx799_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v40] : Fin 2 → IVec S16 32) a x).toNat < S400x128.size a := fun v32 v34 v36 v38 v40 v42 v44 v46 v1059 k0_hw158 => k0_hw158.2.2.2.2.1
theorem k0_idx800_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v42] : Fin 2 → IVec S16 32) a x).toNat < S400x128.size a := fun v32 v34 v36 v38 v40 v42 v44 v46 v1059 k0_hw158 => k0_hw158.2.2.2.2.2.1
theorem k0_idx801_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v44] : Fin 2 → IVec S16 32) a x).toNat < S400x128.size a := fun v32 v34 v36 v38 v40 v42 v44 v46 v1059 k0_hw158 => k0_hw158.2.2.2.2.2.2.1
theorem k0_idx802_inb : ∀ (v32 : IVec S16 32) (v34 : IVec S16 32) (v36 : IVec S16 32) (v38 : IVec S16 32) (v40 : IVec S16 32) (v42 : IVec S16 32) (v44 : IVec S16 32) (v46 : IVec S16 32) (v1059 : IVec S16 32) (k0_hw158 : k0_chk158 v32 v34 v36 v38 v40 v42 v44 v46 v1059), ∀ a x, ((![v1059, v46] : Fin 2 → IVec S16 32) a x).toNat < S400x128.size a := fun v32 v34 v36 v38 v40 v42 v44 v46 v1059 k0_hw158 => k0_hw158.2.2.2.2.2.2.2

def k0_chk159 (v1087 : IVec S16 32) : Prop :=
  (∀ a x, ((![v1087] : Fin 1 → IVec S16 32) a x).toNat < S784.size a) ∧
  (∀ a x, ((![v1087] : Fin 1 → IVec S16 32) a x).toNat < S784.size a)
theorem k0_idx803_inb : ∀ (v1087 : IVec S16 32) (k0_hw159 : k0_chk159 v1087), ∀ a x, ((![v1087] : Fin 1 → IVec S16 32) a x).toNat < S784.size a := fun v1087 k0_hw159 => k0_hw159.1
theorem k0_idx804_inb : ∀ (v1087 : IVec S16 32) (k0_hw159 : k0_chk159 v1087), ∀ a x, ((![v1087] : Fin 1 → IVec S16 32) a x).toNat < S784.size a := fun v1087 k0_hw159 => k0_hw159.2

def k0_chk160 (v32 : IVec S16 32) (v34 : IVec S16 32) (v36 : IVec S16 32) (v38 : IVec S16 32) (v40 : IVec S16 32) (v42 : IVec S16 32) (v44 : IVec S16 32) (v46 : IVec S16 32) (v1088 : IVec S16 32) : Prop :=
  (∀ a x, ((![v1088, v32] : Fin 2 → IVec S16 32) a x).toNat < S400x128.size a) ∧
  (∀ a x, ((![v1088, v34] : Fin 2 → IVec S16 32) a x).toNat < S400x128.size a) ∧
  (∀ a x, ((![v1088, v36] : Fin 2 → IVec S16 32) a x).toNat < S400x128.size a) ∧
  (∀ a x, ((![v1088, v38] : Fin 2 → IVec S16 32) a x).toNat < S400x128.size a) ∧
  (∀ a x, ((![v1088, v40] : Fin 2 → IVec S16 32) a x).toNat < S400x128.size a) ∧
  (∀ a x, ((![v1088, v42] : Fin 2 → IVec S16 32) a x).toNat < S400x128.size a) ∧
  (∀ a x, ((![v1088, v44] : Fin 2 → IVec S16 32) a x).toNat < S400x128.size a) ∧
  (∀ a x, ((![v1088, v46] : Fin 2 → IVec S16 32) a x).toNat < S400x128.size a)
theorem k0_idx805_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v32] : Fin 2 → IVec S16 32) a x).toNat < S400x128.size a := fun v32 v34 v36 v38 v40 v42 v44 v46 v1088 k0_hw160 => k0_hw160.1
theorem k0_idx806_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v34] : Fin 2 → IVec S16 32) a x).toNat < S400x128.size a := fun v32 v34 v36 v38 v40 v42 v44 v46 v1088 k0_hw160 => k0_hw160.2.1
theorem k0_idx807_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v36] : Fin 2 → IVec S16 32) a x).toNat < S400x128.size a := fun v32 v34 v36 v38 v40 v42 v44 v46 v1088 k0_hw160 => k0_hw160.2.2.1
theorem k0_idx808_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v38] : Fin 2 → IVec S16 32) a x).toNat < S400x128.size a := fun v32 v34 v36 v38 v40 v42 v44 v46 v1088 k0_hw160 => k0_hw160.2.2.2.1
theorem k0_idx809_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v40] : Fin 2 → IVec S16 32) a x).toNat < S400x128.size a := fun v32 v34 v36 v38 v40 v42 v44 v46 v1088 k0_hw160 => k0_hw160.2.2.2.2.1
theorem k0_idx810_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v42] : Fin 2 → IVec S16 32) a x).toNat < S400x128.size a := fun v32 v34 v36 v38 v40 v42 v44 v46 v1088 k0_hw160 => k0_hw160.2.2.2.2.2.1
theorem k0_idx811_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v44] : Fin 2 → IVec S16 32) a x).toNat < S400x128.size a := fun v32 v34 v36 v38 v40 v42 v44 v46 v1088 k0_hw160 => k0_hw160.2.2.2.2.2.2.1
theorem k0_idx812_inb : ∀ (v32 : IVec S16 32) (v34 : IVec S16 32) (v36 : IVec S16 32) (v38 : IVec S16 32) (v40 : IVec S16 32) (v42 : IVec S16 32) (v44 : IVec S16 32) (v46 : IVec S16 32) (v1088 : IVec S16 32) (k0_hw160 : k0_chk160 v32 v34 v36 v38 v40 v42 v44 v46 v1088), ∀ a x, ((![v1088, v46] : Fin 2 → IVec S16 32) a x).toNat < S400x128.size a := fun v32 v34 v36 v38 v40 v42 v44 v46 v1088 k0_hw160 => k0_hw160.2.2.2.2.2.2.2

def k0_chk161 (v1116 : IVec S16 32) : Prop :=
  (∀ a x, ((![v1116] : Fin 1 → IVec S16 32) a x).toNat < S784.size a) ∧
  (∀ a x, ((![v1116] : Fin 1 → IVec S16 32) a x).toNat < S784.size a)
theorem k0_idx813_inb : ∀ (v1116 : IVec S16 32) (k0_hw161 : k0_chk161 v1116), ∀ a x, ((![v1116] : Fin 1 → IVec S16 32) a x).toNat < S784.size a := fun v1116 k0_hw161 => k0_hw161.1
theorem k0_idx814_inb : ∀ (v1116 : IVec S16 32) (k0_hw161 : k0_chk161 v1116), ∀ a x, ((![v1116] : Fin 1 → IVec S16 32) a x).toNat < S784.size a := fun v1116 k0_hw161 => k0_hw161.2

def k0_chk162 (v32 : IVec S16 32) (v34 : IVec S16 32) (v36 : IVec S16 32) (v38 : IVec S16 32) (v40 : IVec S16 32) (v42 : IVec S16 32) (v44 : IVec S16 32) (v46 : IVec S16 32) (v1117 : IVec S16 32) : Prop :=
  (∀ a x, ((![v1117, v32] : Fin 2 → IVec S16 32) a x).toNat < S400x128.size a) ∧
  (∀ a x, ((![v1117, v34] : Fin 2 → IVec S16 32) a x).toNat < S400x128.size a) ∧
  (∀ a x, ((![v1117, v36] : Fin 2 → IVec S16 32) a x).toNat < S400x128.size a) ∧
  (∀ a x, ((![v1117, v38] : Fin 2 → IVec S16 32) a x).toNat < S400x128.size a) ∧
  (∀ a x, ((![v1117, v40] : Fin 2 → IVec S16 32) a x).toNat < S400x128.size a) ∧
  (∀ a x, ((![v1117, v42] : Fin 2 → IVec S16 32) a x).toNat < S400x128.size a) ∧
  (∀ a x, ((![v1117, v44] : Fin 2 → IVec S16 32) a x).toNat < S400x128.size a) ∧
  (∀ a x, ((![v1117, v46] : Fin 2 → IVec S16 32) a x).toNat < S400x128.size a)
theorem k0_idx815_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v32] : Fin 2 → IVec S16 32) a x).toNat < S400x128.size a := fun v32 v34 v36 v38 v40 v42 v44 v46 v1117 k0_hw162 => k0_hw162.1
theorem k0_idx816_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v34] : Fin 2 → IVec S16 32) a x).toNat < S400x128.size a := fun v32 v34 v36 v38 v40 v42 v44 v46 v1117 k0_hw162 => k0_hw162.2.1
theorem k0_idx817_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v36] : Fin 2 → IVec S16 32) a x).toNat < S400x128.size a := fun v32 v34 v36 v38 v40 v42 v44 v46 v1117 k0_hw162 => k0_hw162.2.2.1
theorem k0_idx818_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v38] : Fin 2 → IVec S16 32) a x).toNat < S400x128.size a := fun v32 v34 v36 v38 v40 v42 v44 v46 v1117 k0_hw162 => k0_hw162.2.2.2.1
theorem k0_idx819_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v40] : Fin 2 → IVec S16 32) a x).toNat < S400x128.size a := fun v32 v34 v36 v38 v40 v42 v44 v46 v1117 k0_hw162 => k0_hw162.2.2.2.2.1
theorem k0_idx820_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v42] : Fin 2 → IVec S16 32) a x).toNat < S400x128.size a := fun v32 v34 v36 v38 v40 v42 v44 v46 v1117 k0_hw162 => k0_hw162.2.2.2.2.2.1
theorem k0_idx821_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v44] : Fin 2 → IVec S16 32) a x).toNat < S400x128.size a := fun v32 v34 v36 v38 v40 v42 v44 v46 v1117 k0_hw162 => k0_hw162.2.2.2.2.2.2.1
theorem k0_idx822_inb : ∀ (v32 : IVec S16 32) (v34 : IVec S16 32) (v36 : IVec S16 32) (v38 : IVec S16 32) (v40 : IVec S16 32) (v42 : IVec S16 32) (v44 : IVec S16 32) (v46 : IVec S16 32) (v1117 : IVec S16 32) (k0_hw162 : k0_chk162 v32 v34 v36 v38 v40 v42 v44 v46 v1117), ∀ a x, ((![v1117, v46] : Fin 2 → IVec S16 32) a x).toNat < S400x128.size a := fun v32 v34 v36 v38 v40 v42 v44 v46 v1117 k0_hw162 => k0_hw162.2.2.2.2.2.2.2

def k0_chk163 (v1145 : IVec S16 32) : Prop :=
  (∀ a x, ((![v1145] : Fin 1 → IVec S16 32) a x).toNat < S784.size a) ∧
  (∀ a x, ((![v1145] : Fin 1 → IVec S16 32) a x).toNat < S784.size a)
theorem k0_idx823_inb : ∀ (v1145 : IVec S16 32) (k0_hw163 : k0_chk163 v1145), ∀ a x, ((![v1145] : Fin 1 → IVec S16 32) a x).toNat < S784.size a := fun v1145 k0_hw163 => k0_hw163.1
theorem k0_idx824_inb : ∀ (v1145 : IVec S16 32) (k0_hw163 : k0_chk163 v1145), ∀ a x, ((![v1145] : Fin 1 → IVec S16 32) a x).toNat < S784.size a := fun v1145 k0_hw163 => k0_hw163.2

def k0_chk164 (v32 : IVec S16 32) (v34 : IVec S16 32) (v36 : IVec S16 32) (v38 : IVec S16 32) (v40 : IVec S16 32) (v42 : IVec S16 32) (v44 : IVec S16 32) (v46 : IVec S16 32) (v1146 : IVec S16 32) : Prop :=
  (∀ a x, ((![v1146, v32] : Fin 2 → IVec S16 32) a x).toNat < S400x128.size a) ∧
  (∀ a x, ((![v1146, v34] : Fin 2 → IVec S16 32) a x).toNat < S400x128.size a) ∧
  (∀ a x, ((![v1146, v36] : Fin 2 → IVec S16 32) a x).toNat < S400x128.size a) ∧
  (∀ a x, ((![v1146, v38] : Fin 2 → IVec S16 32) a x).toNat < S400x128.size a) ∧
  (∀ a x, ((![v1146, v40] : Fin 2 → IVec S16 32) a x).toNat < S400x128.size a) ∧
  (∀ a x, ((![v1146, v42] : Fin 2 → IVec S16 32) a x).toNat < S400x128.size a) ∧
  (∀ a x, ((![v1146, v44] : Fin 2 → IVec S16 32) a x).toNat < S400x128.size a) ∧
  (∀ a x, ((![v1146, v46] : Fin 2 → IVec S16 32) a x).toNat < S400x128.size a)
theorem k0_idx825_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v32] : Fin 2 → IVec S16 32) a x).toNat < S400x128.size a := fun v32 v34 v36 v38 v40 v42 v44 v46 v1146 k0_hw164 => k0_hw164.1
theorem k0_idx826_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v34] : Fin 2 → IVec S16 32) a x).toNat < S400x128.size a := fun v32 v34 v36 v38 v40 v42 v44 v46 v1146 k0_hw164 => k0_hw164.2.1
theorem k0_idx827_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v36] : Fin 2 → IVec S16 32) a x).toNat < S400x128.size a := fun v32 v34 v36 v38 v40 v42 v44 v46 v1146 k0_hw164 => k0_hw164.2.2.1
theorem k0_idx828_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v38] : Fin 2 → IVec S16 32) a x).toNat < S400x128.size a := fun v32 v34 v36 v38 v40 v42 v44 v46 v1146 k0_hw164 => k0_hw164.2.2.2.1
theorem k0_idx829_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v40] : Fin 2 → IVec S16 32) a x).toNat < S400x128.size a := fun v32 v34 v36 v38 v40 v42 v44 v46 v1146 k0_hw164 => k0_hw164.2.2.2.2.1
theorem k0_idx830_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v42] : Fin 2 → IVec S16 32) a x).toNat < S400x128.size a := fun v32 v34 v36 v38 v40 v42 v44 v46 v1146 k0_hw164 => k0_hw164.2.2.2.2.2.1
theorem k0_idx831_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v44] : Fin 2 → IVec S16 32) a x).toNat < S400x128.size a := fun v32 v34 v36 v38 v40 v42 v44 v46 v1146 k0_hw164 => k0_hw164.2.2.2.2.2.2.1
theorem k0_idx832_inb : ∀ (v32 : IVec S16 32) (v34 : IVec S16 32) (v36 : IVec S16 32) (v38 : IVec S16 32) (v40 : IVec S16 32) (v42 : IVec S16 32) (v44 : IVec S16 32) (v46 : IVec S16 32) (v1146 : IVec S16 32) (k0_hw164 : k0_chk164 v32 v34 v36 v38 v40 v42 v44 v46 v1146), ∀ a x, ((![v1146, v46] : Fin 2 → IVec S16 32) a x).toNat < S400x128.size a := fun v32 v34 v36 v38 v40 v42 v44 v46 v1146 k0_hw164 => k0_hw164.2.2.2.2.2.2.2

def k0_chk165 (v32 : IVec S16 32) (v34 : IVec S16 32) (v36 : IVec S16 32) (v38 : IVec S16 32) (v40 : IVec S16 32) (v42 : IVec S16 32) (v44 : IVec S16 32) (v46 : IVec S16 32) (v1172 : IVec S16 32) : Prop :=
  (∀ a x, ((![v32, v1172] : Fin 2 → IVec S16 32) a x).toNat < S128x49.size a) ∧
  (∀ a x, ((![v34, v1172] : Fin 2 → IVec S16 32) a x).toNat < S128x49.size a) ∧
  (∀ a x, ((![v36, v1172] : Fin 2 → IVec S16 32) a x).toNat < S128x49.size a) ∧
  (∀ a x, ((![v38, v1172] : Fin 2 → IVec S16 32) a x).toNat < S128x49.size a) ∧
  (∀ a x, ((![v40, v1172] : Fin 2 → IVec S16 32) a x).toNat < S128x49.size a) ∧
  (∀ a x, ((![v42, v1172] : Fin 2 → IVec S16 32) a x).toNat < S128x49.size a) ∧
  (∀ a x, ((![v44, v1172] : Fin 2 → IVec S16 32) a x).toNat < S128x49.size a) ∧
  (∀ a x, ((![v46, v1172] : Fin 2 → IVec S16 32) a x).toNat < S128x49.size a)
theorem k0_idx833_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v32, v1172] : Fin 2 → IVec S16 32) a x).toNat < S128x49.size a := fun v32 v34 v36 v38 v40 v42 v44 v46 v1172 k0_hw165 => k0_hw165.1
theorem k0_idx834_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v34, v1172] : Fin 2 → IVec S16 32) a x).toNat < S128x49.size a := fun v32 v34 v36 v38 v40 v42 v44 v46 v1172 k0_hw165 => k0_hw165.2.1
theorem k0_idx835_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v36, v1172] : Fin 2 → IVec S16 32) a x).toNat < S128x49.size a := fun v32 v34 v36 v38 v40 v42 v44 v46 v1172 k0_hw165 => k0_hw165.2.2.1
theorem k0_idx836_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v38, v1172] : Fin 2 → IVec S16 32) a x).toNat < S128x49.size a := fun v32 v34 v36 v38 v40 v42 v44 v46 v1172 k0_hw165 => k0_hw165.2.2.2.1
theorem k0_idx837_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v40, v1172] : Fin 2 → IVec S16 32) a x).toNat < S128x49.size a := fun v32 v34 v36 v38 v40 v42 v44 v46 v1172 k0_hw165 => k0_hw165.2.2.2.2.1
theorem k0_idx838_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v42, v1172] : Fin 2 → IVec S16 32) a x).toNat < S128x49.size a := fun v32 v34 v36 v38 v40 v42 v44 v46 v1172 k0_hw165 => k0_hw165.2.2.2.2.2.1
theorem k0_idx839_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v44, v1172] : Fin 2 → IVec S16 32) a x).toNat < S128x49.size a := fun v32 v34 v36 v38 v40 v42 v44 v46 v1172 k0_hw165 => k0_hw165.2.2.2.2.2.2.1
theorem k0_idx840_inb : ∀ (v32 : IVec S16 32) (v34 : IVec S16 32) (v36 : IVec S16 32) (v38 : IVec S16 32) (v40 : IVec S16 32) (v42 : IVec S16 32) (v44 : IVec S16 32) (v46 : IVec S16 32) (v1172 : IVec S16 32) (k0_hw165 : k0_chk165 v32 v34 v36 v38 v40 v42 v44 v46 v1172), ∀ a x, ((![v46, v1172] : Fin 2 → IVec S16 32) a x).toNat < S128x49.size a := fun v32 v34 v36 v38 v40 v42 v44 v46 v1172 k0_hw165 => k0_hw165.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x256x64x64 : Shape := ⟨4, ![2, 256, 64, 64]⟩
abbrev S2000x400 : Shape := ⟨2, ![2000, 400]⟩
abbrev S2000x784 : Shape := ⟨2, ![2000, 784]⟩
abbrev S2x64x64x256 : Shape := ⟨4, ![2, 64, 64, 256]⟩
abbrev S8192x256 : Shape := ⟨2, ![8192, 256]⟩
abbrev S2000 : Shape := ⟨1, ![2000]⟩
abbrev S2000x1 : Shape := ⟨2, ![2000, 1]⟩
abbrev S_ : Shape := ⟨0, ![]⟩
abbrev S2000x784x1 : Shape := ⟨3, ![2000, 784, 1]⟩
abbrev S2000x784x2 : Shape := ⟨3, ![2000, 784, 2]⟩
abbrev S2000x784x256 : Shape := ⟨3, ![2000, 784, 256]⟩
abbrev S2000x49x16x256 : Shape := ⟨4, ![2000, 49, 16, 256]⟩
abbrev S2000x49x256 : Shape := ⟨3, ![2000, 49, 256]⟩
abbrev S2000x256x49 : Shape := ⟨3, ![2000, 256, 49]⟩
abbrev S2000x256x7x7 : Shape := ⟨4, ![2000, 256, 7, 7]⟩

abbrev nBuf : Space → Nat
  | .hbm => 44
  | .vmem => 0
  | .smem => 0
  | _ => 0

abbrev bufTy : (tb : Table) → Fin (tcTables nBuf tb) → BufTy
  | .hbm, ⟨0, _⟩ => ⟨S2x256x64x64, .f32⟩
  | .hbm, ⟨1, _⟩ => ⟨S2000x400, .i32⟩
  | .hbm, ⟨2, _⟩ => ⟨S2000x784, .i32⟩
  | .hbm, ⟨3, _⟩ => ⟨S2000x784, .f32⟩
  | .hbm, ⟨4, _⟩ => ⟨S2x64x64x256, .f32⟩
  | .hbm, ⟨5, _⟩ => ⟨S8192x256, .f32⟩
  | .hbm, ⟨6, _⟩ => ⟨S2000, .i32⟩
  | .hbm, ⟨7, _⟩ => ⟨S2000x1, .i32⟩
  | .hbm, ⟨8, _⟩ => ⟨S2000x784, .i32⟩
  | .hbm, ⟨9, _⟩ => ⟨S_, .i32⟩
  | .hbm, ⟨10, _⟩ => ⟨S2000x784, .i32⟩
  | .hbm, ⟨11, _⟩ => ⟨S2000x784, .i1⟩
  | .hbm, ⟨12, _⟩ => ⟨S_, .i32⟩
  | .hbm, ⟨13, _⟩ => ⟨S2000x784, .i32⟩
  | .hbm, ⟨14, _⟩ => ⟨S2000x784, .i32⟩
  | .hbm, ⟨15, _⟩ => ⟨S2000x784, .i32⟩
  | .hbm, ⟨16, _⟩ => ⟨S_, .i32⟩
  | .hbm, ⟨17, _⟩ => ⟨S2000x784, .i32⟩
  | .hbm, ⟨18, _⟩ => ⟨S2000x784, .i1⟩
  | .hbm, ⟨19, _⟩ => ⟨S_, .i32⟩
  | .hbm, ⟨20, _⟩ => ⟨S2000x784, .i32⟩
  | .hbm, ⟨21, _⟩ => ⟨S2000x784, .i32⟩
  | .hbm, ⟨22, _⟩ => ⟨S2000x784, .i32⟩
  | .hbm, ⟨23, _⟩ => ⟨S2000x784x1, .i32⟩
  | .hbm, ⟨24, _⟩ => ⟨S2000x784x1, .i32⟩
  | .hbm, ⟨25, _⟩ => ⟨S2000x784x2, .i32⟩
  | .hbm, ⟨26, _⟩ => ⟨S2000x784, .i32⟩
  | .hbm, ⟨27, _⟩ => ⟨S_, .i32⟩
  | .hbm, ⟨28, _⟩ => ⟨S2000x784, .i32⟩
  | .hbm, ⟨29, _⟩ => ⟨S2000x784, .i1⟩
  | .hbm, ⟨30, _⟩ => ⟨S_, .i32⟩
  | .hbm, ⟨31, _⟩ => ⟨S2000x784, .i32⟩
  | .hbm, ⟨32, _⟩ => ⟨S2000x784, .i32⟩
  | .hbm, ⟨33, _⟩ => ⟨S2000x784, .i32⟩
  | .hbm, ⟨34, _⟩ => ⟨S2000x784x1, .i32⟩
  | .hbm, ⟨35, _⟩ => ⟨S2000x784x256, .f32⟩
  | .hbm, ⟨36, _⟩ => ⟨S2000x784x1, .f32⟩
  | .hbm, ⟨37, _⟩ => ⟨S2000x784x256, .f32⟩
  | .hbm, ⟨38, _⟩ => ⟨S2000x784x256, .f32⟩
  | .hbm, ⟨39, _⟩ => ⟨S2000x49x16x256, .f32⟩
  | .hbm, ⟨40, _⟩ => ⟨S_, .f32⟩
  | .hbm, ⟨41, _⟩ => ⟨S2000x49x256, .f32⟩
  | .hbm, ⟨42, _⟩ => ⟨S2000x256x49, .f32⟩
  | .hbm, ⟨43, _⟩ => ⟨S2000x256x7x7, .f32⟩
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Gather.lean ====
/-
  Several indirect gathers in flight on ONE semaphore. A tile starts five gathers of eighty rows each on one
  semaphore before it waits for any of them. Each gather is a stream of row transfers of one credit, so all of them
  together are one batch of four hundred row transfers, and the five waits drain the batch. This module has the rule
  for starting the next gather of such a batch, and the join of the deliveries of one gather.
-/
module

public import Idealize.ShloMosaic.Lib.SparseCore.Stream
public import Idealize.ShloMosaic.Lib.Batch
public import Idealize.ShloMosaic.Lib.Tactic

@[expose] public section

noncomputable section

namespace Cert.Roi

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

private theorem ent {P R : sProp 𝕄} (h : P ⊢ R) : Idealize.SL.BI.Entails P R := h

/-- `m` transfers of a batch of `n`, from number `j0` on: their issue rights come off the front of the pending ones. -/
theorem pending_take {n : ℕ} (Φ : Fin n → sProp 𝕄) (j0 : ℕ) : ∀ (m : ℕ) (h : j0 + m ≤ n),
    bigSep (pending j0) Φ = iprop((bigSep Finset.univ fun j : Fin m => Φ ⟨j0 + j.val, by omega⟩) ∗ bigSep (pending (j0 + m)) Φ)
  | 0, h => by
    rw [show (Finset.univ : Finset (Fin 0)) = ∅ from rfl, bigSep_empty]
    exact (BI.Entails.antisymm emp_sep.1 emp_sep.2).symm
  | m + 1, h => by
    rw [pending_take Φ j0 m (by omega), Transfers.bigSep_pending_step Φ (j0 + m) (by omega)]
    have : (bigSep Finset.univ fun j : Fin (m + 1) => Φ ⟨j0 + j.val, by omega⟩)
        = iprop(Φ ⟨j0 + m, by omega⟩ ∗ bigSep Finset.univ fun j : Fin m => Φ ⟨j0 + j.val, by omega⟩) := by
      rw [Fin.univ_castSuccEmb, Finset.cons_eq_insert, BI.bigSep_insert (by simp), BI.bigSep_map]; rfl
    rw [this]
    refine BI.Entails.antisymm ?_ ?_
    · refine ent ?_
      iintro ⟨H1, H2, H3⟩
      isplitl [H1 H2]
      · isplitl [H2] <;> iassumption
      · iexact H3
    · refine ent ?_
      iintro ⟨⟨H1, H2⟩, H3⟩
      isplitl [H2]; · iexact H2
      isplitl [H1] <;> iassumption

/-- What row transfer `j` of a gather delivers: its row of the destination, written; its entry of the offset list
    back; its piece of the source's share back. -/
def rowDeliv (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (fun i : (s.rowShape hg.axis').Idx => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ (Shape.size_pos_of_numel_pos hs _) j} fs))

instance rowDeliv_storable (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDeliv (Ix := Ix) (Name := Name) (U := U) (Lvl := Lvl) c src dst hg offs hn hs q qo fs fd fo hin j) := by
  unfold rowDeliv; infer_instance

/-- The deliveries of one gather together: the destination written with the gathered rows, the list and the source's
    share back. -/
theorem rowDeliv_join (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDeliv (Ix := Ix) (Name := Name) (U := U) (Lvl := Lvl) c src dst hg offs hn hs q qo fs fd fo hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (fun j : Fin (s.size hg.axis') => si.rowMajor.symm (j.cast hn.symm)) :=
    si.rowMajor.symm.bijective.comp (finCongr hn.symm).bijective
  unfold rowDeliv
  iintro H
  ihave H := Transfers.bigSep_sep_out _ _ _ $$ H
  icases H with ⟨H, Hsrc⟩
  ihave H := Transfers.bigSep_sep_out _ _ _ $$ H
  icases H with ⟨Hdst, Hoffs⟩
  isplitl [Hdst]
  · iapply (pointsTo_rows_write c dst.view hg.axis' fd
      (fun j (i : (s.rowShape hg.axis').Idx) => src.view.read (Elt F) fs (hg.rowIdx (rows (offs.view.read (Elt F) fo) hn hin j) i))
      (gatherPayload hg (src.view.read (Elt F) fs) (rows (offs.view.read (Elt F) fo) hn hin)) (fun j i => by
        unfold gatherPayload; rw [Shape.Gathers.idx_rowRect_emb])) $$ Hdst
  isplitl [Hsrc]
  · iapply (Entails.of_eq (pointsTo_piecesOf (src.view.set) fs (Shape.size_pos_of_numel_pos hs _) q).symm) $$ Hsrc
  · iapply (Entails.of_eq (pointsTo_entries c offs.view _ hen qo fo).symm) $$ Hoffs

/-- Starting the batch's next gather, of `s.size hg.axis'` row transfers of credit `N` each. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j0 : ℕ}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (hj : j0 + s.size hg.axis' ≤ n)
    (hD : ∀ j : Fin (s.size hg.axis'), rowDeliv c src dst hg offs hn hs q qo fs fd fo hin j ⊢ D ⟨j0 + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j0 0)
      ⊢ iprop((Batch EC c (.dma sem) ι N D (j0 + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun j => gatherRow c src dst hg sem hsrc he hsp hr j (rows (offs.view.read (Elt F) fo) hn hin j)
  have hagree : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Transfers.Batch
  iintro ⟨Hs, Hd, Ho, ⟨%γ, %γ₀, %κ, #Hinv, HI, H0, Hcred⟩⟩ Hk
  ihave HI := (Entails.of_eq (pending_take (fun t => ExclCount.count EC (γ t) 0) j0 (s.size hg.axis') hj)) $$ HI
  icases HI with ⟨Hnow, Hlater⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf (src.view.set) fs ho q)) $$ Hs
  iapply (wp_enqueueIndirectDma 𝒱 c bd Set.univ (qo := qo) (fo := fo) (rd := rd) ι (s.size hg.axis' * N) hagree hrd hsum) $$ [Hd Ho Hs Hnow]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ ExclCount.count EC (γ ⟨j0 + j.val, by omega⟩) 0))
        ⊢ iprop(S.heldEntry qo fo j ∗ (S.heldEntry qo fo j -∗ rowRes c (rd j))) := fun j => by
      iintro ⟨#Hinv, ⟨⟨Hr, He⟩, Hsq⟩, Hγ⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd
            (fun i : (s.rowShape hg.axis').Idx => src.view.read (Elt F) fs (hg.rowIdx (rows (offs.view.read (Elt F) fo) hn hin j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hc : (rd j).dst.view.amount (SemLoc.dma sem) = N := hN j
        rw [hc]
        iapply (Transfers.batch_creditUpdate EC (D := D) ⟨j0 + j.val, by omega⟩ (hD j))
        isplitr; · iexact Hinv
        iexact Hγ
    unfold Stream.res
    ihave H := Transfers.bigSep_sep_in _ _ _ $$ [Hd Ho]; · isplitl [Hd] <;> iassumption
    ihave H := Transfers.bigSep_sep_in _ _ _ $$ [H Hs]; · isplitl [H] <;> iassumption
    ihave H := Transfers.bigSep_sep_in _ _ _ $$ [H Hnow]; · isplitl [H] <;> iassumption
    iapply (Transfers.bigSep_mono_pers Finset.univ _ _ _ fun j _ => hrow j)
    isplitr; · iexact Hinv
    iexact H
  iintro Hnew
  iapply Hk
  iexists γ, γ₀, κ
  isplitr; · iexact Hinv
  isplitl [Hlater]; · iexact Hlater
  isplitl [H0]; · iexact H0
  rw [show (j0 + s.size hg.axis') * N - 0 = (j0 * N - 0) + s.size hg.axis' * N by rw [Nat.add_mul]; omega, ← tallyAt_add]
  icombine Hcred Hnew as H
  iexact H

end Cert.Roi

end
-- ==== Proof.Copies.lean ====
/-
  Copies between buffers of which a property of every word, by its place, is known. A copy carries the property from the
  part it reads to the buffer it writes. Copies in flight are held as what will be owned once they have been waited for.
-/
module

public import Idealize.ShloMosaic.Lib.SparseCore.Ops
public import Idealize.ShloMosaic.Lib.Batch
public import Idealize.ShloMosaic.Lib.Tactic

@[expose] public section

noncomputable section

namespace Cert.Roi

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers (Batch pending Flight)

variable {nD : Nat} {τ : Topo} {sig : RefSig} {Ix : Type} [DecidableEq Ix]
variable {F : FTy → Type} {Name : Type} [DecidableEq Name]
variable {U : Type} [URA U] {Lvl : Type} [Preorder Lvl] {Λ : Labels}
variable {s t : Shape} {e : EltTy} {α β : Type}

local notation "𝕄" => MT nD τ sig Ix (Elt F) Name U Lvl

/-- A memref's elements at a share, the one at each place with the property `P` has there. -/
def Own (c : Thread nD τ) {sp : Space} (m : Memref sig c.2.kind sp s e) (q : PosShare TreeShare) (P : s.Idx → Elt F e → Prop) : sProp 𝕄 :=
  iprop(∃ f, ⌜∀ y, P y (m.view.read (Elt F) f y)⌝ ∗ (m.view.loc c ↦[m.view.set]{q} f))

/-- The words a tensor has, place by place. -/
abbrev Is {A : Type} (g : s.Idx → A) : s.Idx → A → Prop := fun y v => v = g y

/-- What a core owes, with the waits it may still take and the waits taken since `W₀`. -/
def Ow (c : Thread nD τ) (ι : Ix) (O : CellTallies nD τ sig Ix) (W₀ : Waits sig Ix) : sProp 𝕄 :=
  iprop(Transfers.MayWaits c ι O ∗ ∃ W, ⌜∀ p ∈ W, p ∈ W₀ ∨ p.2 = ι⌝ ∗ owes c O W)

variable {defs : Defs nD τ sig (Elt F) Λ} (EC : UEmb Counters (MT nD τ sig Ix (Elt F) Name U Lvl)) {𝒱 : Variants} {c : Thread nD τ} {bd : Option 𝒱.V}

/-- A copy in flight on `sm`, giving `D` once waited for. -/
def Fly (c : Thread nD τ) (sm : SemLoc sig) (ι : Ix) (N : ℕ) (D : sProp 𝕄) : sProp 𝕄 :=
  iprop(∃ X : sProp 𝕄, Flight EC c sm ι N X ∗ (X -∗ D))

/-- A batch of `n` copies on `sm`, `j` started and `u` units waited for, giving `D` once all are waited for. -/
def Bat (c : Thread nD τ) (sm : SemLoc sig) (ι : Ix) (N n j u : ℕ) (D : sProp 𝕄) : sProp 𝕄 :=
  iprop(∃ X : Fin n → sProp 𝕄, Batch EC c sm ι N X j u ∗ (bigSep Finset.univ X -∗ D))

variable [Infinite Name]

/-- A part of a memref reads words of the memref. -/
theorem part_prop {kd : Kind} {sp : Space} (m : Memref sig kd sp s e) (r : Rect s) (hr : ∀ a, r.stride a = 1) (hs : r.shape.Squeezes t) {P : s.Idx → Elt F e → Prop}
    {f : m.view.ty.Contents (Elt F)} (h : ∀ y, P y (m.view.read (Elt F) f y)) (y : t.Idx) :
    P (r.emb (Shape.reshapeEquiv hs.numel_eq y)) ((((m.slice r hr).squeeze t hs).view).read (Elt F) f y) :=
  h (r.emb (Shape.reshapeEquiv hs.numel_eq y))

/-- Starting a copy of a part of `m` into `dst`. -/
theorem fetch [EC.LandsIn (upEmb : UEmb _ 𝕄)] {sp sp' : Space} {m : Memref sig c.2.kind sp s e} {r : Rect s} {hr : ∀ a, r.stride a = 1} {hs : r.shape.Squeezes t}
    {dst : Memref sig c.2.kind sp' t e} {sem : DmaSem sig} {h1 h2 h3}
    {k : PUnit → Prog (TpuEff nD τ sig (Elt F) Λ c.2) β} {Q : β → sProp 𝕄} {q : PosShare TreeShare} {P : s.Idx → Elt F e → Prop} {P' P₁ : t.Idx → Elt F e → Prop}
    (ι : Ix) (hN : 0 < dst.view.dmaCredit) (h : ∀ y v, P (r.emb (Shape.reshapeEquiv hs.numel_eq y)) v → P₁ y v) :
    iprop(Own c m q P ∗ Own c dst fullShare P' ∗ semVal (c, .dma sem) 0)
      ⊢ iprop((Fly EC c (.dma sem) ι dst.view.dmaCredit iprop(Own c m q P ∗ Own c dst fullShare P₁) -∗ wp frame (wpE defs 𝒱 c bd) Set.univ (k ⟨⟩) Q)
          -∗ wp frame (wpE defs 𝒱 c bd) Set.univ (Prog.lift (TpuEff.enqueueDma ((m.slice r hr).squeeze t hs) (.here dst) (.dma sem) h1 h2 h3) >>= k) Q) := by
  have hsub : ((m.slice r hr).squeeze t hs).view.set ⊆ m.view.set := by
    show ((m.view.slice r).reshape t hs.numel_eq).set ⊆ m.view.set
    rw [View.set_reshape]
    exact View.set_slice_subset _ _
  unfold Own
  iintro ⟨⟨%f, %hf, Hm⟩, ⟨%g, %hg, Hd⟩, Hs⟩ Hk
  ihave Hm := (pointsTo_split_subset (q := q) (f := f) hsub).1 $$ Hm
  icases Hm with ⟨Hm, Hrest⟩
  iapply (Transfers.wp_dmaLocal EC 𝒱 c bd (src := (m.slice r hr).squeeze t hs) (dst := dst) (sm := .dma sem) (via := .same) (hsrc := h1) (hdst := h2) (hsem := h3)
    (k := k) (q := q) (fs := f) (Sd := dst.view.set) (fd := g) ι _ rfl hN (Finset.Subset.refl _)) $$ [Hm Hd Hs]
  · isplitl [Hm]; · iexact Hm
    isplitl [Hd]; · iexact Hd
    iexact Hs
  iintro HF
  iapply Hk
  unfold Fly
  iexists _
  isplitl [HF]; · iexact HF
  iintro ⟨Hd, Hm⟩
  isplitl [Hm Hrest]
  · iexists f
    isplitr; · ipureintro; exact hf
    iapply (pointsTo_split_subset (q := q) (f := f) hsub).2
    isplitl [Hm]; · iexact Hm
    iexact Hrest
  · iexists _
    isplitr
    swap; · iexact Hd
    ipureintro
    intro y
    rw [View.read_write_univ]
    exact h y _ (part_prop m r hr hs hf y)

/-- Waiting for it. -/
theorem fetched [EC.LandsIn (upEmb : UEmb _ 𝕄)] {sp sp' : Space} {s' : Shape} {e' : EltTy} {κ' : Kind} {srcw : Memref sig c.2.kind sp' s' e'} {dstw : Memref sig κ' sp s e} {sem : DmaSem sig} {h1 h2}
    {k : PUnit → Prog (TpuEff nD τ sig (Elt F) Λ c.2) β} {Q : β → sProp 𝕄} {D : sProp 𝕄} {O : CellTallies nD τ sig Ix} {W₀ : Waits sig Ix}
    (ι : Ix) {N : ℕ} (hN : dstw.view.dmaCredit = N) :
    iprop(Fly EC c (.dma sem) ι N D ∗ Ow c ι O W₀)
      ⊢ iprop((iprop(D ∗ semVal (c, .dma sem) 0 ∗ Ow c ι O W₀) -∗ wp frame (wpE defs 𝒱 c bd) Set.univ (k ⟨⟩) Q)
          -∗ wp frame (wpE defs 𝒱 c bd) Set.univ (Prog.lift (TpuEff.waitDma2 sem srcw dstw h1 h2) >>= k) Q) := by
  unfold Fly Ow
  iintro ⟨⟨%X, HF, HX⟩, #Hmw, %W, %hW, HO⟩ Hk
  ihave Hm := (Transfers.MayWaits.elim (SemLoc.dma sem)) $$ Hmw
  iapply (Transfers.wp_waitLocalO EC 𝒱 c bd (k := k) ι hN) $$ [HF HO Hm]
  · isplitl [HF]; · iexact HF
    isplitl [HO]; · iexact HO
    iexact Hm
  iintro ⟨HX', Hs, HO⟩
  iapply Hk
  isplitl [HX HX']; · iapply HX; iexact HX'
  isplitl [Hs]; · iexact Hs
  isplitr; · iexact Hmw
  iexists _
  isplitr
  swap; · iexact HO
  ipureintro
  intro p hp
  rcases Finset.mem_insert.1 hp with rfl | hp
  · exact Or.inr rfl
  · exact hW p hp

/-- The second copy of a pair on one semaphore, not yet started: what it needs, and what the pair gives in the end. -/
def Half (c : Thread nD τ) (sm : SemLoc sig) (ι : Ix) (N : ℕ) {sp sp' : Space} (src : Memref sig c.2.kind sp t e) (dst : Memref sig c.2.kind sp' t e)
    (q : PosShare TreeShare) (D : sProp 𝕄) : sProp 𝕄 :=
  iprop(∃ (X : Fin 2 → sProp 𝕄) (f : Buf (Elt F) (src.view.loc c)) (g : Buf (Elt F) (dst.view.loc c)),
    ⌜iprop((dst.view.loc c ↦[dst.view.set]{fullShare} (dst.view.write (Elt F) g (src.view.read (Elt F) f) Finset.univ))
        ∗ (src.view.loc c ↦[src.view.set]{q} f)) ⊢ X 1⌝
    ∗ (src.view.loc c ↦[src.view.set]{q} f) ∗ (dst.view.loc c ↦[dst.view.set]{fullShare} g) ∗ Batch EC c sm ι N X 1 0 ∗ (bigSep Finset.univ X -∗ D))

/-- Two things held. -/
theorem bigSep_pair (Φ : Fin 2 → sProp 𝕄) : bigSep Finset.univ Φ = iprop(Φ 0 ∗ Φ 1) := by
  rw [show (Finset.univ : Finset (Fin 2)) = {0, 1} from rfl, bigSep_insert (by decide), bigSep_singleton]
  rfl

instance pair_storable (A B : sProp 𝕄) [Storable (upEmb : UEmb _ 𝕄) A] [Storable (upEmb : UEmb _ 𝕄) B] (i : Fin 2) :
    Storable (upEmb : UEmb _ 𝕄) ((![A, B] : Fin 2 → sProp 𝕄) i) := by
  match i with
  | 0 => exact (inferInstance : Storable (upEmb : UEmb _ 𝕄) A)
  | 1 => exact (inferInstance : Storable (upEmb : UEmb _ 𝕄) B)

/-- Starting the first of two copies on one semaphore. -/
theorem fetch_fst [EC.LandsIn (upEmb : UEmb _ 𝕄)] {sp sp' : Space} {e₂ : EltTy} {m : Memref sig c.2.kind sp s e} {m₂ : Memref sig c.2.kind sp s e₂} {r : Rect s} {hr : ∀ a, r.stride a = 1}
    {hs : r.shape.Squeezes t} {dst : Memref sig c.2.kind sp' t e} {dst₂ : Memref sig c.2.kind sp' t e₂} {sem : DmaSem sig} {h1 h2 h3}
    {k : PUnit → Prog (TpuEff nD τ sig (Elt F) Λ c.2) β} {Q : β → sProp 𝕄} {q q₂ : PosShare TreeShare} {P : s.Idx → Elt F e → Prop} {P' P₁ : t.Idx → Elt F e → Prop}
    {P₂ : s.Idx → Elt F e₂ → Prop} {P₂' P₃ : t.Idx → Elt F e₂ → Prop}
    (ι : Ix) {N : ℕ} (hN : dst.view.dmaCredit = N) (h : ∀ y v, P (r.emb (Shape.reshapeEquiv hs.numel_eq y)) v → P₁ y v)
    (h' : ∀ y v, P₂ (r.emb (Shape.reshapeEquiv hs.numel_eq y)) v → P₃ y v) :
    iprop(Own c m q P ∗ Own c dst fullShare P' ∗ Own c m₂ q₂ P₂ ∗ Own c dst₂ fullShare P₂' ∗ semVal (c, .dma sem) 0)
      ⊢ iprop((Half EC c (.dma sem) ι N ((m₂.slice r hr).squeeze t hs) dst₂ q₂
              iprop(Own c m q P ∗ Own c dst fullShare P₁ ∗ Own c m₂ q₂ P₂ ∗ Own c dst₂ fullShare P₃) -∗ wp frame (wpE defs 𝒱 c bd) Set.univ (k ⟨⟩) Q)
          -∗ wp frame (wpE defs 𝒱 c bd) Set.univ (Prog.lift (TpuEff.enqueueDma ((m.slice r hr).squeeze t hs) (.here dst) (.dma sem) h1 h2 h3) >>= k) Q) := by
  have hsub : ((m.slice r hr).squeeze t hs).view.set ⊆ m.view.set := by
    show ((m.view.slice r).reshape t hs.numel_eq).set ⊆ m.view.set
    rw [View.set_reshape]
    exact View.set_slice_subset _ _
  have hsub₂ : ((m₂.slice r hr).squeeze t hs).view.set ⊆ m₂.view.set := by
    show ((m₂.view.slice r).reshape t hs.numel_eq).set ⊆ m₂.view.set
    rw [View.set_reshape]
    exact View.set_slice_subset _ _
  unfold Own
  iintro ⟨⟨%f, %hf, Hm⟩, ⟨%g, %hg, Hd⟩, ⟨%f₂, %hf₂, Hm2⟩, ⟨%g₂, %hg₂, Hd2⟩, Hs⟩ Hk
  ihave Hm := (pointsTo_split_subset (q := q) (f := f) hsub).1 $$ Hm
  icases Hm with ⟨Hm, Hrest⟩
  ihave Hm2 := (pointsTo_split_subset (q := q₂) (f := f₂) hsub₂).1 $$ Hm2
  icases Hm2 with ⟨Hm2, Hrest2⟩
  let D : Fin 2 → sProp 𝕄 := ![iprop((dst.view.loc c ↦[dst.view.set]{fullShare} (dst.view.write (Elt F) g (((m.slice r hr).squeeze t hs).view.read (Elt F) f) Finset.univ))
        ∗ (((m.slice r hr).squeeze t hs).view.loc c ↦[((m.slice r hr).squeeze t hs).view.set]{q} f)),
      iprop((dst₂.view.loc c ↦[dst₂.view.set]{fullShare} (dst₂.view.write (Elt F) g₂ (((m₂.slice r hr).squeeze t hs).view.read (Elt F) f₂) Finset.univ))
        ∗ (((m₂.slice r hr).squeeze t hs).view.loc c ↦[((m₂.slice r hr).squeeze t hs).view.set]{q₂} f₂))]
  haveI : ∀ i, Storable (upEmb : UEmb _ 𝕄) (D i) := pair_storable _ _
  imod (Transfers.batch_alloc' EC c (sm := .dma sem) ι N D) $$ Hs with Hb
  iapply (Transfers.wp_dmaBatch EC 𝒱 c bd (src := (m.slice r hr).squeeze t hs) (dst := dst) (sm := .dma sem) (via := .same) (hsrc := h1) (hdst := h2) (hsem := h3)
    (k := k) (q := q) (fs := f) (Sd := dst.view.set) (fd := g) ι N hN (Finset.Subset.refl _) (j := 0) (u := 0) (D := D) (by decide : 0 < 2) (by simp) (Entails.refl (D 0))) $$ [Hm Hd Hb]
  · isplitl [Hm]; · iexact Hm
    isplitl [Hd]; · iexact Hd
    iexact Hb
  iintro Hb
  iapply Hk
  unfold Half
  iexists D
  iexists f₂
  iexists g₂
  isplitr
  swap
  · isplitl [Hm2]; · iexact Hm2
    isplitl [Hd2]; · iexact Hd2
    isplitl [Hb]; · iexact Hb
    rw [bigSep_pair]
    dsimp only [D, Matrix.cons_val_zero, Matrix.cons_val_one]
    iintro ⟨⟨Hd, Hm⟩, Hd2, Hm2⟩
    isplitl [Hm Hrest]
    · iexists f
      isplitr; · ipureintro; exact hf
      iapply (pointsTo_split_subset (q := q) (f := f) hsub).2
      isplitl [Hm]; · iexact Hm
      iexact Hrest
    isplitl [Hd]
    · iexists _
      isplitr
      swap; · iexact Hd
      ipureintro
      intro y
      rw [View.read_write_univ]
      exact h y _ (part_prop m r hr hs hf y)
    isplitl [Hm2 Hrest2]
    · iexists f₂
      isplitr; · ipureintro; exact hf₂
      iapply (pointsTo_split_subset (q := q₂) (f := f₂) hsub₂).2
      isplitl [Hm2]; · iexact Hm2
      iexact Hrest2
    · iexists _
      isplitr
      swap; · iexact Hd2
      ipureintro
      intro y
      rw [View.read_write_univ]
      exact h' y _ (part_prop m₂ r hr hs hf₂ y)
  · ipureintro; exact Entails.refl (D 1)

/-- Starting the second. -/
theorem fetch_snd [EC.LandsIn (upEmb : UEmb _ 𝕄)] {sp sp' : Space} {src : Memref sig c.2.kind sp t e} {dst : Memref sig c.2.kind sp' t e} {sem : DmaSem sig} {h1 h2 h3}
    {k : PUnit → Prog (TpuEff nD τ sig (Elt F) Λ c.2) β} {Q : β → sProp 𝕄} {q : PosShare TreeShare} {D : sProp 𝕄}
    (ι : Ix) {N : ℕ} (hN : dst.view.dmaCredit = N) :
    (Half EC c (.dma sem) ι N src dst q D : sProp 𝕄)
      ⊢ iprop((Bat EC c (.dma sem) ι N 2 2 0 D -∗ wp frame (wpE defs 𝒱 c bd) Set.univ (k ⟨⟩) Q)
          -∗ wp frame (wpE defs 𝒱 c bd) Set.univ (Prog.lift (TpuEff.enqueueDma src (.here dst) (.dma sem) h1 h2 h3) >>= k) Q) := by
  unfold Half
  iintro ⟨%X, %f, %g, %hX, Hm, Hd, Hb, HD⟩ Hk
  iapply (Transfers.wp_dmaBatch EC 𝒱 c bd (src := src) (dst := dst) (sm := .dma sem) (via := .same) (hsrc := h1) (hdst := h2) (hsem := h3)
    (k := k) (q := q) (fs := f) (Sd := dst.view.set) (fd := g) ι N hN (Finset.Subset.refl _) (j := 1) (u := 0) (by decide : 1 < 2) (by simp) hX) $$ [Hm Hd Hb]
  · isplitl [Hm]; · iexact Hm
    isplitl [Hd]; · iexact Hd
    iexact Hb
  iintro Hb
  iapply Hk
  unfold Bat
  iexists X
  isplitl [Hb]; · iexact Hb
  iexact HD

/-- A wait that leaves some of a batch's units outstanding. -/
theorem bat_wait [EC.LandsIn (upEmb : UEmb _ 𝕄)] {sp sp' : Space} {s' : Shape} {e' : EltTy} {κ' : Kind} {srcw : Memref sig c.2.kind sp' s' e'} {dstw : Memref sig κ' sp s e} {sem : DmaSem sig} {h1 h2}
    {k : PUnit → Prog (TpuEff nD τ sig (Elt F) Λ c.2) β} {Q : β → sProp 𝕄} {D : sProp 𝕄} {O : CellTallies nD τ sig Ix} {W₀ : Waits sig Ix}
    (ι : Ix) {N n u : ℕ} (w : ℕ) (hN : dstw.view.dmaCredit = w * N) (hu : u + w ≤ n) :
    iprop(Bat EC c (.dma sem) ι N n n (u * N) D ∗ Ow c ι O W₀)
      ⊢ iprop((iprop(Bat EC c (.dma sem) ι N n n ((u + w) * N) D ∗ Ow c ι O W₀) -∗ wp frame (wpE defs 𝒱 c bd) Set.univ (k ⟨⟩) Q)
          -∗ wp frame (wpE defs 𝒱 c bd) Set.univ (Prog.lift (TpuEff.waitDma2 sem srcw dstw h1 h2) >>= k) Q) := by
  unfold Bat Ow
  iintro ⟨⟨%X, HF, HX⟩, #Hmw, %W, %hW, HO⟩ Hk
  ihave Hm := (Transfers.MayWaits.elim (SemLoc.dma sem)) $$ Hmw
  iapply (Transfers.wp_waitBatchMulO EC 𝒱 c bd (k := k) ι w hN (j := n) (u := u * N) (by rw [← Nat.add_mul, Nat.mul_comm]; exact Nat.mul_le_mul_left _ hu)) $$ [HF HO Hm]
  · isplitl [HF]; · iexact HF
    isplitl [HO]; · iexact HO
    iexact Hm
  iintro ⟨HF, HO⟩
  iapply Hk
  isplitl [HF HX]
  · iexists X
    rw [Nat.add_mul]
    isplitl [HF]; · iexact HF
    iexact HX
  isplitr; · iexact Hmw
  iexists _
  isplitr
  swap; · iexact HO
  ipureintro
  intro p hp
  rcases Finset.mem_insert.1 hp with rfl | hp
  · exact Or.inr rfl
  · exact hW p hp

/-- The wait that drains a batch. -/
theorem bat_last [EC.LandsIn (upEmb : UEmb _ 𝕄)] {sp sp' : Space} {s' : Shape} {e' : EltTy} {κ' : Kind} {srcw : Memref sig c.2.kind sp' s' e'} {dstw : Memref sig κ' sp s e} {sem : DmaSem sig} {h1 h2}
    {k : PUnit → Prog (TpuEff nD τ sig (Elt F) Λ c.2) β} {Q : β → sProp 𝕄} {D : sProp 𝕄} {O : CellTallies nD τ sig Ix} {W₀ : Waits sig Ix}
    (ι : Ix) {N n u : ℕ} (w : ℕ) (hN : dstw.view.dmaCredit = w * N) (hN0 : 0 < N) (hu : u + w = n) :
    iprop(Bat EC c (.dma sem) ι N n n (u * N) D ∗ Ow c ι O W₀)
      ⊢ iprop((iprop(D ∗ semVal (c, .dma sem) 0 ∗ Ow c ι O W₀) -∗ wp frame (wpE defs 𝒱 c bd) Set.univ (k ⟨⟩) Q)
          -∗ wp frame (wpE defs 𝒱 c bd) Set.univ (Prog.lift (TpuEff.waitDma2 sem srcw dstw h1 h2) >>= k) Q) := by
  unfold Bat Ow
  iintro ⟨⟨%X, HF, HX⟩, #Hmw, %W, %hW, HO⟩ Hk
  ihave Hm := (Transfers.MayWaits.elim (SemLoc.dma sem)) $$ Hmw
  iapply (Transfers.wp_waitBatchAllO EC 𝒱 c bd (k := k) ι hN hN0 (u := u * N) (by rw [← Nat.add_mul, Nat.mul_comm, hu])) $$ [HF HO Hm]
  · isplitl [HF]; · iexact HF
    isplitl [HO]; · iexact HO
    iexact Hm
  iintro ⟨HX', Hs, HO⟩
  iapply Hk
  isplitl [HX HX']; · iapply HX; iexact HX'
  isplitl [Hs]; · iexact Hs
  isplitr; · iexact Hmw
  iexists _
  isplitr
  swap; · iexact HO
  ipureintro
  intro p hp
  rcases Finset.mem_insert.1 hp with rfl | hp
  · exact Or.inr rfl
  · exact hW p hp

/-- A load of a rectangle: the words loaded have the property of their places. -/
theorem load_at {m : Memref sig c.2.kind .vmem s e} {r : Rect s} {hl : m.view.LoadsAt r.toLoadRect}
    {k : (r.toLoadRect.shape.Idx → Elt F e) → Prog (TpuEff nD τ sig (Elt F) Λ c.2) β} {Q : β → sProp 𝕄} {q : PosShare TreeShare} {P : s.Idx → Elt F e → Prop} :
    (Own c m q P : sProp 𝕄)
      ⊢ iprop((∀ v, ⌜∀ x : r.shape.Idx, P (r.emb x) (v x)⌝ -∗ Own c m q P -∗ wp frame (wpE defs 𝒱 c bd) Set.univ (k v) Q)
          -∗ wp frame (wpE defs 𝒱 c bd) Set.univ (Prog.lift (TpuEff.load m r.toLoadRect hl) >>= k) Q) := by
  unfold Own
  iintro ⟨%f, %hf, Hm⟩ Hk
  iapply (wp_load (defs := defs) 𝒱 c bd Set.univ (m := m) (r := r.toLoadRect) (hl := hl) (k := k) (Q := Q)
    (S := m.view.set) (q := q) (f := f) (Finset.map_subset_map.2 (Finset.subset_univ _))) $$ Hm
  iintro Hm
  iapply Hk $$ []
  · ipureintro
    intro x
    exact hf (r.emb x)
  · iexists f
    isplitr; · ipureintro; exact hf
    iexact Hm

/-- A store through a rectangle. -/
theorem store_at {m : Memref sig c.2.kind .vmem s e} {r : Rect s} {w : r.shape.Idx → Elt F e} {h1 h2}
    {k : PUnit → Prog (TpuEff nD τ sig (Elt F) Λ c.2) β} {Q : β → sProp 𝕄} {P P' : s.Idx → Elt F e → Prop}
    (hin : ∀ x, P' (r.emb x) (w x)) (hout : ∀ y ∉ Finset.univ.map r.emb, ∀ u, P y u → P' y u) :
    (Own c m fullShare P : sProp 𝕄)
      ⊢ iprop((Own c m fullShare P' -∗ wp frame (wpE defs 𝒱 c bd) Set.univ (k ⟨⟩) Q)
          -∗ wp frame (wpE defs 𝒱 c bd) Set.univ (Prog.lift (TpuEff.store m r w Finset.univ h1 h2) >>= k) Q) := by
  unfold Own
  iintro ⟨%f, %hf, Hm⟩ Hk
  iapply (wp_store (defs := defs) 𝒱 c bd Set.univ (m := m) (r := r) (w := w) (Mk := Finset.univ) (hx := h1) (hm := h2) (k := k) (Q := Q)
    (S := m.view.set) (f := f) (View.set_slice_subset _ _)) $$ Hm
  iintro Hm
  iapply Hk
  iexists _
  isplitr
  swap; · iexact Hm
  ipureintro
  intro y
  by_cases hy : y ∈ Finset.univ.map r.emb
  · obtain ⟨x, -, rfl⟩ := Finset.mem_map.1 hy
    have := View.read_slice_write_emb (Val := Elt F) (v := m.view) r f w (Finset.mem_univ x)
    rw [show m.view.read (Elt F) ((m.access r).write (Elt F) f w Finset.univ) (r.emb x) = w x from this]
    exact hin x
  · have := View.read_slice_write_of_not_mem (Val := Elt F) (v := m.view) r f w Finset.univ (y := y) hy
    rw [show m.view.read (Elt F) ((m.access r).write (Elt F) f w Finset.univ) y = m.view.read (Elt F) f y from this]
    exact hout y hy _ (hf y)

end Cert.Roi

end
-- ==== Proof.BinSpec.lean ====
/-
  What one bin of the pooling leaves in the staging tile: for every channel, the left fold over the bin's sixteen
  (sample, corner) slots of `row · weight`, the row being the gathered feature row the slot's index names.
-/
module

public import Idealize.ShloMosaic.PureOps
public import Idealize.ShloMosaic.Lib.Scf
public import Idealize.ShloMosaic.Lib.ValueIdxCore
public import proofs.«01_k».proof.KernelIdeal.P01

@[expose] public section

noncomputable section

namespace Cert.Roi

open Idealize.ShloMosaic Idealize.ShloMosaic.ValueIdx Cert.KernelIdeal

variable {F : FTy → Type} [FloatOps F]

/-- Entry `n` of a list of 784. -/
def ent {α : Type} (L : S784.Idx → α) (n : Nat) : α := L (ix1 ⟨n % 784, Nat.mod_lt _ (by decide)⟩)

/-- Entry `(n, m)` of the gathered rows. -/
def cell (R : FVec F S400x128 .f32) (n m : Nat) : F .f32 :=
  R (ix2 ⟨n % 400, Nat.mod_lt _ (by decide)⟩ ⟨m % 128, Nat.mod_lt _ (by decide)⟩)

/-- Slot `k` of bin `b` at channel `ch`. -/
def binTerm (R : FVec F S400x128 .f32) (L : IVec S784 32) (W : FVec F S784 .f32) (b ch k : Nat) : F .f32 :=
  FloatOps.mulf (cell R (ent L (16 * b + k)).toNat ch) (ent W (16 * b + k))

/-- The first `k + 1` slots of a bin, added up in order. -/
def binAcc (R : FVec F S400x128 .f32) (L : IVec S784 32) (W : FVec F S784 .f32) (b ch : Nat) : Nat → F .f32
  | 0 => binTerm R L W b ch 0
  | k + 1 => FloatOps.addf (binAcc R L W b ch k) (binTerm R L W b ch (k + 1))

/-- The staging tile with the bins below `b` in place. -/
def binsUpTo (R : FVec F S400x128 .f32) (L : IVec S784 32) (W : FVec F S784 .f32) (g : FVec F S128x49 .f32) (b : Nat) : FVec F S128x49 .f32 :=
  fun y => if (y 1).val < b then binAcc R L W (y 1).val (y 0).val 15 else g y

/-- The lanes of group `j` of sixteen channels. -/
def LaneAt (l : IVec S16 32) (j : Nat) : Prop := ∀ x, (l x).toNat = 16 * j + (x 0).val

/-- The word of slot `k` of bin `t`. -/
abbrev slotWord (t : Nat) (k : Nat) : BitVec 32 :=
  Scalar.addi (Scalar.muli (Scf.iv 0#32 1#32 t) 16#32) (BitVec.ofNat 32 k)

theorem slotWord_toNat {t k : Nat} (ht : t < 49) (hk : k < 16) : (slotWord t k).toNat = 16 * t + k := by
  simp only [slotWord, Scalar.addi, Scalar.muli, IntOp.addi, IntOp.muli, Scf.iv]
  simp only [BitVec.toNat_add, BitVec.toNat_mul, BitVec.toNat_ofNat]
  omega

theorem iv_toNat {t : Nat} (ht : t < 49) : (Scf.iv 0#32 1#32 t).toNat = t := by
  simp only [Scf.iv, BitVec.toNat_add, BitVec.toNat_mul, BitVec.toNat_ofNat]
  omega

/-- A slot's index is inside the list. -/
theorem slot_inb {t k : Nat} (ht : t < 49) (hk : k < 16) :
    ∀ a x, ((![broadcast S16 (slotWord t k)] : Fin 1 → IVec S16 32) a x).toNat < S784.size a := by
  intro a x
  match a with
  | ⟨0, _⟩ =>
    show (slotWord t k).toNat < 784
    rw [slotWord_toNat ht hk]; omega

theorem slot_chk {t k : Nat} (ht : t < 49) (hk : k < 16) :
    (∀ a x, ((![broadcast S16 (slotWord t k)] : Fin 1 → IVec S16 32) a x).toNat < S784.size a) ∧
    (∀ a x, ((![broadcast S16 (slotWord t k)] : Fin 1 → IVec S16 32) a x).toNat < S784.size a) :=
  ⟨slot_inb ht hk, slot_inb ht hk⟩

theorem cell_inb {r l : IVec S16 32} {j : Nat} (hr : ∀ x, (r x).toNat < 400) (hl : LaneAt l j) (hj : j < 8) :
    ∀ a x, ((![r, l] : Fin 2 → IVec S16 32) a x).toNat < S400x128.size a := by
  intro a x
  match a with
  | ⟨0, _⟩ => exact hr x
  | ⟨1, _⟩ =>
    show (l x).toNat < 128
    have := hl x; have hx : (x 0).val < 16 := (x 0).isLt; omega

/-- Lanes that are the eight groups. -/
structure Lanes (l0 l1 l2 l3 l4 l5 l6 l7 : IVec S16 32) : Prop where
  h0 : LaneAt l0 0
  h1 : LaneAt l1 1
  h2 : LaneAt l2 2
  h3 : LaneAt l3 3
  h4 : LaneAt l4 4
  h5 : LaneAt l5 5
  h6 : LaneAt l6 6
  h7 : LaneAt l7 7

theorem row_chk {l0 l1 l2 l3 l4 l5 l6 l7 r p : IVec S16 32} {L : IVec S784 32} {h : ∀ a x, ((![p] : Fin 1 → IVec S16 32) a x).toNat < S784.size a}
    (hl : Lanes l0 l1 l2 l3 l4 l5 l6 l7) (hL : ∀ y, (L y).toNat < 400) (hr : r = loadIdx (F := F) (e := .i32) L ![p] h) :
    (∀ a x, ((![r, l0] : Fin 2 → IVec S16 32) a x).toNat < S400x128.size a) ∧
    (∀ a x, ((![r, l1] : Fin 2 → IVec S16 32) a x).toNat < S400x128.size a) ∧
    (∀ a x, ((![r, l2] : Fin 2 → IVec S16 32) a x).toNat < S400x128.size a) ∧
    (∀ a x, ((![r, l3] : Fin 2 → IVec S16 32) a x).toNat < S400x128.size a) ∧
    (∀ a x, ((![r, l4] : Fin 2 → IVec S16 32) a x).toNat < S400x128.size a) ∧
    (∀ a x, ((![r, l5] : Fin 2 → IVec S16 32) a x).toNat < S400x128.size a) ∧
    (∀ a x, ((![r, l6] : Fin 2 → IVec S16 32) a x).toNat < S400x128.size a) ∧
    (∀ a x, ((![r, l7] : Fin 2 → IVec S16 32) a x).toNat < S400x128.size a) := by
  have hr' : ∀ x, (r x).toNat < 400 := fun x => by subst hr; exact hL _
  exact ⟨cell_inb hr' hl.h0 (by decide), cell_inb hr' hl.h1 (by decide), cell_inb hr' hl.h2 (by decide), cell_inb hr' hl.h3 (by decide),
    cell_inb hr' hl.h4 (by decide), cell_inb hr' hl.h5 (by decide), cell_inb hr' hl.h6 (by decide), cell_inb hr' hl.h7 (by decide)⟩

theorem stage_inb {l : IVec S16 32} {j t : Nat} (ht : t < 49) (hl : LaneAt l j) (hj : j < 8) :
    ∀ a x, ((![l, broadcast S16 (Scf.iv 0#32 1#32 t)] : Fin 2 → IVec S16 32) a x).toNat < S128x49.size a := by
  intro a x
  match a with
  | ⟨0, _⟩ =>
    show (l x).toNat < 128
    have := hl x; have hx : (x 0).val < 16 := (x 0).isLt; omega
  | ⟨1, _⟩ =>
    show (Scf.iv 0#32 1#32 t).toNat < 49
    rw [iv_toNat ht]; exact ht

theorem stage_chk {l0 l1 l2 l3 l4 l5 l6 l7 : IVec S16 32} {t : Nat} (ht : t < 49) (hl : Lanes l0 l1 l2 l3 l4 l5 l6 l7) :
    (∀ a x, ((![l0, broadcast S16 (Scf.iv 0#32 1#32 t)] : Fin 2 → IVec S16 32) a x).toNat < S128x49.size a) ∧
    (∀ a x, ((![l1, broadcast S16 (Scf.iv 0#32 1#32 t)] : Fin 2 → IVec S16 32) a x).toNat < S128x49.size a) ∧
    (∀ a x, ((![l2, broadcast S16 (Scf.iv 0#32 1#32 t)] : Fin 2 → IVec S16 32) a x).toNat < S128x49.size a) ∧
    (∀ a x, ((![l3, broadcast S16 (Scf.iv 0#32 1#32 t)] : Fin 2 → IVec S16 32) a x).toNat < S128x49.size a) ∧
    (∀ a x, ((![l4, broadcast S16 (Scf.iv 0#32 1#32 t)] : Fin 2 → IVec S16 32) a x).toNat < S128x49.size a) ∧
    (∀ a x, ((![l5, broadcast S16 (Scf.iv 0#32 1#32 t)] : Fin 2 → IVec S16 32) a x).toNat < S128x49.size a) ∧
    (∀ a x, ((![l6, broadcast S16 (Scf.iv 0#32 1#32 t)] : Fin 2 → IVec S16 32) a x).toNat < S128x49.size a) ∧
    (∀ a x, ((![l7, broadcast S16 (Scf.iv 0#32 1#32 t)] : Fin 2 → IVec S16 32) a x).toNat < S128x49.size a) :=
  ⟨stage_inb ht hl.h0 (by decide), stage_inb ht hl.h1 (by decide), stage_inb ht hl.h2 (by decide), stage_inb ht hl.h3 (by decide),
    stage_inb ht hl.h4 (by decide), stage_inb ht hl.h5 (by decide), stage_inb ht hl.h6 (by decide), stage_inb ht hl.h7 (by decide)⟩

theorem loadIdx_ent {e : EltTy} (L : Vec F S784 e) {p : IVec S16 32} (h : ∀ a x, ((![p] : Fin 1 → IVec S16 32) a x).toNat < S784.size a) :
    loadIdx L ![p] h = fun x => ent L (p x).toNat := by
  funext x
  refine congrArg L ?_
  funext a
  match a with
  | ⟨0, _⟩ =>
    refine Fin.ext ?_
    exact (Nat.mod_eq_of_lt (h 0 x)).symm

theorem loadIdx_cell (R : FVec F S400x128 .f32) {r l : IVec S16 32} (h : ∀ a x, ((![r, l] : Fin 2 → IVec S16 32) a x).toNat < S400x128.size a) :
    loadIdx (e := .f32) R ![r, l] h = fun x => cell R (r x).toNat (l x).toNat := by
  funext x
  refine congrArg R ?_
  funext a
  match a with
  | ⟨0, _⟩ => exact Fin.ext (Nat.mod_eq_of_lt (h 0 x)).symm
  | ⟨1, _⟩ => exact Fin.ext (Nat.mod_eq_of_lt (h 1 x)).symm

/-- The product a slot contributes to a lane. -/
theorem term_eq {R : FVec F S400x128 .f32} {L : IVec S784 32} {W : FVec F S784 .f32} {t k : Nat} (ht : t < 49) (hk : k < 16) {x w : FVec F S16 .f32} {r l : IVec S16 32}
    {h1 : ∀ a x, ((![r, l] : Fin 2 → IVec S16 32) a x).toNat < S400x128.size a}
    {h2 h3 : ∀ a x, ((![broadcast S16 (slotWord t k)] : Fin 1 → IVec S16 32) a x).toNat < S784.size a}
    (hx : x = loadIdx (e := .f32) R ![r, l] h1) (hr : r = loadIdx (F := F) (e := .i32) L ![broadcast S16 (slotWord t k)] h2)
    (hw : w = loadIdx (e := .f32) W ![broadcast S16 (slotWord t k)] h3) :
    mulf x w = fun y => binTerm R L W t (l y).toNat k := by
  rw [loadIdx_cell] at hx
  rw [loadIdx_ent] at hw hr
  subst hx hw hr
  funext y
  show FloatOps.mulf (cell R (ent L (slotWord t k).toNat).toNat _) (ent W (slotWord t k).toNat) = _
  rw [slotWord_toNat ht hk]
  rfl

theorem acc_zero {R : FVec F S400x128 .f32} {L : IVec S784 32} {W : FVec F S784 .f32} {t : Nat} {l : IVec S16 32} {a : FVec F S16 .f32}
    (h : a = fun y => binTerm R L W t (l y).toNat 0) : a = fun y => binAcc R L W t (l y).toNat 0 := h

theorem acc_succ {R : FVec F S400x128 .f32} {L : IVec S784 32} {W : FVec F S784 .f32} {t k : Nat} {l : IVec S16 32} {a b : FVec F S16 .f32}
    (ha : a = fun y => binAcc R L W t (l y).toNat k) (hb : b = fun y => binTerm R L W t (l y).toNat (k + 1)) :
    addf a b = fun y => binAcc R L W t (l y).toNat (k + 1) := by
  subst ha hb; rfl

theorem foldl_set {ι J β : Type} (P : J → ι → Prop) [∀ j k, Decidable (P j k)] (v : ι → β) (V : J → β) (hV : ∀ j k, P j k → v k = V j)
    (f : J → β) (l : List ι) (j : J) (C : Prop) [Decidable C] (hC : (∃ k ∈ l, P j k) ↔ C) :
    (l.foldl (fun g k => fun j => if P j k then v k else g j) f) j = if C then V j else f j := by
  induction l generalizing f C with
  | nil => rw [if_neg]; · rfl
           · rw [← hC]; simp
  | cons a l ih =>
    rw [List.foldl_cons]
    by_cases h : ∃ k ∈ l, P j k
    · rw [ih _ True (by simp only [h])]
      rw [if_pos trivial, if_pos]; obtain ⟨k, hk, hp⟩ := h; exact hC.1 ⟨k, List.mem_cons_of_mem _ hk, hp⟩
    · rw [ih _ False (by simp only [h]), if_neg (fun h => h)]
      by_cases ha : P j a
      · rw [if_pos ha, if_pos (hC.1 ⟨a, List.mem_cons_self, ha⟩), hV j a ha]
      · rw [if_neg ha, if_neg]
        rw [← hC]
        rintro ⟨k, hk, hp⟩
        rcases List.mem_cons.1 hk with rfl | hk
        · exact ha hp
        · exact h ⟨k, hk, hp⟩

/-- One group's store into a bin's column. -/
theorem storeIdx_lane {g : FVec F S128x49 .f32} {l : IVec S16 32} {j t : Nat} (ht : t < 49) (hl : LaneAt l j) (V : Nat → F .f32)
    (h : ∀ a x, ((![l, broadcast S16 (Scf.iv 0#32 1#32 t)] : Fin 2 → IVec S16 32) a x).toNat < S128x49.size a) :
    storeIdx (e := .f32) g ![l, broadcast S16 (Scf.iv 0#32 1#32 t)] (fun y => V (l y).toNat) (fun _ => 1#1) false h
      = fun y => if (y 1).val = t ∧ (y 0).val / 16 = j then V (y 0).val else g y := by
  funext y
  simp only [storeIdx, show ((1#1 : BitVec 1) = 1) = True from eq_true rfl, if_true, Bool.false_eq_true, if_false]
  refine Eq.trans (foldl_set (J := S128x49.Idx) (ι := Fin 16)
    (P := fun y k => ∀ a, (y a).val = (idxAt ![l, broadcast S16 (Scf.iv 0#32 1#32 t)] h (Shape.ofLane (d := ![16]) k) a).val)
    (v := fun k => V (l (Shape.ofLane (d := ![16]) k)).toNat) (V := fun y => V (y 0).val)
    (fun y k hp => by rw [hp 0]; rfl) g (List.finRange 16) y
    ((y 1).val = t ∧ (y 0).val / 16 = j) ?_) rfl
  constructor
  · rintro ⟨k, -, hp⟩
    have h0 : (y 0).val = (l (Shape.ofLane (d := ![16]) k)).toNat := hp 0
    have h1 : (y 1).val = (Scf.iv 0#32 1#32 t).toNat := hp 1
    rw [iv_toNat ht] at h1
    have := hl (Shape.ofLane (d := ![16]) k)
    have hk : ((Shape.ofLane (d := ![16]) k : S16.Idx) 0).val < 16 := ((Shape.ofLane (d := ![16]) k : S16.Idx) 0).isLt
    exact ⟨h1, by omega⟩
  · rintro ⟨h1, h0⟩
    refine ⟨⟨(y 0).val % 16, Nat.mod_lt _ (by decide)⟩, List.mem_finRange _, fun a => ?_⟩
    match a with
    | ⟨0, _⟩ =>
      show (y 0).val = (l (Shape.ofLane (d := ![16]) _)).toNat
      rw [hl]
      show (y 0).val = 16 * j + (y 0).val % 16
      omega
    | ⟨1, _⟩ =>
      show (y 1).val = (Scf.iv 0#32 1#32 t).toNat
      rw [iv_toNat ht, h1]

/-- The eight groups' stores put a bin in place. -/
theorem stores_bin {R : FVec F S400x128 .f32} {L : IVec S784 32} {W : FVec F S784 .f32} {g : FVec F S128x49 .f32} {l0 l1 l2 l3 l4 l5 l6 l7 : IVec S16 32} {t : Nat} (ht : t < 49)
    (hl : Lanes l0 l1 l2 l3 l4 l5 l6 l7) {h0 h1 h2 h3 h4 h5 h6 h7} :
    storeIdx (e := .f32) (storeIdx (e := .f32) (storeIdx (e := .f32) (storeIdx (e := .f32) (storeIdx (e := .f32) (storeIdx (e := .f32) (storeIdx (e := .f32) (storeIdx (e := .f32) (binsUpTo R L W g t)
      ![l0, broadcast S16 (Scf.iv 0#32 1#32 t)] (fun y => binAcc R L W t (l0 y).toNat 15) (fun _ => 1#1) false h0)
      ![l1, broadcast S16 (Scf.iv 0#32 1#32 t)] (fun y => binAcc R L W t (l1 y).toNat 15) (fun _ => 1#1) false h1)
      ![l2, broadcast S16 (Scf.iv 0#32 1#32 t)] (fun y => binAcc R L W t (l2 y).toNat 15) (fun _ => 1#1) false h2)
      ![l3, broadcast S16 (Scf.iv 0#32 1#32 t)] (fun y => binAcc R L W t (l3 y).toNat 15) (fun _ => 1#1) false h3)
      ![l4, broadcast S16 (Scf.iv 0#32 1#32 t)] (fun y => binAcc R L W t (l4 y).toNat 15) (fun _ => 1#1) false h4)
      ![l5, broadcast S16 (Scf.iv 0#32 1#32 t)] (fun y => binAcc R L W t (l5 y).toNat 15) (fun _ => 1#1) false h5)
      ![l6, broadcast S16 (Scf.iv 0#32 1#32 t)] (fun y => binAcc R L W t (l6 y).toNat 15) (fun _ => 1#1) false h6)
      ![l7, broadcast S16 (Scf.iv 0#32 1#32 t)] (fun y => binAcc R L W t (l7 y).toNat 15) (fun _ => 1#1) false h7
      = binsUpTo R L W g (t + 1) := by
  rw [storeIdx_lane ht hl.h0 (fun ch => binAcc R L W t ch 15), storeIdx_lane ht hl.h1 (fun ch => binAcc R L W t ch 15),
    storeIdx_lane ht hl.h2 (fun ch => binAcc R L W t ch 15), storeIdx_lane ht hl.h3 (fun ch => binAcc R L W t ch 15),
    storeIdx_lane ht hl.h4 (fun ch => binAcc R L W t ch 15), storeIdx_lane ht hl.h5 (fun ch => binAcc R L W t ch 15),
    storeIdx_lane ht hl.h6 (fun ch => binAcc R L W t ch 15), storeIdx_lane ht hl.h7 (fun ch => binAcc R L W t ch 15)]
  funext y
  have hy : (y 0).val < 128 := (y 0).isLt
  unfold binsUpTo
  by_cases hb : (y 1).val = t
  · have hq : (y 0).val / 16 < 8 := by omega
    simp only [hb, true_and, lt_irrefl, if_false, Nat.lt_succ_self, if_true]
    generalize (y 0).val / 16 = q at hq
    interval_cases q <;> rfl
  · simp only [hb, false_and, if_false]
    refine if_congr ?_ rfl rfl
    omega

end Cert.Roi

end
-- ==== Proof.Five.lean ====
/-
  The five gathers of one region of interest: from starting the first to waiting for the last.
-/
module

public import proofs.«01_k».proof.Proof.Gather
public import proofs.«01_k».proof.Proof.Copies
public import proofs.«01_k».proof.Proof.BinSpec
public import proofs.«01_k».proof.Proof.Gen.KernelIdeal

@[expose] public section

noncomputable section

namespace Cert.Roi

open Idealize.ShloMosaic Idealize.ShloMosaic.SparseCore Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Cert.KernelIdeal Cert.KernelIdeal.Facts₀ Cert.KernelIdeal.Facts

variable {Ix : Type} [DecidableEq Ix]
variable {F : FTy → Type} [FloatOps F] {Name : Type} [DecidableEq Name] [Infinite Name]
variable {U : Type} [URA U] {Lvl : Type} [Preorder Lvl] {β : Type}

local notation "𝕄" => MT nD τ sig Ix (Elt F) Name U Lvl

variable {defs : Defs nD τ sig (Elt F) Λ₀} (EC : UEmb Counters (MT nD τ sig Ix (Elt F) Name U Lvl)) {𝒱 : Variants} {c : Thread nD τ} {bd : Option 𝒱.V}

private theorem entr {P R : sProp 𝕄} (h : P ⊢ R) : Idealize.SL.BI.Entails P R := h

/-- The table as the gathers name it: all of it. -/
abbrev tableAll {κ : Kind} (tb : Memref sig κ .hbm S16384x128 .f32) : Memref sig κ .hbm S16384x128 .f32 :=
  tb.slice (Rect.unit (s := S16384x128) ![0, 0] S16384x128.size inb_S16384x128_S16384x128_0_0) (fun _ => rfl)

theorem rows_inb (n : ℕ) (hn : n < 5) : ∀ a, (![80 * n, 0] : Fin 2 → ℕ) a + S80x128.size a ≤ S400x128.size a := by
  intro a
  match a with
  | 0 => show 80 * n + 80 ≤ 400; omega
  | 1 => show 0 + 128 ≤ 128; omega

theorem list_inb (n : ℕ) (hn : n < 5) : ∀ a, (![n, 0] : Fin 2 → ℕ) a + S1x80.size a ≤ S5x80.size a := by
  intro a
  match a with
  | 0 => show n + 1 ≤ 5; omega
  | 1 => show 0 + 80 ≤ 80; omega

/-- The rows the gather `n` fills. -/
abbrev rowsAt {κ : Kind} (rows : Memref sig κ .vmem S400x128 .f32) (n : ℕ) (hn : n < 5) : Memref sig κ .vmem S80x128 .f32 :=
  rows.slice (Rect.unit (s := S400x128) ![80 * n, 0] S80x128.size (rows_inb n hn)) (fun _ => rfl)

/-- The row numbers it reads. -/
abbrev listAt {κ : Kind} (gb : Memref sig κ .vmem S5x80 .i32) (n : ℕ) (hn : n < 5) : Memref sig κ .vmem S80 .i32 :=
  (gb.slice (Rect.unit (s := S5x80) ![n, 0] S1x80.size (list_inb n hn)) (fun _ => rfl)).squeeze S80 squeezes_S1x80_S80

theorem list_lt {κ : Kind} {gb : Memref sig κ .vmem S5x80 .i32} {fo : gb.view.ty.Contents (Elt F)}
    (h : ∀ y, (gb.view.read (Elt F) fo y).toNat < 16384) (n : ℕ) (hn : n < 5) (x : S80.Idx) :
    ((listAt gb n hn).view.read (Elt F) fo x).toNat < S16384x128.size gathers_S16384x128_S80x128.axis :=
  part_prop gb _ _ _ (P := fun _ (w : BitVec 32) => w.toNat < 16384) h x

/-- Gather `n`, row `i`, among the four hundred rows. -/
def rowNo : Fin 5 × Fin 80 ≃ Fin 400 := finProdFinEquiv

theorem numel_rows : 0 < S80x128.numel := by decide

section
variable (c) (tb : Memref sig c.2.kind .hbm S16384x128 .f32) (rows : Memref sig c.2.kind .vmem S400x128 .f32) (gb : Memref sig c.2.kind .vmem S5x80 .i32)
  (q : PosShare TreeShare) (ft : Buf (Elt F) (tb.view.loc c)) (fr : Buf (Elt F) (rows.view.loc c)) (fo : Buf (Elt F) (gb.view.loc c))
  (h : ∀ y, (gb.view.read (Elt F) fo y).toNat < 16384)

/-- What the copy of row `p.2` of gather `p.1` hands back. -/
def rowOf (p : Fin 5 × Fin 80) : sProp 𝕄 :=
  rowDeliv c (tableAll tb) (rowsAt rows p.1.val p.1.isLt) gathers_S16384x128_S80x128 (listAt gb p.1.val p.1.isLt) rfl numel_rows
    (pieceOf q 5 (by decide) p.1) fullShare ft fr fo (list_lt h _ p.1.isLt) p.2

instance rowOf_storable (p : Fin 5 × Fin 80) : Storable (upEmb : UEmb _ 𝕄) (rowOf (Ix := Ix) (Name := Name) (U := U) (Lvl := Lvl) c tb rows gb q ft fr fo h p) := by
  unfold rowOf
  exact rowDeliv_storable (Ix := Ix) (Name := Name) (U := U) (Lvl := Lvl) c (tableAll tb) (rowsAt rows p.1.val p.1.isLt) gathers_S16384x128_S80x128
    (listAt gb p.1.val p.1.isLt) rfl numel_rows (pieceOf q 5 (by decide) p.1) fullShare ft fr fo (list_lt h _ p.1.isLt) p.2

/-- The same by its number among the four hundred. -/
def rowBack (t : Fin 400) : sProp 𝕄 := rowOf c tb rows gb q ft fr fo h (rowNo.symm t)

instance rowBack_storable (t : Fin 400) : Storable (upEmb : UEmb _ 𝕄) (rowBack (Ix := Ix) (Name := Name) (U := U) (Lvl := Lvl) c tb rows gb q ft fr fo h t) := by
  unfold rowBack; exact rowOf_storable _ _ _ _ _ _ _ _ _ _

theorem rowBack_rowNo (p : Fin 5 × Fin 80) :
    (rowBack c tb rows gb q ft fr fo h (rowNo p) : sProp 𝕄) = rowOf c tb rows gb q ft fr fo h p := by
  unfold rowBack
  rw [Equiv.symm_apply_apply]

/-- What gather `n` needs. -/
def needs (n : Fin 5) : sProp 𝕄 :=
  iprop(((tableAll tb).view.loc c ↦[(tableAll tb).view.set]{pieceOf q 5 (by decide) n} ft)
    ∗ ((rowsAt rows n.val n.isLt).view.loc c ↦[(rowsAt rows n.val n.isLt).view.set]{fullShare} fr)
    ∗ ((listAt gb n.val n.isLt).view.loc c ↦[(listAt gb n.val n.isLt).view.set]{fullShare} fo))

end

/-- `j` gathers started, the rest not. -/
def Gath (c : Thread nD τ) (tb : Memref sig c.2.kind .hbm S16384x128 .f32) (rows : Memref sig c.2.kind .vmem S400x128 .f32) (gb : Memref sig c.2.kind .vmem S5x80 .i32)
    (q : PosShare TreeShare) (sm : SemLoc sig) (ι : Ix) (N : ℕ) (j : ℕ) (D : sProp 𝕄) : sProp 𝕄 :=
  iprop(∃ (ft : Buf (Elt F) (tb.view.loc c)) (fr : Buf (Elt F) (rows.view.loc c)) (fo : Buf (Elt F) (gb.view.loc c)) (h : ∀ y, (gb.view.read (Elt F) fo y).toNat < 16384),
    bigSep (pending j) (needs c tb rows gb q ft fr fo) ∗ Batch EC c sm ι N (rowBack c tb rows gb q ft fr fo h) (80 * j) 0
      ∗ (bigSep Finset.univ (rowBack c tb rows gb q ft fr fo h) -∗ D))

/-- Starting gather `n`. -/
theorem gath_step [EC.LandsIn (upEmb : UEmb _ 𝕄)] {tb : Memref sig c.2.kind .hbm S16384x128 .f32} {rows : Memref sig c.2.kind .vmem S400x128 .f32} {gb : Memref sig c.2.kind .vmem S5x80 .i32}
    {q : PosShare TreeShare} {sem : DmaSem sig} {D : sProp 𝕄} {h0 h1 h2 h3 h4 h5}
    {k : PUnit → Prog (TpuEff nD τ sig (Elt F) Λ₀ c.2) β} {Q : β → sProp 𝕄}
    (ι : Ix) {N : ℕ} (n : ℕ) (hn : n < 5)
    (hN : ∀ j, ((rowsAt rows n hn).slice (S80x128.rowRect gathers_S16384x128_S80x128.axis' j) (S80x128.stride_rowRect gathers_S16384x128_S80x128.axis' j)).view.dmaCredit = N) :
    (Gath EC c tb rows gb q (.dma sem) ι N n D : sProp 𝕄)
      ⊢ iprop((Gath EC c tb rows gb q (.dma sem) ι N (n + 1) D -∗ wp frame (wpE defs 𝒱 c bd) Set.univ (k ⟨⟩) Q)
          -∗ wp frame (wpE defs 𝒱 c bd) Set.univ (enqueueIndirectGather h0 (tableAll tb) (rowsAt rows n hn) gathers_S16384x128_S80x128 (listAt gb n hn) h1 sem h2 h3 h4 h5 >>= k) Q) := by
  unfold Gath
  iintro ⟨%ft, %fr, %fo, %h, Hp, Hb, HD⟩ Hk
  ihave Hp := (Entails.of_eq (Transfers.bigSep_pending_step (needs c tb rows gb q ft fr fo) n hn)) $$ Hp
  icases Hp with ⟨Hn, Hp⟩
  ihave Hn := (Entails.of_eq (show needs c tb rows gb q ft fr fo ⟨n, hn⟩ = _ from rfl)) $$ Hn
  unfold needs
  icases Hn with ⟨Ht, Hr, Ho⟩
  iapply (wp_gatherBatch EC 𝒱 c bd (n := 400) (src := tableAll tb) (dst := rowsAt rows n hn) (hg := gathers_S16384x128_S80x128) (offs := listAt gb n hn) (hn := h1) (sem := sem)
    (hp := h0) (hsrc := h2) (he := h3) (hsp := h4) (hr := h5) (k := k) (q := pieceOf q 5 (by decide) ⟨n, hn⟩) (qo := fullShare) (fs := ft) (fd := fr) (fo := fo)
    (D := rowBack c tb rows gb q ft fr fo h) (j0 := 80 * n) ι N hN numel_rows (list_lt h n hn) (by show 80 * n + 80 ≤ 400; omega)
    (fun j => Entails.of_eq (by
      refine (rowBack_rowNo c tb rows gb q ft fr fo h (⟨n, hn⟩, j)).symm.trans ?_
      congr 1
      apply Fin.ext
      show j.val + 80 * n = 80 * n + j.val
      omega))) $$ [Ht Hr Ho Hb]
  · isplitl [Ht]; · iexact Ht
    isplitl [Hr]; · iexact Hr
    isplitl [Ho]; · iexact Ho
    iexact Hb
  iintro Hb
  iapply Hk
  iexists ft; iexists fr; iexists fo; iexists h
  isplitl [Hp]; · iexact Hp
  isplitl [Hb]; · iexact Hb
  iexact HD

/-! ## Cutting the buffers into the five parts, and joining them -/

theorem cover_view {κ : Kind} {sp : Space} {s : Shape} {e : EltTy} (v : View sig κ sp s e) (R : Fin 5 → Rect s) (h : ∀ y, ∃ n, y ∈ (R n).set) :
    (Finset.univ : Finset (Fin 5)).biUnion (fun n => (v.slice (R n)).set) = v.set := by
  ext x
  rw [Finset.mem_biUnion]
  constructor
  · rintro ⟨n, -, hx⟩
    exact View.set_slice_subset _ _ hx
  · intro hx
    obtain ⟨y, -, rfl⟩ := Finset.mem_map.1 hx
    obtain ⟨n, hn⟩ := h y
    refine ⟨n, Finset.mem_univ _, ?_⟩
    rw [View.set_slice]
    exact Finset.mem_map_of_mem _ hn

theorem apart_view {κ : Kind} {sp : Space} {s : Shape} {e : EltTy} (v : View sig κ sp s e) {r r' : Rect s} (h : Disjoint r.set r'.set) :
    Disjoint (v.slice r).set (v.slice r').set := by
  rw [View.set_slice, View.set_slice]
  exact (Finset.disjoint_map _).2 h

theorem rows_cover {κ : Kind} (rows : Memref sig κ .vmem S400x128 .f32) :
    (Finset.univ : Finset (Fin 5)).biUnion (fun n => (rowsAt rows n.val n.isLt).view.set) = rows.view.set := by
  refine cover_view rows.view (fun n => Rect.unit (s := S400x128) ![80 * n.val, 0] S80x128.size (rows_inb n.val n.isLt)) fun y => ?_
  have h0 : (y 0).val < 400 := (y 0).isLt
  have h1 : (y 1).val < 128 := (y 1).isLt
  refine ⟨⟨(y 0).val / 80, by omega⟩, Rect.mem_set_unit.2 fun a => ?_⟩
  match a with
  | 0 => show 80 * ((y 0).val / 80) ≤ (y 0).val ∧ (y 0).val < 80 * ((y 0).val / 80) + 80; omega
  | 1 => show 0 ≤ (y 1).val ∧ (y 1).val < 0 + 128; omega

theorem rows_apart {κ : Kind} (rows : Memref sig κ .vmem S400x128 .f32) (n n' : Fin 5) (h : n ≠ n') :
    Disjoint (rowsAt rows n.val n.isLt).view.set (rowsAt rows n'.val n'.isLt).view.set := by
  refine apart_view rows.view (Rect.unit_disjoint 0 ?_)
  have : n.val ≠ n'.val := fun e => h (Fin.ext e)
  show 80 * n.val + 80 ≤ 80 * n'.val ∨ 80 * n'.val + 80 ≤ 80 * n.val
  omega

theorem list_set {κ : Kind} (gb : Memref sig κ .vmem S5x80 .i32) (n : ℕ) (hn : n < 5) :
    (listAt gb n hn).view.set = (gb.view.slice (Rect.unit (s := S5x80) ![n, 0] S1x80.size (list_inb n hn))).set :=
  View.set_reshape _ _

theorem list_cover {κ : Kind} (gb : Memref sig κ .vmem S5x80 .i32) :
    (Finset.univ : Finset (Fin 5)).biUnion (fun n => (listAt gb n.val n.isLt).view.set) = gb.view.set := by
  refine (Finset.biUnion_congr rfl fun n _ => list_set gb n.val n.isLt).trans (cover_view gb.view (fun n => Rect.unit (s := S5x80) ![n.val, 0] S1x80.size (list_inb n.val n.isLt)) fun y => ?_)
  have h0 : (y 0).val < 5 := (y 0).isLt
  have h1 : (y 1).val < 80 := (y 1).isLt
  refine ⟨⟨(y 0).val, h0⟩, Rect.mem_set_unit.2 fun a => ?_⟩
  match a with
  | 0 => show (y 0).val ≤ (y 0).val ∧ (y 0).val < (y 0).val + 1; omega
  | 1 => show 0 ≤ (y 1).val ∧ (y 1).val < 0 + 80; omega

theorem list_apart {κ : Kind} (gb : Memref sig κ .vmem S5x80 .i32) (n n' : Fin 5) (h : n ≠ n') :
    Disjoint (listAt gb n.val n.isLt).view.set (listAt gb n'.val n'.isLt).view.set := by
  rw [list_set, list_set]
  refine apart_view gb.view (Rect.unit_disjoint 0 ?_)
  have : n.val ≠ n'.val := fun e => h (Fin.ext e)
  show n.val + 1 ≤ n'.val ∨ n'.val + 1 ≤ n.val
  omega

theorem table_set {κ : Kind} (tb : Memref sig κ .hbm S16384x128 .f32) : (tableAll tb).view.set = tb.view.set := by
  refine (View.set_slice tb.view (Rect.unit (s := S16384x128) ![0, 0] S16384x128.size inb_S16384x128_S16384x128_0_0)).trans ?_
  rw [show (Rect.unit (s := S16384x128) ![0, 0] S16384x128.size inb_S16384x128_S16384x128_0_0).set = Finset.univ from
    Rect.set_eq_univ_of_whole _ fun a => by match a with | 0 => exact ⟨rfl, rfl, rfl⟩ | 1 => exact ⟨rfl, rfl, rfl⟩]
  rfl

/-- The rows of a table that a list names, one after another. -/
def gathered (T : FVec F S16384x128 .f32) (g : IVec S5x80 32) : FVec F S400x128 .f32 := fun y =>
  T (ix2 ⟨(g (ix2 ⟨(y 0).val / 80, Nat.div_lt_of_lt_mul (y 0).isLt⟩ ⟨(y 0).val % 80, Nat.mod_lt _ (by decide)⟩)).toNat % 16384, Nat.mod_lt _ (by decide)⟩
    ⟨(y 1).val, (y 1).isLt⟩)

/-- What gather `n` writes is its part of them. -/
theorem payload_at {κ : Kind} {tb : Memref sig κ .hbm S16384x128 .f32} {gb : Memref sig κ .vmem S5x80 .i32} {ft : tb.view.ty.Contents (Elt F)} {fo : gb.view.ty.Contents (Elt F)}
    (h : ∀ y, (gb.view.read (Elt F) fo y).toNat < 16384) (n : ℕ) (hn : n < 5) (z : S80x128.Idx) :
    gatherPayload gathers_S16384x128_S80x128 ((tableAll tb).view.read (Elt F) ft)
        (Idealize.ShloMosaic.SparseCore.rows ((listAt gb n hn).view.read (Elt F) fo) rfl (list_lt h n hn)) z
      = gathered (tb.view.read (Elt F) ft) (gb.view.read (Elt F) fo) ((Rect.unit (s := S400x128) ![80 * n, 0] S80x128.size (rows_inb n hn)).emb z) := by
  have hz0 : (z 0).val < 80 := (z 0).isLt
  have hz1 : (z 1).val < 128 := (z 1).isLt
  unfold gatherPayload gathered
  show tb.view.read (Elt F) ft _ = tb.view.read (Elt F) ft _
  refine congrArg _ ?_
  have hx : ∀ k : Fin 80, ((S80.rowMajor.symm k) 0).val = k.val := fun k => by
    have := Shape.rowMajor_val_one (d := ![80]) (S80.rowMajor.symm k)
    exact this.symm.trans (congrArg Fin.val (S80.rowMajor.apply_symm_apply k))
  funext a
  apply Fin.ext
  match a with
  | 0 =>
    show 0 + 1 * (gathers_S16384x128_S80x128.idx _ z 0).val = _
    rw [Nat.zero_add, Nat.one_mul]
    refine (congrArg Fin.val (gathers_S16384x128_S80x128.idx_axis _ z)).trans ?_
    show (gb.view.read (Elt F) fo _ : BitVec 32).toNat = (gb.view.read (Elt F) fo _ : BitVec 32).toNat % 16384
    rw [Nat.mod_eq_of_lt (h _)]
    refine congrArg (fun y => (gb.view.read (Elt F) fo y : BitVec 32).toNat) ?_
    refine (congrArg (Rect.unit (s := S5x80) ![n, 0] S1x80.size (list_inb n hn)).emb (Shape.reshapeEquiv_cons_one (d := ![80]) _ _)).trans ?_
    funext b
    apply Fin.ext
    match b with
    | 0 => show n + 1 * 0 = (80 * n + 1 * (z 0).val) / 80; omega
    | 1 =>
      show 0 + 1 * ((S80.rowMajor.symm (⟨(z 0).val, hz0⟩ : Fin 80)) 0).val = (80 * n + 1 * (z 0).val) % 80
      rw [hx]
      show 0 + 1 * (z 0).val = (80 * n + 1 * (z 0).val) % 80
      omega
  | 1 =>
    show 0 + 1 * (gathers_S16384x128_S80x128.idx _ z 1).val = 0 + 1 * (z 1).val
    rw [Shape.Gathers.idx_of_ne gathers_S16384x128_S80x128 _ z 1 Nat.one_ne_zero]
    rfl

/-- All four hundred rows back: the table's share, the rows and the list. -/
theorem rows_back {tb : Memref sig c.2.kind .hbm S16384x128 .f32} {rows : Memref sig c.2.kind .vmem S400x128 .f32} {gb : Memref sig c.2.kind .vmem S5x80 .i32}
    {q : PosShare TreeShare} (ft : Buf (Elt F) (tb.view.loc c)) (fr : Buf (Elt F) (rows.view.loc c)) (fo : Buf (Elt F) (gb.view.loc c))
    (h : ∀ y, (gb.view.read (Elt F) fo y).toNat < 16384) {P : S16384x128.Idx → Elt F .f32 → Prop} (hft : ∀ y, P y (tb.view.read (Elt F) ft y)) :
    bigSep Finset.univ (rowBack c tb rows gb q ft fr fo h)
      ⊢ (iprop((∃ f, ⌜∀ y, P y (tb.view.read (Elt F) f y)⌝ ∗ (tb.view.loc c ↦[tb.view.set]{q} f))
        ∗ (∃ f, ⌜∀ y : S400x128.Idx, rows.view.read (Elt F) f y = gathered (tb.view.read (Elt F) ft) (gb.view.read (Elt F) fo) y⌝ ∗ (rows.view.loc c ↦[rows.view.set]{fullShare} f))
        ∗ (∃ f, ⌜∀ _ : S5x80.Idx, True⌝ ∗ (gb.view.loc c ↦[gb.view.set]{fullShare} f))) : sProp 𝕄) := by
  rw [bigSep_univ_equiv rowNo, bigSep_univ_prod]
  simp only [rowBack_rowNo]
  unfold rowOf
  refine (bigSep_mono (fun (n : Fin 5) _ => rowDeliv_join c (tableAll tb) (rowsAt rows n.val n.isLt) gathers_S16384x128_S80x128 (listAt gb n.val n.isLt) rfl numel_rows
          (pieceOf q 5 (by decide) n) fullShare ft fr fo (list_lt h _ n.isLt))).trans (entr ?_)
  iintro H
  ihave H := Transfers.bigSep_sep_out _ _ _ $$ H
  icases H with ⟨Hr, H⟩
  ihave H := Transfers.bigSep_sep_out _ _ _ $$ H
  icases H with ⟨Ht, Ho⟩
  isplitl [Ht]
  · iexists ft
    isplitr; · ipureintro; exact hft
    iapply (Entails.of_eq ((pointsTo_piecesOf (ℓ := tb.view.loc c) (tableAll tb).view.set ft (Nat.zero_lt_succ 4) q).symm.trans
      (congrArg (fun S => (tb.view.loc c ↦[S]{q} ft : sProp 𝕄)) (table_set tb))))
    iexact Ht
  isplitl [Hr]
  · ihave Hr := (pointsTo_biUnion_join (ℓ := rows.view.loc c) (q := fullShare) Finset.univ (fun n : Fin 5 => (rowsAt rows n.val n.isLt).view.set) _ fr
        fun n _ n' _ hne => rows_apart rows n n' hne) $$ Hr
    icases Hr with ⟨%g, %hg, Hr⟩
    iexists g
    isplitr
    · ipureintro
      intro y
      have hy0 : (y 0).val < 400 := (y 0).isLt
      have hy1 : (y 1).val < 128 := (y 1).isLt
      have hn : (y 0).val / 80 < 5 := by omega
      have hy : y ∈ (Rect.unit (s := S400x128) ![80 * ((y 0).val / 80), 0] S80x128.size (rows_inb _ hn)).set := Rect.mem_set_unit.2 fun a => by
        match a with
        | 0 => show 80 * ((y 0).val / 80) ≤ (y 0).val ∧ (y 0).val < 80 * ((y 0).val / 80) + 80; omega
        | 1 => show 0 ≤ (y 1).val ∧ (y 1).val < 0 + 128; omega
      rw [← Rect.map_emb_univ] at hy
      obtain ⟨z, -, hz⟩ := Finset.mem_map.1 hy
      rw [← hz, ← payload_at h _ hn z]
      have := hg ⟨(y 0).val / 80, hn⟩ (Finset.mem_univ _) ((rowsAt rows _ hn).view.emb z) (Finset.mem_map_of_mem _ (Finset.mem_univ z))
      show (rowsAt rows _ hn).view.read (Elt F) g z = _
      refine (View.read_congr_at z this).trans ?_
      rw [View.read_write_univ]
    rw [rows_cover]
    iexact Hr
  · iexists fo
    isplitr; · ipureintro; exact fun _ => trivial
    rw [← list_cover]
    iapply (Entails.of_eq (pointsTo_biUnion (ℓ := gb.view.loc c) (q := fullShare) (f := fo) Finset.univ (fun n : Fin 5 => (listAt gb n.val n.isLt).view.set)
        fun n _ n' _ hne => list_apart gb n n' hne).symm)
    iexact Ho

/-- Before the first gather. -/
theorem gath_alloc [EC.LandsIn (upEmb : UEmb _ 𝕄)] {tb : Memref sig c.2.kind .hbm S16384x128 .f32} {rows : Memref sig c.2.kind .vmem S400x128 .f32} {gb : Memref sig c.2.kind .vmem S5x80 .i32}
    {q : PosShare TreeShare} {sem : DmaSem sig} {T : FVec F S16384x128 .f32} {g : IVec S5x80 32} {P' : S400x128.Idx → Elt F .f32 → Prop} (hlt : ∀ y, (g y).toNat < 16384) (ι : Ix) (N : ℕ) :
    iprop(Own c tb q (Is T) ∗ Own c rows fullShare P' ∗ Own c gb fullShare (Is g) ∗ semVal (c, .dma sem) 0)
      ⊢ |={Set.univ}=> (Gath EC c tb rows gb q (.dma sem) ι N 0
          iprop(Own c tb q (Is T) ∗ Own c rows fullShare (Is (gathered T g)) ∗ Own c gb fullShare (fun _ _ => True)) : sProp 𝕄) := by
  unfold Own Gath
  iintro ⟨⟨%ft, %hft, Ht⟩, ⟨%fr, %hfr, Hr⟩, ⟨%fo, %hfo, Ho⟩, Hs⟩
  have h : ∀ y, (gb.view.read (Elt F) fo y).toNat < 16384 := fun y => by rw [hfo y]; exact hlt y
  obtain rfl : tb.view.read (Elt F) ft = T := funext hft
  obtain rfl : gb.view.read (Elt F) fo = g := funext hfo
  imod (Transfers.batch_alloc' EC c (sm := .dma sem) ι N (rowBack c tb rows gb q ft fr fo h)) $$ Hs with Hb
  imodintro
  iexists ft; iexists fr; iexists fo; iexists h
  isplitl [Ht Hr Ho]
  · rw [Transfers.pending_zero]
    unfold needs
    iapply Transfers.bigSep_sep_in
    isplitl [Ht]
    · iapply (Entails.of_eq (pointsTo_piecesOf (ℓ := tb.view.loc c) (tableAll tb).view.set ft (Nat.zero_lt_succ 4) q))
      rw [table_set]
      iexact Ht
    iapply Transfers.bigSep_sep_in
    isplitl [Hr]
    · iapply (Entails.of_eq (pointsTo_biUnion (ℓ := rows.view.loc c) (q := fullShare) (f := fr) Finset.univ (fun n : Fin 5 => (rowsAt rows n.val n.isLt).view.set)
        fun n _ n' _ hne => rows_apart rows n n' hne))
      rw [rows_cover]
      iexact Hr
    · iapply (Entails.of_eq (pointsTo_biUnion (ℓ := gb.view.loc c) (q := fullShare) (f := fo) Finset.univ (fun n : Fin 5 => (listAt gb n.val n.isLt).view.set)
        fun n _ n' _ hne => list_apart gb n n' hne))
      rw [list_cover]
      iexact Ho
  isplitl [Hb]; · iexact Hb
  iintro H
  iapply (rows_back ft fr fo h hft)
  iexact H

/-- After the fifth. -/
theorem gath_done {tb : Memref sig c.2.kind .hbm S16384x128 .f32} {rows : Memref sig c.2.kind .vmem S400x128 .f32} {gb : Memref sig c.2.kind .vmem S5x80 .i32}
    {q : PosShare TreeShare} {sm : SemLoc sig} {D : sProp 𝕄} (ι : Ix) (N : ℕ) :
    (Gath EC c tb rows gb q sm ι N 5 D : sProp 𝕄) ⊢ Bat EC c sm ι N 400 400 (0 * N) D := by
  unfold Gath Bat
  iintro ⟨%ft, %fr, %fo, %h, Hp, Hb, HD⟩
  iclear Hp
  iexists _
  rw [Nat.zero_mul]
  isplitl [Hb]; · iexact Hb
  iexact HD

end Cert.Roi

end
-- ==== Proof.Runs.lean ====
/-
  Straight-line reading of a tile's buffers. A tile's loads and indexed loads leave what it holds as it was, so a run
  of them is followed at one fixed assertion: each rule here takes one operation off the head of a program.
-/
module

public import Idealize.ShloMosaic.Lib.SparseCore.Ops
public import Idealize.ShloMosaic.Lib.Tactic

@[expose] public section

noncomputable section

namespace Cert.Roi

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} {𝒱 : Variants} {c : Thread nD τ} {bd : Option 𝒱.V}
variable {s t : Shape} {e : EltTy} {α β : Type}

local notation "𝕄" => MT nD τ sig Ix (Elt F) Name U Lvl

/-- The whole of a memref is its own set of cells. -/
theorem access_whole_set {kd : Kind} {sp : Space} (base : Memref sig kd sp s e) : (base.access (.whole s)).set = base.view.set := by
  have h : (Rect.whole s).set = Finset.univ := Rect.set_eq_univ_of_whole _ fun _ => ⟨rfl, rfl, rfl⟩
  rw [show (base.access (.whole s)).set = (Rect.whole s).set.map base.view.emb from View.set_slice _ _, h]
  rfl

theorem access_whole_read {kd : Kind} {sp : Space} (base : Memref sig kd sp s e) (f : base.view.ty.Contents (Elt F)) :
    (base.access (.whole s)).read (Elt F) f = base.view.read (Elt F) f := by
  funext x
  show base.view.read (Elt F) f ((Rect.whole s).emb x) = base.view.read (Elt F) f x
  rw [Rect.emb_whole_apply]

/-- A memref's buffer, at a share, with the contents the memref reads. -/
def Holds (c : Thread nD τ) {sp : Space} (base : Memref sig c.2.kind sp s e) (q : PosShare TreeShare) (g : Vec F s e) : sProp 𝕄 :=
  iprop(∃ f, ⌜base.view.read (Elt F) f = g⌝ ∗ (base.view.loc c ↦[base.view.set]{q} f))

/-- The same, spelled at the access that indexed loads and stores name. -/
theorem Holds_access {base : Memref sig c.2.kind .vmem s e} {q : PosShare TreeShare} {g : Vec F s e} :
    (Holds c base q g : sProp 𝕄) = iprop(∃ f, ⌜(base.access (.whole s)).read (Elt F) f = g⌝
      ∗ ((base.access (.whole s)).loc c ↦[(base.access (.whole s)).set]{q} f)) := by
  unfold Holds
  rw [access_whole_set]
  simp only [access_whole_read]

/-- The rest of a binding, where the head is a program of its own. -/
theorem run_bind {P : sProp 𝕄} {p : Prog (TpuEff nD τ sig (Elt F) Λ c.2) α} {k : α → Prog (TpuEff nD τ sig (Elt F) Λ c.2) β} {Q : β → sProp 𝕄}
    (h : P ⊢ wp frame (wpE defs 𝒱 c bd) Set.univ p fun a => wp frame (wpE defs 𝒱 c bd) Set.univ (k a) Q) :
    P ⊢ wp frame (wpE defs 𝒱 c bd) Set.univ (p >>= k) Q := by
  rw [wp_bind]; exact h

theorem run_pure {P : sProp 𝕄} {a : α} {Q : α → sProp 𝕄} (h : P ⊢ Q a) :
    P ⊢ wp frame (wpE defs 𝒱 c bd) Set.univ (pure a : Prog (TpuEff nD τ sig (Elt F) Λ c.2) α) Q := by
  refine h.trans ?_
  rw [wp_pure]
  exact fupd_intro

/-- A check, where what it asks holds. -/
theorem run_assume {P : sProp 𝕄} {C : Prop} {d : Decidable C} {k : PLift C → Prog (TpuEff nD τ sig (Elt F) Λ c.2) β} {Q : β → sProp 𝕄} (h : C)
    (hk : P ⊢ wp frame (wpE defs 𝒱 c bd) Set.univ (k ⟨h⟩) Q) :
    P ⊢ wp frame (wpE defs 𝒱 c bd) Set.univ (Prog.lift (TpuEff.assume C d) >>= k) Q := by
  refine hk.trans ?_
  exact Entails.of_eq (wp_assume_of (defs := defs) 𝒱 c bd Set.univ (d := d) (k := k) h).symm

/-- A load whose value the program does not use. -/
theorem run_dead {P R : sProp 𝕄} {base : Memref sig c.2.kind .vmem s e} {q : PosShare TreeShare} {g : Vec F s e} {r : LoadRect s}
    {hl : base.view.LoadsAt r} {k : (r.shape.Idx → Elt F e) → Prog (TpuEff nD τ sig (Elt F) Λ c.2) β} {Q : β → sProp 𝕄}
    (hP : P ⊢ iprop(Holds c base q g ∗ R)) (hP' : iprop(Holds c base q g ∗ R) ⊢ P)
    (hk : ∀ v, P ⊢ wp frame (wpE defs 𝒱 c bd) Set.univ (k v) Q) :
    P ⊢ wp frame (wpE defs 𝒱 c bd) Set.univ (Prog.lift (TpuEff.load base r hl) >>= k) Q := by
  refine hP.trans ?_
  unfold Holds at hP' ⊢
  iintro ⟨⟨%f, %hf, Hf⟩, HR⟩
  iapply (wp_load (defs := defs) 𝒱 c bd Set.univ (m := base) (r := r) (hl := hl) (k := k) (Q := Q)
    (S := base.view.set) (q := q) (f := f) (Finset.map_subset_map.2 (Finset.subset_univ _))) $$ Hf
  iintro Hf
  iapply ((hP'.trans (hk _) : _ ⊢ _))
  isplitl [Hf]
  · iexists f; isplitr; · ipureintro; exact hf
    iexact Hf
  · iexact HR

/-- An indexed load, its value named. -/
theorem run_loadIdx {P R : sProp 𝕄} {base : Memref sig c.2.kind .vmem s e} {q : PosShare TreeShare} {g : Vec F s e}
    {idxs : Fin s.rank → IVec t 32} {h : ∀ a x, (idxs a x).toNat < s.size a} {hl : base.view.Loads}
    {k : Vec F t e → Prog (TpuEff nD τ sig (Elt F) Λ c.2) β} {Q : β → sProp 𝕄}
    (hP : P ⊢ iprop(Holds c base q g ∗ R)) (hP' : iprop(Holds c base q g ∗ R) ⊢ P)
    (hk : ∀ v, v = loadIdx g idxs h → P ⊢ wp frame (wpE defs 𝒱 c bd) Set.univ (k v) Q) :
    P ⊢ wp frame (wpE defs 𝒱 c bd) Set.univ (vectorLoadIdx base idxs h hl >>= k) Q := by
  refine hP.trans ?_
  unfold Holds at hP' ⊢
  iintro ⟨⟨%f, %hf, Hf⟩, HR⟩
  iapply (wp_vectorLoadIdx (defs := defs) 𝒱 c bd Set.univ (base := base) (idxs := idxs) (h := h) (hl := hl) (k := k) (Q := Q)
    (S := base.view.set) (q := q) (f := f) (access_whole_set base).le) $$ Hf
  iintro Hf
  iapply ((hP'.trans (hk _ (by rw [access_whole_read, hf])) : _ ⊢ _))
  isplitl [Hf]
  · iexists f; isplitr; · ipureintro; exact hf
    iexact Hf
  · iexact HR

/-- An indexed store into a buffer held outright. -/
theorem run_storeIdx {P R : sProp 𝕄} {d : Fin 1 → Nat} {base : Memref sig c.2.kind .vmem s e} {g : Vec F s e} {idxs : Fin s.rank → IVec ⟨1, d⟩ 32}
    {v w : Vec F ⟨1, d⟩ e} {mask : IVec ⟨1, d⟩ 1} {add : Bool} {h : ∀ a x, (idxs a x).toNat < s.size a}
    {hs : (base.access (.whole s)).Stores Finset.univ} {k : PUnit → Prog (TpuEff nD τ sig (Elt F) Λ c.2) β} {Q : β → sProp 𝕄}
    (hP : P ⊢ iprop(Holds c base fullShare g ∗ R)) (hv : v = w)
    (hk : iprop(Holds c base fullShare (storeIdx g idxs w mask add h) ∗ R) ⊢ wp frame (wpE defs 𝒱 c bd) Set.univ (k ⟨⟩) Q) :
    P ⊢ wp frame (wpE defs 𝒱 c bd) Set.univ (vectorStoreIdx base idxs v mask add h hs >>= k) Q := by
  subst hv
  refine hP.trans ?_
  rw [Holds_access] at hk ⊢
  iintro ⟨⟨%f, %hf, Hf⟩, HR⟩
  iapply (wp_vectorStoreIdx (defs := defs) 𝒱 c bd Set.univ (base := base) (idxs := idxs) (h := h) (v := v) (mask := mask) (add := add) (hs := hs) (k := k) (Q := Q) (f := f)) $$ Hf
  iintro Hf
  iapply hk
  isplitl [Hf]
  · iexists _; isplitr
    swap; · iexact Hf
    ipureintro
    rw [View.read_write_univ, hf]
  · iexact HR

end Cert.Roi

end
-- ==== Proof.Bin.lean ====
/-
  One bin of the pooling, as the tile runs it: its 128 + 16 + 16 indexed loads and eight indexed stores leave the
  staging tile with the bin's column in place.
-/
module

public import proofs.«01_k».proof.Proof.Gen.KernelIdeal
public import proofs.«01_k».proof.Proof.BinSpec
public import proofs.«01_k».proof.Proof.Runs

@[expose] public section

set_option maxRecDepth 4000
set_option maxHeartbeats 4000000

noncomputable section

namespace Cert.Roi

open Idealize.ShloMosaic Idealize.ShloMosaic.SparseCore Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] {Ix : Type} [DecidableEq Ix] {Name : Type} [DecidableEq Name]
variable {U : Type} [URA U] {Lvl : Type} [Preorder Lvl] {defs : Defs nD τ sig (Elt F) Λ₀} {𝒱 : Variants} {bd : Option 𝒱.V} {d : Dev nD}

local notation "𝕄" => MT nD τ sig Ix (Elt F) Name U Lvl

/-- The program of one bin. -/
abbrev binProg (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (v32 : IVec S16 32) (v34 : IVec S16 32) (v36 : IVec S16 32) (v38 : IVec S16 32) (v40 : IVec S16 32) (v42 : IVec S16 32) (v44 : IVec S16 32) (v46 : IVec S16 32) (t : Fin k0_t1_loop.trips) :
    Prog (TpuEff nD τ sig (Elt F) Λ₀ (.scVector ((i 0).castLE hcore0) ((i 1).castLE hsub0))) PUnit :=
  do
    let ⟨v1153, v1156, v1159, v1162, v1165, v1168, v1171, v1172, k0_hw33⟩ : Σ' (v1153 : FVec F S16 .f32) (v1156 : FVec F S16 .f32) (v1159 : FVec F S16 .f32) (v1162 : FVec F S16 .f32) (v1165 : FVec F S16 .f32) (v1168 : FVec F S16 .f32) (v1171 : FVec F S16 .f32) (v1172 : IVec S16 32), k0_chk33 v32 v34 v36 v38 v40 v42 v44 v46 v1172 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 0#32 1#32 t
    SparseCore.vectorStoreIdx arg15 ![v34, v1172] v1153 (fun _ => 1#1) false (k0_idx162_inb v32 v34 v36 v38 v40 v42 v44 v46 v1172 k0_hw33) (View.stores_vmem_bits_univ h_S128x49 rfl)
    SparseCore.vectorStoreIdx arg15 ![v36, v1172] v1156 (fun _ => 1#1) false (k0_idx163_inb v32 v34 v36 v38 v40 v42 v44 v46 v1172 k0_hw33) (View.stores_vmem_bits_univ h_S128x49 rfl)
    SparseCore.vectorStoreIdx arg15 ![v38, v1172] v1159 (fun _ => 1#1) false (k0_idx164_inb v32 v34 v36 v38 v40 v42 v44 v46 v1172 k0_hw33) (View.stores_vmem_bits_univ h_S128x49 rfl)
    SparseCore.vectorStoreIdx arg15 ![v40, v1172] v1162 (fun _ => 1#1) false (k0_idx165_inb v32 v34 v36 v38 v40 v42 v44 v46 v1172 k0_hw33) (View.stores_vmem_bits_univ h_S128x49 rfl)
    SparseCore.vectorStoreIdx arg15 ![v42, v1172] v1165 (fun _ => 1#1) false (k0_idx166_inb v32 v34 v36 v38 v40 v42 v44 v46 v1172 k0_hw33) (View.stores_vmem_bits_univ h_S128x49 rfl)
    SparseCore.vectorStoreIdx arg15 ![v44, v1172] v1168 (fun _ => 1#1) false (k0_idx167_inb v32 v34 v36 v38 v40 v42 v44 v46 v1172 k0_hw33) (View.stores_vmem_bits_univ h_S128x49 rfl)
    SparseCore.vectorStoreIdx arg15 ![v46, v1172] v1171 (fun _ => 1#1) false (k0_idx168_inb v32 v34 v36 v38 v40 v42 v44 v46 v1172 k0_hw33) (View.stores_vmem_bits_univ h_S128x49 rfl)
    pure ⟨⟩

theorem bin_run (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (v32 : IVec S16 32) (v34 : IVec S16 32) (v36 : IVec S16 32) (v38 : IVec S16 32) (v40 : IVec S16 32) (v42 : IVec S16 32) (v44 : IVec S16 32) (v46 : IVec S16 32) (t : Fin k0_t1_loop.trips)
    (hl : Lanes v32 v34 v36 v38 v40 v42 v44 v46) (L : IVec S784 32) (W : FVec F S784 .f32) (R : FVec F S400x128 .f32) (g : FVec F S128x49 .f32)
    (hLlt : ∀ y, (L y).toNat < 400) :
    (iprop(Holds (d, .scVector ((i 0).castLE hcore0) ((i 1).castLE hsub0)) arg9 fullShare L ∗ Holds (d, .scVector ((i 0).castLE hcore0) ((i 1).castLE hsub0)) arg11 fullShare W
      ∗ Holds (d, .scVector ((i 0).castLE hcore0) ((i 1).castLE hsub0)) arg13 fullShare R ∗ Holds (d, .scVector ((i 0).castLE hcore0) ((i 1).castLE hsub0)) arg15 fullShare (binsUpTo R L W g t.val)) : sProp 𝕄)
    ⊢ wp frame (wpE defs 𝒱 (d, .scVector ((i 0).castLE hcore0) ((i 1).castLE hsub0)) bd) Set.univ (binProg (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 t)
        fun _ => iprop(Holds (d, .scVector ((i 0).castLE hcore0) ((i 1).castLE hsub0)) arg9 fullShare L ∗ Holds (d, .scVector ((i 0).castLE hcore0) ((i 1).castLE hsub0)) arg11 fullShare W
      ∗ Holds (d, .scVector ((i 0).castLE hcore0) ((i 1).castLE hsub0)) arg13 fullShare R ∗ Holds (d, .scVector ((i 0).castLE hcore0) ((i 1).castLE hsub0)) arg15 fullShare (binsUpTo R L W g (t.val + 1))) := by
  have ht : t.val < 49 := lt_of_lt_of_eq t.isLt (by decide)
  generalize hPL : (Holds (d, .scVector ((i 0).castLE hcore0) ((i 1).castLE hsub0)) arg9 fullShare L : sProp 𝕄) = PL
  generalize hPW : (Holds (d, .scVector ((i 0).castLE hcore0) ((i 1).castLE hsub0)) arg11 fullShare W : sProp 𝕄) = PW
  generalize hPR : (Holds (d, .scVector ((i 0).castLE hcore0) ((i 1).castLE hsub0)) arg13 fullShare R : sProp 𝕄) = PR
  generalize hPG : (Holds (d, .scVector ((i 0).castLE hcore0) ((i 1).castLE hsub0)) arg15 fullShare (binsUpTo R L W g t.val) : sProp 𝕄) = PG
  generalize hP : (iprop(PL ∗ PW ∗ PR ∗ PG) : sProp 𝕄) = P
  have hL : P ⊢ iprop(Holds (d, .scVector ((i 0).castLE hcore0) ((i 1).castLE hsub0)) arg9 fullShare L ∗ (PW ∗ PR ∗ PG)) := by
    rw [← hP, hPL]
  have hL' : iprop(Holds (d, .scVector ((i 0).castLE hcore0) ((i 1).castLE hsub0)) arg9 fullShare L ∗ (PW ∗ PR ∗ PG)) ⊢ P := by
    rw [← hP, hPL]
  have hW : P ⊢ iprop(Holds (d, .scVector ((i 0).castLE hcore0) ((i 1).castLE hsub0)) arg11 fullShare W ∗ (PL ∗ PR ∗ PG)) := by
    rw [← hP, hPW]; iintro ⟨a, b, c⟩; isplitl [b]; · iexact b
    isplitl [a]; · iexact a
    iexact c
  have hW' : iprop(Holds (d, .scVector ((i 0).castLE hcore0) ((i 1).castLE hsub0)) arg11 fullShare W ∗ (PL ∗ PR ∗ PG)) ⊢ P := by
    rw [← hP, hPW]; iintro ⟨a, b, c⟩; isplitl [b]; · iexact b
    isplitl [a]; · iexact a
    iexact c
  have hR : P ⊢ iprop(Holds (d, .scVector ((i 0).castLE hcore0) ((i 1).castLE hsub0)) arg13 fullShare R ∗ (PL ∗ PW ∗ PG)) := by
    rw [← hP, hPR]; iintro ⟨a, b, c, e⟩; isplitl [c]; · iexact c
    isplitl [a]; · iexact a
    isplitl [b]; · iexact b
    iexact e
  have hR' : iprop(Holds (d, .scVector ((i 0).castLE hcore0) ((i 1).castLE hsub0)) arg13 fullShare R ∗ (PL ∗ PW ∗ PG)) ⊢ P := by
    rw [← hP, hPR]; iintro ⟨c, a, b, e⟩; isplitl [a]; · iexact a
    isplitl [b]; · iexact b
    isplitl [c]; · iexact c
    iexact e
  refine run_bind ?_
  delta k0_part9
  refine run_bind ?_
  delta k0_part1
  refine run_dead hL hL' (fun _ => ?_)
  refine run_dead hW hW' (fun _ => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 6 refine run_loadIdx hR hR' (fun x hx => ?_)
  refine run_pure ?_
  dsimp only
  refine run_bind ?_
  delta k0_part2
  iterate 2 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 4 refine run_loadIdx hR hR' (fun x hx => ?_)
  refine run_pure ?_
  dsimp only
  refine run_bind ?_
  delta k0_part3
  iterate 4 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 2 refine run_loadIdx hR hR' (fun x hx => ?_)
  refine run_pure ?_
  dsimp only
  refine run_bind ?_
  delta k0_part4
  iterate 6 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_pure ?_
  dsimp only
  refine run_bind ?_
  delta k0_part5
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_pure ?_
  dsimp only
  refine run_bind ?_
  delta k0_part6
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 7 refine run_loadIdx hR hR' (fun x hx => ?_)
  refine run_pure ?_
  dsimp only
  refine run_bind ?_
  delta k0_part7
  refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 5 refine run_loadIdx hR hR' (fun x hx => ?_)
  refine run_pure ?_
  dsimp only
  refine run_bind ?_
  delta k0_part8
  iterate 3 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 3 refine run_loadIdx hR hR' (fun x hx => ?_)
  refine run_pure ?_
  dsimp only
  iterate 5 refine run_loadIdx hR hR' (fun x hx => ?_)
  refine run_assume (slot_chk ht (by decide)) ?_
  refine run_loadIdx hL hL' (fun v hv => ?_)
  refine run_assume (row_chk hl hLlt hv) ?_
  refine run_loadIdx hW hW' (fun w hw => ?_)
  iterate 8 refine run_loadIdx hR hR' (fun x hx => ?_)
  refine run_assume (stage_chk ht hl) ?_
  have hG : P ⊢ iprop(Holds (d, .scVector ((i 0).castLE hcore0) ((i 1).castLE hsub0)) arg15 fullShare (binsUpTo R L W g t.val) ∗ (PL ∗ PW ∗ PR)) := by
    rw [← hP, ← hPG]; iintro ⟨a, b, c, e⟩; isplitl [e]; · iexact e
    isplitl [a]; · iexact a
    isplitl [b]; · iexact b
    iexact c
  refine run_storeIdx (w := fun y => binAcc R L W t.val (v32 y).toNat 15) hG (by
    iterate 15 refine acc_succ ?_ (term_eq ht (by decide) (by assumption) (by assumption) (by assumption))
    exact acc_zero (term_eq ht (by decide) (by assumption) (by assumption) (by assumption))) ?_
  refine run_pure ?_
  dsimp only
  refine run_storeIdx (w := fun y => binAcc R L W t.val (v34 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v36 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v38 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v40 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v42 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v44 y).toNat 15) .rfl (by
    iterate 15 refine acc_succ ?_ (term_eq ht (by decide) (by assumption) (by assumption) (by assumption))
    exact acc_zero (term_eq ht (by decide) (by assumption) (by assumption) (by assumption))) ?_
  refine run_storeIdx (w := fun y => binAcc R L W t.val (v46 y).toNat 15) .rfl (by
    iterate 15 refine acc_succ ?_ (term_eq ht (by decide) (by assumption) (by assumption) (by assumption))
    exact acc_zero (term_eq ht (by decide) (by assumption) (by assumption) (by assumption))) ?_
  refine run_pure ?_
  rw [stores_bin ht hl]
  iintro ⟨e, a, b, c⟩; isplitl [a]; · iexact a
  isplitl [b]; · iexact b
  isplitl [c]; · iexact c
  iexact e

end Cert.Roi

end
-- ==== Proof.Rules.lean ====
/-
  The tile's program, one operation at a time: the rules in the form its text asks for.
-/
module

public import proofs.«01_k».proof.Proof.Five
public import proofs.«01_k».proof.Proof.Bin

@[expose] public section

noncomputable section

namespace Cert.Roi

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers (Batch pending Flight)
open Cert.KernelIdeal Cert.KernelIdeal.Facts₀ Cert.KernelIdeal.Facts

variable {Ix : Type} [DecidableEq Ix]
variable {F : FTy → Type} [FloatOps F] {Name : Type} [DecidableEq Name] [Infinite Name]
variable {U : Type} [URA U] {Lvl : Type} [Preorder Lvl] {α β : Type}

local notation "𝕄" => MT nD τ sig Ix (Elt F) Name U Lvl

variable {defs : Defs nD τ sig (Elt F) Λ₀} (EC : UEmb Counters (MT nD τ sig Ix (Elt F) Name U Lvl)) {𝒱 : Variants} {c : Thread nD τ} {bd : Option 𝒱.V}

/-! ## Sequencing -/

theorem bind_in {p : Prog (TpuEff nD τ sig (Elt F) Λ₀ c.2) α} {k : α → Prog (TpuEff nD τ sig (Elt F) Λ₀ c.2) β} {Q : β → sProp 𝕄} :
    wp frame (wpE defs 𝒱 c bd) Set.univ p (fun a => wp frame (wpE defs 𝒱 c bd) Set.univ (k a) Q) ⊢ wp frame (wpE defs 𝒱 c bd) Set.univ (p >>= k) Q :=
  Entails.of_eq (wp_bind ..).symm

theorem pure_in {a : α} {Q : α → sProp 𝕄} :
    Q a ⊢ wp frame (wpE defs 𝒱 c bd) Set.univ (pure a : Prog (TpuEff nD τ sig (Elt F) Λ₀ c.2) α) Q := by
  rw [wp_pure]
  exact fupd_intro

theorem last_in {p : Prog (TpuEff nD τ sig (Elt F) Λ₀ c.2) α} {Q : α → sProp 𝕄} :
    wp frame (wpE defs 𝒱 c bd) Set.univ (p >>= pure) Q ⊢ wp frame (wpE defs 𝒱 c bd) Set.univ p Q := by
  rw [bind_pure]

/-! ## Adding the half's first row to the row numbers, sixteen at a time -/

/-- The first `n` groups of sixteen row numbers have `q` added, the others are those of the list `g`. -/
def scaleP (g : IVec S5x80 32) (q : BitVec 32) (n : ℕ) (y : S5x80.Idx) (w : BitVec 32) : Prop := w = if 5 * (y 0).val + (y 1).val / 16 < n then g y + q else g y

theorem scale_begin {m : Memref sig c.2.kind .vmem S5x80 .i32} {g : IVec S5x80 32} (q : BitVec 32) :
    (Own c m fullShare (Is g) : sProp 𝕄) ⊢ Own c m fullShare (scaleP g q 0) := by
  unfold Own
  iintro ⟨%f, %hf, H⟩
  iexists f
  isplitr; · ipureintro; intro y; unfold scaleP; rw [if_neg (Nat.not_lt_zero _)]; exact hf y
  iexact H

theorem scale_end {m : Memref sig c.2.kind .vmem S5x80 .i32} {g : IVec S5x80 32} {q : BitVec 32} :
    (Own c m fullShare (scaleP g q 25) : sProp 𝕄) ⊢ Own c m fullShare (Is fun y => g y + q) := by
  unfold Own
  iintro ⟨%f, %hf, H⟩
  iexists f
  isplitr
  · ipureintro; intro y
    have := hf y
    have hy0 : (y 0).val < 5 := (y 0).isLt
    have hy1 : (y 1).val < 80 := (y 1).isLt
    unfold scaleP at this
    rwa [if_pos (by omega)] at this
  iexact H

theorem emb_unit_val {s : Shape} {off size : Fin s.rank → ℕ} {inb} (x : (Rect.unit (s := s) off size inb).shape.Idx) (a : Fin s.rank) :
    ((Rect.unit (s := s) off size inb).emb x a).val = off a + (x a).val := by
  show off a + 1 * (x a).val = _
  rw [Nat.one_mul]

theorem scale_store {m : Memref sig c.2.kind .vmem S5x80 .i32} {off : Fin 2 → ℕ} {inb : ∀ a, off a + S1x16.size a ≤ S5x80.size a} {v : Vec F S1x16 .i32} {q : BitVec 32} {h1 h2 h3 h4}
    {k : PUnit → Prog (TpuEff nD τ sig (Elt F) Λ₀ c.2) β} {Q : β → sProp 𝕄} {n : ℕ} {g : IVec S5x80 32}
    (hv : ∀ x : S1x16.Idx, scaleP g q n ((Rect.unit (s := S5x80) off S1x16.size inb).emb x) (v x)) (ho : 5 * off 0 + off 1 / 16 = n ∧ off 1 % 16 = 0) :
    (Own c m fullShare (scaleP g q n) : sProp 𝕄)
      ⊢ iprop((Own c m fullShare (scaleP g q (n + 1)) -∗ wp frame (wpE defs 𝒱 c bd) Set.univ (k ⟨⟩) Q)
          -∗ wp frame (wpE defs 𝒱 c bd) Set.univ (Prog.lift (TpuEff.store m (Rect.unit (s := S5x80) off S1x16.size inb)
              (shapeCast S1x16 (addi (shapeCast S16 v h3) (broadcast S16 q)) h4) Finset.univ h1 h2) >>= k) Q) := by
  have h0 : ∀ x, 5 * ((Rect.unit (s := S5x80) off S1x16.size inb).emb x 0).val + ((Rect.unit (s := S5x80) off S1x16.size inb).emb x 1).val / 16 = n := by
    intro x
    rw [emb_unit_val, emb_unit_val]
    have hx0 : (x 0).val < 1 := (x 0).isLt
    have hx1 : (x 1).val < 16 := (x 1).isLt
    omega
  refine store_at (fun x => ?_) (fun y hy u hu => ?_)
  · unfold scaleP
    rw [h0 x, if_pos (Nat.lt_succ_self _)]
    have hx := hv x
    unfold scaleP at hx
    rw [h0 x, if_neg (Nat.lt_irrefl _)] at hx
    show (v (Shape.reshapeEquiv h3 (Shape.reshapeEquiv h4 x)) : BitVec 32) + q = _
    rw [Shape.reshapeEquiv_reshapeEquiv, Shape.reshapeEquiv_self, hx]
  · unfold scaleP at hu ⊢
    have hne : 5 * (y 0).val + (y 1).val / 16 ≠ n := by
      intro he
      apply hy
      have hy0 : (y 0).val < 5 := (y 0).isLt
      have hy1 : (y 1).val < 80 := (y 1).isLt
      have hi0 := inb 0
      have hi1 := inb 1
      change off 0 + 1 ≤ 5 at hi0
      change off 1 + 16 ≤ 80 at hi1
      rw [Rect.map_emb_univ]
      refine Rect.mem_set_unit.2 fun a => ?_
      match a with
      | 0 => show off 0 ≤ (y 0).val ∧ (y 0).val < off 0 + 1; omega
      | 1 => show off 1 ≤ (y 1).val ∧ (y 1).val < off 1 + 16; omega
    by_cases hlt : 5 * (y 0).val + (y 1).val / 16 < n
    · rw [if_pos hlt] at hu
      rwa [if_pos (by omega)]
    · rw [if_neg hlt] at hu
      rwa [if_neg (by omega)]

theorem scale_put {m : Memref sig c.2.kind .vmem S5x80 .i32} {off : Fin 2 → ℕ} {inb : ∀ a, off a + S1x16.size a ≤ S5x80.size a} {v : Vec F S1x16 .i32} {q : BitVec 32} {h1 h2 h3 h4}
    {k : PUnit → Prog (TpuEff nD τ sig (Elt F) Λ₀ c.2) β} {Q : β → sProp 𝕄} {n : ℕ} {g : IVec S5x80 32} :
    iprop(Own c m fullShare (scaleP g q n) ∗ ⌜∀ x : S1x16.Idx, scaleP g q n ((Rect.unit (s := S5x80) off S1x16.size inb).emb x) (v x)⌝ ∗ ⌜5 * off 0 + off 1 / 16 = n ∧ off 1 % 16 = 0⌝)
      ⊢ (iprop((Own c m fullShare (scaleP g q (n + 1)) -∗ wp frame (wpE defs 𝒱 c bd) Set.univ (k ⟨⟩) Q)
          -∗ wp frame (wpE defs 𝒱 c bd) Set.univ (Prog.lift (TpuEff.store m (Rect.unit (s := S5x80) off S1x16.size inb)
              (shapeCast S1x16 (addi (shapeCast S16 v h3) (broadcast S16 q)) h4) Finset.univ h1 h2) >>= k) Q) : sProp 𝕄) := by
  iintro ⟨H, %hv, %ho⟩ Hk
  iapply (scale_store (n := n) hv ho) $$ H
  iexact Hk

/-- One group of sixteen: read, read again, written back with `q` added. -/
theorem scale_group {m : Memref sig c.2.kind .vmem S5x80 .i32} {off : Fin 2 → ℕ} {inb : ∀ a, off a + S1x16.size a ≤ S5x80.size a} {q : BitVec 32} {h1 h2 h3 h4 h5 h6}
    {k : PUnit → Prog (TpuEff nD τ sig (Elt F) Λ₀ c.2) β} {Q : β → sProp 𝕄} {n : ℕ} {g : IVec S5x80 32} :
    iprop(Own c m fullShare (scaleP g q n) ∗ ⌜5 * off 0 + off 1 / 16 = n ∧ off 1 % 16 = 0⌝)
      ⊢ (iprop((Own c m fullShare (scaleP g q (n + 1)) -∗ wp frame (wpE defs 𝒱 c bd) Set.univ (k ⟨⟩) Q)
          -∗ wp frame (wpE defs 𝒱 c bd) Set.univ (Prog.lift (TpuEff.load m (Rect.unit (s := S5x80) off S1x16.size inb).toLoadRect h5) >>= fun v =>
              Prog.lift (TpuEff.load m (Rect.unit (s := S5x80) off S1x16.size inb).toLoadRect h6) >>= fun _ =>
              Prog.lift (TpuEff.store m (Rect.unit (s := S5x80) off S1x16.size inb)
              (shapeCast S1x16 (addi (shapeCast (α := BitVec 32) S16 v h3) (broadcast S16 q)) h4) Finset.univ h1 h2) >>= k) Q) : sProp 𝕄) := by
  iintro ⟨H, %ho⟩ Hk
  iapply load_at $$ H
  iintro %v %hv H
  iapply load_at $$ H
  iintro %w %_ H
  iapply (scale_store (n := n) hv ho) $$ H
  iexact Hk

theorem fetch_snd₀ [EC.LandsIn (upEmb : UEmb _ 𝕄)] {sp sp' : Space} {t : Shape} {e : EltTy} {src : Memref sig c.2.kind sp t e} {dst : Memref sig c.2.kind sp' t e} {sem : DmaSem sig} {h1 h2 h3}
    {k : PUnit → Prog (TpuEff nD τ sig (Elt F) Λ₀ c.2) β} {Q : β → sProp 𝕄} {q : PosShare TreeShare} {D : sProp 𝕄}
    (ι : Ix) {N : ℕ} (hN : dst.view.dmaCredit = N) :
    (Half EC c (.dma sem) ι N src dst q D : sProp 𝕄)
      ⊢ iprop((Bat EC c (.dma sem) ι N 2 2 (0 * N) D -∗ wp frame (wpE defs 𝒱 c bd) Set.univ (k ⟨⟩) Q)
          -∗ wp frame (wpE defs 𝒱 c bd) Set.univ (Prog.lift (TpuEff.enqueueDma src (.here dst) (.dma sem) h1 h2 h3) >>= k) Q) := by
  rw [Nat.zero_mul]
  exact fetch_snd EC ι hN

/-! ## Waiting for gathered rows -/

theorem row_wait [EC.LandsIn (upEmb : UEmb _ 𝕄)] {src : Memref sig c.2.kind .hbm S16384x128 .f32} {rows : Memref sig c.2.kind .vmem S400x128 .f32} {m : ℕ} {hm : m < 5} {sem : DmaSem sig} {h1 h2}
    {k : PUnit → Prog (TpuEff nD τ sig (Elt F) Λ₀ c.2) β} {Q : β → sProp 𝕄} {D : sProp 𝕄} {O : CellTallies nD τ sig Ix} {W₀ : Waits sig Ix}
    (ι : Ix) {N u : ℕ} (hN : ∀ n hn, (rowsAt rows n hn).view.dmaCredit = 80 * N) (hu : u + 80 ≤ 400) :
    (iprop(Bat EC c (.dma sem) ι N 400 400 (u * N) D ∗ Ow c ι O W₀)
      ⊢ iprop((iprop(Bat EC c (.dma sem) ι N 400 400 ((u + 80) * N) D ∗ Ow c ι O W₀) -∗ wp frame (wpE defs 𝒱 c bd) Set.univ (k ⟨⟩) Q)
          -∗ wp frame (wpE defs 𝒱 c bd) Set.univ (waitIndirectGather sem (tableAll src) (rowsAt rows m hm) h1 h2 >>= k) Q) : Prop) :=
  bat_wait EC ι 80 (hN m hm) hu

theorem row_last [EC.LandsIn (upEmb : UEmb _ 𝕄)] {src : Memref sig c.2.kind .hbm S16384x128 .f32} {rows : Memref sig c.2.kind .vmem S400x128 .f32} {m : ℕ} {hm : m < 5} {sem : DmaSem sig} {h1 h2}
    {k : PUnit → Prog (TpuEff nD τ sig (Elt F) Λ₀ c.2) β} {Q : β → sProp 𝕄} {D : sProp 𝕄} {O : CellTallies nD τ sig Ix} {W₀ : Waits sig Ix}
    (ι : Ix) {N u : ℕ} (hN : ∀ n hn, (rowsAt rows n hn).view.dmaCredit = 80 * N) (hN0 : 0 < N) (hu : u + 80 = 400) :
    (iprop(Bat EC c (.dma sem) ι N 400 400 (u * N) D ∗ Ow c ι O W₀)
      ⊢ iprop((iprop(D ∗ semVal (c, .dma sem) 0 ∗ Ow c ι O W₀) -∗ wp frame (wpE defs 𝒱 c bd) Set.univ (k ⟨⟩) Q)
          -∗ wp frame (wpE defs 𝒱 c bd) Set.univ (waitIndirectGather sem (tableAll src) (rowsAt rows m hm) h1 h2 >>= k) Q) : Prop) :=
  bat_last EC ι 80 (hN m hm) hN0 hu

/-- The five waits of a box's gathers, one after another. -/
theorem rows_wait [EC.LandsIn (upEmb : UEmb _ 𝕄)] {src : Memref sig c.2.kind .hbm S16384x128 .f32} {rows : Memref sig c.2.kind .vmem S400x128 .f32} {m : ℕ} {hm : m < 5} {sem : DmaSem sig} {h1 h2}
    {k : PUnit → Prog (TpuEff nD τ sig (Elt F) Λ₀ c.2) β} {Q : β → sProp 𝕄} {D : sProp 𝕄} {O : CellTallies nD τ sig Ix} {W₀ : Waits sig Ix}
    (ι : Ix) {N : ℕ} (n : ℕ) (hN : ∀ n hn, (rowsAt rows n hn).view.dmaCredit = 80 * N) (hn : n < 4) :
    (iprop(Bat EC c (.dma sem) ι N 400 400 (80 * n * N) D ∗ Ow c ι O W₀)
      ⊢ iprop((iprop(Bat EC c (.dma sem) ι N 400 400 (80 * (n + 1) * N) D ∗ Ow c ι O W₀) -∗ wp frame (wpE defs 𝒱 c bd) Set.univ (k ⟨⟩) Q)
          -∗ wp frame (wpE defs 𝒱 c bd) Set.univ (waitIndirectGather sem (tableAll src) (rowsAt rows m hm) h1 h2 >>= k) Q) : Prop) :=
  row_wait EC ι hN (by omega)

theorem lt5 (n : Fin 5) : n.val < 5 := n.isLt

/-- Starting the five gathers of a box. -/
theorem gath_begin [EC.LandsIn (upEmb : UEmb _ 𝕄)] {tb : Memref sig c.2.kind .hbm S16384x128 .f32} {rows : Memref sig c.2.kind .vmem S400x128 .f32} {gb : Memref sig c.2.kind .vmem S5x80 .i32}
    {q : PosShare TreeShare} {sem : DmaSem sig} {T : FVec F S16384x128 .f32} {g : IVec S5x80 32} {u : BitVec 32} {P' : S400x128.Idx → Elt F .f32 → Prop} {p : Prog (TpuEff nD τ sig (Elt F) Λ₀ c.2) β} {Q : β → sProp 𝕄} (ι : Ix) (N : ℕ) (hlt : ∀ y, (g y + u).toNat < 16384) :
    iprop(Own c tb q (Is T) ∗ Own c rows fullShare P' ∗ Own c gb fullShare (scaleP g u 25) ∗ semVal (c, .dma sem) 0)
      ⊢ iprop((Gath EC c tb rows gb q (.dma sem) ι N 0
          iprop(Own c tb q (Is T) ∗ Own c rows fullShare (Is (gathered T fun y => g y + u)) ∗ Own c gb fullShare (fun _ _ => True)) -∗ wp frame (wpE defs 𝒱 c bd) Set.univ p Q)
        -∗ wp frame (wpE defs 𝒱 c bd) Set.univ p Q) := by
  iintro ⟨Ht, Hr, HA, Hs⟩ Hk
  ihave HA := scale_end $$ HA
  imod (gath_alloc EC (P' := P') (T := T) (g := fun y => g y + u) hlt ι N) $$ [Ht Hr HA Hs] with HG
  · isplitl [Ht]; · iexact Ht
    isplitl [Hr]; · iexact Hr
    isplitl [HA]; · iexact HA
    iexact Hs
  iapply Hk $$ HG

/-! ## The result -/

/-- A set of the result's places, each word with the property of its place. -/
def Out (c : Thread nD τ) {sp : Space} {s : Shape} {e : EltTy} (m : Memref sig c.2.kind sp s e) (S : Finset (Idx (m.view.loc c))) (P : s.Idx → Elt F e → Prop) : sProp 𝕄 :=
  iprop(∃ f, ⌜∀ y, m.view.emb y ∈ S → P y (m.view.read (Elt F) f y)⌝ ∗ (m.view.loc c ↦[S]{fullShare} f))

/-- Starting the copy of the staging tile into the result. -/
theorem flush [EC.LandsIn (upEmb : UEmb _ 𝕄)] {sp sp' : Space} {s t : Shape} {e : EltTy} {src : Memref sig c.2.kind sp t e} {m : Memref sig c.2.kind sp' s e} {r : Rect s} {hr : ∀ a, r.stride a = 1} {hs : r.shape.Squeezes t}
    {sem : DmaSem sig} {h1 h2 h3} {S : Finset (Idx (m.view.loc c))}
    {k : PUnit → Prog (TpuEff nD τ sig (Elt F) Λ₀ c.2) β} {Q : β → sProp 𝕄} {P : t.Idx → Elt F e → Prop} {R R' : s.Idx → Elt F e → Prop}
    (ι : Ix) (hN : 0 < t.numel) (hS : (m.view.slice r).set ⊆ S)
    (hin : ∀ x v, P x v → R' (r.emb (Shape.reshapeEquiv hs.numel_eq x)) v) (hout : ∀ y ∉ r.set, m.view.emb y ∈ S → ∀ v, R y v → R' y v) :
    iprop(Own c src fullShare P ∗ Out c m S R ∗ semVal (c, .dma sem) 0)
      ⊢ iprop((Fly EC c (.dma sem) ι ((m.slice r hr).squeeze t hs).view.dmaCredit iprop(Own c src fullShare P ∗ Out c m S R') -∗ wp frame (wpE defs 𝒱 c bd) Set.univ (k ⟨⟩) Q)
          -∗ wp frame (wpE defs 𝒱 c bd) Set.univ (Prog.lift (TpuEff.enqueueDma src (.here ((m.slice r hr).squeeze t hs)) (.dma sem) h1 h2 h3) >>= k) Q) := by
  have hset : ((m.slice r hr).squeeze t hs).view.set = (m.view.slice r).set := by
    show ((m.view.slice r).reshape t hs.numel_eq).set = _
    rw [View.set_reshape]
  have hsub : ((m.slice r hr).squeeze t hs).view.set ⊆ S := by
    rw [hset]
    exact hS
  unfold Own Out
  iintro ⟨⟨%f, %hf, Hm⟩, ⟨%g, %hg, Hd⟩, Hs⟩ Hk
  iapply (Transfers.wp_dmaLocal EC 𝒱 c bd (src := src) (dst := (m.slice r hr).squeeze t hs) (sm := .dma sem) (via := .same) (hsrc := h1) (hdst := h2) (hsem := h3)
    (k := k) (q := fullShare) (fs := f) (Sd := S) (fd := g) ι _ rfl (View.dmaCredit_pos _ hN) hsub) $$ [Hm Hd Hs]
  · isplitl [Hm]; · iexact Hm
    isplitl [Hd]; · iexact Hd
    iexact Hs
  iintro HF
  iapply Hk
  unfold Fly
  iexists _
  isplitl [HF]; · iexact HF
  iintro ⟨Hd, Hm⟩
  isplitl [Hm]
  · iexists f
    isplitr; · ipureintro; exact hf
    iexact Hm
  · iexists _
    isplitr
    swap; · iexact Hd
    ipureintro
    intro y hyS
    by_cases hy : y ∈ r.set
    · rw [← Rect.map_emb_univ] at hy
      obtain ⟨z, -, rfl⟩ := Finset.mem_map.1 hy
      obtain ⟨x, rfl⟩ := (Shape.reshapeEquiv hs.numel_eq).surjective z
      have := congrFun (View.read_write_univ (Val := Elt F) (v := ((m.slice r hr).squeeze t hs).view) g (src.view.read (Elt F) f)) x
      refine Eq.mpr (congrArg (R' _) this) (hin x _ (hf x))
    · refine hout y hy hyS _ ?_
      have hn : m.view.emb y ∉ ((m.slice r hr).squeeze t hs).view.setOn Finset.univ := by
        show m.view.emb y ∉ ((m.slice r hr).squeeze t hs).view.set
        rw [hset, View.set_slice]
        intro h
        obtain ⟨y', hy', he⟩ := Finset.mem_map.1 h
        exact hy (m.view.emb.injective he ▸ hy')
      refine Eq.mpr (congrArg (R y) (View.read_congr_at y ?_)) (hg y hyS)
      exact View.write_of_not_mem (v := ((m.slice r hr).squeeze t hs).view) g _ Finset.univ hn

end Cert.Roi

end
-- ==== Proof.Steps.lean ====
/-
  What a tile computes of a box, what it holds between two boxes, the copies that feed one, and the loop over its bins.
-/
module

public import proofs.«01_k».proof.Proof.Rules

@[expose] public section

noncomputable section

namespace Cert.Roi

open Idealize.ShloMosaic Idealize.ShloMosaic.SparseCore Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {Ix : Type} [DecidableEq Ix]
variable {F : FTy → Type} [FloatOps F] {Name : Type} [DecidableEq Name] [Infinite Name]
variable {U : Type} [URA U] {Lvl : Type} [Preorder Lvl] {α β : Type}

local notation "𝕄" => MT nD τ sig Ix (Elt F) Name U Lvl

variable {defs : Defs nD τ sig (Elt F) Λ₀} (EC : UEmb Counters (MT nD τ sig Ix (Elt F) Name U Lvl)) {𝒱 : Variants} {d : Dev nD} {bd : Option 𝒱.V}

/-- The thread of a tile. -/
abbrev tile (d : Dev nD) (i : grid0.Coords) : Thread nD τ := (d, .scVector ((i 0).castLE hcore0) ((i 1).castLE hsub0))

/-! ## What is computed -/

/-- The arrays the call reads: the table of rows, and per box its rows, its places among them and its weights. -/
structure Arr (F : FTy → Type) [FloatOps F] where
  T : FVec F S16384x128 .f32
  G : IVec S2000x5x80 32
  L : IVec S2000x784 32
  W : FVec F S2000x784 .f32
  hG : ∀ y, (G y).toNat < 8192
  hL : ∀ y, (L y).toNat < 400

/-- Box `r`'s rows. -/
def lst (A : Arr F) (r : ℕ) : IVec S5x80 32 := fun y => A.G (ix3 ⟨r % 2000, Nat.mod_lt _ (by decide)⟩ (y 0) (y 1))

/-- Box `r`'s places or weights. -/
def plc {α : Type} (L : S2000x784.Idx → α) (r : ℕ) : S784.Idx → α := fun y => L (ix2 ⟨r % 2000, Nat.mod_lt _ (by decide)⟩ (y 0))

/-- The rows gathered for box `r`, its row numbers counted from row `u` of the table. -/
def rws (A : Arr F) (u : BitVec 32) (r : ℕ) : FVec F S400x128 .f32 := gathered A.T fun y => lst A r y + u

/-- The bins of box `r`. -/
def box (A : Arr F) (u : BitVec 32) (r : ℕ) : FVec F S128x49 .f32 := fun z => binAcc (rws A u r) (plc A.L r) (plc A.W r) (z 1).val (z 0).val 15

/-- The first row of half `q` of the channels. -/
def half (q : ℕ) : BitVec 32 := BitVec.ofNat 32 (8192 * q)

/-- The result. -/
def Arr.val (A : Arr F) : FVec F S2000x256x49 .f32 := fun y => box A (half ((y 1).val / 128)) (y 0).val (ix2 ⟨(y 1).val % 128, Nat.mod_lt _ (by decide)⟩ (y 2))

theorem half_le {q : ℕ} (h : q < 2) : (half q).toNat ≤ 8192 := by
  unfold half
  rw [BitVec.toNat_ofNat]
  omega

theorem Arr.row_lt (A : Arr F) {u : BitVec 32} (hu : u.toNat ≤ 8192) (r : ℕ) : ∀ y, (lst A r y + u).toNat < 16384 := fun y => by
  have : (lst A r y).toNat < 8192 := A.hG _
  rw [BitVec.toNat_add]
  omega

theorem Arr.place_lt (A : Arr F) (r : ℕ) : ∀ y, (plc A.L r y : BitVec 32).toNat < 400 := fun y => A.hL _

theorem list_row (G : IVec S2000x5x80 32) {off : Fin 3 → ℕ} {inb : ∀ a, off a + S1x5x80.size a ≤ S2000x5x80.size a} {r : ℕ} (h0 : off 0 = r) (h1 : off 1 = 0) (h2 : off 2 = 0) (hn : S5x80.numel = S1x5x80.numel) (y : S5x80.Idx) :
    G ((Rect.unit (s := S2000x5x80) off S1x5x80.size inb).emb (Shape.reshapeEquiv hn y)) = G (ix3 ⟨r % 2000, Nat.mod_lt _ (by decide)⟩ (y 0) (y 1)) := by
  have hi : off 0 + 1 ≤ 2000 := inb 0
  refine congrArg G ((congrArg (Rect.unit (s := S2000x5x80) off S1x5x80.size inb).emb (Shape.reshapeEquiv_cons_one (d := ![5, 80]) _ _)).trans ?_)
  funext a
  apply Fin.ext
  match a with
  | 0 => show off 0 + 1 * 0 = r % 2000; omega
  | 1 => show off 1 + 1 * (y 0).val = (y 0).val; omega
  | 2 => show off 2 + 1 * (y 1).val = (y 1).val; omega

theorem places_row {α : Type} (L : S2000x784.Idx → α) {off : Fin 2 → ℕ} {inb : ∀ a, off a + S1x784.size a ≤ S2000x784.size a} {r : ℕ} (h0 : off 0 = r) (h1 : off 1 = 0) (hn : S784.numel = S1x784.numel) (y : S784.Idx) :
    L ((Rect.unit (s := S2000x784) off S1x784.size inb).emb (Shape.reshapeEquiv hn y)) = plc L r y := by
  have hi : off 0 + 1 ≤ 2000 := inb 0
  refine congrArg L ((congrArg (Rect.unit (s := S2000x784) off S1x784.size inb).emb (Shape.reshapeEquiv_cons_one (d := ![784]) _ _)).trans ?_)
  funext a
  apply Fin.ext
  match a with
  | 0 => show off 0 + 1 * 0 = r % 2000; omega
  | 1 => show off 1 + 1 * (y 0).val = (y 0).val; omega

/-- Box `r`'s list begins at `off`. -/
def AtList (off : Fin 3 → ℕ) (r : ℕ) : Prop := off 0 = r ∧ off 1 = 0 ∧ off 2 = 0

/-- Box `r`'s places begin at `off`. -/
def AtPlaces (off : Fin 2 → ℕ) (r : ℕ) : Prop := off 0 = r ∧ off 1 = 0

instance (off : Fin 3 → ℕ) (r : ℕ) : Decidable (AtList off r) := by unfold AtList; infer_instance

instance (off : Fin 2 → ℕ) (r : ℕ) : Decidable (AtPlaces off r) := by unfold AtPlaces; infer_instance

section
variable {c : Thread nD τ}

/-- The five row gathers of box `r` in flight. -/
abbrev RowsIn (A : Arr F) (u : BitVec 32) (r : ℕ) (c : Thread nD τ) (tb : Memref sig c.2.kind .hbm S16384x128 .f32) (rows : Memref sig c.2.kind .vmem S400x128 .f32) (gb : Memref sig c.2.kind .vmem S5x80 .i32)
    (sem : DmaSem sig) (ι : Ix) (N : ℕ) (q : PosShare TreeShare) : sProp 𝕄 :=
  Bat EC c (.dma sem) ι N 400 400 (0 * N) iprop(Own c tb q (Is A.T) ∗ Own c rows fullShare (Is (rws A u r)) ∗ Own c gb fullShare (fun _ _ => True))

/-- Box `r`'s row numbers in flight. -/
abbrev ListIn (A : Arr F) (r : ℕ) (c : Thread nD τ) (m : Memref sig c.2.kind .hbm S2000x5x80 .i32) (gb : Memref sig c.2.kind .vmem S5x80 .i32) (sem : DmaSem sig) (ι : Ix) (q : PosShare TreeShare) : sProp 𝕄 :=
  Fly EC c (.dma sem) ι gb.view.dmaCredit iprop(Own c m q (Is A.G) ∗ Own c gb fullShare (Is (lst A r)))

/-- Box `r`'s places and weights in flight. -/
abbrev PlacesIn (A : Arr F) (r : ℕ) (c : Thread nD τ) (ml : Memref sig c.2.kind .hbm S2000x784 .i32) (mw : Memref sig c.2.kind .hbm S2000x784 .f32) (l : Memref sig c.2.kind .vmem S784 .i32)
    (w : Memref sig c.2.kind .vmem S784 .f32) (sem : DmaSem sig) (ι : Ix) (q : PosShare TreeShare) : sProp 𝕄 :=
  Bat EC c (.dma sem) ι l.view.dmaCredit 2 2 (0 * l.view.dmaCredit)
    iprop(Own c ml q (Is A.L) ∗ Own c l fullShare (Is (plc A.L r)) ∗ Own c mw q (Is A.W) ∗ Own c w fullShare (Is (plc A.W r)))

/-- Fetching box `r`'s row numbers. -/
theorem fetch_list [EC.LandsIn (upEmb : UEmb _ 𝕄)] {m : Memref sig c.2.kind .hbm S2000x5x80 .i32} {off : Fin 3 → ℕ} {inb : ∀ a, off a + S1x5x80.size a ≤ S2000x5x80.size a}
    {hr : ∀ a, (Rect.unit (s := S2000x5x80) off S1x5x80.size inb).stride a = 1} {hs : (Rect.unit (s := S2000x5x80) off S1x5x80.size inb).shape.Squeezes S5x80}
    {dst : Memref sig c.2.kind .vmem S5x80 .i32} {sem : DmaSem sig} {h1 h2 h3}
    {k : PUnit → Prog (TpuEff nD τ sig (Elt F) Λ₀ c.2) β} {Q : β → sProp 𝕄} {q : PosShare TreeShare} {P' : S5x80.Idx → Elt F .i32 → Prop}
    (ι : Ix) (A : Arr F) (r : ℕ) (ho : AtList off r) :
    iprop(Own c m q (Is A.G) ∗ Own c dst fullShare P' ∗ semVal (c, .dma sem) 0)
      ⊢ iprop((ListIn EC A r c m dst sem ι q -∗ wp frame (wpE defs 𝒱 c bd) Set.univ (k ⟨⟩) Q)
          -∗ wp frame (wpE defs 𝒱 c bd) Set.univ (Prog.lift (TpuEff.enqueueDma ((m.slice (Rect.unit (s := S2000x5x80) off S1x5x80.size inb) hr).squeeze S5x80 hs) (.here dst) (.dma sem) h1 h2 h3) >>= k) Q) :=
  fetch EC ι (View.dmaCredit_pos _ (by decide)) fun y v hv => hv.trans (list_row A.G ho.1 ho.2.1 ho.2.2 _ y)

/-- Fetching box `r`'s places, its weights to follow. -/
theorem fetch_places [EC.LandsIn (upEmb : UEmb _ 𝕄)] {m : Memref sig c.2.kind .hbm S2000x784 .i32} {m₂ : Memref sig c.2.kind .hbm S2000x784 .f32} {off : Fin 2 → ℕ} {inb : ∀ a, off a + S1x784.size a ≤ S2000x784.size a}
    {hr : ∀ a, (Rect.unit (s := S2000x784) off S1x784.size inb).stride a = 1} {hs : (Rect.unit (s := S2000x784) off S1x784.size inb).shape.Squeezes S784}
    {dst : Memref sig c.2.kind .vmem S784 .i32} {dst₂ : Memref sig c.2.kind .vmem S784 .f32} {sem : DmaSem sig} {h1 h2 h3}
    {k : PUnit → Prog (TpuEff nD τ sig (Elt F) Λ₀ c.2) β} {Q : β → sProp 𝕄} {q q₂ : PosShare TreeShare} {P' : S784.Idx → Elt F .i32 → Prop} {P₂' : S784.Idx → Elt F .f32 → Prop}
    (ι : Ix) (A : Arr F) (r : ℕ) (ho : AtPlaces off r) :
    iprop(Own c m q (Is A.L) ∗ Own c dst fullShare P' ∗ Own c m₂ q₂ (Is A.W) ∗ Own c dst₂ fullShare P₂' ∗ semVal (c, .dma sem) 0)
      ⊢ iprop((Half EC c (.dma sem) ι dst.view.dmaCredit ((m₂.slice (Rect.unit (s := S2000x784) off S1x784.size inb) hr).squeeze S784 hs) dst₂ q₂
              iprop(Own c m q (Is A.L) ∗ Own c dst fullShare (Is (plc A.L r)) ∗ Own c m₂ q₂ (Is A.W) ∗ Own c dst₂ fullShare (Is (plc A.W r))) -∗ wp frame (wpE defs 𝒱 c bd) Set.univ (k ⟨⟩) Q)
          -∗ wp frame (wpE defs 𝒱 c bd) Set.univ (Prog.lift (TpuEff.enqueueDma ((m.slice (Rect.unit (s := S2000x784) off S1x784.size inb) hr).squeeze S784 hs) (.here dst) (.dma sem) h1 h2 h3) >>= k) Q) :=
  fetch_fst EC ι rfl (fun y v hv => hv.trans (places_row A.L ho.1 ho.2 _ y)) (fun y v hv => hv.trans (places_row A.W ho.1 ho.2 _ y))

/-- What the copies count: a pair of buffers on one semaphore alike, a gathered row `N`. -/
structure Counts (l : Memref sig c.2.kind .vmem S784 .i32) (w : Memref sig c.2.kind .vmem S784 .f32) (rows : Memref sig c.2.kind .vmem S400x128 .f32) (N : ℕ) : Prop where
  lw : w.view.dmaCredit = l.view.dmaCredit
  row : ∀ n hn j, ((rowsAt rows n hn).slice (S80x128.rowRect gathers_S16384x128_S80x128.axis' j) (S80x128.stride_rowRect gathers_S16384x128_S80x128.axis' j)).view.dmaCredit = N
  rows : ∀ n hn, (rowsAt rows n hn).view.dmaCredit = 80 * N
  pos : 0 < N

theorem Counts.one {l : Memref sig c.2.kind .vmem S784 .i32} {w rows N} (h : Counts l w rows N) : l.view.dmaCredit = 1 * l.view.dmaCredit := (Nat.one_mul _).symm

theorem Counts.one' {l : Memref sig c.2.kind .vmem S784 .i32} {w rows N} (h : Counts l w rows N) : w.view.dmaCredit = 1 * l.view.dmaCredit := h.lw.trans (Nat.one_mul _).symm

theorem Counts.lpos {l : Memref sig c.2.kind .vmem S784 .i32} {w rows N} (h : Counts l w rows N) : 0 < l.view.dmaCredit := View.dmaCredit_pos _ (by decide)

theorem Own_holds {sp : Space} {s : Shape} {e : EltTy} {m : Memref sig c.2.kind sp s e} {q : PosShare TreeShare} {g : Vec F s e} :
    (Own c m q (Is g) : sProp 𝕄) ⊢ Holds c m q g := by
  unfold Own Holds
  iintro ⟨%f, %hf, H⟩
  iexists f
  isplitr; · ipureintro; funext y; exact hf y
  iexact H

theorem Own_some {sp : Space} {s : Shape} {e : EltTy} {m : Memref sig c.2.kind sp s e} {q : PosShare TreeShare} {P : s.Idx → Elt F e → Prop} :
    (Own c m q P : sProp 𝕄) ⊢ iprop(∃ g, Holds c m q g) := by
  unfold Own Holds
  iintro ⟨%f, %hf, H⟩
  iexists _
  iexists f
  isplitr; · ipureintro; rfl
  iexact H

theorem holds_Own {sp : Space} {s : Shape} {e : EltTy} {m : Memref sig c.2.kind sp s e} {q : PosShare TreeShare} {g : Vec F s e} :
    (Holds c m q g : sProp 𝕄) ⊢ Own c m q (Is g) := by
  unfold Own Holds
  iintro ⟨%f, %hf, H⟩
  iexists f
  isplitr; · ipureintro; intro y; exact congrFun hf y
  iexact H

theorem Own_any {sp : Space} {s : Shape} {e : EltTy} {m : Memref sig c.2.kind sp s e} {q : PosShare TreeShare} {P : s.Idx → Elt F e → Prop} :
    (Own c m q P : sProp 𝕄) ⊢ Own c m q (fun _ _ => True) := by
  unfold Own
  iintro ⟨%f, %_, H⟩
  iexists f
  isplitr; · ipureintro; intro _; trivial
  iexact H

theorem binsUpTo_all (A : Arr F) (u : BitVec 32) (r : ℕ) (g : FVec F S128x49 .f32) : binsUpTo (rws A u r) (plc A.L r) (plc A.W r) g 49 = box A u r := by
  funext y
  have h : (y 1).val < 49 := (y 1).isLt
  unfold binsUpTo
  rw [if_pos h]
  rfl

end

/-- The loop over a box's forty-nine bins. -/
theorem bins (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (v32 : IVec S16 32) (v34 : IVec S16 32) (v36 : IVec S16 32) (v38 : IVec S16 32) (v40 : IVec S16 32) (v42 : IVec S16 32) (v44 : IVec S16 32) (v46 : IVec S16 32)
    (A : Arr F) (u : BitVec 32) (r : ℕ) {P : S128x49.Idx → Elt F .f32 → Prop} (hl : Lanes v32 v34 v36 v38 v40 v42 v44 v46) {body : Fin k0_t1_loop.trips → PUnit → Prog (TpuEff nD τ sig (Elt F) Λ₀ (.scVector ((i 0).castLE hcore0) ((i 1).castLE hsub0))) PUnit}
    {k : PUnit → Prog (TpuEff nD τ sig (Elt F) Λ₀ (.scVector ((i 0).castLE hcore0) ((i 1).castLE hsub0))) β} {Q : β → sProp 𝕄}
    (hb : ∀ t, body t ⟨⟩ = binProg (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 t) :
    (iprop(Own (tile d i) arg9 fullShare (Is (plc A.L r)) ∗ Own (tile d i) arg11 fullShare (Is (plc A.W r))
        ∗ Own (tile d i) arg13 fullShare (Is (rws A u r)) ∗ Own (tile d i) arg15 fullShare P) : sProp 𝕄)
    ⊢ iprop((iprop(Own (tile d i) arg9 fullShare (Is (plc A.L r)) ∗ Own (tile d i) arg11 fullShare (Is (plc A.W r))
        ∗ Own (tile d i) arg13 fullShare (Is (rws A u r)) ∗ Own (tile d i) arg15 fullShare (Is (box A u r))) -∗ wp frame (wpE defs 𝒱 (tile d i) bd) Set.univ (k ⟨⟩) Q)
      -∗ wp frame (wpE defs 𝒱 (tile d i) bd) Set.univ (Scf.Loop.for k0_t1_loop k0_t1_ok ⟨⟩ body >>= k) Q) := by
  iintro ⟨HL, HW, HR, HG⟩ Hk
  ihave HL := Own_holds $$ HL
  ihave HW := Own_holds $$ HW
  ihave HR := Own_holds $$ HR
  ihave HG := Own_some $$ HG
  icases HG with ⟨%G, HG⟩
  iapply (Scf.wp_for_bind frame (wpE defs 𝒱 (tile d i) bd) Set.univ _ _ _ k0_t1_ok ⟨⟩ body
    (fun n _ => iprop(Holds (tile d i) arg9 fullShare (plc A.L r) ∗ Holds (tile d i) arg11 fullShare (plc A.W r) ∗ Holds (tile d i) arg13 fullShare (rws A u r)
      ∗ Holds (tile d i) arg15 fullShare (binsUpTo (rws A u r) (plc A.L r) (plc A.W r) G n))) (fun t _ => by
        rw [hb t]
        exact bin_run i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 t hl (plc A.L r) (plc A.W r) (rws A u r) G (A.place_lt r))) $$ [HL HW HR HG]
  · isplitl [HL]; · iexact HL
    isplitl [HW]; · iexact HW
    isplitl [HR]; · iexact HR
    iexact HG
  iintro %_ ⟨HL, HW, HR, HG⟩
  iapply Hk
  isplitl [HL]; · iapply holds_Own $$ HL
  isplitl [HW]; · iapply holds_Own $$ HW
  isplitl [HR]; · iapply holds_Own $$ HR
  rw [← binsUpTo_all A u r G]
  iapply holds_Own $$ HG

end Cert.Roi

end
-- ==== Proof.Pair.lean ====
/-
  Two boxes of a tile, one for each half of its buffers: what one trip of the tile's loop does.
-/
module

public import proofs.«01_k».proof.Proof.Steps

@[expose] public section

noncomputable section

namespace Cert.Roi

open Idealize.ShloMosaic Idealize.ShloMosaic.SparseCore Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {Ix : Type} [DecidableEq Ix]
variable {F : FTy → Type} [FloatOps F] {Name : Type} [DecidableEq Name] [Infinite Name]
variable {U : Type} [URA U] {Lvl : Type} [Preorder Lvl] {α β : Type}

local notation "𝕄" => MT nD τ sig Ix (Elt F) Name U Lvl

variable {defs : Defs nD τ sig (Elt F) Λ₀} (EC : UEmb Counters (MT nD τ sig Ix (Elt F) Name U Lvl)) {𝒱 : Variants} {d : Dev nD} {bd : Option 𝒱.V}

/-- The part of the result a tile writes: its hundred and twenty-five boxes, its hundred and twenty-eight channels. -/
theorem own_inb (i : grid0.Coords) : ∀ a, (![125 * (i 1).val, 128 * (i 0).val, 0] : Fin 3 → ℕ) a + (![125, 128, 49] : Fin 3 → ℕ) a ≤ S2000x256x49.size a := by
  intro a
  have h0 : (i 0).val < 2 := (i 0).isLt
  have h1 : (i 1).val < 16 := (i 1).isLt
  match a with
  | 0 => show 125 * (i 1).val + 125 ≤ 2000; omega
  | 1 => show 128 * (i 0).val + 128 ≤ 256; omega
  | 2 => show 0 + 49 ≤ 49; omega

abbrev ownRect (i : grid0.Coords) : Rect S2000x256x49 := Rect.unit (s := S2000x256x49) ![125 * (i 1).val, 128 * (i 0).val, 0] ![125, 128, 49] (own_inb i)

abbrev ownSet {κ : Kind} (m : Memref sig κ .hbm S2000x256x49 .f32) (i : grid0.Coords) := (m.view.slice (ownRect i)).set

/-- Starting at `off` lies the part of tile `i`'s `n`-th box. -/
def BoxAt (i : grid0.Coords) (off : Fin 3 → ℕ) (n : ℕ) : Prop := n < 125 ∧ off 0 = 125 * (i 1).val + n ∧ off 1 = 128 * (i 0).val ∧ off 2 = 0

theorem BoxAt.sub {κ : Kind} {m : Memref sig κ .hbm S2000x256x49 .f32} {i : grid0.Coords} {off : Fin 3 → ℕ} {n : ℕ} {inb : ∀ a, off a + S1x128x49.size a ≤ S2000x256x49.size a}
    (h : BoxAt i off n) : (m.view.slice (Rect.unit (s := S2000x256x49) off S1x128x49.size inb)).set ⊆ ownSet m i := by
  rw [View.set_slice, show ownSet m i = (m.view.slice (ownRect i)).set from rfl, View.set_slice]
  refine Finset.map_subset_map.2 fun y hy => ?_
  have hy := Rect.mem_set_unit.1 hy
  obtain ⟨h0, h1, h2, h3⟩ := h
  refine Rect.mem_set_unit.2 fun a => ?_
  have e0 := hy 0
  have e1 := hy 1
  have e2 := hy 2
  change off 0 ≤ (y 0).val ∧ (y 0).val < off 0 + 1 at e0
  change off 1 ≤ (y 1).val ∧ (y 1).val < off 1 + 128 at e1
  change off 2 ≤ (y 2).val ∧ (y 2).val < off 2 + 49 at e2
  match a with
  | 0 => show 125 * (i 1).val ≤ (y 0).val ∧ (y 0).val < 125 * (i 1).val + 125; omega
  | 1 => show 128 * (i 0).val ≤ (y 1).val ∧ (y 1).val < 128 * (i 0).val + 128; omega
  | 2 => show 0 ≤ (y 2).val ∧ (y 2).val < 0 + 49; omega

instance (i : grid0.Coords) (off : Fin 3 → ℕ) (n : ℕ) : Decidable (BoxAt i off n) := by unfold BoxAt; infer_instance

/-- Tile `i`'s first `n` boxes are in place. -/
def upTo (A : Arr F) (i : grid0.Coords) (n : ℕ) (y : S2000x256x49.Idx) (v : F .f32) : Prop := (y 0).val < 125 * (i 1).val + n → v = A.val y

/-- The half of the channels tile `i` works on. -/
abbrev halfOf (i : grid0.Coords) : BitVec 32 := half (i 0).val

theorem halfOf_le (i : grid0.Coords) : (halfOf i).toNat ≤ 8192 := half_le (i 0).isLt

theorem val_at (A : Arr F) {i : grid0.Coords} {off : Fin 3 → ℕ} {n : ℕ} {inb : ∀ a, off a + S1x128x49.size a ≤ S2000x256x49.size a}
    (h : BoxAt i off n) (hn : S128x49.numel = S1x128x49.numel) (x : S128x49.Idx) :
    A.val ((Rect.unit (s := S2000x256x49) off S1x128x49.size inb).emb (Shape.reshapeEquiv hn x)) = box A (halfOf i) (125 * (i 1).val + n) x := by
  obtain ⟨h0, h1, h2, h3⟩ := h
  have hx : (x 0).val < 128 := (x 0).isLt
  refine (congrArg A.val (congrArg (Rect.unit (s := S2000x256x49) off S1x128x49.size inb).emb (Shape.reshapeEquiv_cons_one (d := ![128, 49]) _ _))).trans ?_
  have e0 : ((Rect.unit (s := S2000x256x49) off S1x128x49.size inb).emb (Fin.cons ⟨0, Nat.one_pos⟩ x) 0).val = 125 * (i 1).val + n := by
    show off 0 + 1 * 0 = _; omega
  have e1 : ((Rect.unit (s := S2000x256x49) off S1x128x49.size inb).emb (Fin.cons ⟨0, Nat.one_pos⟩ x) 1).val = 128 * (i 0).val + (x 0).val := by
    show off 1 + 1 * (x 0).val = _; omega
  have e2 : ((Rect.unit (s := S2000x256x49) off S1x128x49.size inb).emb (Fin.cons ⟨0, Nat.one_pos⟩ x) 2).val = (x 1).val := by
    show off 2 + 1 * (x 1).val = _; omega
  unfold Arr.val
  rw [e0, show ((Rect.unit (s := S2000x256x49) off S1x128x49.size inb).emb (Fin.cons ⟨0, Nat.one_pos⟩ x) 1).val / 128 = (i 0).val by rw [e1]; omega]
  refine congrArg (box A (halfOf i) (125 * (i 1).val + n)) ?_
  funext a
  apply Fin.ext
  match a with
  | 0 => show ((Rect.unit (s := S2000x256x49) off S1x128x49.size inb).emb (Fin.cons ⟨0, Nat.one_pos⟩ x) 1).val % 128 = (x 0).val; rw [e1]; omega
  | 1 => exact e2

/-- Starting the copy of tile `i`'s `n`-th box into the result. -/
theorem flush_box [EC.LandsIn (upEmb : UEmb _ 𝕄)] {c : Thread nD τ} {src : Memref sig c.2.kind .vmem S128x49 .f32} {m : Memref sig c.2.kind .hbm S2000x256x49 .f32} {off : Fin 3 → ℕ}
    {inb : ∀ a, off a + S1x128x49.size a ≤ S2000x256x49.size a} {hr : ∀ a, (Rect.unit (s := S2000x256x49) off S1x128x49.size inb).stride a = 1} {hs : (Rect.unit (s := S2000x256x49) off S1x128x49.size inb).shape.Squeezes S128x49}
    {sem : DmaSem sig} {h1 h2 h3} {k : PUnit → Prog (TpuEff nD τ sig (Elt F) Λ₀ c.2) β} {Q : β → sProp 𝕄} (ι : Ix) (A : Arr F) {i : grid0.Coords} {r n : ℕ}
    (ho : BoxAt i off n) (hrow : r = 125 * (i 1).val + n) (n' : ℕ) (hn' : n' = n + 1) :
    iprop(Own c src fullShare (Is (box A (halfOf i) r)) ∗ Out c m (ownSet m i) (upTo A i n) ∗ semVal (c, .dma sem) 0)
      ⊢ iprop((Fly EC c (.dma sem) ι ((m.slice (Rect.unit (s := S2000x256x49) off S1x128x49.size inb) hr).squeeze S128x49 hs).view.dmaCredit
            iprop(Own c src fullShare (Is (box A (halfOf i) r)) ∗ Out c m (ownSet m i) (upTo A i n')) -∗ wp frame (wpE defs 𝒱 c bd) Set.univ (k ⟨⟩) Q)
          -∗ wp frame (wpE defs 𝒱 c bd) Set.univ (Prog.lift (TpuEff.enqueueDma src (.here ((m.slice (Rect.unit (s := S2000x256x49) off S1x128x49.size inb) hr).squeeze S128x49 hs)) (.dma sem) h1 h2 h3) >>= k) Q) := by
  subst hrow hn'
  refine flush EC ι (by decide) ho.sub (fun x v hv _ => hv.trans (val_at A ho hs.numel_eq x).symm) fun y hy hyS v hv hlt => ?_
  by_cases hc : (y 0).val < 125 * (i 1).val + n
  · exact hv hc
  · exfalso
    apply hy
    obtain ⟨h0, h1, h2, h3⟩ := ho
    have hyo : y ∈ (ownRect i).set := by
      have : m.view.emb y ∈ (m.view.slice (ownRect i)).set := hyS
      rw [View.set_slice] at this
      obtain ⟨y', hy', he⟩ := Finset.mem_map.1 this
      exact m.view.emb.injective he ▸ hy'
    have hyo := Rect.mem_set_unit.1 hyo
    have e1 := hyo 1
    have e2 := hyo 2
    change 128 * (i 0).val ≤ (y 1).val ∧ (y 1).val < 128 * (i 0).val + 128 at e1
    change 0 ≤ (y 2).val ∧ (y 2).val < 0 + 49 at e2
    refine Rect.mem_set_unit.2 fun a => ?_
    match a with
    | 0 => show off 0 ≤ (y 0).val ∧ (y 0).val < off 0 + 1; omega
    | 1 => show off 1 ≤ (y 1).val ∧ (y 1).val < off 1 + 128; omega
    | 2 => show off 2 ≤ (y 2).val ∧ (y 2).val < off 2 + 49; omega

/-- The box on the first half of the buffers before trip `n`. -/
abbrev rowA (i : grid0.Coords) (n : ℕ) : ℕ := 125 * (i 1).val + (2 * n + 2)

/-- The box on the second half of the buffers before trip `n`; after the last box it is fetched again. -/
abbrev rowB (i : grid0.Coords) (n : ℕ) : ℕ := 125 * (i 1).val + min (2 * n + 3) 124

theorem own_even : ∀ (i : grid0.Coords) (t : Fin k0_t3_loop.trips), BoxAt i (k0_off16 i t) (2 * t.val + 2) := by decide +kernel

theorem own_odd : ∀ (i : grid0.Coords) (t : Fin k0_t3_loop.trips), BoxAt i (k0_off22 i t) (2 * t.val + 3) := by decide +kernel

theorem list_even : ∀ (i : grid0.Coords) (t : Fin k0_t3_loop.trips), AtList (k0_off12 i t) (rowA i (t.val + 1)) := by decide +kernel

theorem list_odd : ∀ (i : grid0.Coords) (t : Fin k0_t3_loop.trips), AtList (k0_off18 i t) (rowB i (t.val + 1)) := by decide +kernel

theorem places_even : ∀ (i : grid0.Coords) (t : Fin k0_t3_loop.trips), AtPlaces (k0_off15 i t) (rowA i (t.val + 1)) := by decide +kernel

theorem places_odd : ∀ (i : grid0.Coords) (t : Fin k0_t3_loop.trips), AtPlaces (k0_off21 i t) (rowB i (t.val + 1)) := by decide +kernel

theorem row_odd : ∀ (i : grid0.Coords) (t : Fin k0_t3_loop.trips), rowB i t.val = 125 * (i 1).val + (2 * t.val + 3) := fun i t => by
  have : t.val < 61 := t.isLt
  show 125 * (i 1).val + min (2 * t.val + 3) 124 = _
  omega

/-- One trip of the tile's loop. -/
abbrev pairProg (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (v11 : BitVec 32) (v29 : BitVec 32) (v32 : IVec S16 32) (v34 : IVec S16 32) (v36 : IVec S16 32) (v38 : IVec S16 32) (v40 : IVec S16 32) (v42 : IVec S16 32) (v44 : IVec S16 32) (v46 : IVec S16 32) (v47 : BitVec 32) (c1_i32_514 : BitVec 32) (c1_i32_515 : BitVec 32) (k0_t3 : Fin k0_t3_loop.trips) :
    Prog (TpuEff nD τ sig (Elt F) Λ₀ (.scVector ((i 0).castLE hcore0) ((i 1).castLE hsub0))) PUnit :=
  do
    let ⟨v710, v737⟩ : Σ' (v710 : BitVec 32), IVec S16 32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 c1_i32_514 c1_i32_515 k0_t3
    k0_part38 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v737
    let v791 : IVec S16 32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47
    let v819 : Vec F S16 .i32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v791
    k0_part41 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v819
    k0_part42 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47
    k0_part43 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7
    let ⟨c0_i32_748, c49_i32_749⟩ : Σ' (c0_i32_748 : BitVec 32), BitVec 32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v29 k0_t3 v710
    let ⟨v935, v944⟩ : Σ' (v935 : BitVec 32), IVec S16 32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v11 v29 v32 v34 v36 v38 v40 v42 v44 v46 v47 k0_t3 v710 c0_i32_748 c49_i32_749
    k0_part46 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v944
    let v998 : IVec S16 32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47
    let v1026 : Vec F S16 .i32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v998
    k0_part49 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v1026
    let ⟨v1082, c4_i32_859⟩ : Σ' (v1082 : IVec S16 32), BitVec 32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47
    k0_part51 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v47 v1082 c4_i32_859
    k0_part52 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7
    k0_part53 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v29 v32 v34 v36 v38 v40 v42 v44 v46 k0_t3 v935
    let v1156 : Memref sig .scVector .hbm S1x784 .f32 := arg5.slice (Rect.unit (s := S2000x784) (k0_off21 i k0_t3) S1x784.size (k0_off21_inb i k0_t3)) (fun _ => rfl)
    let v1157 : Memref sig .scVector .hbm S784 .f32 := v1156.squeeze S784 squeezes_S1x784_S784
    Prog.lift (.enqueueDma v1157 (.here arg12) (.dma arg21.sem) ((View.wordExact_bits rfl).reshape _ _) harg12.wordExact ⟨Or.inl rfl, trivial⟩)
    let v1158 : BitVec 32 := Scalar.addi v29 v935
    let c128_i32_946 : BitVec 32 := 128#32
    let v1159 : BitVec 32 := Scalar.muli v11 c128_i32_946
    let c0_i32_947_r6 : BitVec 32 := 0#32
    let v1161_r6 : Memref sig .scVector .hbm S1x128x49 .f32 := arg6.slice (Rect.unit (s := S2000x256x49) (k0_off22 i k0_t3) S1x128x49.size (k0_off22_inb i k0_t3)) (fun _ => rfl)
    let v1162_r6 : Memref sig .scVector .hbm S128x49 .f32 := v1161_r6.squeeze S128x49 squeezes_S1x128x49_S128x49
    let c0_i32_948_r6 : BitVec 32 := 0#32
    let v1163_r6 : Memref sig .scVector .hbm S1x128x49 .f32 := arg6.slice (Rect.unit (s := S2000x256x49) (k0_off22 i k0_t3) S1x128x49.size (k0_off22_inb i k0_t3)) (fun _ => rfl)
    let v1164_r6 : Memref sig .scVector .hbm S128x49 .f32 := v1163_r6.squeeze S128x49 squeezes_S1x128x49_S128x49
    Prog.lift (.enqueueDma arg15 (.here v1164_r6) (.dma v1160_r6.sem) harg15.wordExact ((View.wordExact_bits rfl).reshape _ _) ⟨Or.inl rfl, trivial⟩)
    let c0_i32_949_r6 : BitVec 32 := 0#32
    let v1165_r6 : Memref sig .scVector .hbm S1x128x49 .f32 := arg6.slice (Rect.unit (s := S2000x256x49) (k0_off22 i k0_t3) S1x128x49.size (k0_off22_inb i k0_t3)) (fun _ => rfl)
    let v1166_r6 : Memref sig .scVector .hbm S128x49 .f32 := v1165_r6.squeeze S128x49 squeezes_S1x128x49_S128x49
    let c0_i32_950_r6 : BitVec 32 := 0#32
    let v1167_r6 : Memref sig .scVector .hbm S1x128x49 .f32 := arg6.slice (Rect.unit (s := S2000x256x49) (k0_off22 i k0_t3) S1x128x49.size (k0_off22_inb i k0_t3)) (fun _ => rfl)
    let v1168_r6 : Memref sig .scVector .hbm S128x49 .f32 := v1167_r6.squeeze S128x49 squeezes_S1x128x49_S128x49
    Prog.lift (.waitDma2 v1160_r6.sem arg15 v1168_r6 harg15.wordExact ((View.wordExact_bits rfl).reshape _ _))
    pure ⟨⟩

/-- What the tile holds before trip `n`. -/
abbrev Between (A : Arr F) (n : ℕ) (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (d : Dev nD) (ι : Ix) (O : CellTallies nD τ sig Ix) (W₀ : Waits sig Ix) (NR : ℕ) (q0 q1 : PosShare TreeShare) : sProp 𝕄 :=
  iprop(RowsIn EC A (halfOf i) (rowA i n) (tile d i) arg2 arg13 arg7 arg16.sem ι NR q0 ∗ ListIn EC A (rowB i n) (tile d i) arg3 arg8 arg19.sem ι q1 ∗ PlacesIn EC A (rowA i n) (tile d i) arg4 arg5 arg9 arg11 arg20.sem ι q0 ∗ PlacesIn EC A (rowB i n) (tile d i) arg4 arg5 arg10 arg12 arg21.sem ι q1 ∗ Own (tile d i) arg2 q1 (Is A.T) ∗ Own (tile d i) arg14 fullShare (fun _ _ => True) ∗ Own (tile d i) arg3 q0 (Is A.G) ∗ semVal (tile d i, .dma arg17.sem) 0 ∗ semVal (tile d i, .dma arg18.sem) 0 ∗ Own (tile d i) arg15 fullShare (fun _ _ => True) ∗ Out (tile d i) arg6 (ownSet arg6 i) (upTo A i (2 * n + 2)) ∗ semVal (tile d i, .dma v1160_r5.sem) 0 ∗ semVal (tile d i, .dma v1160_r6.sem) 0 ∗ Ow (tile d i) ι O W₀)

set_option maxHeartbeats 0 in
/-- A trip takes what the tile holds before it to what it holds before the next, two more boxes in place. -/
theorem pair_run [EC.LandsIn (upEmb : UEmb _ 𝕄)] (A : Arr F) (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (v11 : BitVec 32) (v29 : BitVec 32) (v32 : IVec S16 32) (v34 : IVec S16 32) (v36 : IVec S16 32) (v38 : IVec S16 32) (v40 : IVec S16 32) (v42 : IVec S16 32) (v44 : IVec S16 32) (v46 : IVec S16 32) (v47 : BitVec 32) (a b : BitVec 32) (k0_t3 : Fin k0_t3_loop.trips)
    (d : Dev nD) (ι : Ix) (O : CellTallies nD τ sig Ix) (W₀ : Waits sig Ix) (NR : ℕ) (q0 q1 : PosShare TreeShare) (hl : Lanes v32 v34 v36 v38 v40 v42 v44 v46) (hq : v47 = halfOf i) (C0 : Counts (c := tile d i) arg9 arg11 arg13 NR) (C1 : Counts (c := tile d i) arg10 arg12 arg14 NR) :
    (Between EC A k0_t3.val i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 d ι O W₀ NR q0 q1 : sProp 𝕄)
    ⊢ wp frame (wpE defs 𝒱 (tile d i) bd) Set.univ (pairProg (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v11 v29 v32 v34 v36 v38 v40 v42 v44 v46 v47 a b k0_t3) fun _ => Between EC A (k0_t3.val + 1) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 d ι O W₀ NR q0 q1 := by
  subst hq
  iintro ⟨Hrows, Hlist, Hp0, Hp1, Ht1, Hr1, Hg0, Hs17, Hs18, Hstage, Hout, Hr5, Hr6, HO⟩
  iapply bind_in
  delta k0_part37
  iapply (fetched EC ι rfl) $$ [Hlist HO]
  · isplitl [Hlist]; · iexact Hlist
    iexact HO
  iintro ⟨⟨Hg1, HA⟩, Hs19, HO⟩
  ihave HA := (scale_begin (halfOf i)) $$ HA
  iterate 3
    (iapply scale_group $$ [HA]
     · (isplitl [HA]; · iexact HA
        ipureintro; exact ⟨rfl, rfl⟩)
     iintro HA)
  iapply load_at $$ HA
  iintro %v %hv HA
  iapply pure_in
  iapply bind_in
  delta k0_part38
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part39
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part40
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part41
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part42
  iterate 3
    (iapply scale_group $$ [HA]
     · (isplitl [HA]; · iexact HA
        ipureintro; exact ⟨rfl, rfl⟩)
     iintro HA)
  iapply (gath_begin EC ι NR (A.row_lt (halfOf_le i) (rowB i k0_t3.val))) $$ [Ht1 Hr1 HA Hs17]
  · isplitl [Ht1]; · iexact Ht1
    isplitl [Hr1]; · iexact Hr1
    isplitl [HA]; · iexact HA
    iexact Hs17
  iintro HG
  iapply (gath_step EC ι 0 (lt5 0) (C1.row 0 (lt5 0))) $$ HG
  iintro HG
  iapply pure_in
  iapply bind_in
  delta k0_part43
  iapply (gath_step EC ι 1 (lt5 1) (C1.row 1 (lt5 1))) $$ HG
  iintro HG
  iapply (gath_step EC ι 2 (lt5 2) (C1.row 2 (lt5 2))) $$ HG
  iintro HG
  iapply (gath_step EC ι 3 (lt5 3) (C1.row 3 (lt5 3))) $$ HG
  iintro HG
  iapply (gath_step EC ι 4 (lt5 4) (C1.row 4 (lt5 4))) $$ HG
  iintro HG
  ihave Hrows1 := (gath_done EC ι NR) $$ HG
  iapply (rows_wait (m := 0) (hm := lt5 0) EC ι 0 C0.rows (by decide)) $$ [Hrows HO]
  · isplitl [Hrows]; · iexact Hrows
    iexact HO
  iintro ⟨Hrows, HO⟩
  iapply (rows_wait (m := 1) (hm := lt5 1) EC ι 1 C0.rows (by decide)) $$ [Hrows HO]
  · isplitl [Hrows]; · iexact Hrows
    iexact HO
  iintro ⟨Hrows, HO⟩
  iapply pure_in
  iapply bind_in
  delta k0_part44
  iapply (rows_wait (m := 2) (hm := lt5 2) EC ι 2 C0.rows (by decide)) $$ [Hrows HO]
  · isplitl [Hrows]; · iexact Hrows
    iexact HO
  iintro ⟨Hrows, HO⟩
  iapply (rows_wait (m := 3) (hm := lt5 3) EC ι 3 C0.rows (by decide)) $$ [Hrows HO]
  · isplitl [Hrows]; · iexact Hrows
    iexact HO
  iintro ⟨Hrows, HO⟩
  iapply (row_last (m := 4) (hm := lt5 4) (u := 320) EC ι C0.rows C0.pos (by decide)) $$ [Hrows HO]
  · isplitl [Hrows]; · iexact Hrows
    iexact HO
  iintro ⟨⟨Ht0, Hr0, Hb0⟩, Hs16, HO⟩
  iapply (fetch_list EC ι A _ (list_even i k0_t3)) $$ [Hg0 Hb0 Hs18]
  · isplitl [Hg0]; · iexact Hg0
    isplitl [Hb0]; · iexact Hb0
    iexact Hs18
  iintro Hlist
  iapply (bat_wait EC ι 1 (n := 2) (u := 0) C0.one (by decide)) $$ [Hp0 HO]
  · isplitl [Hp0]; · iexact Hp0
    iexact HO
  iintro ⟨Hp0, HO⟩
  iapply (bat_last EC ι 1 (n := 2) (u := 0 + 1) C0.one' C0.lpos (by decide)) $$ [Hp0 HO]
  · isplitl [Hp0]; · iexact Hp0
    iexact HO
  iintro ⟨⟨Hl0, Hl9, Hw0, Hw11⟩, Hs20, HO⟩
  iapply pure_in
  iapply bind_in
  delta k0_part45
  iapply (bins i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 A (halfOf i) (rowA i k0_t3.val) hl (fun _ => rfl)) $$ [Hl9 Hw11 Hr0 Hstage]
  · isplitl [Hl9]; · iexact Hl9
    isplitl [Hw11]; · iexact Hw11
    isplitl [Hr0]; · iexact Hr0
    iexact Hstage
  iintro ⟨Hl9, Hw11, Hr0, Hstage⟩
  iapply (fetch_places EC ι A _ (places_even i k0_t3)) $$ [Hl0 Hl9 Hw0 Hw11 Hs20]
  · isplitl [Hl0]; · iexact Hl0
    isplitl [Hl9]; · iexact Hl9
    isplitl [Hw0]; · iexact Hw0
    isplitl [Hw11]; · iexact Hw11
    iexact Hs20
  iintro Hp0
  iapply (fetch_snd₀ EC ι C0.lw) $$ Hp0
  iintro Hp0
  iapply (flush_box EC ι A (own_even i k0_t3) rfl (2 * k0_t3.val + 3) rfl) $$ [Hstage Hout Hr5]
  · isplitl [Hstage]; · iexact Hstage
    isplitl [Hout]; · iexact Hout
    iexact Hr5
  iintro HF
  iapply (fetched EC ι rfl) $$ [HF HO]
  · isplitl [HF]; · iexact HF
    iexact HO
  iintro ⟨⟨Hstage, Hout⟩, Hr5, HO⟩
  iapply (fetched EC ι rfl) $$ [Hlist HO]
  · isplitl [Hlist]; · iexact Hlist
    iexact HO
  iintro ⟨⟨Hg0, HA⟩, Hs18, HO⟩
  ihave HA := (scale_begin (halfOf i)) $$ HA
  iapply load_at $$ HA
  iintro %v %hv HA
  iapply pure_in
  iapply bind_in
  delta k0_part46
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part47
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part48
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part49
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part50
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part51
  iapply load_at $$ HA
  iintro %_ %_ HA
  iapply scale_put $$ [HA]
  · isplitl [HA]; · iexact HA
    isplitr; · ipureintro; exact hv
    ipureintro; exact ⟨rfl, rfl⟩
  iintro HA
  iterate 1
    (iapply scale_group $$ [HA]
     · (isplitl [HA]; · iexact HA
        ipureintro; exact ⟨rfl, rfl⟩)
     iintro HA)
  iapply (gath_begin EC ι NR (A.row_lt (halfOf_le i) (rowA i (k0_t3.val + 1)))) $$ [Ht0 Hr0 HA Hs16]
  · isplitl [Ht0]; · iexact Ht0
    isplitl [Hr0]; · iexact Hr0
    isplitl [HA]; · iexact HA
    iexact Hs16
  iintro HG
  iapply (gath_step EC ι 0 (lt5 0) (C0.row 0 (lt5 0))) $$ HG
  iintro HG
  iapply (gath_step EC ι 1 (lt5 1) (C0.row 1 (lt5 1))) $$ HG
  iintro HG
  iapply (gath_step EC ι 2 (lt5 2) (C0.row 2 (lt5 2))) $$ HG
  iintro HG
  iapply pure_in
  iapply bind_in
  delta k0_part52
  iapply (gath_step EC ι 3 (lt5 3) (C0.row 3 (lt5 3))) $$ HG
  iintro HG
  iapply (gath_step EC ι 4 (lt5 4) (C0.row 4 (lt5 4))) $$ HG
  iintro HG
  ihave Hrows := (gath_done EC ι NR) $$ HG
  iapply (rows_wait (m := 0) (hm := lt5 0) EC ι 0 C1.rows (by decide)) $$ [Hrows1 HO]
  · isplitl [Hrows1]; · iexact Hrows1
    iexact HO
  iintro ⟨Hrows1, HO⟩
  iapply (rows_wait (m := 1) (hm := lt5 1) EC ι 1 C1.rows (by decide)) $$ [Hrows1 HO]
  · isplitl [Hrows1]; · iexact Hrows1
    iexact HO
  iintro ⟨Hrows1, HO⟩
  iapply (rows_wait (m := 2) (hm := lt5 2) EC ι 2 C1.rows (by decide)) $$ [Hrows1 HO]
  · isplitl [Hrows1]; · iexact Hrows1
    iexact HO
  iintro ⟨Hrows1, HO⟩
  iapply (rows_wait (m := 3) (hm := lt5 3) EC ι 3 C1.rows (by decide)) $$ [Hrows1 HO]
  · isplitl [Hrows1]; · iexact Hrows1
    iexact HO
  iintro ⟨Hrows1, HO⟩
  iapply pure_in
  iapply bind_in
  delta k0_part53
  iapply (row_last (m := 4) (hm := lt5 4) (u := 320) EC ι C1.rows C1.pos (by decide)) $$ [Hrows1 HO]
  · isplitl [Hrows1]; · iexact Hrows1
    iexact HO
  iintro ⟨⟨Ht1, Hr1, Hb1⟩, Hs17, HO⟩
  iapply (fetch_list EC ι A _ (list_odd i k0_t3)) $$ [Hg1 Hb1 Hs19]
  · isplitl [Hg1]; · iexact Hg1
    isplitl [Hb1]; · iexact Hb1
    iexact Hs19
  iintro Hlist
  iapply (bat_wait EC ι 1 (n := 2) (u := 0) C1.one (by decide)) $$ [Hp1 HO]
  · isplitl [Hp1]; · iexact Hp1
    iexact HO
  iintro ⟨Hp1, HO⟩
  iapply (bat_last EC ι 1 (n := 2) (u := 0 + 1) C1.one' C1.lpos (by decide)) $$ [Hp1 HO]
  · isplitl [Hp1]; · iexact Hp1
    iexact HO
  iintro ⟨⟨Hl1, Hl10, Hw1, Hw12⟩, Hs21, HO⟩
  iapply (bins i arg2 harg2 arg3 harg3 arg4 harg4 arg5 harg5 arg6 harg6 arg7 harg7 arg8 harg8 arg10 harg10 arg9 harg9 arg12 harg12 arg11 harg11 arg14 harg14 arg13 harg13 arg15 harg15 arg16 arg17 arg18 arg19 arg20 arg21 v710_r0 v710_r1 v710_r2 v710_r3 v710_r4 v1160_r5 v1160_r6 v710_r7 v32 v34 v36 v38 v40 v42 v44 v46 A (halfOf i) (rowB i k0_t3.val) hl (fun _ => rfl)) $$ [Hl10 Hw12 Hr1 Hstage]
  · isplitl [Hl10]; · iexact Hl10
    isplitl [Hw12]; · iexact Hw12
    isplitl [Hr1]; · iexact Hr1
    iexact Hstage
  iintro ⟨Hl10, Hw12, Hr1, Hstage⟩
  iapply (fetch_places EC ι A _ (places_odd i k0_t3)) $$ [Hl1 Hl10 Hw1 Hw12 Hs21]
  · isplitl [Hl1]; · iexact Hl1
    isplitl [Hl10]; · iexact Hl10
    isplitl [Hw1]; · iexact Hw1
    isplitl [Hw12]; · iexact Hw12
    iexact Hs21
  iintro Hp1
  iapply pure_in
  iapply (fetch_snd₀ EC ι C1.lw) $$ Hp1
  iintro Hp1
  iapply (flush_box EC ι A (own_odd i k0_t3) (row_odd i k0_t3) (2 * (k0_t3.val + 1) + 2) rfl) $$ [Hstage Hout Hr6]
  · isplitl [Hstage]; · iexact Hstage
    isplitl [Hout]; · iexact Hout
    iexact Hr6
  iintro HF
  iapply (fetched EC ι rfl) $$ [HF HO]
  · isplitl [HF]; · iexact HF
    iexact HO
  iintro ⟨⟨Hstage, Hout⟩, Hr6, HO⟩
  iapply pure_in
  ihave Hstage := Own_any $$ Hstage
  ihave Hr1 := Own_any $$ Hr1
  isplitl [Hrows]; · iexact Hrows
  isplitl [Hlist]; · iexact Hlist
  isplitl [Hp0]; · iexact Hp0
  isplitl [Hp1]; · iexact Hp1
  isplitl [Ht1]; · iexact Ht1
  isplitl [Hr1]; · iexact Hr1
  isplitl [Hg0]; · iexact Hg0
  isplitl [Hs17]; · iexact Hs17
  isplitl [Hs18]; · iexact Hs18
  isplitl [Hstage]; · iexact Hstage
  isplitl [Hout]; · iexact Hout
  isplitl [Hr5]; · iexact Hr5
  isplitl [Hr6]; · iexact Hr6
  iexact HO

end Cert.Roi

end
-- ==== Proof.Whole.lean ====
/-
  A whole tile: all hundred and twenty-five boxes, from the first copy to the last wait.
-/
module

public import proofs.«01_k».proof.Proof.Pair

@[expose] public section

noncomputable section

namespace Cert.Roi

open Idealize.ShloMosaic Idealize.ShloMosaic.SparseCore Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {Ix : Type} [DecidableEq Ix]
variable {F : FTy → Type} [FloatOps F] {Name : Type} [DecidableEq Name] [Infinite Name]
variable {U : Type} [URA U] {Lvl : Type} [Preorder Lvl] {α β : Type}

local notation "𝕄" => MT nD τ sig Ix (Elt F) Name U Lvl

variable {defs : Defs nD τ sig (Elt F) Λ₀} (EC : UEmb Counters (MT nD τ sig Ix (Elt F) Name U Lvl)) {𝒱 : Variants} {d : Dev nD} {bd : Option 𝒱.V}

/-- The half of the channels a tile works on is its first coordinate. -/
theorem half_eq : ∀ (x : Fin 2) (y : Fin 16), (
    let arg0 : BitVec 32 := BitVec.ofNat 32 x.val
    let arg1 : BitVec 32 := BitVec.ofNat 32 y.val
    let c2_i32 : BitVec 32 := 2#32
    let v0 : BitVec 32 := Scalar.muli arg1 c2_i32
    let v1 : BitVec 32 := Scalar.addi v0 arg0
    let c2_i32_0 : BitVec 32 := 2#32
    let c0_i32 : BitVec 32 := 0#32
    let v2 : BitVec 1 := Scalar.cmpi .eq c2_i32_0 c0_i32
    let c1_i32 : BitVec 32 := 1#32
    let v3 : BitVec 32 := Scalar.select v2 c1_i32 c2_i32_0
    let v4 : BitVec 32 := Scalar.remsi v1 v3
    let c0_i32_1 : BitVec 32 := 0#32
    let v5 : BitVec 1 := Scalar.cmpi .ne v4 c0_i32_1
    let c0_i32_2 : BitVec 32 := 0#32
    let v6 : BitVec 1 := Scalar.cmpi .slt v4 c0_i32_2
    let c0_i32_3 : BitVec 32 := 0#32
    let v7 : BitVec 1 := Scalar.cmpi .slt v3 c0_i32_3
    let v8 : BitVec 1 := Scalar.xori v6 v7
    let v9 : BitVec 1 := Scalar.andi v8 v5
    let v10 : BitVec 32 := Scalar.addi v4 v3
    Scalar.select v9 v10 v4) = BitVec.ofNat 32 x.val := by decide +kernel

theorem lane_add {v : IVec S16 32} {q : BitVec 32} {j : ℕ} (hv : ∀ x, (v x).toNat = (x 0).val) (hq : q.toNat = 16 * j) (hj : j < 8) : LaneAt (addi v (broadcast S16 q)) j := by
  intro x
  have hx : (x 0).val < 16 := (x 0).isLt
  show (BitVec.toNat ((v x : BitVec 32) + q)) = _
  rw [BitVec.toNat_add, hv x, hq, Nat.mod_eq_of_lt (by omega)]
  omega

theorem iota_at (x : S16.Idx) : (iota .scVector S16 32 [0] iota_S16_d0_w32_scVector x).toNat = (x 0).val := by
  revert x; decide

theorem half_rows {v : BitVec 32} {n : ℕ} (h : v = BitVec.ofNat 32 n) : Scalar.muli v 8192#32 = half n := by
  subst h
  unfold half
  rw [Nat.mul_comm, BitVec.ofNat_mul]
  rfl

theorem pure_abs {c : Thread nD τ} {a : α} {Q : α → sProp 𝕄} (P : α → Prop) (h : P a) :
    iprop(∀ b, ⌜P b⌝ -∗ Q b) ⊢ wp frame (wpE defs 𝒱 c bd) Set.univ (pure a : Prog (TpuEff nD τ sig (Elt F) Λ₀ c.2) α) Q := by
  rw [wp_pure]
  iintro H
  imodintro
  iapply H
  ipureintro
  exact h

theorem out_zero {c : Thread nD τ} {m : Memref sig c.2.kind .hbm S2000x256x49 .f32} {i : grid0.Coords} {P : S2000x256x49.Idx → F .f32 → Prop} (A : Arr F) :
    (Out c m (ownSet m i) P : sProp 𝕄) ⊢ Out c m (ownSet m i) (upTo A i 0) := by
  unfold Out
  iintro ⟨%f, %_, H⟩
  iexists f
  isplitr
  swap; · iexact H
  ipureintro
  intro y hyS hlt
  exfalso
  have hyo : y ∈ (ownRect i).set := by
    have : m.view.emb y ∈ (m.view.slice (ownRect i)).set := hyS
    rw [View.set_slice] at this
    obtain ⟨y', hy', he⟩ := Finset.mem_map.1 this
    exact m.view.emb.injective he ▸ hy'
  have e0 := Rect.mem_set_unit.1 hyo 0
  change 125 * (i 1).val ≤ (y 0).val ∧ (y 0).val < 125 * (i 1).val + 125 at e0
  omega

theorem list_0 : ∀ i : grid0.Coords, AtList (k0_off1 i) (125 * (i 1).val + 0) := by decide +kernel

theorem places_0 : ∀ i : grid0.Coords, AtPlaces (k0_off2 i) (125 * (i 1).val + 0) := by decide +kernel

theorem list_1 : ∀ i : grid0.Coords, AtList (k0_off3 i) (125 * (i 1).val + 1) := by decide +kernel

theorem places_1 : ∀ i : grid0.Coords, AtPlaces (k0_off4 i) (125 * (i 1).val + 1) := by decide +kernel

theorem list_2 : ∀ i : grid0.Coords, AtList (k0_off5 i) (rowA i 0) := by decide +kernel

theorem places_2 : ∀ i : grid0.Coords, AtPlaces (k0_off7 i 2#32) (rowA i 0) := by decide +kernel

theorem list_3 : ∀ i : grid0.Coords, AtList (k0_off9 i) (rowB i 0) := by decide +kernel

theorem places_3 : ∀ i : grid0.Coords, AtPlaces (k0_off7 i 3#32) (rowB i 0) := by decide +kernel

theorem own_fst : ∀ i : grid0.Coords, BoxAt i (k0_off8 i 0#32) 0 := by decide +kernel

theorem own_snd : ∀ i : grid0.Coords, BoxAt i (k0_off8 i 1#32) 1 := by decide +kernel

theorem own_last : ∀ i : grid0.Coords, BoxAt i (k0_off8 i 124#32) (2 * k0_t3_loop.trips + 2) := by decide +kernel

/-- What a tile is given, and what it gives back, its part of the result being as `R` says. -/
abbrev Idle (A : Arr F) (R : S2000x256x49.Idx → F .f32 → Prop) (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (d : Dev nD) (ι : Ix) (O : CellTallies nD τ sig Ix) (W₀ : Waits sig Ix) (q0 q1 : PosShare TreeShare) : sProp 𝕄 :=
  iprop(Own (tile d i) arg2 q0 (Is A.T) ∗ Own (tile d i) arg2 q1 (Is A.T) ∗ Own (tile d i) arg3 q0 (Is A.G) ∗ Own (tile d i) arg3 q1 (Is A.G) ∗ Own (tile d i) arg4 q0 (Is A.L) ∗ Own (tile d i) arg4 q1 (Is A.L) ∗ Own (tile d i) arg5 q0 (Is A.W) ∗ Own (tile d i) arg5 q1 (Is A.W) ∗ Out (tile d i) arg6 (ownSet arg6 i) R ∗ Own (tile d i) arg7 fullShare (fun _ _ => True) ∗ Own (tile d i) arg8 fullShare (fun _ _ => True) ∗ Own (tile d i) arg9 fullShare (fun _ _ => True) ∗ Own (tile d i) arg10 fullShare (fun _ _ => True) ∗ Own (tile d i) arg11 fullShare (fun _ _ => True) ∗ Own (tile d i) arg12 fullShare (fun _ _ => True) ∗ Own (tile d i) arg13 fullShare (fun _ _ => True) ∗ Own (tile d i) arg14 fullShare (fun _ _ => True) ∗ Own (tile d i) arg15 fullShare (fun _ _ => True) ∗ semVal (tile d i, .dma arg16.sem) 0 ∗ semVal (tile d i, .dma arg17.sem) 0 ∗ semVal (tile d i, .dma arg18.sem) 0 ∗ semVal (tile d i, .dma arg19.sem) 0 ∗ semVal (tile d i, .dma arg20.sem) 0 ∗ semVal (tile d i, .dma arg21.sem) 0 ∗ semVal (tile d i, .dma v710_r0.sem) 0 ∗ semVal (tile d i, .dma v710_r1.sem) 0 ∗ semVal (tile d i, .dma v710_r2.sem) 0 ∗ semVal (tile d i, .dma v710_r3.sem) 0 ∗ semVal (tile d i, .dma v710_r4.sem) 0 ∗ semVal (tile d i, .dma v1160_r5.sem) 0 ∗ semVal (tile d i, .dma v1160_r6.sem) 0 ∗ semVal (tile d i, .dma v710_r7.sem) 0 ∗ Ow (tile d i) ι O W₀)

set_option maxHeartbeats 0 in
/-- The tile's program gives back what it is given, all its boxes in place. -/
theorem body_run [EC.LandsIn (upEmb : UEmb _ 𝕄)] (A : Arr F) (i : grid0.Coords) (arg2 : Memref sig .scVector .hbm S16384x128 .f32) (harg2 : arg2.IsWhole) (arg3 : Memref sig .scVector .hbm S2000x5x80 .i32) (harg3 : arg3.IsWhole) (arg4 : Memref sig .scVector .hbm S2000x784 .i32) (harg4 : arg4.IsWhole) (arg5 : Memref sig .scVector .hbm S2000x784 .f32) (harg5 : arg5.IsWhole) (arg6 : Memref sig .scVector .hbm S2000x256x49 .f32) (harg6 : arg6.IsWhole) (arg7 : Memref sig .scVector .vmem S5x80 .i32) (harg7 : arg7.IsWhole) (arg8 : Memref sig .scVector .vmem S5x80 .i32) (harg8 : arg8.IsWhole) (arg9 : Memref sig .scVector .vmem S784 .i32) (harg9 : arg9.IsWhole) (arg10 : Memref sig .scVector .vmem S784 .i32) (harg10 : arg10.IsWhole) (arg11 : Memref sig .scVector .vmem S784 .f32) (harg11 : arg11.IsWhole) (arg12 : Memref sig .scVector .vmem S784 .f32) (harg12 : arg12.IsWhole) (arg13 : Memref sig .scVector .vmem S400x128 .f32) (harg13 : arg13.IsWhole) (arg14 : Memref sig .scVector .vmem S400x128 .f32) (harg14 : arg14.IsWhole) (arg15 : Memref sig .scVector .vmem S128x49 .f32) (harg15 : arg15.IsWhole) (arg16 : DmaSems sig S_) (arg17 : DmaSems sig S_) (arg18 : DmaSems sig S_) (arg19 : DmaSems sig S_) (arg20 : DmaSems sig S_) (arg21 : DmaSems sig S_) (v710_r0 : DmaSems sig S_) (v710_r1 : DmaSems sig S_) (v710_r2 : DmaSems sig S_) (v710_r3 : DmaSems sig S_) (v710_r4 : DmaSems sig S_) (v1160_r5 : DmaSems sig S_) (v1160_r6 : DmaSems sig S_) (v710_r7 : DmaSems sig S_) (d : Dev nD) (ι : Ix) (O : CellTallies nD τ sig Ix) (W₀ : Waits sig Ix) (q0 q1 : PosShare TreeShare) (NR : ℕ)
    (C0 : Counts (c := tile d i) arg9 arg11 arg13 NR) (C1 : Counts (c := tile d i) arg10 arg12 arg14 NR) :
    (Idle A (fun _ _ => True) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 d ι O W₀ q0 q1 : sProp 𝕄) ⊢ wp frame (wpE defs 𝒱 (tile d i) bd) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7) fun _ => Idle A (upTo A i (2 * k0_t3_loop.trips + 2 + 1)) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 d ι O W₀ q0 q1 := by
  iintro ⟨Ht0, Ht1, Hg0, Hg1, Hl0, Hl1, Hw0, Hw1, Hout, Hb0, Hb1, Hl9, Hl10, Hw11, Hw12, Hr0, Hr1, Hstage, Hs16, Hs17, Hs18, Hs19, Hs20, Hs21, Hq0, Hq1, Hq2, Hq3, Hq4, Hr5, Hr6, Hq7, HO⟩
  ihave Hout := (out_zero A) $$ Hout
  unfold cc0__sc_body
  iapply bind_in
  delta k0_part90
  iapply bind_in
  delta k0_part63
  iapply (pure_abs (P := fun r => r.1 = BitVec.ofNat 32 (i 0).val ∧ (∀ x, (r.2.2.1 x).toNat = (x 0).val) ∧ LaneAt r.2.2.2.1 0 ∧ LaneAt r.2.2.2.2.1 1 ∧ LaneAt r.2.2.2.2.2.1 2 ∧ LaneAt r.2.2.2.2.2.2 3)
    ⟨half_eq (i 0) (i 1), iota_at, lane_add iota_at (by decide) (by decide), lane_add iota_at (by decide) (by decide),
      lane_add iota_at (by decide) (by decide), lane_add iota_at (by decide) (by decide)⟩)
  iintro %r %hr
  obtain ⟨v11, v29, v30, v32, v34, v36, v38⟩ := r
  obtain ⟨h11, h30, l0, l1, l2, l3⟩ := hr
  iapply bind_in
  delta k0_part64
  iapply (fetch_list EC ι A _ (list_0 i)) $$ [Hg0 Hb0 Hq0]
  · isplitl [Hg0]; · iexact Hg0
    isplitl [Hb0]; · iexact Hb0
    iexact Hq0
  iintro HF
  iapply (fetched EC ι rfl) $$ [HF HO]
  · isplitl [HF]; · iexact HF
    iexact HO
  iintro ⟨⟨Hg0, HA⟩, Hq0, HO⟩
  iapply (fetch EC ι (View.dmaCredit_pos _ (by decide)) (P := Is A.L) (P₁ := Is (plc A.L (125 * (i 1).val + 0))) fun y v hv => hv.trans (places_row A.L (places_0 i).1 (places_0 i).2 _ y)) $$ [Hl0 Hl9 Hq1]
  · isplitl [Hl0]; · iexact Hl0
    isplitl [Hl9]; · iexact Hl9
    iexact Hq1
  iintro HF
  iapply (fetched EC ι rfl) $$ [HF HO]
  · isplitl [HF]; · iexact HF
    iexact HO
  iintro ⟨⟨Hl0, Hl9⟩, Hq1, HO⟩
  iapply (fetch EC ι (View.dmaCredit_pos _ (by decide)) (P := Is A.W) (P₁ := Is (plc A.W (125 * (i 1).val + 0))) fun y v hv => hv.trans (places_row A.W (places_0 i).1 (places_0 i).2 _ y)) $$ [Hw0 Hw11 Hq2]
  · isplitl [Hw0]; · iexact Hw0
    isplitl [Hw11]; · iexact Hw11
    iexact Hq2
  iintro HF
  iapply (fetched EC ι rfl) $$ [HF HO]
  · isplitl [HF]; · iexact HF
    iexact HO
  iintro ⟨⟨Hw0, Hw11⟩, Hq2, HO⟩
  iapply (pure_abs (P := fun r => LaneAt r.1 4 ∧ LaneAt r.2.1 5 ∧ LaneAt r.2.2.1 6 ∧ LaneAt r.2.2.2.1 7 ∧ r.2.2.2.2 = halfOf i)
    ⟨lane_add h30 (by decide) (by decide), lane_add h30 (by decide) (by decide), lane_add h30 (by decide) (by decide), lane_add h30 (by decide) (by decide), half_rows h11⟩)
  iintro %r %hr
  obtain ⟨v40, v42, v44, v46, v47⟩ := r
  obtain ⟨l4, l5, l6, l7, hq⟩ := hr
  dsimp only at hq
  subst hq
  have hl : Lanes v32 v34 v36 v38 v40 v42 v44 v46 := ⟨l0, l1, l2, l3, l4, l5, l6, l7⟩
  ihave HA := (scale_begin (halfOf i)) $$ HA
  iapply bind_in
  delta k0_part65
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part66
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part67
  iterate 4
    (iapply scale_group $$ [HA]
     · (isplitl [HA]; · iexact HA
        ipureintro; exact ⟨rfl, rfl⟩)
     iintro HA)
  iapply load_at $$ HA
  iintro %v %hv HA
  iapply load_at $$ HA
  iintro %_ %_ HA
  iapply pure_in
  iapply bind_in
  delta k0_part68
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part69
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part70
  iterate 2
    (iapply scale_group $$ [HA]
     · (isplitl [HA]; · iexact HA
        ipureintro; exact ⟨rfl, rfl⟩)
     iintro HA)
  iapply (gath_begin EC ι NR (A.row_lt (halfOf_le i) (125 * (i 1).val + 0))) $$ [Ht0 Hr0 HA Hs16]
  · isplitl [Ht0]; · iexact Ht0
    isplitl [Hr0]; · iexact Hr0
    isplitl [HA]; · iexact HA
    iexact Hs16
  iintro HG
  iapply (gath_step EC ι 0 (lt5 0) (C0.row 0 (lt5 0))) $$ HG
  iintro HG
  iapply (gath_step EC ι 1 (lt5 1) (C0.row 1 (lt5 1))) $$ HG
  iintro HG
  iapply (gath_step EC ι 2 (lt5 2) (C0.row 2 (lt5 2))) $$ HG
  iintro HG
  iapply pure_in
  iapply bind_in
  delta k0_part71
  iapply (gath_step EC ι 3 (lt5 3) (C0.row 3 (lt5 3))) $$ HG
  iintro HG
  iapply (gath_step EC ι 4 (lt5 4) (C0.row 4 (lt5 4))) $$ HG
  iintro HG
  ihave Hrows := (gath_done EC ι NR) $$ HG
  iapply (fetch_list EC ι A _ (list_1 i)) $$ [Hg1 Hb1 Hs19]
  · isplitl [Hg1]; · iexact Hg1
    isplitl [Hb1]; · iexact Hb1
    iexact Hs19
  iintro Hlist
  iapply (fetch_places EC ι A _ (places_1 i)) $$ [Hl1 Hl10 Hw1 Hw12 Hs21]
  · isplitl [Hl1]; · iexact Hl1
    isplitl [Hl10]; · iexact Hl10
    isplitl [Hw1]; · iexact Hw1
    isplitl [Hw12]; · iexact Hw12
    iexact Hs21
  iintro Hp1
  iapply (fetch_snd₀ EC ι C1.lw) $$ Hp1
  iintro Hp1
  iapply (fetched EC ι rfl) $$ [Hlist HO]
  · isplitl [Hlist]; · iexact Hlist
    iexact HO
  iintro ⟨⟨Hg1, HA⟩, Hs19, HO⟩
  ihave HA := (scale_begin (halfOf i)) $$ HA
  iapply pure_in
  iapply bind_in
  delta k0_part72
  iterate 4
    (iapply scale_group $$ [HA]
     · (isplitl [HA]; · iexact HA
        ipureintro; exact ⟨rfl, rfl⟩)
     iintro HA)
  iapply load_at $$ HA
  iintro %v %hv HA
  iapply load_at $$ HA
  iintro %_ %_ HA
  iapply pure_in
  iapply bind_in
  delta k0_part73
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part74
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part75
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part76
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part77
  iapply load_at $$ HA
  iintro %_ %_ HA
  iapply scale_put $$ [HA]
  · isplitl [HA]; · iexact HA
    isplitr; · ipureintro; exact hv
    ipureintro; exact ⟨rfl, rfl⟩
  iintro HA
  iterate 1
    (iapply scale_group $$ [HA]
     · (isplitl [HA]; · iexact HA
        ipureintro; exact ⟨rfl, rfl⟩)
     iintro HA)
  iapply (gath_begin EC ι NR (A.row_lt (halfOf_le i) (125 * (i 1).val + 1))) $$ [Ht1 Hr1 HA Hs17]
  · isplitl [Ht1]; · iexact Ht1
    isplitl [Hr1]; · iexact Hr1
    isplitl [HA]; · iexact HA
    iexact Hs17
  iintro HG
  iapply (gath_step EC ι 0 (lt5 0) (C1.row 0 (lt5 0))) $$ HG
  iintro HG
  iapply (gath_step EC ι 1 (lt5 1) (C1.row 1 (lt5 1))) $$ HG
  iintro HG
  iapply (gath_step EC ι 2 (lt5 2) (C1.row 2 (lt5 2))) $$ HG
  iintro HG
  iapply pure_in
  iapply bind_in
  delta k0_part78
  iapply (gath_step EC ι 3 (lt5 3) (C1.row 3 (lt5 3))) $$ HG
  iintro HG
  iapply (gath_step EC ι 4 (lt5 4) (C1.row 4 (lt5 4))) $$ HG
  iintro HG
  ihave Hrows1 := (gath_done EC ι NR) $$ HG
  iapply (rows_wait (m := 0) (hm := lt5 0) EC ι 0 C0.rows (by decide)) $$ [Hrows HO]
  · isplitl [Hrows]; · iexact Hrows
    iexact HO
  iintro ⟨Hrows, HO⟩
  iapply (rows_wait (m := 1) (hm := lt5 1) EC ι 1 C0.rows (by decide)) $$ [Hrows HO]
  · isplitl [Hrows]; · iexact Hrows
    iexact HO
  iintro ⟨Hrows, HO⟩
  iapply (rows_wait (m := 2) (hm := lt5 2) EC ι 2 C0.rows (by decide)) $$ [Hrows HO]
  · isplitl [Hrows]; · iexact Hrows
    iexact HO
  iintro ⟨Hrows, HO⟩
  iapply pure_in
  iapply bind_in
  delta k0_part79
  iapply (rows_wait (m := 3) (hm := lt5 3) EC ι 3 C0.rows (by decide)) $$ [Hrows HO]
  · isplitl [Hrows]; · iexact Hrows
    iexact HO
  iintro ⟨Hrows, HO⟩
  iapply (row_last (m := 4) (hm := lt5 4) (u := 320) EC ι C0.rows C0.pos (by decide)) $$ [Hrows HO]
  · isplitl [Hrows]; · iexact Hrows
    iexact HO
  iintro ⟨⟨Ht0, Hr0, Hb0⟩, Hs16, HO⟩
  iapply (fetch_list EC ι A _ (list_2 i)) $$ [Hg0 Hb0 Hs18]
  · isplitl [Hg0]; · iexact Hg0
    isplitl [Hb0]; · iexact Hb0
    iexact Hs18
  iintro Hlist
  iapply (bins i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 A (halfOf i) (125 * (i 1).val + 0) hl (fun _ => rfl)) $$ [Hl9 Hw11 Hr0 Hstage]
  · isplitl [Hl9]; · iexact Hl9
    isplitl [Hw11]; · iexact Hw11
    isplitl [Hr0]; · iexact Hr0
    iexact Hstage
  iintro ⟨Hl9, Hw11, Hr0, Hstage⟩
  iapply (fetch_places EC ι A _ (places_2 i)) $$ [Hl0 Hl9 Hw0 Hw11 Hs20]
  · isplitl [Hl0]; · iexact Hl0
    isplitl [Hl9]; · iexact Hl9
    isplitl [Hw0]; · iexact Hw0
    isplitl [Hw11]; · iexact Hw11
    iexact Hs20
  iintro Hp0
  iapply (fetch_snd₀ EC ι C0.lw) $$ Hp0
  iintro Hp0
  iapply pure_in
  iapply bind_in
  delta k0_part80
  iapply (flush_box EC ι A (own_fst i) rfl 1 rfl) $$ [Hstage Hout Hq3]
  · isplitl [Hstage]; · iexact Hstage
    isplitl [Hout]; · iexact Hout
    iexact Hq3
  iintro HF
  iapply (fetched EC ι rfl) $$ [HF HO]
  · isplitl [HF]; · iexact HF
    iexact HO
  iintro ⟨⟨Hstage, Hout⟩, Hq3, HO⟩
  iapply (fetched EC ι rfl) $$ [Hlist HO]
  · isplitl [Hlist]; · iexact Hlist
    iexact HO
  iintro ⟨⟨Hg0, HA⟩, Hs18, HO⟩
  ihave HA := (scale_begin (halfOf i)) $$ HA
  iterate 3
    (iapply scale_group $$ [HA]
     · (isplitl [HA]; · iexact HA
        ipureintro; exact ⟨rfl, rfl⟩)
     iintro HA)
  iapply pure_in
  iapply bind_in
  delta k0_part81
  iterate 4
    (iapply scale_group $$ [HA]
     · (isplitl [HA]; · iexact HA
        ipureintro; exact ⟨rfl, rfl⟩)
     iintro HA)
  iapply load_at $$ HA
  iintro %v %hv HA
  iapply load_at $$ HA
  iintro %_ %_ HA
  iapply pure_in
  iapply bind_in
  delta k0_part82
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part83
  iapply load_at $$ HA
  iintro %_ %_ HA
  iapply scale_put $$ [HA]
  · isplitl [HA]; · iexact HA
    isplitr; · ipureintro; exact hv
    ipureintro; exact ⟨rfl, rfl⟩
  iintro HA
  iterate 4
    (iapply scale_group $$ [HA]
     · (isplitl [HA]; · iexact HA
        ipureintro; exact ⟨rfl, rfl⟩)
     iintro HA)
  iapply pure_in
  iapply bind_in
  delta k0_part84
  iterate 4
    (iapply scale_group $$ [HA]
     · (isplitl [HA]; · iexact HA
        ipureintro; exact ⟨rfl, rfl⟩)
     iintro HA)
  iapply load_at $$ HA
  iintro %v %hv HA
  iapply pure_in
  iapply bind_in
  delta k0_part85
  iapply load_at $$ HA
  iintro %_ %_ HA
  iapply scale_put $$ [HA]
  · isplitl [HA]; · iexact HA
    isplitr; · ipureintro; exact hv
    ipureintro; exact ⟨rfl, rfl⟩
  iintro HA
  iterate 3
    (iapply scale_group $$ [HA]
     · (isplitl [HA]; · iexact HA
        ipureintro; exact ⟨rfl, rfl⟩)
     iintro HA)
  iapply (gath_begin EC ι NR (A.row_lt (halfOf_le i) (rowA i 0))) $$ [Ht0 Hr0 HA Hs16]
  · isplitl [Ht0]; · iexact Ht0
    isplitl [Hr0]; · iexact Hr0
    isplitl [HA]; · iexact HA
    iexact Hs16
  iintro HG
  iapply (gath_step EC ι 0 (lt5 0) (C0.row 0 (lt5 0))) $$ HG
  iintro HG
  iapply pure_in
  iapply bind_in
  delta k0_part86
  iapply (gath_step EC ι 1 (lt5 1) (C0.row 1 (lt5 1))) $$ HG
  iintro HG
  iapply (gath_step EC ι 2 (lt5 2) (C0.row 2 (lt5 2))) $$ HG
  iintro HG
  iapply (gath_step EC ι 3 (lt5 3) (C0.row 3 (lt5 3))) $$ HG
  iintro HG
  iapply (gath_step EC ι 4 (lt5 4) (C0.row 4 (lt5 4))) $$ HG
  iintro HG
  ihave Hrows := (gath_done EC ι NR) $$ HG
  iapply (rows_wait (m := 0) (hm := lt5 0) EC ι 0 C1.rows (by decide)) $$ [Hrows1 HO]
  · isplitl [Hrows1]; · iexact Hrows1
    iexact HO
  iintro ⟨Hrows1, HO⟩
  iapply (rows_wait (m := 1) (hm := lt5 1) EC ι 1 C1.rows (by decide)) $$ [Hrows1 HO]
  · isplitl [Hrows1]; · iexact Hrows1
    iexact HO
  iintro ⟨Hrows1, HO⟩
  iapply pure_in
  iapply bind_in
  delta k0_part87
  iapply (rows_wait (m := 2) (hm := lt5 2) EC ι 2 C1.rows (by decide)) $$ [Hrows1 HO]
  · isplitl [Hrows1]; · iexact Hrows1
    iexact HO
  iintro ⟨Hrows1, HO⟩
  iapply (rows_wait (m := 3) (hm := lt5 3) EC ι 3 C1.rows (by decide)) $$ [Hrows1 HO]
  · isplitl [Hrows1]; · iexact Hrows1
    iexact HO
  iintro ⟨Hrows1, HO⟩
  iapply (row_last (m := 4) (hm := lt5 4) (u := 320) EC ι C1.rows C1.pos (by decide)) $$ [Hrows1 HO]
  · isplitl [Hrows1]; · iexact Hrows1
    iexact HO
  iintro ⟨⟨Ht1, Hr1, Hb1⟩, Hs17, HO⟩
  iapply (fetch_list EC ι A _ (list_3 i)) $$ [Hg1 Hb1 Hs19]
  · isplitl [Hg1]; · iexact Hg1
    isplitl [Hb1]; · iexact Hb1
    iexact Hs19
  iintro Hlist
  iapply (bat_wait EC ι 1 (n := 2) (u := 0) C1.one (by decide)) $$ [Hp1 HO]
  · isplitl [Hp1]; · iexact Hp1
    iexact HO
  iintro ⟨Hp1, HO⟩
  iapply pure_in
  iapply bind_in
  delta k0_part88
  iapply (bat_last EC ι 1 (n := 2) (u := 0 + 1) C1.one' C1.lpos (by decide)) $$ [Hp1 HO]
  · isplitl [Hp1]; · iexact Hp1
    iexact HO
  iintro ⟨⟨Hl1, Hl10, Hw1, Hw12⟩, Hs21, HO⟩
  iapply (bins i arg2 harg2 arg3 harg3 arg4 harg4 arg5 harg5 arg6 harg6 arg7 harg7 arg8 harg8 arg10 harg10 arg9 harg9 arg12 harg12 arg11 harg11 arg14 harg14 arg13 harg13 arg15 harg15 arg16 arg17 arg18 arg19 arg20 arg21 v710_r0 v710_r1 v710_r2 v710_r3 v710_r4 v1160_r5 v1160_r6 v710_r7 v32 v34 v36 v38 v40 v42 v44 v46 A (halfOf i) (125 * (i 1).val + 1) hl (fun _ => rfl)) $$ [Hl10 Hw12 Hr1 Hstage]
  · isplitl [Hl10]; · iexact Hl10
    isplitl [Hw12]; · iexact Hw12
    isplitl [Hr1]; · iexact Hr1
    iexact Hstage
  iintro ⟨Hl10, Hw12, Hr1, Hstage⟩
  iapply (fetch_places EC ι A _ (places_3 i)) $$ [Hl1 Hl10 Hw1 Hw12 Hs21]
  · isplitl [Hl1]; · iexact Hl1
    isplitl [Hl10]; · iexact Hl10
    isplitl [Hw1]; · iexact Hw1
    isplitl [Hw12]; · iexact Hw12
    iexact Hs21
  iintro Hp1
  iapply (fetch_snd₀ EC ι C1.lw) $$ Hp1
  iintro Hp1
  iapply (flush_box EC ι A (own_snd i) rfl (2 * 0 + 2) rfl) $$ [Hstage Hout Hq4]
  · isplitl [Hstage]; · iexact Hstage
    isplitl [Hout]; · iexact Hout
    iexact Hq4
  iintro HF
  iapply (fetched EC ι rfl) $$ [HF HO]
  · isplitl [HF]; · iexact HF
    iexact HO
  iintro ⟨⟨Hstage, Hout⟩, Hq4, HO⟩
  ihave Hstage := Own_any $$ Hstage
  ihave Hr1 := Own_any $$ Hr1
  iapply (Scf.wp_for_bind frame (wpE defs 𝒱 (tile d i) bd) Set.univ _ _ _ k0_t3_ok ⟨⟩
    (fun t _ => pairProg (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v11 v29 v32 v34 v36 v38 v40 v42 v44 v46 (halfOf i) 1#32 1#32 t)
    (fun n _ => Between EC A n i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 d ι O W₀ NR q0 q1)
    (fun t _ => pair_run EC A i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v11 v29 v32 v34 v36 v38 v40 v42 v44 v46 (halfOf i) 1#32 1#32 t d ι O W₀ NR q0 q1 hl rfl C0 C1)) $$ [Hrows Hlist Hp0 Hp1 Ht1 Hr1 Hg0 Hs17 Hs18 Hstage Hout Hr5 Hr6 HO]
  · isplitl [Hrows]; · iexact Hrows
    isplitl [Hlist]; · iexact Hlist
    isplitl [Hp0]; · iexact Hp0
    isplitl [Hp1]; · iexact Hp1
    isplitl [Ht1]; · iexact Ht1
    isplitl [Hr1]; · iexact Hr1
    isplitl [Hg0]; · iexact Hg0
    isplitl [Hs17]; · iexact Hs17
    isplitl [Hs18]; · iexact Hs18
    isplitl [Hstage]; · iexact Hstage
    isplitl [Hout]; · iexact Hout
    isplitl [Hr5]; · iexact Hr5
    isplitl [Hr6]; · iexact Hr6
    iexact HO
  iintro %_ ⟨Hrows, Hlist, Hp0, Hp1, Ht1, Hr1, Hg0, Hs17, Hs18, Hstage, Hout, Hr5, Hr6, HO⟩
  iapply pure_in
  iapply bind_in
  delta k0_part89
  iapply (fetched EC ι rfl) $$ [Hlist HO]
  · isplitl [Hlist]; · iexact Hlist
    iexact HO
  iintro ⟨⟨Hg1, Hb1⟩, Hs19, HO⟩
  iapply (rows_wait (m := 0) (hm := lt5 0) EC ι 0 C0.rows (by decide)) $$ [Hrows HO]
  · isplitl [Hrows]; · iexact Hrows
    iexact HO
  iintro ⟨Hrows, HO⟩
  iapply (rows_wait (m := 1) (hm := lt5 1) EC ι 1 C0.rows (by decide)) $$ [Hrows HO]
  · isplitl [Hrows]; · iexact Hrows
    iexact HO
  iintro ⟨Hrows, HO⟩
  iapply (rows_wait (m := 2) (hm := lt5 2) EC ι 2 C0.rows (by decide)) $$ [Hrows HO]
  · isplitl [Hrows]; · iexact Hrows
    iexact HO
  iintro ⟨Hrows, HO⟩
  iapply (rows_wait (m := 3) (hm := lt5 3) EC ι 3 C0.rows (by decide)) $$ [Hrows HO]
  · isplitl [Hrows]; · iexact Hrows
    iexact HO
  iintro ⟨Hrows, HO⟩
  iapply (row_last (m := 4) (hm := lt5 4) (u := 320) EC ι C0.rows C0.pos (by decide)) $$ [Hrows HO]
  · isplitl [Hrows]; · iexact Hrows
    iexact HO
  iintro ⟨⟨Ht0, Hr0, Hb0⟩, Hs16, HO⟩
  iapply pure_in
  iapply (bat_wait EC ι 1 (n := 2) (u := 0) C0.one (by decide)) $$ [Hp0 HO]
  · isplitl [Hp0]; · iexact Hp0
    iexact HO
  iintro ⟨Hp0, HO⟩
  iapply (bat_last EC ι 1 (n := 2) (u := 0 + 1) C0.one' C0.lpos (by decide)) $$ [Hp0 HO]
  · isplitl [Hp0]; · iexact Hp0
    iexact HO
  iintro ⟨⟨Hl0, Hl9, Hw0, Hw11⟩, Hs20, HO⟩
  iapply (bins i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 v710_r0 v710_r1 v710_r2 v710_r3 v710_r4 v1160_r5 v1160_r6 v710_r7 v32 v34 v36 v38 v40 v42 v44 v46 A (halfOf i) (rowA i k0_t3_loop.trips) hl (fun _ => rfl)) $$ [Hl9 Hw11 Hr0 Hstage]
  · isplitl [Hl9]; · iexact Hl9
    isplitl [Hw11]; · iexact Hw11
    isplitl [Hr0]; · iexact Hr0
    iexact Hstage
  iintro ⟨Hl9, Hw11, Hr0, Hstage⟩
  iapply (flush_box EC ι A (own_last i) rfl (2 * k0_t3_loop.trips + 2 + 1) rfl) $$ [Hstage Hout Hq7]
  · isplitl [Hstage]; · iexact Hstage
    isplitl [Hout]; · iexact Hout
    iexact Hq7
  iintro HF
  iapply pure_in
  iapply (fetched EC ι rfl) $$ [HF HO]
  · isplitl [HF]; · iexact HF
    iexact HO
  iintro ⟨⟨Hstage, Hout⟩, Hq7, HO⟩
  iapply (bat_wait EC ι 1 (n := 2) (u := 0) C1.one (by decide)) $$ [Hp1 HO]
  · isplitl [Hp1]; · iexact Hp1
    iexact HO
  iintro ⟨Hp1, HO⟩
  iapply (bat_last EC ι 1 (n := 2) (u := 0 + 1) C1.one' C1.lpos (by decide)) $$ [Hp1 HO]
  · isplitl [Hp1]; · iexact Hp1
    iexact HO
  iintro ⟨⟨Hl1, Hl10, Hw1, Hw12⟩, Hs21, HO⟩
  iapply pure_in
  ihave Hb0 := Own_any $$ Hb0
  ihave Hb1 := Own_any $$ Hb1
  ihave Hl9 := Own_any $$ Hl9
  ihave Hl10 := Own_any $$ Hl10
  ihave Hw11 := Own_any $$ Hw11
  ihave Hw12 := Own_any $$ Hw12
  ihave Hr0 := Own_any $$ Hr0
  ihave Hstage := Own_any $$ Hstage
  isplitl [Ht0]; · iexact Ht0
  isplitl [Ht1]; · iexact Ht1
  isplitl [Hg0]; · iexact Hg0
  isplitl [Hg1]; · iexact Hg1
  isplitl [Hl0]; · iexact Hl0
  isplitl [Hl1]; · iexact Hl1
  isplitl [Hw0]; · iexact Hw0
  isplitl [Hw1]; · iexact Hw1
  isplitl [Hout]; · iexact Hout
  isplitl [Hb0]; · iexact Hb0
  isplitl [Hb1]; · iexact Hb1
  isplitl [Hl9]; · iexact Hl9
  isplitl [Hl10]; · iexact Hl10
  isplitl [Hw11]; · iexact Hw11
  isplitl [Hw12]; · iexact Hw12
  isplitl [Hr0]; · iexact Hr0
  isplitl [Hr1]; · iexact Hr1
  isplitl [Hstage]; · iexact Hstage
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hq0]; · iexact Hq0
  isplitl [Hq1]; · iexact Hq1
  isplitl [Hq2]; · iexact Hq2
  isplitl [Hq3]; · iexact Hq3
  isplitl [Hq4]; · iexact Hq4
  isplitl [Hr5]; · iexact Hr5
  isplitl [Hr6]; · iexact Hr6
  isplitl [Hq7]; · iexact Hq7
  iexact HO

end Cert.Roi

end
-- ==== Proof.Setup.lean ====
/-
  The launch's ghost state, what a tile is handed and gives back, and a tile's own cells and
  buffers one by one.
-/
module

public import proofs.«01_k».proof.Proof.Whole
public import Idealize.ShloMosaic.Lib.SparseCore.Quiescent
public import Idealize.ShloMosaic.Lib.Pipeline.Kit

@[expose] public section

noncomputable section

namespace Cert.Roi

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem nSub_zero : (K (F := F)).nSub 0 = 16 := rfl
omit [FloatOps F] in
theorem nCore_zero : (K (F := F)).nCore 0 = 2 := rfl

/-- What the handshakes' semaphores must be: distinct, and none of them a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds and the copies' counters (the middle part is not used). -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The counters' place. -/
abbrev EC : UEmb Counters (MT nD τ sig (HIx 1) (Elt F) ℕ UU ℕ) := countersEmb

/-! ## What a tile is handed -/

abbrev tbLoc (d : Dev nD) : Loc nD τ sig := (SparseCore.T d).loc main_v3
abbrev giLoc (d : Dev nD) : Loc nD τ sig := (SparseCore.T d).loc main_v0
abbrev liLoc (d : Dev nD) : Loc nD τ sig := (SparseCore.T d).loc main_arg2
abbrev wtLoc (d : Dev nD) : Loc nD τ sig := (SparseCore.T d).loc main_arg3
abbrev outLoc (d : Dev nD) : Loc nD τ sig := (SparseCore.T d).loc main_v4

/-- A share of everything the tiles read. -/
def Read (A : Arr F) (d : Dev nD) (q : PosShare TreeShare) : sProp 𝕄 :=
  iprop((tbLoc d ↦{q} (A.T : Buf (Elt F) (tbLoc d))) ∗ (giLoc d ↦{q} (A.G : Buf (Elt F) (giLoc d)))
    ∗ (liLoc d ↦{q} (A.L : Buf (Elt F) (liLoc d))) ∗ (wtLoc d ↦{q} (A.W : Buf (Elt F) (wtLoc d))))

/-- The part of the result that is tile `i`'s, at some contents; -/
def Part (d : Dev nD) (i : grid0.Coords) : sProp 𝕄 := iprop(∃ f, outLoc d ↦[ownSet (Memref.whole main_v4_scv) i]{fullShare} f)

/-- and once the tile has run. -/
def Done (A : Arr F) (d : Dev nD) (i : grid0.Coords) : sProp 𝕄 :=
  iprop(outLoc d ↦[ownSet (Memref.whole main_v4_scv) i]{fullShare} (A.val : Buf (Elt F) (outLoc d)))

/-- What tile `i` is handed: two shares of what it reads and its part of the result. -/
def Go (A : Arr F) (d : Dev nD) (i : grid0.Coords) : sProp 𝕄 :=
  iprop((∃ q, Read A d q) ∗ (∃ q, Read A d q) ∗ Part (F := F) d i)

/-- The shares, as tile `i` addresses them. -/
theorem read_tile (A : Arr F) (d : Dev nD) (i : grid0.Coords) (q : PosShare TreeShare) :
    (Read A d q) ⊢ iprop(Own (tile d i) (Memref.whole main_v3_scv) q (Is A.T)
      ∗ Own (tile d i) (Memref.whole main_v0_scv) q (Is A.G)
      ∗ Own (tile d i) (Memref.whole main_arg2_scv) q (Is A.L)
      ∗ Own (tile d i) (Memref.whole main_arg3_scv) q (Is A.W)) := by
  unfold Read Own
  simp only [Memref.view_whole, View.read_whole, View.set_whole]
  iintro ⟨H0, H1, H2, H3⟩
  isplitl [H0]; · iexists A.T; isplitr; · ipureintro; exact fun _ => rfl
                  iexact H0
  isplitl [H1]; · iexists A.G; isplitr; · ipureintro; exact fun _ => rfl
                  iexact H1
  isplitl [H2]; · iexists A.L; isplitr; · ipureintro; exact fun _ => rfl
                  iexact H2
  iexists A.W; isplitr; · ipureintro; exact fun _ => rfl
  iexact H3

/-- A share of everything is two. -/
theorem read_halve (A : Arr F) (d : Dev nD) (q : PosShare TreeShare) : (Read A d q) ⊢ iprop(Read A d q.left ∗ Read A d q.right) := by
  unfold Read
  iintro ⟨H0, H1, H2, H3⟩
  ihave H0 := (pointsTo_share (PosShare.mem_left_op_right q)).1 $$ H0
  ihave H1 := (pointsTo_share (PosShare.mem_left_op_right q)).1 $$ H1
  ihave H2 := (pointsTo_share (PosShare.mem_left_op_right q)).1 $$ H2
  ihave H3 := (pointsTo_share (PosShare.mem_left_op_right q)).1 $$ H3
  icases H0 with ⟨H0, G0⟩
  icases H1 with ⟨H1, G1⟩
  icases H2 with ⟨H2, G2⟩
  icases H3 with ⟨H3, G3⟩
  isplitl [H0 H1 H2 H3]
  · isplitl [H0]; · iexact H0
    isplitl [H1]; · iexact H1
    isplitl [H2]; · iexact H2
    iexact H3
  · isplitl [G0]; · iexact G0
    isplitl [G1]; · iexact G1
    isplitl [G2]; · iexact G2
    iexact G3

/-- A share of everything is as many as there are takers. -/
theorem read_many {I : Type} [DecidableEq I] (A : Arr F) (d : Dev nD) (S : Finset I) :
    ∀ q, (Read A d q) ⊢ bigSep S fun _ => iprop(∃ q, Read A d q) := by
  induction S using Finset.induction_on with
  | empty => intro q; rw [bigSep_empty]; iintro -; iempintro
  | insert a S ha ih =>
    intro q
    rw [SparseCore.bigSep_insert' ha]
    iintro H
    ihave H := read_halve A d q $$ H
    icases H with ⟨H, G⟩
    isplitl [H]; · iexists _; iexact H
    iapply (ih _); iexact G

/-! ## A tile's own cells and buffers, one by one -/

/-- The semaphores a tile's copies count on. -/
def semAt : Fin 14 → DmaSem sig :=
  ![cc0_scratch9.sem, cc0_scratch10.sem, cc0_scratch11.sem, cc0_scratch12.sem, cc0_scratch13.sem, cc0_scratch14.sem,
    cc0_scoped0.sem, cc0_scoped1.sem, cc0_scoped2.sem, cc0_scoped3.sem, cc0_scoped4.sem, cc0_scoped5.sem, cc0_scoped6.sem, cc0_scoped7.sem]

theorem semAt_inj : Function.Injective semAt := by decide
theorem semAt_scoped : ∀ k, (SemLoc.dma (semAt k) : SemLoc sig).isScoped .scVector = true := by decide

/-- The buffers a tile computes in. -/
def bufAt : Fin 9 → Ref sig .scVector :=
  ![cc0_scratch0, cc0_scratch1, cc0_scratch2, cc0_scratch3, cc0_scratch4, cc0_scratch5, cc0_scratch6, cc0_scratch7, cc0_scratch8]

theorem bufAt_inj : Function.Injective bufAt := by decide

/-- The cells, and the rest of them. -/
theorem ownSems_tile (d : Dev nD) (i : grid0.Coords) : ∃ R : sProp 𝕄,
    (ownSems0 (tile d i) : sProp 𝕄) = iprop((bigSep Finset.univ fun k => semVal (tile d i, SemLoc.dma (semAt k)) 0) ∗ R) := by
  have hinj : Function.Injective fun k => ((tile d i, SemLoc.dma (semAt k)) : GSem nD τ sig) := fun a b h =>
    semAt_inj (SemLoc.dma.inj (congrArg Prod.snd h))
  refine ⟨bigSep (ownCells (tile d i) \ Finset.univ.image fun k => ((tile d i, SemLoc.dma (semAt k)) : GSem nD τ sig)) fun g => semVal g 0, ?_⟩
  unfold SparseCore.Cfg.ownSems0
  refine (SparseCore.bigSep_sdiff_split' (t := Finset.univ.image fun k => ((tile d i, SemLoc.dma (semAt k)) : GSem nD τ sig)) ?_).trans ?_
  · intro g hg
    obtain ⟨k, -, rfl⟩ := Finset.mem_image.mp hg
    exact mem_ownCells.mpr ⟨rfl, semAt_scoped k⟩
  · rw [SparseCore.bigSep_image_of_injOn hinj.injOn]

/-- The buffers, and the rest of them. -/
theorem ownBufs_tile (d : Dev nD) (i : grid0.Coords) : ∃ R : sProp 𝕄,
    (ownBufs (tile d i) : sProp 𝕄) = iprop((bigSep Finset.univ fun k => iprop(∃ f, (tile d i).loc (bufAt k) ↦{fullShare} f)) ∗ R) := by
  have hinj : Function.Injective fun k => (tile d i).2.devRef (bufAt k) := fun a b h => bufAt_inj (Proc.devRef_injective _ h)
  refine ⟨bigSep (ownRefs (τ := τ) (tile d i).2 \ Finset.univ.image fun k => (tile d i).2.devRef (bufAt k)) fun b => iprop(∃ f, ((d, b) : Loc nD τ sig) ↦{fullShare} f), ?_⟩
  unfold SparseCore.Cfg.ownBufs
  refine (SparseCore.bigSep_sdiff_split' (t := Finset.univ.image fun k => (tile d i).2.devRef (bufAt k)) ?_).trans ?_
  · intro g hg
    obtain ⟨k, -, rfl⟩ := Finset.mem_image.mp hg
    refine SparseCore.Cfg.mem_ownRefs_of_owner ?_
    fin_cases k <;> rfl
  · rw [SparseCore.bigSep_image_of_injOn hinj.injOn]

end Cert.Roi
-- ==== Proof.Tile.lean ====
/-
  A tile's share of the call: handed two shares of what it reads and its part of the result, it runs and gives its part
  back, filled.
-/
module

public import proofs.«01_k».proof.Proof.Setup

@[expose] public section

noncomputable section

namespace Cert.Roi

open Idealize.ShloMosaic
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig (HIx 1) (Elt F) ℕ UU ℕ

/-- What one gathered row counts. -/
abbrev rowCount : ℕ :=
  ((rowsAt (Memref.whole cc0_scratch6) 0 (by decide)).slice (S80x128.rowRect gathers_S16384x128_S80x128.axis' ⟨0, by decide⟩)
    (S80x128.stride_rowRect gathers_S16384x128_S80x128.axis' ⟨0, by decide⟩)).view.dmaCredit

theorem eighty_rows : (rowsAt (κ := .scVector) (Memref.whole cc0_scratch6) 0 (by decide)).view.dmaCredit = 80 * rowCount := by decide
theorem eighty_rows' : (rowsAt (κ := .scVector) (Memref.whole cc0_scratch7) 0 (by decide)).view.dmaCredit = 80 * rowCount := by decide
theorem weights_places : (Memref.whole cc0_scratch4 : Memref sig .scVector .vmem S784 .f32).view.dmaCredit = (Memref.whole cc0_scratch2 : Memref sig .scVector .vmem S784 .i32).view.dmaCredit := by decide
theorem weights_places' : (Memref.whole cc0_scratch5 : Memref sig .scVector .vmem S784 .f32).view.dmaCredit = (Memref.whole cc0_scratch3 : Memref sig .scVector .vmem S784 .i32).view.dmaCredit := by decide

theorem counts0 (d : Dev nD) (i : grid0.Coords) :
    Counts (c := tile d i) (Memref.whole cc0_scratch2) (Memref.whole cc0_scratch4) (Memref.whole cc0_scratch6) rowCount :=
  ⟨weights_places, fun _ _ _ => rfl, fun _ _ => eighty_rows, by decide⟩
theorem counts1 (d : Dev nD) (i : grid0.Coords) :
    Counts (c := tile d i) (Memref.whole cc0_scratch3) (Memref.whole cc0_scratch5) (Memref.whole cc0_scratch7) rowCount :=
  ⟨weights_places', fun _ _ _ => rfl, fun _ _ => eighty_rows', by decide⟩

theorem four_cells {Φ : Fin 14 → sProp 𝕄} : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem nine_bufs {Φ : Fin 9 → sProp 𝕄} : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- A whole buffer at some contents, as the tile addresses it; -/
theorem own_of_buf (c : Thread nD τ) (b : Ref sig c.2.kind) :
    (iprop(∃ f, c.loc b ↦{fullShare} f) : sProp 𝕄) ⊢ Own c (Memref.whole b) fullShare (fun _ _ => True) := by
  unfold Own
  simp only [Memref.view_whole, View.read_whole, View.set_whole]
  iintro ⟨%f, H⟩
  iexists f; isplitr; · ipureintro; exact fun _ => trivial
  iexact H

/-- and back. -/
theorem buf_of_own (c : Thread nD τ) (b : Ref sig c.2.kind) :
    (Own c (Memref.whole b) fullShare (fun _ _ => True) : sProp 𝕄) ⊢ iprop(∃ f, c.loc b ↦{fullShare} f) := by
  unfold Own
  simp only [Memref.view_whole, View.read_whole, View.set_whole]
  iintro ⟨%f, -, H⟩
  iexists f; iexact H

/-- The tile's part of the result at some contents, as the tile addresses it; -/
theorem out_of_part (d : Dev nD) (i : grid0.Coords) :
    (Part (F := F) d i) ⊢ Out (tile d i) (Memref.whole main_v4_scv) (ownSet (Memref.whole main_v4_scv) i) (fun _ _ => True) := by
  unfold Part Out
  iintro ⟨%f, H⟩
  iexists f; isplitr; · ipureintro; exact fun _ _ => trivial
  iexact H

/-- A place of the tile's part is of one of its 125 boxes. -/
theorem mem_own (i : grid0.Coords) {y : S2000x256x49.Idx} (h : y ∈ (ownRect i).set) : (y 0).val < 125 * (i 1).val + 125 := by
  rw [ownRect, Rect.mem_set_unit] at h
  exact (h 0).2

/-- and filled, back. -/
theorem done_of_out (A : Arr F) (d : Dev nD) (i : grid0.Coords) :
    (Out (tile d i) (Memref.whole main_v4_scv) (ownSet (Memref.whole main_v4_scv) i) (upTo A i (2 * k0_t3_loop.trips + 2 + 1))) ⊢ Done A d i := by
  have e : ownSet (Memref.whole main_v4_scv) i = (ownRect i).set := by
    show ((View.whole (main_v4_scv : Ref sig .scVector)).slice (ownRect i)).set = _
    rw [View.set_slice]; exact Finset.map_refl
  have h3 : 2 * k0_t3_loop.trips + 2 + 1 = 125 := by decide +kernel
  unfold Out Done
  iintro ⟨%f, %hf, H⟩
  have hc : ∀ y ∈ ownSet (Memref.whole main_v4_scv) i, f y = (A.val : Buf (Elt F) (outLoc d)) y := fun y hy =>
    hf y hy (by rw [h3]; exact mem_own i (e ▸ hy))
  iapply (Entails.of_eq (pointsTo_congr (ℓ := outLoc d) (q := fullShare) hc))
  iexact H

set_option maxHeartbeats 0 in
/-- The run of tile `i`. -/
theorem tile_body (hF : (K (F := F)).Facts) (A : Arr F) (d : Dev nD) (i : grid0.Coords) (O : CellTallies nD τ sig (HIx 1)) (W : Waits sig (HIx 1))
    (hO : ∀ g, O g none = 0) :
    iprop(levAts (K (F := F)).L (K (F := F)).lev ∗ emp ∗ Go A d i
        ∗ scopedBufs (tile d i) ∗ scopedSems0 (tile d i) ∗ owes (tile d i) O W)
      ⊢ wp frame (wpE (defs₀ (F := F)) 𝒱₀ (tile d i) none) Set.univ
          (cc0__sc_body (F := F) i (Memref.whole main_v3_scv) (Memref.isWhole_whole _) (Memref.whole main_v0_scv) (Memref.isWhole_whole _) (Memref.whole main_arg2_scv) (Memref.isWhole_whole _) (Memref.whole main_arg3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7)
          fun _ => iprop(Done A d i ∗ scopedBufs (tile d i) ∗ scopedSems0 (tile d i)
            ∗ ∃ W', ⌜∀ p ∈ W', p ∈ W ∨ p.2 = none⌝ ∗ owes (tile d i) O W') := by
  obtain ⟨RS, hRS⟩ := ownSems_tile (F := F) d i
  obtain ⟨RB, hRB⟩ := ownBufs_tile (F := F) d i
  rw [(K (F := F)).scopedBufs_V hF d ((i 0).castLE hcore0) ((i 1).castLE hsub0),
    SparseCore.Cfg.scopedSems0_V (Val := Elt F) d ((i 0).castLE hcore0) ((i 1).castLE hsub0)]
  rw [hRS, hRB, four_cells, nine_bufs]
  unfold Go Part
  iintro ⟨#Hlv, -, ⟨⟨%q0, Hr0⟩, ⟨%q1, Hr1⟩, Hout⟩, ⟨⟨B0, B1, B2, B3, B4, B5, B6, B7, B8⟩, HRB⟩, ⟨⟨S0, S1, S2, S3, S4, S5, S6, S7, S8, S9, S10, S11, S12, S13⟩, HRS⟩, HO⟩
  ihave Hmw := (show levAts (K (F := F)).L (K (F := F)).lev ⊢ Transfers.MayWaits (tile d i) (default : HIx 1) O from
    (K (F := F)).mayWaits_none (thr := tile d i) hO) $$ Hlv
  ihave Hr0 := read_tile A d i q0 $$ Hr0
  icases Hr0 with ⟨T0, G0, L0, W0⟩
  ihave Hr1 := read_tile A d i q1 $$ Hr1
  icases Hr1 with ⟨T1, G1, L1, W1⟩
  ihave B0 := (show iprop(∃ f, (tile d i).loc (bufAt 0) ↦{fullShare} f) ⊢ _ from own_of_buf (F := F) (tile d i) cc0_scratch0) $$ B0
  ihave B1 := (show iprop(∃ f, (tile d i).loc (bufAt 1) ↦{fullShare} f) ⊢ _ from own_of_buf (F := F) (tile d i) cc0_scratch1) $$ B1
  ihave B2 := (show iprop(∃ f, (tile d i).loc (bufAt 2) ↦{fullShare} f) ⊢ _ from own_of_buf (F := F) (tile d i) cc0_scratch2) $$ B2
  ihave B3 := (show iprop(∃ f, (tile d i).loc (bufAt 3) ↦{fullShare} f) ⊢ _ from own_of_buf (F := F) (tile d i) cc0_scratch3) $$ B3
  ihave B4 := (show iprop(∃ f, (tile d i).loc (bufAt 4) ↦{fullShare} f) ⊢ _ from own_of_buf (F := F) (tile d i) cc0_scratch4) $$ B4
  ihave B5 := (show iprop(∃ f, (tile d i).loc (bufAt 5) ↦{fullShare} f) ⊢ _ from own_of_buf (F := F) (tile d i) cc0_scratch5) $$ B5
  ihave B6 := (show iprop(∃ f, (tile d i).loc (bufAt 6) ↦{fullShare} f) ⊢ _ from own_of_buf (F := F) (tile d i) cc0_scratch6) $$ B6
  ihave B7 := (show iprop(∃ f, (tile d i).loc (bufAt 7) ↦{fullShare} f) ⊢ _ from own_of_buf (F := F) (tile d i) cc0_scratch7) $$ B7
  ihave B8 := (show iprop(∃ f, (tile d i).loc (bufAt 8) ↦{fullShare} f) ⊢ _ from own_of_buf (F := F) (tile d i) cc0_scratch8) $$ B8
  ihave Hidle := (show _ ⊢ (Idle A (fun _ _ => True) i (Memref.whole main_v3_scv) (Memref.isWhole_whole _) (Memref.whole main_v0_scv) (Memref.isWhole_whole _) (Memref.whole main_arg2_scv) (Memref.isWhole_whole _) (Memref.whole main_arg3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 d (default : HIx 1) O W q0 q1 : sProp 𝕄) from BI.Entails.refl _) $$ [T0 T1 G0 G1 L0 L1 W0 W1 Hout B0 B1 B2 B3 B4 B5 B6 B7 B8 S0 S1 S2 S3 S4 S5 S6 S7 S8 S9 S10 S11 S12 S13 Hmw HO]
  · unfold Idle
    isplitl [T0]; · iexact T0
    isplitl [T1]; · iexact T1
    isplitl [G0]; · iexact G0
    isplitl [G1]; · iexact G1
    isplitl [L0]; · iexact L0
    isplitl [L1]; · iexact L1
    isplitl [W0]; · iexact W0
    isplitl [W1]; · iexact W1
    isplitl [Hout]; · iapply (out_of_part d i); unfold Part; iexact Hout
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    unfold Ow
    isplitl [Hmw]; · iexact Hmw
    iexists W; isplitr; · ipureintro; exact fun p hp => .inl hp
    iexact HO
  ihave Hwp := (body_run (defs := defs₀ (F := F)) (𝒱 := 𝒱₀) (bd := none) EC A i (Memref.whole main_v3_scv) (Memref.isWhole_whole _) (Memref.whole main_v0_scv) (Memref.isWhole_whole _) (Memref.whole main_arg2_scv) (Memref.isWhole_whole _) (Memref.whole main_arg3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 d (default : HIx 1) O W q0 q1 rowCount (counts0 d i) (counts1 d i)) $$ Hidle
  iapply (wp_wand_r frame _ _)
  isplitl [Hwp]; · iexact Hwp
  iintro %r ⟨-, -, -, -, -, -, -, -, Hout, B0, B1, B2, B3, B4, B5, B6, B7, B8, S0, S1, S2, S3, S4, S5, S6, S7, S8, S9, S10, S11, S12, S13, HO⟩
  unfold Ow
  icases HO with ⟨-, HO⟩
  isplitl [Hout]; · iapply (done_of_out A d i); iexact Hout
  isplitl [B0 B1 B2 B3 B4 B5 B6 B7 B8 HRB]
  · isplitr [HRB]
    swap; · iexact HRB
    isplitl [B0]; · iapply (buf_of_own (F := F) (tile d i) cc0_scratch0); iexact B0
    isplitl [B1]; · iapply (buf_of_own (F := F) (tile d i) cc0_scratch1); iexact B1
    isplitl [B2]; · iapply (buf_of_own (F := F) (tile d i) cc0_scratch2); iexact B2
    isplitl [B3]; · iapply (buf_of_own (F := F) (tile d i) cc0_scratch3); iexact B3
    isplitl [B4]; · iapply (buf_of_own (F := F) (tile d i) cc0_scratch4); iexact B4
    isplitl [B5]; · iapply (buf_of_own (F := F) (tile d i) cc0_scratch5); iexact B5
    isplitl [B6]; · iapply (buf_of_own (F := F) (tile d i) cc0_scratch6); iexact B6
    isplitl [B7]; · iapply (buf_of_own (F := F) (tile d i) cc0_scratch7); iexact B7
    iapply (buf_of_own (F := F) (tile d i) cc0_scratch8); iexact B8
  isplitl [S0 S1 S2 S3 S4 S5 S6 S7 S8 S9 S10 S11 S12 S13 HRS]
  · isplitr [HRS]
    swap; · iexact HRS
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  iexact HO

end Cert.Roi
-- ==== Proof.Call.lean ====
/-
  What each SparseCore and each tile is handed, how the buffers divide among them, and how the parts
  of the result come together again.
-/
module

public import proofs.«01_k».proof.Proof.Tile

@[expose] public section

noncomputable section

namespace Cert.Roi

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig (HIx 1) (Elt F) ℕ UU ℕ

/-- The tile of SparseCore `c`, subcore `s`. -/
def coords (c : Fin (grid0.bound 0)) (s : Fin (grid0.bound 1)) : grid0.Coords :=
  fun | 0 => c | 1 => s | ⟨_ + 2, h⟩ => absurd h (Nat.not_lt.2 (Nat.le_add_left _ _))

abbrev core (c : Fin ((K (F := F)).nCore 0)) : Fin (grid0.bound 0) := ⟨c.val, c.isLt⟩
abbrev sub (s : Fin ((K (F := F)).nSub 0)) : Fin (grid0.bound 1) := ⟨s.val, s.isLt⟩

/-- The call hands each tile its two shares and its part, and takes the part back. -/
def P (A : Dev nD → Arr F) : (K (F := F)).Pay (nD := nD) (Val := Elt F) (Name := ℕ) (U := UU) where
  st := fun q d c => match q with | 0 => bigSep Finset.univ fun s => Go (A d) d (coords (core (F := F) c) s)
  dn := fun q d c => match q with | 0 => bigSep Finset.univ fun s => Done (A d) d (coords (core (F := F) c) s)
  go := fun q d c s => match q with | 0 => Go (A d) d (coords (core (F := F) c) (sub (F := F) s))
  td := fun q d c s => match q with | 0 => Done (A d) d (coords (core (F := F) c) (sub (F := F) s))
  x := fun _ _ => iprop(emp)

variable (A : Dev nD → Arr F)

omit [FloatOps F] in
theorem part_storable (d : Dev nD) (i : grid0.Coords) : BI.Storable (upEmb : UEmb _ 𝕄) (Part (F := F) d i) := by
  unfold Part; infer_instance
theorem done_storable (A : Arr F) (d : Dev nD) (i : grid0.Coords) : BI.Storable (upEmb : UEmb _ 𝕄) (Done A d i) := by
  unfold Done; infer_instance
theorem read_storable (A : Arr F) (d : Dev nD) (q : PosShare TreeShare) : BI.Storable (upEmb : UEmb _ 𝕄) (Read A d q) := by
  unfold Read; infer_instance
theorem go_storable (A : Arr F) (d : Dev nD) (i : grid0.Coords) : BI.Storable (upEmb : UEmb _ 𝕄) (Go A d i) := by
  have := part_storable (F := F) d i
  have := fun q => read_storable A d q
  unfold Go; infer_instance
theorem gos_storable (A : Arr F) (d : Dev nD) (c : Fin (grid0.bound 0)) : BI.Storable (upEmb : UEmb _ 𝕄) (bigSep Finset.univ fun s => Go A d (coords c s)) := by
  have := fun s => go_storable A d (coords c s)
  infer_instance
theorem dones_storable (A : Arr F) (d : Dev nD) (c : Fin (grid0.bound 0)) : BI.Storable (upEmb : UEmb _ 𝕄) (bigSep Finset.univ fun s => Done A d (coords c s)) := by
  have := fun s => done_storable A d (coords c s)
  infer_instance

instance P_storable : (P A).IsStorable where
  st q d c := match q with | 0 => gos_storable _ _ _
  dn q d c := match q with | 0 => dones_storable _ _ _
  go q d c s := match q with | 0 => go_storable _ _ _
  td q d c s := match q with | 0 => done_storable _ _ _

/-! ## The tile's obligation -/

omit [FloatOps F] in
theorem obl_post {thr : Thread nD τ} {X B C : sProp 𝕄} {O : CellTallies nD τ sig (HIx 1)} {W : Waits sig (HIx 1)} {q : Fin 1} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_body (F := F) (coords c s) (Memref.whole main_v3_scv) (Memref.isWhole_whole _) (Memref.whole main_v0_scv) (Memref.isWhole_whole _) (Memref.whole main_arg2_scv) (Memref.isWhole_whole _) (Memref.whole main_arg3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7) ⟨⟩ c s := rfl

set_option maxRecDepth 16384 in
theorem tileObl (hF : (K (F := F)).Facts) : (K (F := F)).TileObl (D (F := F)) 𝒱 (P A) v₀ 0 := by
  intro d c s O W hO _ _
  simp only [show (P A).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF (A d) d (coords ⟨_, hci.1⟩ ⟨_, hci.2⟩) O W hO).trans (wp_mono frame _ _ fun _ => obl_post)

theorem vecSplit : (K (F := F)).VecSplit' (P A) 0 := by
  intro d c
  show (bigSep Finset.univ fun s => Go (A d) d (coords (core (F := F) c) s)) ⊢ |={Set.univ}=> iprop(
      (bigSep Finset.univ fun s : Fin ((K (F := F)).nSub 0) => Go (A d) d (coords (core (F := F) c) (sub (F := F) s)))
      ∗ ((bigSep Finset.univ fun s : Fin ((K (F := F)).nSub 0) => Done (A d) d (coords (core (F := F) c) (sub (F := F) s)))
          -∗ bigSep Finset.univ fun s => Done (A d) d (coords (core (F := F) c) s)))
  iintro H; imodintro
  isplitl [H]; · iexact H
  iintro H; iexact H

/-! ## The result's parts -/

/-- The tiles, numbered together. -/
abbrev at' (p : Fin (grid0.bound 0) × Fin (grid0.bound 1)) : grid0.Coords := coords p.1 p.2

abbrev partOf (d : Dev nD) (p : Fin (grid0.bound 0) × Fin (grid0.bound 1)) : Finset (Idx (outLoc d)) := ownSet (Memref.whole main_v4_scv) (at' p)

theorem mem_part (d : Dev nD) (p : Fin (grid0.bound 0) × Fin (grid0.bound 1)) (y : S2000x256x49.Idx) :
    y ∈ partOf d p ↔ (125 * p.2.val ≤ (y 0).val ∧ (y 0).val < 125 * p.2.val + 125) ∧ (128 * p.1.val ≤ (y 1).val ∧ (y 1).val < 128 * p.1.val + 128) := by
  have e : partOf d p = (ownRect (at' p)).set := by
    show ((View.whole (main_v4_scv : Ref sig .scVector)).slice (ownRect (at' p))).set = _
    rw [View.set_slice]; exact Finset.map_refl
  rw [e, Rect.mem_set_unit]
  have h2 : (y 2).val < 49 := (y 2).isLt
  constructor
  · intro h; exact ⟨h 0, h 1⟩
  · rintro ⟨h0, h1⟩ a
    fin_cases a
    · exact h0
    · exact h1
    · exact ⟨Nat.zero_le _, h2.trans_le (Nat.le_of_eq (Nat.zero_add 49).symm)⟩

theorem parts_disjoint (d : Dev nD) : ∀ p ∈ (Finset.univ : Finset (Fin (grid0.bound 0) × Fin (grid0.bound 1))), ∀ p' ∈ (Finset.univ : Finset (Fin (grid0.bound 0) × Fin (grid0.bound 1))),
    p ≠ p' → Disjoint (partOf d p) (partOf d p') := by
  intro p _ p' _ h
  refine Finset.disjoint_left.2 fun y hy hy' => h ?_
  have h1 := (mem_part d p y).1 hy
  have h2 := (mem_part d p' y).1 hy'
  exact Prod.ext (Fin.ext (by omega)) (Fin.ext (by omega))

theorem parts_cover (d : Dev nD) : (Finset.univ : Finset (Fin (grid0.bound 0) × Fin (grid0.bound 1))).biUnion (partOf d) = Finset.univ := by
  refine Finset.eq_univ_iff_forall.2 fun y => Finset.mem_biUnion.2 ?_
  have h0 : ((y : S2000x256x49.Idx) 0).val < 2000 := ((y : S2000x256x49.Idx) 0).isLt
  have h1 : ((y : S2000x256x49.Idx) 1).val < 256 := ((y : S2000x256x49.Idx) 1).isLt
  refine ⟨(⟨((y : S2000x256x49.Idx) 1).val / 128, by show _ < 2; omega⟩, ⟨((y : S2000x256x49.Idx) 0).val / 125, by show _ < 16; omega⟩), Finset.mem_univ _, (mem_part d _ y).2 ?_⟩
  dsimp only
  omega

omit [FloatOps F] in
theorem part_of (d : Dev nD) (f : Buf (Elt F) (outLoc d)) (i : grid0.Coords) :
    (outLoc d ↦[ownSet (Memref.whole main_v4_scv) i]{fullShare} f : sProp 𝕄) ⊢ Part (F := F) d i := by
  unfold Part
  iintro H; iexists f; iexact H

omit [FloatOps F] in
/-- The result whole is its parts; -/
theorem parts_of_whole (d : Dev nD) (f : Buf (Elt F) (outLoc d)) :
    (outLoc d ↦{fullShare} f : sProp 𝕄) ⊢ bigSep Finset.univ fun p => Part (F := F) d (at' p) := by
  have e : (outLoc d ↦{fullShare} f : sProp 𝕄) = bigSep Finset.univ fun p => outLoc d ↦[partOf d p]{fullShare} f := by
    rw [← pointsTo_biUnion Finset.univ (ℓ := outLoc d) (partOf d) (parts_disjoint d), parts_cover]; try rfl
  rw [e]
  exact bigSep_mono fun p _ => part_of d f (at' p)

/-- and its filled parts are the result whole, filled. -/
theorem whole_of_parts (A : Arr F) (d : Dev nD) :
    (bigSep Finset.univ fun p => Done A d (at' p)) ⊢ (iprop(outLoc d ↦{fullShare} (A.val : Buf (Elt F) (outLoc d))) : sProp 𝕄) := by
  have e : (outLoc d ↦{fullShare} (A.val : Buf (Elt F) (outLoc d)) : sProp 𝕄) = bigSep Finset.univ fun p => outLoc d ↦[partOf d p]{fullShare} (A.val : Buf (Elt F) (outLoc d)) := by
    rw [← pointsTo_biUnion Finset.univ (ℓ := outLoc d) (partOf d) (parts_disjoint d), parts_cover]; try rfl
  exact Entails.of_eq e.symm

/-- From what the tiles read and the result's buffer, what the SparseCores are handed. -/
theorem hand_out (d : Dev nD) (q : PosShare TreeShare) :
    iprop(Read (A d) d q ∗ ∃ f, outLoc d ↦{fullShare} f)
      ⊢ bigSep Finset.univ fun c : Fin ((K (F := F)).nCore 0) => (P A).st 0 d c := by
  have e : (bigSep Finset.univ fun c : Fin ((K (F := F)).nCore 0) => (P A).st 0 d c) = bigSep Finset.univ fun p => Go (A d) d (at' p) :=
    (bigSep_univ_prod fun p => Go (A d) d (at' p)).symm
  rw [e]
  unfold Go
  rw [bigSep_sep', bigSep_sep']
  iintro ⟨HR, ⟨%f, Ho⟩⟩
  ihave H := read_halve (A d) d _ $$ HR
  icases H with ⟨H, G⟩
  isplitl [H]; · iapply (read_many (A d) d _ _); iexact H
  isplitl [G]; · iapply (read_many (A d) d _ _); iexact G
  iapply (parts_of_whole d f); iexact Ho

/-- What they give back is the result. -/
theorem hand_back (d : Dev nD) :
    (bigSep Finset.univ fun c : Fin ((K (F := F)).nCore 0) => (P A).dn 0 d c) ⊢ iprop(outLoc d ↦{fullShare} ((A d).val : Buf (Elt F) (outLoc d))) := by
  have e : (bigSep Finset.univ fun c : Fin ((K (F := F)).nCore 0) => (P A).dn 0 d c) = bigSep Finset.univ fun p => Done (A d) d (at' p) :=
    (bigSep_univ_prod fun p => Done (A d) d (at' p)).symm
  rw [e]
  exact whole_of_parts (A d) d

end Cert.Roi
-- ==== Proof.Main.lean ====
/-
  The program on a device's TensorCore: the host's rearrangements of the features and of the pixel lists, the call, and
  the result's reshape; with what is known of the memory at the end.
-/
module

public import proofs.«01_k».proof.Proof.Call
public import Idealize.ShloMosaic.Lib.StableHlo.Run

@[expose] public section

noncomputable section

namespace Cert.Roi.Main

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The memory at launch, by core and buffer. -/
abbrev V (c : Dev nD) (b : Ref sig .tc) : Buf (Elt F) ((c : Thread nD τ).loc b) := m ((c : Thread nD τ).loc b)

/-! ## A host operation from one buffer to another -/

theorem host (op : HloOp τ sig (Elt F)) (x y : Ref sig .tc) (hxy : Proc.devRef (τ := τ) .tc x ≠ Proc.devRef (τ := τ) .tc y)
    (hb : op.bufs = {Proc.devRef .tc x, Proc.devRef .tc y}) (hw : op.writes = {Proc.devRef .tc y}) (hf : op.fresh = ∅)
    (R : (Proc.devRef (τ := τ) (sig := sig) .tc x).ty.Contents (Elt F) → (Proc.devRef (τ := τ) (sig := sig) .tc y).ty.Contents (Elt F) → Prop)
    (hR : ∀ W, R (W (Proc.devRef .tc x)) (op.result W (Proc.devRef .tc y))) (d : Dev nD)
    (fx : Buf (Elt F) ((SparseCore.T d).loc x)) (Q : PUnit → sProp 𝕄) :
    iprop((boundary (SparseCore.T d) ∗ ((SparseCore.T d).loc x ↦{fullShare} fx) ∗ ∃ fy, (SparseCore.T d).loc y ↦{fullShare} fy)
        ∗ ((boundary (SparseCore.T d) ∗ ((SparseCore.T d).loc x ↦{fullShare} fx) ∗ ∃ fy : Buf (Elt F) ((SparseCore.T d).loc y), ⌜R fx fy⌝ ∗ (SparseCore.T d).loc y ↦{fullShare} fy) -∗ Q ⟨⟩))
      ⊢ wp frame (wpE ((K (F := F)).defs (D (F := F))) 𝒱 (SparseCore.T d) none) Set.univ (hlo rfl op fun _ => .ret ⟨⟩) Q := by
  classical
  have hsplit : ∀ W : Valuation τ sig (Elt F), (bigSep op.bufs (fun b => ((SparseCore.T d).1, b) ↦{fullShare} W b) : sProp 𝕄)
      = iprop((((SparseCore.T d).loc x) ↦{fullShare} W (Proc.devRef .tc x)) ∗ ((SparseCore.T d).loc y) ↦{fullShare} W (Proc.devRef .tc y)) := fun W => by
    rw [hb, SparseCore.bigSep_insert' (by simpa using hxy), bigSep_singleton]
  iintro ⟨⟨Hb, Hx, ⟨%fy, Hy⟩⟩, HQ⟩
  obtain ⟨W, hWx, hWy⟩ : ∃ W : Valuation τ sig (Elt F), W (Proc.devRef .tc x) = fx ∧ W (Proc.devRef .tc y) = fy :=
    ⟨Function.update (Function.update (fun _ _ => Classical.arbitrary _) (Proc.devRef .tc x) fx) (Proc.devRef .tc y) fy,
      by rw [Function.update_of_ne hxy, Function.update_self], by rw [Function.update_self]⟩
  have hres : op.result W (Proc.devRef .tc x) = fx := by
    rw [op.result_of_not_mem W (by rw [hw]; simpa using hxy), hWx]
  have hr := hR W
  rw [hWx] at hr
  iapply (wp_hlo (c := SparseCore.T d) 𝒱 none Set.univ (op := op) (q := fun _ => fullShare) (F := W) (fun _ _ => rfl) hf) $$ [Hb Hx Hy]
  · isplitl [Hb]; · iexact Hb
    rw [hsplit, hWx, hWy]
    isplitl [Hx]; · iexact Hx
    iexact Hy
  rw [hsplit, hres]
  iintro ⟨Hb, Hx, Hy⟩
  rw [wp_ret]
  imodintro
  iapply HQ
  isplitl [Hb]; · iexact Hb
  isplitl [Hx]; · iexact Hx
  iexists _; isplitr; swap; · iexact Hy
  ipureintro; exact hr

/-! ## The program -/

/-- The features as a table of rows: row `8192 q + 4096 b + 64 h + w` is pixel `(h, w)` of image `b`, channels
    `128 q` to `128 q + 127`. -/
def table (x : FVec F S2x256x64x64 .f32) : FVec F S16384x128 .f32 :=
  shapeCast S16384x128 (transpose S2x2x64x64x128 [1, 0, 3, 4, 2] (shapeCast S2x2x128x64x64 x shapeCasts_S2x256x64x64_S2x2x128x64x64)
    transposes_S2x2x128x64x64_S2x2x64x64x128_1_0_3_4_2) shapeCasts_S2x2x64x64x128_S16384x128

/-- A box's list of pixels, five lists of 80. -/
def lists (g : IVec S2000x400 32) : IVec S2000x5x80 32 := shapeCast S2000x5x80 g shapeCasts_S2000x400_S2000x5x80

/-- The integer arguments are in range: pixels below 8192, local numbers below 400. -/
structure Ok (c : Dev nD) : Prop where
  pixel : ∀ y : S2000x400.Idx, (V m c main_arg1 y : BitVec 32).toNat < 8192
  place : ∀ y : S2000x784.Idx, (V m c main_arg2 y : BitVec 32).toNat < 400

/-- The arrays the call reads. -/
def arr (hok : ∀ c, Ok m c) (c : Dev nD) : Arr F where
  T := table (V m c main_arg0)
  G := lists (V m c main_arg1)
  L := V m c main_arg2
  W := V m c main_arg3
  hG y := (hok c).pixel _
  hL := (hok c).place

/-- The program's result. -/
def out (hok : ∀ c, Ok m c) (c : Dev nD) : FVec F S2000x256x7x7 .f32 := shapeCast S2000x256x7x7 (arr m hok c).val shapeCasts_S2000x256x49_S2000x256x7x7

/-- What is kept to the end: the arguments as they were, and the result. -/
def FIN (hok : ∀ c, Ok m c) (d : Dev nD) : sProp 𝕄 :=
  iprop((((d : Thread nD τ).loc main_arg0) ↦{fullShare} V m d main_arg0) ∗ (((d : Thread nD τ).loc main_arg1) ↦{fullShare} V m d main_arg1)
    ∗ (((d : Thread nD τ).loc main_arg2) ↦{fullShare.left} V m d main_arg2) ∗ (((d : Thread nD τ).loc main_arg3) ↦{fullShare.left} V m d main_arg3)
    ∗ (((d : Thread nD τ).loc main_v5) ↦{fullShare} (out m hok d : Buf (Elt F) ((d : Thread nD τ).loc main_v5))))

/-- The program's arrays, one by one. -/
theorem arrays (d : Dev nD) (W : (b : Ref sig .tc) → Buf (Elt F) ((d.tc : Thread nD τ).loc b)) :
    (unscopedBufs d W : sProp 𝕄) = iprop((((d : Thread nD τ).loc main_arg0) ↦{fullShare} W main_arg0) ∗ (((d : Thread nD τ).loc main_arg1) ↦{fullShare} W main_arg1)
      ∗ (((d : Thread nD τ).loc main_arg2) ↦{fullShare} W main_arg2) ∗ (((d : Thread nD τ).loc main_arg3) ↦{fullShare} W main_arg3)
      ∗ (((d : Thread nD τ).loc main_v0) ↦{fullShare} W main_v0) ∗ (((d : Thread nD τ).loc main_v1) ↦{fullShare} W main_v1)
      ∗ (((d : Thread nD τ).loc main_v2) ↦{fullShare} W main_v2) ∗ (((d : Thread nD τ).loc main_v3) ↦{fullShare} W main_v3)
      ∗ (((d : Thread nD τ).loc main_v4) ↦{fullShare} W main_v4) ∗ (((d : Thread nD τ).loc main_v5) ↦{fullShare} W main_v5)) :=
  bigSep_eq_bigSepL_of_eq [main_arg0, main_arg1, main_arg2, main_arg3, main_v0, main_v1, main_v2, main_v3, main_v4, main_v5] (by decide) (by decide) _

set_option maxHeartbeats 0 in
theorem hmain (hok : ∀ c, Ok m c) (κ : GSem nD τ sig → ℕ) (d : Dev nD) :
    iprop((K (F := F)).ctx EH (P (arr m hok)) κ ∗ (K (F := F)).tcSt EH d 0 ∗ (K (F := F)).tcRes m ρ d ∗ BI.emp)
      ⊢ wp frame (wpE ((K (F := F)).defs (D (F := F))) 𝒱 (SparseCore.T d) none) Set.univ (main d)
          fun _ => iprop((K (F := F)).tcSt EH d 1 ∗ FIN m hok d ∗ (K (F := F)).tcEnd d) := by
  unfold SparseCore.Cfg.tcRes SparseCore.Cfg.tcEnd
  rw [arrays]
  simp only [main, wp_bind, wp_pure]
  iintro ⟨#Hctx, Hst, ⟨Hb, ⟨Ha0, Ha1, Ha2, Ha3, Hv0, Hv1, Hv2, Hv3, Hv4, Hv5⟩, Hts, -⟩, -⟩
  iapply (host _ main_arg1 main_v0 (by decide) rfl rfl rfl
    (fun fx fy => fy = lists fx) (fun W => StableHlo.reshape_result ..) d _)
  isplitl [Hb Ha1 Hv0]
  · isplitl [Hb]; · iexact Hb
    isplitl [Ha1]; · iexact Ha1
    iexists _; iexact Hv0
  iintro ⟨Hb, Ha1, ⟨%g0, %h0, Hv0⟩⟩
  subst h0
  iapply (host _ main_arg0 main_v1 (by decide) rfl rfl rfl
    (fun fx fy => fy = shapeCast S2x2x128x64x64 fx shapeCasts_S2x256x64x64_S2x2x128x64x64) (fun W => StableHlo.reshape_result ..) d _)
  isplitl [Hb Ha0 Hv1]
  · isplitl [Hb]; · iexact Hb
    isplitl [Ha0]; · iexact Ha0
    iexists _; iexact Hv1
  iintro ⟨Hb, Ha0, ⟨%g1, %h1, Hv1⟩⟩
  iapply (host _ main_v1 main_v2 (by decide) rfl rfl rfl
    (fun fx fy => fy = transpose S2x2x64x64x128 [1, 0, 3, 4, 2] fx transposes_S2x2x128x64x64_S2x2x64x64x128_1_0_3_4_2) (fun W => StableHlo.unary_result ..) d _)
  isplitl [Hb Hv1 Hv2]
  · isplitl [Hb]; · iexact Hb
    isplitl [Hv1]; · iexact Hv1
    iexists _; iexact Hv2
  iintro ⟨Hb, Hv1, ⟨%g2, %h2, Hv2⟩⟩
  iapply (host _ main_v2 main_v3 (by decide) rfl rfl rfl
    (fun fx fy => fy = shapeCast S16384x128 fx shapeCasts_S2x2x64x64x128_S16384x128) (fun W => StableHlo.reshape_result ..) d _)
  isplitl [Hb Hv2 Hv3]
  · isplitl [Hb]; · iexact Hb
    isplitl [Hv2]; · iexact Hv2
    iexists _; iexact Hv3
  iintro ⟨Hb, Hv2, ⟨%g3, %h3, Hv3⟩⟩
  subst h1 h2 h3
  ihave Ha2 := (pointsTo_share (PosShare.mem_left_op_right fullShare)).1 $$ Ha2
  icases Ha2 with ⟨Ha2, Hl⟩
  ihave Ha3 := (pointsTo_share (PosShare.mem_left_op_right fullShare)).1 $$ Ha3
  icases Ha3 with ⟨Ha3, Hw⟩
  ihave Hv0 := (pointsTo_share (PosShare.mem_left_op_right fullShare)).1 $$ Hv0
  icases Hv0 with ⟨-, Hg⟩
  ihave Hv3 := (pointsTo_share (PosShare.mem_left_op_right fullShare)).1 $$ Hv3
  icases Hv3 with ⟨-, Ht⟩
  iapply ((K (F := F)).wp_run (D (F := F)) 𝒱 (EH := EH) (P := P (arr m hok)) κ d 0)
  isplitr; · iexact Hctx
  isplitl [Hst]; · iexact Hst
  isplitl [Ht Hg Hl Hw Hv4]
  · iapply (hand_out (arr m hok) d fullShare.right)
    unfold Read
    isplitr [Hv4]
    · isplitl [Ht]; · iexact Ht
      isplitl [Hg]; · iexact Hg
      isplitl [Hl]; · iexact Hl
      iexact Hw
    iexists _; iexact Hv4
  iintro ⟨Hst, Hdn⟩
  ihave Hv4 := (hand_back (arr m hok) d) $$ Hdn
  iapply (host _ main_v4 main_v5 (by decide) rfl rfl rfl
    (fun fx fy => fy = shapeCast S2000x256x7x7 fx shapeCasts_S2000x256x49_S2000x256x7x7) (fun W => StableHlo.reshape_result ..) d _)
  isplitl [Hb Hv4 Hv5]
  · isplitl [Hb]; · iexact Hb
    isplitl [Hv4]; · iexact Hv4
    iexists _; iexact Hv5
  iintro ⟨Hb, -, ⟨%g5, %h5, Hv5⟩⟩
  subst h5
  imodintro
  isplitl [Hst]; · iexact Hst
  isplitl [Ha0 Ha1 Ha2 Ha3 Hv5]
  · unfold FIN
    isplitl [Ha0]; · iexact Ha0
    isplitl [Ha1]; · iexact Ha1
    isplitl [Ha2]; · iexact Ha2
    isplitl [Ha3]; · iexact Ha3
    iexact Hv5
  isplitl [Hb]; · iexact Hb
  iexact Hts

end Cert.Roi.Main

end
-- ==== Proof.Frames.lean ====
/-
  The whole program's run on every thread of the mesh, and what it says of the result, the arguments and the counters.
-/
module

public import proofs.«01_k».proof.Proof.Main

@[expose] public section

noncomputable section

namespace Cert.Roi.Main

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The launch's ghost state: the handshakes' rounds. -/
def u₀ : UU := (initOf (K (F := F)).hsCells (K (F := F)).hsToks, 1)

theorem hu₀ (A : Dev nD → Arr F) : (ownU (u₀ (F := F)) : sProp 𝕄)
    ⊢ |={Set.univ}=> iprop(BI.own (EH (initOf (K (F := F)).hsCells (K (F := F)).hsToks)) ∗ (bigSep Finset.univ fun _ : Dev nD => (BI.emp : sProp 𝕄))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : UP × Counters)) $$ Hu
  icases H with ⟨HH, -⟩
  imodintro
  isplitl [HH]; · iexact HH
  isplitl []
  · rw [bigSep_emp_const]; iempintro
  rw [show (bigSep Finset.univ fun thr : Thread nD τ => bigSep Finset.univ fun q : Fin 1 => (P A).x q thr) = bigSep Finset.univ fun _ => (BI.emp : sProp 𝕄) from
    bigSep_congr fun _ _ => bigSep_univ_of_subsingleton (0 : Fin 1), bigSep_emp_const]
  iempintro

/-! ## The end -/

/-- What is known of a device's memory at the end. -/
def fq (hok : ∀ c, Ok m c) (d : Dev nD) (s' : Phys nD τ sig (Elt F)) : Prop :=
  s'.mem.mem ((d : Thread nD τ).loc main_arg0) = V m d main_arg0 ∧ s'.mem.mem ((d : Thread nD τ).loc main_arg1) = V m d main_arg1
    ∧ s'.mem.mem ((d : Thread nD τ).loc main_arg2) = V m d main_arg2 ∧ s'.mem.mem ((d : Thread nD τ).loc main_arg3) = V m d main_arg3
    ∧ s'.mem.mem ((d : Thread nD τ).loc main_v5) = out m hok d

theorem agree {ℓ : Loc nD τ sig} {q : PosShare TreeShare} {f : Buf (Elt F) ℓ} {s' : Phys nD τ sig (Elt F)} :
    iprop((ℓ ↦{q} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := q) (f := f))) $$ [HSI Hi]
  · isplitl [HSI] <;> iassumption
  icases H with ⟨%h, HSI, -⟩
  isplitr; · ipureintro; exact funext fun i => h i (Finset.mem_univ i)
  iexact HSI

theorem hfin (hok : ∀ c, Ok m c) (d : Dev nD) (s' : Phys nD τ sig (Elt F)) : iprop(FIN m hok d ∗ SI s') ⊢ (⌜fq m hok d s'⌝ : sProp 𝕄) := by
  unfold FIN
  iintro ⟨⟨H0, H1, H2, H3, H5⟩, HSI⟩
  ihave H := agree $$ [H0 HSI]
  · isplitl [H0] <;> iassumption
  icases H with ⟨%h0, HSI⟩
  ihave H := agree $$ [H1 HSI]
  · isplitl [H1] <;> iassumption
  icases H with ⟨%h1, HSI⟩
  ihave H := agree $$ [H2 HSI]
  · isplitl [H2] <;> iassumption
  icases H with ⟨%h2, HSI⟩
  ihave H := agree $$ [H3 HSI]
  · isplitl [H3] <;> iassumption
  icases H with ⟨%h3, HSI⟩
  ihave H := agree $$ [H5 HSI]
  · isplitl [H5] <;> iassumption
  icases H with ⟨%h5, -⟩
  ipureintro; exact ⟨h0, h1, h2, h3, h5⟩

/-- The end of a run: on each device the result and the arguments unchanged, and every counter at zero. -/
def QC (hok : ∀ c, Ok m c) : PUnit × MemSt nD τ sig (Elt F) → Prop := fun r =>
  (∀ c : Dev nD, r.2.mem ((c : Thread nD τ).loc main_arg0) = V m c main_arg0 ∧ r.2.mem ((c : Thread nD τ).loc main_arg1) = V m c main_arg1
    ∧ r.2.mem ((c : Thread nD τ).loc main_arg2) = V m c main_arg2 ∧ r.2.mem ((c : Thread nD τ).loc main_arg3) = V m c main_arg3
    ∧ r.2.mem ((c : Thread nD τ).loc main_v5) = out m hok c) ∧ r.2.sem = fun _ => 0

set_option maxHeartbeats 0 in
/-- From any memory whose integer arguments are in range: every run ends, with the result, the arguments unchanged and
    every counter at zero. -/
theorem run_main (hok : ∀ c, Ok m c) :
    θ_run (Cert.KernelIdeal.defs (F := F)) (Cert.KernelIdeal.threads (F := F)) ⟨m, fun _ => 0, ρ⟩ (QC m hok) :=
  SparseCore.Cfg.θ_run_sc_quiescent (K := K (F := F)) (D := D (F := F)) (𝒱 := 𝒱) (EH := EH) (P := P (arr m hok)) (A := ∅) facts v₀
    (fun q hq => match q with | 0 => nomatch hq)
    (fun q _ => match q with | 0 => tileObl _ facts)
    (fun q _ => match q with | 0 => SparseCore.Cfg.VecSplit.of_plain (vecSplit _))
    m ρ main (fun _ => (BI.emp : sProp 𝕄)) (FIN m hok) (u₀ (F := F)) (sep_elim_left.trans (hu₀ _)) (hmain m ρ hok) (fq m hok) (hfin m hok) (QC m hok) (fun _ h hz => ⟨h, hz⟩)

end Cert.Roi.Main

end
-- ==== Proof.Range.lean ====
/-
  The precondition read: pixels are below 8192 and local numbers below 400.
-/
module

public import proofs.«01_k».proof.Proof.Gen.Pre_in_range
public import proofs.«01_k».proof.Proof.Main
public import Idealize.ShloMosaic.Lib.ReduceAll

@[expose] public section

noncomputable section

namespace Cert.Roi.Main

open Cert.KernelIdeal Cert.KernelIdeal.Gen
open Idealize.ShloMosaic Idealize.ShloMosaic.TcCoe

variable {F : FTy → Type} [FloatOps F]

/-- A word that is at least 0 and less than `n` as a signed word is less than `n`. -/
theorem word_of_range (v : BitVec 32) (n : ℕ) (hn : n < 2 ^ 31) (h : IntOp.andi (IntOp.cmpi .sge v 0#32) (IntOp.cmpi .slt v (BitVec.ofNat 32 n)) = 1#1) : v.toNat < n := by
  have h' := IntOp.andi_eq_one.1 h
  have h0 : (0 : Int) ≤ v.toInt := IntOp.cmpi_sge.1 h'.1
  have h1 : v.toInt < (BitVec.ofNat 32 n).toInt := IntOp.cmpi_slt.1 h'.2
  have e : (BitVec.ofNat 32 n).toInt = n := by
    rw [BitVec.toInt_eq_toNat_cond, BitVec.toNat_ofNat, Nat.mod_eq_of_lt (by omega), if_pos (by omega)]
  rw [e] at h1
  rw [BitVec.toInt_eq_toNat_cond] at h0 h1
  have := v.isLt
  split at h0 <;> omega

/-- The precondition, all ones, gives the range of every integer argument. -/
theorem ok_of_pre (m : (ℓ : Loc nD τ sig) → Buf (Elt F) ℓ)
    (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ c, Ok m c := by
  intro c
  constructor
  · intro y
    have e := (IntOp.andi_eq_one.1 (congrFun (h c) (Cert.Pre_in_range.Facts.reducesTo_S2000x400_S2000_d1.drop y))).1
    exact word_of_range _ 8192 (by decide) (Host.reduce_andi_eq_one _ _ _ _ _ e y rfl)
  · intro y
    have e := (IntOp.andi_eq_one.1 (congrFun (h c) (Cert.Pre_in_range.Facts.reducesTo_S2000x784_S2000_d1.drop y))).2
    exact word_of_range _ 400 (by decide) (Host.reduce_andi_eq_one _ _ _ _ _ e y rfl)

end Cert.Roi.Main

end
-- ==== Proof.Same.lean ====
/-
  The kernel and its idealization, which rewrote nothing, have one body table.
-/
module

public import proofs.«01_k».proof.Defs
public import proofs.«01_k».proof.Proof.Gen.Kernel
public import proofs.«01_k».proof.Proof.Gen.KernelIdeal

@[expose] public section

namespace Cert.Roi

open Idealize.ShloMosaic

variable {F : FTy → Type} [FloatOps F]

/-- The two programs' kernels agree at every label. -/
theorem kernels_eq : ∀ (p : Proc Cert.Kernel.τ) (l : Cert.Kernel.Λ₀.Label) (a : Cert.Kernel.Λ₀.Args l),
    Cert.Kernel.defs₀ (F := F) p l a = Cert.KernelIdeal.defs₀ (F := F) p l a
  | .tc, (0 : Fin 1), _ => rfl
  | .scVector _ _, (0 : Fin 1), _ => rfl
  | .scScalar _, (0 : Fin 1), _ => rfl

/-- The two programs' body tables, the launches' labels included. -/
theorem defs_eq : Cert.Kernel.defs (F := F) = Cert.KernelIdeal.defs (F := F) :=
  congrArg (fun k => Cert.Kernel.sc.defs (Pipeline.defs Cert.Kernel.pcfgs k)) (funext fun p => funext fun l => funext fun a => kernels_eq p l a)

end Cert.Roi
-- ==== Proof.Reference.lean ====
/-
  The reference at an index: a bin of a box is the sum over the bin's sixteen samples of the sample's pixel times the
  sample's weight, the sample's pixel being the one that its local number names in the box's list.
-/
module

public import proofs.«01_k».proof.Proof.Gen.ReferenceIdeal.Run
public import Idealize.ShloMosaic.Lib.Pointwise.Tactic
public import Idealize.ShloMosaic.Lib.Pointwise.Reduce
public import Idealize.ShloMosaic.Lib.Pointwise.Reshape
public import Idealize.ShloMosaic.Lib.Pointwise.Select

@[expose] public section

noncomputable section

namespace Cert.Roi.Reference

open Cert.ReferenceIdeal Cert.ReferenceIdeal.Gen
open Idealize.ShloMosaic Idealize.ShloMosaic.TcCoe Idealize.SL.Sem

/-! ## The two gathers read at an index -/

/-- The gather of a list's entries: entry `(r, n)` is the list's at the pair of numbers given for `(r, n)`. -/
theorem entries_at {α : Type} (x : S2000x400.Idx → α) (idx : IVec S2000x784x2 32) (y : S2000x784.Idx) :
    Host.gather gather_S2000x400_S2000x784x2_S2000x784_n_01_n_n_01_2_11 x idx y
      = x (ix2 ⟨min (idx (ix3 (y 0) (y 1) (0 : Fin 2))).toInt.toNat 1999, by omega⟩ ⟨min (idx (ix3 (y 0) (y 1) (1 : Fin 2))).toInt.toNat 399, by omega⟩) := by
  let D := gather_S2000x400_S2000x784x2_S2000x784_n_01_n_n_01_2_11
  unfold Host.gather
  congr 1
  funext a
  refine Fin.ext ?_
  show D.start y idx a + D.batchCoord y a + D.offCoord y a = _
  have hk : a ∉ D.sKept := fun h => ((GatherDims.mem_sKept _ _).mp h).1 (by
    match a with
    | ⟨0, _⟩ => exact List.mem_cons_self ..
    | ⟨1, _⟩ => exact List.mem_cons_of_mem _ (List.mem_cons_self ..))
  rw [GatherDims.batchCoord_eq_zero _ _ _ List.not_mem_nil, GatherDims.offCoord_eq_zero _ _ _ hk]
  simp only [Nat.add_zero]
  unfold GatherDims.start
  match a with
  | ⟨0, h⟩ =>
    have hm : (⟨0, h⟩ : Fin 2) ∈ D.startIndexMap := List.mem_cons_self ..
    rw [dif_pos hm]
    have hsi : D.siIdx y ⟨List.idxOf (⟨0, h⟩ : Fin 2) D.startIndexMap, List.idxOf_lt_length_iff.2 hm⟩ = ix3 (y 0) (y 1) (0 : Fin 2) := by
      funext b; refine Fin.ext ?_
      match b with
      | ⟨0, _⟩ => rfl
      | ⟨1, _⟩ => rfl
      | ⟨2, _⟩ => rfl
    rw [hsi]
    rfl
  | ⟨1, h⟩ =>
    have hm : (⟨1, h⟩ : Fin 2) ∈ D.startIndexMap := List.mem_cons_of_mem _ (List.mem_cons_self ..)
    rw [dif_pos hm]
    have hsi : D.siIdx y ⟨List.idxOf (⟨1, h⟩ : Fin 2) D.startIndexMap, List.idxOf_lt_length_iff.2 hm⟩ = ix3 (y 0) (y 1) (1 : Fin 2) := by
      funext b; refine Fin.ext ?_
      match b with
      | ⟨0, _⟩ => rfl
      | ⟨1, _⟩ => rfl
      | ⟨2, _⟩ => rfl
    rw [hsi]
    rfl

/-- The gather of the pixels: the row that is named, every channel. -/
theorem pixels_at {α : Type} (x : S8192x256.Idx → α) (idx : IVec S2000x784x1 32) (y : S2000x784x256.Idx) :
    Host.gather gather_S8192x256_S2000x784x1_S2000x784x256_2_0_n_n_0_2_1256 x idx y
      = x (ix2 ⟨min (idx (ix3 (y 0) (y 1) (0 : Fin 1))).toInt.toNat 8191, by omega⟩ (y 2)) := by
  let D := gather_S8192x256_S2000x784x1_S2000x784x256_2_0_n_n_0_2_1256
  unfold Host.gather
  congr 1
  funext a
  refine Fin.ext ?_
  show D.start y idx a + D.batchCoord y a + D.offCoord y a = _
  rw [GatherDims.batchCoord_eq_zero _ _ _ List.not_mem_nil]
  simp only [Nat.add_zero]
  match a with
  | ⟨0, h⟩ =>
    rw [GatherDims.offCoord_eq_zero _ _ _ (fun h => ((GatherDims.mem_sKept _ _).mp h).1 (List.mem_cons_self ..))]
    unfold GatherDims.start
    have hm : (⟨0, h⟩ : Fin 2) ∈ D.startIndexMap := List.mem_cons_self ..
    rw [dif_pos hm]
    have hsi : D.siIdx y ⟨List.idxOf (⟨0, h⟩ : Fin 2) D.startIndexMap, List.idxOf_lt_length_iff.2 hm⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, h⟩ =>
    have hm : (⟨1, h⟩ : Fin 2) ∉ D.startIndexMap := (by decide : (1 : Fin 2) ∉ ([0] : List (Fin 2)))
    unfold GatherDims.start
    rw [dif_neg hm, Nat.zero_add]
    rfl

/-! ## Indices that are not negative -/

theorem not_neg {v : BitVec 32} (h : v.toNat < 2147483648) : ¬ IntOp.cmpi .slt v 0#32 = 1#1 := by
  rw [IntOp.cmpi_slt, BitVec.toInt_eq_toNat_cond]
  have : (0#32 : BitVec 32).toInt = 0 := by decide
  rw [this]
  split <;> omega

theorem toInt_of_small {v : BitVec 32} (h : v.toNat < 2147483648) : v.toInt.toNat = v.toNat := by
  rw [BitVec.toInt_eq_toNat_cond]
  split <;> omega

/-- Adding the extent to the negative indices changes nothing where none is. -/
theorem wrap (h : S_.BroadcastsInDim S2000x784 ![]) (v w : IVec S2000x784 32) (hv : ∀ y, (v y).toNat < 2147483648) :
    select (cmpi .slt v (broadcastInDim S2000x784 ![] h (constantI S_ 32 0#32))) w v = v := by
  funext y
  have := not_neg (hv y)
  show (if IntOp.cmpi .slt (v y) 0#32 = 1#1 then w y else v y) = v y
  rw [if_neg this]

/-! ## The reference's stages -/

/-- Each sample's box. -/
abbrev boxNo : IVec S2000x784 32 :=
  broadcastInDim S2000x784 ![0, 1] bcast_S2000x1_S2000x784_0_1 (broadcastInDim S2000x1 ![0] bcast_S2000_S2000x1_0 (iotaInDim S2000 32 0))

theorem boxNo_at (y : S2000x784.Idx) : (boxNo y).toNat = (y 0).val := by
  have h : (y 0).val < 2000 := (y 0).isLt
  have e : boxNo y = BitVec.ofNat 32 (y 0).val := by pointwise
  rw [e, BitVec.toNat_ofNat]
  omega

/-- Each sample's box and local number. -/
abbrev pairs (l : IVec S2000x784 32) : IVec S2000x784x2 32 :=
  concatenate S2000x784x2 2 [⟨S2000x784x1, broadcastInDim S2000x784x1 ![0, 1] bcast_S2000x784_S2000x784x1_0_1 boxNo⟩,
    ⟨S2000x784x1, broadcastInDim S2000x784x1 ![0, 1] bcast_S2000x784_S2000x784x1_0_1 l⟩] concatenates_S2000x784x1_S2000x784x1_S2000x784x2_d2

theorem pairs_fst (l : IVec S2000x784 32) (r : Fin 2000) (n : Fin 784) : pairs l (ix3 r n (0 : Fin 2)) = boxNo (ix2 r n) := by
  refine (concatenate_pair_apply_left (t := S2000x784x2) (s₁ := S2000x784x1) (s₂ := S2000x784x1) (2 : Fin 3) _ _
    concatenates_S2000x784x1_S2000x784x1_S2000x784x2_d2 (ix3 r n (0 : Fin 2)) rfl (ix3 r n (0 : Fin 1)) fun b => by
      match b with
      | ⟨0, _⟩ => rfl
      | ⟨1, _⟩ => rfl
      | ⟨2, _⟩ => rfl).trans ?_
  pointwise

theorem pairs_snd (l : IVec S2000x784 32) (r : Fin 2000) (n : Fin 784) : pairs l (ix3 r n (1 : Fin 2)) = l (ix2 r n) := by
  refine (concatenate_pair_apply_right (t := S2000x784x2) (s₁ := S2000x784x1) (s₂ := S2000x784x1) (2 : Fin 3) _ _
    concatenates_S2000x784x1_S2000x784x1_S2000x784x2_d2 (ix3 r n (1 : Fin 2)) rfl rfl (ix3 r n (0 : Fin 1)) (fun b hb => by
      match b with
      | ⟨0, _⟩ => rfl
      | ⟨1, _⟩ => rfl
      | ⟨2, _⟩ => exact absurd rfl hb) rfl).trans ?_
  pointwise

/-- Each sample's pixel. -/
abbrev pixelNo (g : IVec S2000x400 32) (l : IVec S2000x784 32) : IVec S2000x784 32 :=
  Host.gather gather_S2000x400_S2000x784x2_S2000x784_n_01_n_n_01_2_11 g (pairs l)

theorem pixelNo_at (g : IVec S2000x400 32) (l : IVec S2000x784 32) (hl : ∀ y, (l y).toNat < 400) (r : Fin 2000) (n : Fin 784) :
    pixelNo g l (ix2 r n) = g (ix2 r ⟨(l (ix2 r n)).toNat, hl _⟩) := by
  have h1 := hl (ix2 r n)
  have hb : (boxNo (ix2 r n)).toNat = r.val := boxNo_at (ix2 r n)
  refine (entries_at g (pairs l) (ix2 r n)).trans (congrArg g ?_)
  funext a; refine Fin.ext ?_
  match a with
  | ⟨0, _⟩ =>
    show min (pairs l (ix3 r n (0 : Fin 2))).toInt.toNat 1999 = r.val
    rw [pairs_fst, toInt_of_small (by omega)]; omega
  | ⟨1, _⟩ =>
    show min (pairs l (ix3 r n (1 : Fin 2))).toInt.toNat 399 = (l (ix2 r n)).toNat
    rw [pairs_snd, toInt_of_small (by omega)]; omega

theorem pixelNo_lt (g : IVec S2000x400 32) (l : IVec S2000x784 32) (hg : ∀ y, (g y).toNat < 8192) (hl : ∀ y, (l y).toNat < 400) (y : S2000x784.Idx) :
    (pixelNo g l y).toNat < 8192 := by
  have e : y = ix2 (y 0) (y 1) := by
    funext a; refine Fin.ext ?_
    match a with
    | ⟨0, _⟩ => rfl
    | ⟨1, _⟩ => rfl
  rw [e]
  exact (congrArg BitVec.toNat (pixelNo_at g l hl (y 0) (y 1))).trans_lt (hg _)

/-- The features by pixel: every channel of pixel `4096 b + 64 h + w`, which is `(h, w)` of image `b`. -/
abbrev byPixel (x : FVec Ideal S2x256x64x64 .f32) : FVec Ideal S8192x256 .f32 :=
  shapeCast S8192x256 (transpose S2x64x64x256 [0, 2, 3, 1] x transposes_S2x256x64x64_S2x64x64x256_0_2_3_1) shapeCasts_S2x64x64x256_S8192x256

/-- Channel `ch` of pixel `p`. -/
def feature (x : FVec Ideal S2x256x64x64 .f32) (p : ℕ) (ch : Fin 256) : Ideal .f32 :=
  x (ix4 (⟨p / 4096 % 2, Nat.mod_lt _ (by decide)⟩ : Fin 2) ch (⟨p / 64 % 64, Nat.mod_lt _ (by decide)⟩ : Fin 64) (⟨p % 64, Nat.mod_lt _ (by decide)⟩ : Fin 64))

theorem byPixel_at (x : FVec Ideal S2x256x64x64 .f32) (p : Fin 8192) (ch : Fin 256) : byPixel x (ix2 p ch) = feature x p.val ch := by
  unfold feature
  pointwise
  refine congrArg x ?_
  funext a; refine Fin.ext ?_
  have := p.isLt
  match a with
  | ⟨0, _⟩ => dsimp; omega
  | ⟨1, _⟩ => rfl
  | ⟨2, _⟩ => dsimp
  | ⟨3, _⟩ => rfl

/-- The bins: each the sum over its sixteen samples of the sample's pixel times the sample's weight. -/
def bins (x : FVec Ideal S2x256x64x64 .f32) (g : IVec S2000x400 32) (l : IVec S2000x784 32) (hl : ∀ y, (l y).toNat < 400) (w : FVec Ideal S2000x784 .f32)
    (r : Fin 2000) (ch : Fin 256) (b : Fin 49) : EReal :=
  ∑ k : Fin 16, feature x (g (ix2 r ⟨(l (ix2 r (⟨16 * b.val + k.val, by omega⟩ : Fin 784))).toNat, hl _⟩)).toNat ch * w (ix2 r (⟨16 * b.val + k.val, by omega⟩ : Fin 784))

/-- The reference's sum, before its last reshape. -/
theorem sums_at (x : FVec Ideal S2x256x64x64 .f32) (g : IVec S2000x400 32) (l : IVec S2000x784 32) (hg : ∀ y, (g y).toNat < 8192) (hl : ∀ y, (l y).toNat < 400)
    (w : FVec Ideal S2000x784 .f32) (y : S2000x256x49.Idx) :
    transpose S2000x256x49 [0, 2, 1] (Host.reduceAdd (shapeCast S2000x49x16x256 (mulf (Host.gather gather_S8192x256_S2000x784x1_S2000x784x256_2_0_n_n_0_2_1256 (byPixel x)
        (broadcastInDim S2000x784x1 ![0, 1] bcast_S2000x784_S2000x784x1_0_1 (pixelNo g l)))
        (broadcastInDim S2000x784x256 ![0, 1, 2] bcast_S2000x784x1_S2000x784x256_0_1_2 (broadcastInDim S2000x784x1 ![0, 1] bcast_S2000x784_S2000x784x1_0_1 w)))
        shapeCasts_S2000x784x256_S2000x49x16x256) (constant S_ .f32 0x00000000#32) reducesTo_S2000x49x16x256_S2000x49x256_d2 h_S_) transposes_S2000x49x256_S2000x256x49_0_2_1 y
      = bins x g l hl w (y 0) (y 1) (y 2) := by
  unfold bins
  pointwise
  refine Finset.sum_congr rfl fun k _ => ?_
  have e : (⟨(y 2).val * 16 + k.val, by have := (y 2).isLt; have : (y 2).val < 49 := this; omega⟩ : Fin 784) = ⟨16 * (y 2).val + k.val, by have := (y 2).isLt; have : (y 2).val < 49 := this; omega⟩ :=
    Fin.ext (by dsimp only; omega)
  have en : ∀ n : Fin 784, Host.gather gather_S8192x256_S2000x784x1_S2000x784x256_2_0_n_n_0_2_1256 (byPixel x)
        (broadcastInDim S2000x784x1 ![0, 1] bcast_S2000x784_S2000x784x1_0_1 (pixelNo g l)) (ix3 (y 0 : Fin 2000) n (y 1 : Fin 256))
      = feature x (g (ix2 (y 0 : Fin 2000) ⟨(l (ix2 (y 0 : Fin 2000) n)).toNat, hl _⟩)).toNat (y 1) := fun n => by
    have hp := hg (ix2 (y 0 : Fin 2000) ⟨(l (ix2 (y 0 : Fin 2000) n)).toNat, hl _⟩)
    have hq : (broadcastInDim S2000x784x1 ![0, 1] bcast_S2000x784_S2000x784x1_0_1 (pixelNo g l)) (ix3 (y 0 : Fin 2000) n (0 : Fin 1))
        = g (ix2 (y 0 : Fin 2000) ⟨(l (ix2 (y 0 : Fin 2000) n)).toNat, hl _⟩) := by
      refine Eq.trans ?_ (pixelNo_at g l hl (y 0) n)
      pointwise
    refine (pixels_at (byPixel x) _ (ix3 (y 0 : Fin 2000) n (y 1 : Fin 256))).trans (Eq.trans ?_
      (byPixel_at x ⟨(g (ix2 (y 0 : Fin 2000) ⟨(l (ix2 (y 0 : Fin 2000) n)).toNat, hl _⟩)).toNat, hp⟩ (y 1)))
    refine congrArg (byPixel x) ?_
    funext a; refine Fin.ext ?_
    match a with
    | ⟨0, _⟩ =>
      show min ((broadcastInDim S2000x784x1 ![0, 1] bcast_S2000x784_S2000x784x1_0_1 (pixelNo g l)) (ix3 (y 0 : Fin 2000) n (0 : Fin 1))).toInt.toNat 8191 = _
      rw [hq, toInt_of_small (by omega)]
      exact Nat.min_eq_left (by omega)
    | ⟨1, _⟩ => rfl
  refine congrArg₂ (· * ·) ((en _).trans ?_) ?_
  · exact congrArg (fun n : Fin 784 => feature x (g (ix2 (y 0 : Fin 2000) ⟨(l (ix2 (y 0 : Fin 2000) n)).toNat, hl _⟩)).toNat (y 1)) e
  · exact congrArg (fun n : Fin 784 => w (ix2 (y 0 : Fin 2000) n)) e

/-- The reference's result. -/
theorem result (m : (ℓ : Loc nD τ sig) → Buf (Elt Ideal) ℓ) (c : Dev nD) (hg : ∀ y : S2000x400.Idx, (m ((c.tc : Thread nD τ).loc main_arg1) y : BitVec 32).toNat < 8192)
    (hl : ∀ y : S2000x784.Idx, (m ((c.tc : Thread nD τ).loc main_arg2) y : BitVec 32).toNat < 400) :
    Value.res_out0 m c = shapeCast S2000x256x7x7 (fun y : S2000x256x49.Idx =>
      bins (m ((c.tc : Thread nD τ).loc main_arg0)) (m ((c.tc : Thread nD τ).loc main_arg1)) (m ((c.tc : Thread nD τ).loc main_arg2)) hl (m ((c.tc : Thread nD τ).loc main_arg3)) (y 0) (y 1) (y 2))
      shapeCasts_S2000x256x49_S2000x256x7x7 := by
  unfold Value.res_out0 Value.res_main_v32
  rw [wrap _ boxNo _ (fun y => by rw [boxNo_at]; exact (y 0).isLt.trans (by decide)),
    wrap _ (m ((c.tc : Thread nD τ).loc main_arg2)) _ (fun y => (hl y).trans (by decide)),
    wrap _ (pixelNo (m ((c.tc : Thread nD τ).loc main_arg1)) (m ((c.tc : Thread nD τ).loc main_arg2))) _ (fun y => (pixelNo_lt _ _ hg hl y).trans (by decide))]
  exact congrArg (fun v => shapeCast S2000x256x7x7 v shapeCasts_S2000x256x49_S2000x256x7x7) (funext fun y => sums_at _ _ _ hg hl _ y)

end Cert.Roi.Reference

end
-- ==== Proof.Value.lean ====
/-
  The kernel's result over the extended reals: each of its bins is the reference's.
-/
module

public import proofs.«01_k».proof.Proof.Main
public import proofs.«01_k».proof.Proof.Reference

@[expose] public section

noncomputable section

namespace Cert.Roi.Main

open Cert.KernelIdeal Cert.KernelIdeal.Gen
open Idealize.ShloMosaic Idealize.ShloMosaic.TcCoe Idealize.SL.Sem
open Cert.Roi.Reference (feature bins)

/-- Row `8192 q + p` of the table holds channels `128 q` to `128 q + 127` of pixel `p`. -/
theorem table_at (x : FVec Ideal S2x256x64x64 .f32) (p q : ℕ) (hp : p < 8192) (hq : q < 2) (ch : Fin 128) :
    table x (ix2 (⟨8192 * q + p, by omega⟩ : Fin 16384) ch) = feature x p ⟨128 * q + ch.val, by omega⟩ := by
  unfold table feature
  pointwise
  refine congrArg x ?_
  funext a; refine Fin.ext ?_
  have := ch.isLt
  match a with
  | ⟨0, _⟩ => dsimp; omega
  | ⟨1, _⟩ => dsimp; omega
  | ⟨2, _⟩ => dsimp; omega
  | ⟨3, _⟩ => dsimp; omega

/-- Entry `n` of a box's five lists of 80 is entry `n` of its list of 400. -/
theorem lists_at (g : IVec S2000x400 32) (r : Fin 2000) (n : Fin 400) :
    lists g (ix3 r (⟨n.val / 80, by omega⟩ : Fin 5) (⟨n.val % 80, by omega⟩ : Fin 80)) = g (ix2 r n) := by
  unfold lists
  pointwise

/-- Sixteen slots added up in order are their sum. -/
theorem binAcc_eq (R : FVec Ideal S400x128 .f32) (L : IVec S784 32) (W : FVec Ideal S784 .f32) (b ch : ℕ) :
    ∀ k, binAcc R L W b ch k = ∑ j ∈ Finset.range (k + 1), (binTerm R L W b ch j : EReal)
  | 0 => by rw [Finset.sum_range_one]; rfl
  | k + 1 => by rw [Finset.sum_range_succ, ← binAcc_eq R L W b ch k]; rfl

/-- An entry of a box's places or weights. -/
theorem ent_at {α : Type} (L : S2000x784.Idx → α) (r : Fin 2000) (n : Fin 784) : ent (plc L r.val) n.val = L (ix2 r n) := by
  unfold ent plc
  refine congrArg L ?_
  funext a; refine Fin.ext ?_
  match a with
  | ⟨0, _⟩ => exact Nat.mod_eq_of_lt r.isLt
  | ⟨1, _⟩ => exact Nat.mod_eq_of_lt n.isLt

/-- An entry of the rows gathered for a box, from half `q` of the channels. -/
theorem cell_at (A : Arr Ideal) (x : FVec Ideal S2x256x64x64 .f32) (g : IVec S2000x400 32) (hg : ∀ y, (g y).toNat < 8192) (hT : A.T = table x) (hG : A.G = lists g)
    (q : ℕ) (hq : q < 2) (r : Fin 2000) (p : Fin 400) (ch : Fin 128) :
    cell (rws A (half q) r.val) p.val ch.val = feature x (g (ix2 r p)).toNat ⟨128 * q + ch.val, by omega⟩ := by
  have hgp := hg (ix2 r p)
  have hr := r.isLt
  have hp := p.isLt
  have hc := ch.isLt
  have hl : (lst A r.val (ValueIdx.ix2 (⟨p.val % 400 / 80, by omega⟩ : Fin 5) (⟨p.val % 400 % 80, by omega⟩ : Fin 80))) = g (ix2 r p) := by
    refine Eq.trans ?_ (lists_at g r p)
    unfold lst
    rw [hG]
    refine congrArg (lists g) ?_
    funext a; refine Fin.ext ?_
    match a with
    | ⟨0, _⟩ => exact Nat.mod_eq_of_lt hr
    | ⟨1, _⟩ => exact congrArg (· / 80) (Nat.mod_eq_of_lt hp)
    | ⟨2, _⟩ => exact congrArg (· % 80) (Nat.mod_eq_of_lt hp)
  refine Eq.trans ?_ (table_at x (g (ix2 r p)).toNat q hgp hq ch)
  unfold cell rws gathered
  rw [hT]
  refine congrArg (table x) ?_
  funext a; refine Fin.ext ?_
  match a with
  | ⟨0, _⟩ =>
    show (lst A r.val (ValueIdx.ix2 (⟨p.val % 400 / 80, by omega⟩ : Fin 5) (⟨p.val % 400 % 80, by omega⟩ : Fin 80)) + half q).toNat % 16384 = 8192 * q + (g (ix2 r p)).toNat
    rw [hl, BitVec.toNat_add]
    unfold half
    rw [BitVec.toNat_ofNat]
    omega
  | ⟨1, _⟩ => exact Nat.mod_eq_of_lt hc

/-- The call's result at an index. -/
theorem val_at (A : Arr Ideal) (x : FVec Ideal S2x256x64x64 .f32) (g : IVec S2000x400 32) (l : IVec S2000x784 32) (w : FVec Ideal S2000x784 .f32)
    (hg : ∀ y, (g y).toNat < 8192) (hl : ∀ y, (l y).toNat < 400) (hT : A.T = table x) (hG : A.G = lists g) (hL : A.L = l) (hW : A.W = w) (y : S2000x256x49.Idx) :
    A.val y = Reference.bins x g l hl w (y 0) (y 1) (y 2) := by
  have h0 : (y 0).val < 2000 := (y 0).isLt
  have h1 : (y 1).val < 256 := (y 1).isLt
  have h2 : (y 2).val < 49 := (y 2).isLt
  unfold Arr.val box Reference.bins
  refine (binAcc_eq _ _ _ _ _ 15).trans ((Finset.sum_range (n := 16) _).trans (Finset.sum_congr rfl fun k _ => ?_))
  have hn : 16 * (y 2).val + k.val < 784 := by omega
  have e := cell_at A x g hg hT hG ((y 1).val / 128) (by omega) ⟨(y 0).val, h0⟩ ⟨(l (ix2 (⟨(y 0).val, h0⟩ : Fin 2000) (⟨16 * (y 2).val + k.val, hn⟩ : Fin 784))).toNat, hl _⟩
    ⟨(y 1).val % 128, Nat.mod_lt _ (by decide)⟩
  refine congrArg₂ (· * ·) (Eq.trans ?_ (e.trans ?_)) ?_
  · have hp := ent_at A.L ⟨(y 0).val, h0⟩ ⟨16 * (y 2).val + k.val, hn⟩
    rw [hL] at hp
    exact congrArg (fun v : BitVec 32 => cell (rws A (half ((y 1).val / 128)) (y 0).val) v.toNat ((y 1).val % 128)) (by rw [hL]; exact hp)
  · exact congrArg (feature x _) (Fin.ext (show 128 * ((y 1).val / 128) + (y 1).val % 128 = (y 1).val by omega))
  · rw [hW]; exact ent_at w ⟨(y 0).val, h0⟩ ⟨16 * (y 2).val + k.val, hn⟩

/-- The kernel's result, of the arguments alone. -/
theorem out_eq (m : (ℓ : Loc nD τ sig) → Buf (Elt Ideal) ℓ) (hok : ∀ c, Ok m c) (c : Dev nD) :
    out m hok c = shapeCast S2000x256x7x7 (fun y : S2000x256x49.Idx =>
      Reference.bins (V m c main_arg0) (V m c main_arg1) (V m c main_arg2) (hok c).place (V m c main_arg3) (y 0) (y 1) (y 2)) shapeCasts_S2000x256x49_S2000x256x7x7 :=
  congrArg (fun v => shapeCast S2000x256x7x7 v shapeCasts_S2000x256x49_S2000x256x7x7)
    (funext fun y => val_at (arr m hok c) _ _ _ _ (hok c).pixel (hok c).place rfl rfl rfl rfl y)

end Cert.Roi.Main

end
-- ==== Proof.lean ====
/-
  The proof of `Cert.Claim` (Defs.lean): the frames of the kernel at bit patterns and at extended reals, both of one run
  written over any float values (`Cert.Roi.Main.run_main`, Proof/Frames.lean); the frame of the reference, a host program
  whose run is generated; `preserves`, which rewrote no operation; and the kernel's result over the extended reals, which
  is the reference's (`Cert.Roi.Main.out_eq`, Proof/Value.lean, and `Cert.Roi.Reference.result`, Proof/Reference.lean).
-/
module

public import proofs.«01_k».proof.Defs
public import proofs.«01_k».proof.Proof.Frames
public import proofs.«01_k».proof.Proof.Range
public import proofs.«01_k».proof.Proof.Same
public import proofs.«01_k».proof.Proof.Value
public import proofs.«01_k».proof.Proof.Gen.ReferenceIdeal.Run

@[expose] public section

noncomputable section

namespace Cert.Proof

open Idealize.ShloMosaic Idealize.SL.Sem

/-- The kernel's idealization runs, faults nowhere, keeps its arguments and ends with every counter at zero. -/
theorem frame_ideal : Cert.quiescent_KernelIdeal := fun m ρ h =>
  (θ_run Cert.KernelIdeal.defs _ _).mono (fun _ h => ⟨fun c => ⟨(h.1 c).1, (h.1 c).2.1, (h.1 c).2.2.1, (h.1 c).2.2.2.1⟩, h.2⟩)
    (Cert.Roi.Main.run_main (F := Ideal) m ρ (Cert.Roi.Main.ok_of_pre m h))

/-- The kernel runs, faults nowhere, keeps its arguments and ends with every counter at zero. -/
theorem frame_kernel : Cert.quiescent_Kernel := fun m ρ h => by
  rw [Cert.Roi.defs_eq]
  exact (θ_run Cert.KernelIdeal.defs _ _).mono (fun _ h => ⟨fun c => ⟨(h.1 c).1, (h.1 c).2.1, (h.1 c).2.2.1, (h.1 c).2.2.2.1⟩, h.2⟩)
    (Cert.Roi.Main.run_main (F := Bits) m ρ (Cert.Roi.Main.ok_of_pre m h))

/-- The reference runs and keeps its arguments; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the arguments in range. -/
theorem frame_reference_in_range : Cert.quiescent_ReferenceIdeal_pre_in_range := fun m ρ _ =>
  frame_reference m ρ trivial

/-- Over the extended reals the kernel's result is the reference's. -/
theorem algebraic : Cert.algebraic_KernelIdeal_ReferenceIdeal := fun m ρ m' ρ' h hm => by
  have hok := Cert.Roi.Main.ok_of_pre m h
  refine ⟨Cert.Roi.Main.out m hok, ?_, ?_⟩
  · exact (θ_run Cert.KernelIdeal.defs _ _).mono
      (fun _ h c => ⟨(h.1 c).2.2.2.2, (h.1 c).1, (h.1 c).2.1, (h.1 c).2.2.1, (h.1 c).2.2.2.1⟩)
      (Cert.Roi.Main.run_main (F := Ideal) m ρ hok)
  · refine (θ_run Cert.ReferenceIdeal.defs _ _).mono (fun r h c => ⟨(h c).1.trans ?_, (h c).2⟩)
      (Cert.ReferenceIdeal.Value.run (F := Ideal) m' ρ')
    obtain ⟨e0, e1, e2, e3⟩ := hm c
    refine (Cert.Roi.Reference.result m' c (by rw [e1]; exact (hok c).pixel) (by rw [e2]; exact (hok c).place)).trans
      (Eq.trans ?_ (Cert.Roi.Main.out_eq m hok c).symm)
    congr 1
    funext y
    congr 1

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
